-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InpDx (m : (ℓ : Loc Cert.InpDx.nD Cert.InpDx.τ Cert.InpDx.sig) → Buf (Elt Bits) ℓ) : Prop :=
  True

def Pre_InpDxIdeal (m : (ℓ : Loc Cert.InpDxIdeal.nD Cert.InpDxIdeal.τ Cert.InpDxIdeal.sig) → Buf (Elt Ideal) ℓ) : Prop :=
  True

def Pre_InpDxRefIdeal (m : (ℓ : Loc Cert.InpDxRefIdeal.nD Cert.InpDxRefIdeal.τ Cert.InpDxRefIdeal.sig) → Buf (Elt Ideal) ℓ) : Prop :=
  True

def Pre_InpDw (m : (ℓ : Loc Cert.InpDw.nD Cert.InpDw.τ Cert.InpDw.sig) → Buf (Elt Bits) ℓ) : Prop :=
  True

def Pre_InpDwIdeal (m : (ℓ : Loc Cert.InpDwIdeal.nD Cert.InpDwIdeal.τ Cert.InpDwIdeal.sig) → Buf (Elt Ideal) ℓ) : Prop :=
  True

def Pre_InpDwRefIdeal (m : (ℓ : Loc Cert.InpDwRefIdeal.nD Cert.InpDwRefIdeal.τ Cert.InpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_MidFwd (m : (ℓ : Loc Cert.MidFwd.nD Cert.MidFwd.τ Cert.MidFwd.sig) → Buf (Elt Bits) ℓ) : Prop :=
  True

def Pre_MidFwdIdeal (m : (ℓ : Loc Cert.MidFwdIdeal.nD Cert.MidFwdIdeal.τ Cert.MidFwdIdeal.sig) → Buf (Elt Ideal) ℓ) : Prop :=
  True

def Pre_MidFwdRefIdeal (m : (ℓ : Loc Cert.MidFwdRefIdeal.nD Cert.MidFwdRefIdeal.τ Cert.MidFwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_JoinBwd (m : (ℓ : Loc Cert.JoinBwd.nD Cert.JoinBwd.τ Cert.JoinBwd.sig) → Buf (Elt Bits) ℓ) : Prop :=
  True

def Pre_JoinBwdIdeal (m : (ℓ : Loc Cert.JoinBwdIdeal.nD Cert.JoinBwdIdeal.τ Cert.JoinBwdIdeal.sig) → Buf (Elt Ideal) ℓ) : Prop :=
  True

def Pre_JoinBwdRefIdeal (m : (ℓ : Loc Cert.JoinBwdRefIdeal.nD Cert.JoinBwdRefIdeal.τ Cert.JoinBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_InpDx [hInpDx : Cert.InpDx.Facts] : Prop :=
  ∀ (m : (ℓ : Loc Cert.InpDx.nD Cert.InpDx.τ Cert.InpDx.sig) → Buf (Elt Bits) ℓ) (g : Dev Cert.InpDx.nD → PrngReg), Pre_InpDx m →
    θ_run (Cert.InpDx.defs (F := Bits)) (onTc (τ := Cert.InpDx.τ) (Cert.InpDx.main (F := Bits))) ⟨m, fun _ => 0, g⟩ (fun r => (∀ c : Dev Cert.InpDx.nD,
      r.2.mem ((c.tc : Thread Cert.InpDx.nD Cert.InpDx.τ).loc Cert.InpDx.main_arg0) = m ((c.tc : Thread Cert.InpDx.nD Cert.InpDx.τ).loc Cert.InpDx.main_arg0)
      ∧ r.2.mem ((c.tc : Thread Cert.InpDx.nD Cert.InpDx.τ).loc Cert.InpDx.main_arg1) = m ((c.tc : Thread Cert.InpDx.nD Cert.InpDx.τ).loc Cert.InpDx.main_arg1)
      ∧ r.2.mem ((c.tc : Thread Cert.InpDx.nD Cert.InpDx.τ).loc Cert.InpDx.main_arg2) = m ((c.tc : Thread Cert.InpDx.nD Cert.InpDx.τ).loc Cert.InpDx.main_arg2))
      ∧ r.2.sem = fun _ => 0)

def quiescent_InpDxIdeal [hInpDxIdeal : Cert.InpDxIdeal.Facts] : Prop :=
  ∀ (m : (ℓ : Loc Cert.InpDxIdeal.nD Cert.InpDxIdeal.τ Cert.InpDxIdeal.sig) → Buf (Elt Ideal) ℓ) (g : Dev Cert.InpDxIdeal.nD → PrngReg), Pre_InpDxIdeal m →
    θ_run (Cert.InpDxIdeal.defs (F := Ideal)) (onTc (τ := Cert.InpDxIdeal.τ) (Cert.InpDxIdeal.main (F := Ideal))) ⟨m, fun _ => 0, g⟩ (fun r => (∀ c : Dev Cert.InpDxIdeal.nD,
      r.2.mem ((c.tc : Thread Cert.InpDxIdeal.nD Cert.InpDxIdeal.τ).loc Cert.InpDxIdeal.main_arg0) = m ((c.tc : Thread Cert.InpDxIdeal.nD Cert.InpDxIdeal.τ).loc Cert.InpDxIdeal.main_arg0)
      ∧ r.2.mem ((c.tc : Thread Cert.InpDxIdeal.nD Cert.InpDxIdeal.τ).loc Cert.InpDxIdeal.main_arg1) = m ((c.tc : Thread Cert.InpDxIdeal.nD Cert.InpDxIdeal.τ).loc Cert.InpDxIdeal.main_arg1)
      ∧ r.2.mem ((c.tc : Thread Cert.InpDxIdeal.nD Cert.InpDxIdeal.τ).loc Cert.InpDxIdeal.main_arg2) = m ((c.tc : Thread Cert.InpDxIdeal.nD Cert.InpDxIdeal.τ).loc Cert.InpDxIdeal.main_arg2))
      ∧ r.2.sem = fun _ => 0)

def quiescent_InpDxRefIdeal [hInpDxRefIdeal : Cert.InpDxRefIdeal.Facts] : Prop :=
  ∀ (m : (ℓ : Loc Cert.InpDxRefIdeal.nD Cert.InpDxRefIdeal.τ Cert.InpDxRefIdeal.sig) → Buf (Elt Ideal) ℓ) (g : Dev Cert.InpDxRefIdeal.nD → PrngReg), Pre_InpDxRefIdeal m →
    θ_run (Cert.InpDxRefIdeal.defs (F := Ideal)) (onTc (τ := Cert.InpDxRefIdeal.τ) (Cert.InpDxRefIdeal.main (F := Ideal))) ⟨m, fun _ => 0, g⟩ (fun r => (∀ c : Dev Cert.InpDxRefIdeal.nD,
      r.2.mem ((c.tc : Thread Cert.InpDxRefIdeal.nD Cert.InpDxRefIdeal.τ).loc Cert.InpDxRefIdeal.main_arg0) = m ((c.tc : Thread Cert.InpDxRefIdeal.nD Cert.InpDxRefIdeal.τ).loc Cert.InpDxRefIdeal.main_arg0)
      ∧ r.2.mem ((c.tc : Thread Cert.InpDxRefIdeal.nD Cert.InpDxRefIdeal.τ).loc Cert.InpDxRefIdeal.main_arg1) = m ((c.tc : Thread Cert.InpDxRefIdeal.nD Cert.InpDxRefIdeal.τ).loc Cert.InpDxRefIdeal.main_arg1)
      ∧ r.2.mem ((c.tc : Thread Cert.InpDxRefIdeal.nD Cert.InpDxRefIdeal.τ).loc Cert.InpDxRefIdeal.main_arg2) = m ((c.tc : Thread Cert.InpDxRefIdeal.nD Cert.InpDxRefIdeal.τ).loc Cert.InpDxRefIdeal.main_arg2))
      ∧ r.2.sem = fun _ => 0)

def quiescent_InpDw [hInpDw : Cert.InpDw.Facts] : Prop :=
  ∀ (m : (ℓ : Loc Cert.InpDw.nD Cert.InpDw.τ Cert.InpDw.sig) → Buf (Elt Bits) ℓ) (g : Dev Cert.InpDw.nD → PrngReg), Pre_InpDw m →
    θ_run (Cert.InpDw.defs (F := Bits)) (onTc (τ := Cert.InpDw.τ) (Cert.InpDw.main (F := Bits))) ⟨m, fun _ => 0, g⟩ (fun r => (∀ c : Dev Cert.InpDw.nD,
      r.2.mem ((c.tc : Thread Cert.InpDw.nD Cert.InpDw.τ).loc Cert.InpDw.main_arg0) = m ((c.tc : Thread Cert.InpDw.nD Cert.InpDw.τ).loc Cert.InpDw.main_arg0)
      ∧ r.2.mem ((c.tc : Thread Cert.InpDw.nD Cert.InpDw.τ).loc Cert.InpDw.main_arg1) = m ((c.tc : Thread Cert.InpDw.nD Cert.InpDw.τ).loc Cert.InpDw.main_arg1)
      ∧ r.2.mem ((c.tc : Thread Cert.InpDw.nD Cert.InpDw.τ).loc Cert.InpDw.main_arg2) = m ((c.tc : Thread Cert.InpDw.nD Cert.InpDw.τ).loc Cert.InpDw.main_arg2))
      ∧ r.2.sem = fun _ => 0)

def quiescent_InpDwIdeal [hInpDwIdeal : Cert.InpDwIdeal.Facts] : Prop :=
  ∀ (m : (ℓ : Loc Cert.InpDwIdeal.nD Cert.InpDwIdeal.τ Cert.InpDwIdeal.sig) → Buf (Elt Ideal) ℓ) (g : Dev Cert.InpDwIdeal.nD → PrngReg), Pre_InpDwIdeal m →
    θ_run (Cert.InpDwIdeal.defs (F := Ideal)) (onTc (τ := Cert.InpDwIdeal.τ) (Cert.InpDwIdeal.main (F := Ideal))) ⟨m, fun _ => 0, g⟩ (fun r => (∀ c : Dev Cert.InpDwIdeal.nD,
      r.2.mem ((c.tc : Thread Cert.InpDwIdeal.nD Cert.InpDwIdeal.τ).loc Cert.InpDwIdeal.main_arg0) = m ((c.tc : Thread Cert.InpDwIdeal.nD Cert.InpDwIdeal.τ).loc Cert.InpDwIdeal.main_arg0)
      ∧ r.2.mem ((c.tc : Thread Cert.InpDwIdeal.nD Cert.InpDwIdeal.τ).loc Cert.InpDwIdeal.main_arg1) = m ((c.tc : Thread Cert.InpDwIdeal.nD Cert.InpDwIdeal.τ).loc Cert.InpDwIdeal.main_arg1)
      ∧ r.2.mem ((c.tc : Thread Cert.InpDwIdeal.nD Cert.InpDwIdeal.τ).loc Cert.InpDwIdeal.main_arg2) = m ((c.tc : Thread Cert.InpDwIdeal.nD Cert.InpDwIdeal.τ).loc Cert.InpDwIdeal.main_arg2))
      ∧ r.2.sem = fun _ => 0)

def quiescent_InpDwRefIdeal [hInpDwRefIdeal : Cert.InpDwRefIdeal.Facts] : Prop :=
  ∀ (m : (ℓ : Loc Cert.InpDwRefIdeal.nD Cert.InpDwRefIdeal.τ Cert.InpDwRefIdeal.sig) → Buf (Elt Ideal) ℓ) (g : Dev Cert.InpDwRefIdeal.nD → PrngReg), Pre_InpDwRefIdeal m →
    θ_run (Cert.InpDwRefIdeal.defs (F := Ideal)) (onTc (τ := Cert.InpDwRefIdeal.τ) (Cert.InpDwRefIdeal.main (F := Ideal))) ⟨m, fun _ => 0, g⟩ (fun r => (∀ c : Dev Cert.InpDwRefIdeal.nD,
      r.2.mem ((c.tc : Thread Cert.InpDwRefIdeal.nD Cert.InpDwRefIdeal.τ).loc Cert.InpDwRefIdeal.main_arg0) = m ((c.tc : Thread Cert.InpDwRefIdeal.nD Cert.InpDwRefIdeal.τ).loc Cert.InpDwRefIdeal.main_arg0)
      ∧ r.2.mem ((c.tc : Thread Cert.InpDwRefIdeal.nD Cert.InpDwRefIdeal.τ).loc Cert.InpDwRefIdeal.main_arg1) = m ((c.tc : Thread Cert.InpDwRefIdeal.nD Cert.InpDwRefIdeal.τ).loc Cert.InpDwRefIdeal.main_arg1)
      ∧ r.2.mem ((c.tc : Thread Cert.InpDwRefIdeal.nD Cert.InpDwRefIdeal.τ).loc Cert.InpDwRefIdeal.main_arg2) = m ((c.tc : Thread Cert.InpDwRefIdeal.nD Cert.InpDwRefIdeal.τ).loc Cert.InpDwRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2))
      ∧ r.2.sem = fun _ => 0)

def quiescent_MidFwd [hMidFwd : Cert.MidFwd.Facts] : Prop :=
  ∀ (m : (ℓ : Loc Cert.MidFwd.nD Cert.MidFwd.τ Cert.MidFwd.sig) → Buf (Elt Bits) ℓ) (g : Dev Cert.MidFwd.nD → PrngReg), Pre_MidFwd m →
    θ_run (Cert.MidFwd.defs (F := Bits)) (onTc (τ := Cert.MidFwd.τ) (Cert.MidFwd.main (F := Bits))) ⟨m, fun _ => 0, g⟩ (fun r => (∀ c : Dev Cert.MidFwd.nD,
      r.2.mem ((c.tc : Thread Cert.MidFwd.nD Cert.MidFwd.τ).loc Cert.MidFwd.main_arg0) = m ((c.tc : Thread Cert.MidFwd.nD Cert.MidFwd.τ).loc Cert.MidFwd.main_arg0)
      ∧ r.2.mem ((c.tc : Thread Cert.MidFwd.nD Cert.MidFwd.τ).loc Cert.MidFwd.main_arg1) = m ((c.tc : Thread Cert.MidFwd.nD Cert.MidFwd.τ).loc Cert.MidFwd.main_arg1))
      ∧ r.2.sem = fun _ => 0)

def quiescent_MidFwdIdeal [hMidFwdIdeal : Cert.MidFwdIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg), Pre_MidFwdIdeal m →
    θ_run (Cert.MidFwdIdeal.defs (F := Ideal)) (onTc (τ := Cert.MidFwdIdeal.τ) (Cert.MidFwdIdeal.main (F := Ideal))) ⟨m, fun _ => 0, g⟩ (fun r => (∀ c : Dev Cert.MidFwdIdeal.nD,
      r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
      ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1))
      ∧ r.2.sem = fun _ => 0)

def quiescent_MidFwdRefIdeal [hMidFwdRefIdeal : Cert.MidFwdRefIdeal.Facts] : Prop :=
  ∀ (m : (ℓ : Loc Cert.MidFwdRefIdeal.nD Cert.MidFwdRefIdeal.τ Cert.MidFwdRefIdeal.sig) → Buf (Elt Ideal) ℓ) (g : Dev Cert.MidFwdRefIdeal.nD → PrngReg), Pre_MidFwdRefIdeal m →
    θ_run (Cert.MidFwdRefIdeal.defs (F := Ideal)) (onTc (τ := Cert.MidFwdRefIdeal.τ) (Cert.MidFwdRefIdeal.main (F := Ideal))) ⟨m, fun _ => 0, g⟩ (fun r => (∀ c : Dev Cert.MidFwdRefIdeal.nD,
      r.2.mem ((c.tc : Thread Cert.MidFwdRefIdeal.nD Cert.MidFwdRefIdeal.τ).loc Cert.MidFwdRefIdeal.main_arg0) = m ((c.tc : Thread Cert.MidFwdRefIdeal.nD Cert.MidFwdRefIdeal.τ).loc Cert.MidFwdRefIdeal.main_arg0)
      ∧ r.2.mem ((c.tc : Thread Cert.MidFwdRefIdeal.nD Cert.MidFwdRefIdeal.τ).loc Cert.MidFwdRefIdeal.main_arg1) = m ((c.tc : Thread Cert.MidFwdRefIdeal.nD Cert.MidFwdRefIdeal.τ).loc Cert.MidFwdRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_JoinBwd [hJoinBwd : Cert.JoinBwd.Facts] : Prop :=
  ∀ (m : (ℓ : Loc Cert.JoinBwd.nD Cert.JoinBwd.τ Cert.JoinBwd.sig) → Buf (Elt Bits) ℓ) (g : Dev Cert.JoinBwd.nD → PrngReg), Pre_JoinBwd m →
    θ_run (Cert.JoinBwd.defs (F := Bits)) (onTc (τ := Cert.JoinBwd.τ) (Cert.JoinBwd.main (F := Bits))) ⟨m, fun _ => 0, g⟩ (fun r => (∀ c : Dev Cert.JoinBwd.nD,
      r.2.mem ((c.tc : Thread Cert.JoinBwd.nD Cert.JoinBwd.τ).loc Cert.JoinBwd.main_arg0) = m ((c.tc : Thread Cert.JoinBwd.nD Cert.JoinBwd.τ).loc Cert.JoinBwd.main_arg0)
      ∧ r.2.mem ((c.tc : Thread Cert.JoinBwd.nD Cert.JoinBwd.τ).loc Cert.JoinBwd.main_arg1) = m ((c.tc : Thread Cert.JoinBwd.nD Cert.JoinBwd.τ).loc Cert.JoinBwd.main_arg1)
      ∧ r.2.mem ((c.tc : Thread Cert.JoinBwd.nD Cert.JoinBwd.τ).loc Cert.JoinBwd.main_arg2) = m ((c.tc : Thread Cert.JoinBwd.nD Cert.JoinBwd.τ).loc Cert.JoinBwd.main_arg2)
      ∧ r.2.mem ((c.tc : Thread Cert.JoinBwd.nD Cert.JoinBwd.τ).loc Cert.JoinBwd.main_arg3) = m ((c.tc : Thread Cert.JoinBwd.nD Cert.JoinBwd.τ).loc Cert.JoinBwd.main_arg3)
      ∧ r.2.mem ((c.tc : Thread Cert.JoinBwd.nD Cert.JoinBwd.τ).loc Cert.JoinBwd.main_arg4) = m ((c.tc : Thread Cert.JoinBwd.nD Cert.JoinBwd.τ).loc Cert.JoinBwd.main_arg4)
      ∧ r.2.mem ((c.tc : Thread Cert.JoinBwd.nD Cert.JoinBwd.τ).loc Cert.JoinBwd.main_arg5) = m ((c.tc : Thread Cert.JoinBwd.nD Cert.JoinBwd.τ).loc Cert.JoinBwd.main_arg5)
      ∧ r.2.mem ((c.tc : Thread Cert.JoinBwd.nD Cert.JoinBwd.τ).loc Cert.JoinBwd.main_arg6) = m ((c.tc : Thread Cert.JoinBwd.nD Cert.JoinBwd.τ).loc Cert.JoinBwd.main_arg6)
      ∧ r.2.mem ((c.tc : Thread Cert.JoinBwd.nD Cert.JoinBwd.τ).loc Cert.JoinBwd.main_arg7) = m ((c.tc : Thread Cert.JoinBwd.nD Cert.JoinBwd.τ).loc Cert.JoinBwd.main_arg7))
      ∧ r.2.sem = fun _ => 0)

def quiescent_JoinBwdIdeal [hJoinBwdIdeal : Cert.JoinBwdIdeal.Facts] : Prop :=
  ∀ (m : (ℓ : Loc Cert.JoinBwdIdeal.nD Cert.JoinBwdIdeal.τ Cert.JoinBwdIdeal.sig) → Buf (Elt Ideal) ℓ) (g : Dev Cert.JoinBwdIdeal.nD → PrngReg), Pre_JoinBwdIdeal m →
    θ_run (Cert.JoinBwdIdeal.defs (F := Ideal)) (onTc (τ := Cert.JoinBwdIdeal.τ) (Cert.JoinBwdIdeal.main (F := Ideal))) ⟨m, fun _ => 0, g⟩ (fun r => (∀ c : Dev Cert.JoinBwdIdeal.nD,
      r.2.mem ((c.tc : Thread Cert.JoinBwdIdeal.nD Cert.JoinBwdIdeal.τ).loc Cert.JoinBwdIdeal.main_arg0) = m ((c.tc : Thread Cert.JoinBwdIdeal.nD Cert.JoinBwdIdeal.τ).loc Cert.JoinBwdIdeal.main_arg0)
      ∧ r.2.mem ((c.tc : Thread Cert.JoinBwdIdeal.nD Cert.JoinBwdIdeal.τ).loc Cert.JoinBwdIdeal.main_arg1) = m ((c.tc : Thread Cert.JoinBwdIdeal.nD Cert.JoinBwdIdeal.τ).loc Cert.JoinBwdIdeal.main_arg1)
      ∧ r.2.mem ((c.tc : Thread Cert.JoinBwdIdeal.nD Cert.JoinBwdIdeal.τ).loc Cert.JoinBwdIdeal.main_arg2) = m ((c.tc : Thread Cert.JoinBwdIdeal.nD Cert.JoinBwdIdeal.τ).loc Cert.JoinBwdIdeal.main_arg2)
      ∧ r.2.mem ((c.tc : Thread Cert.JoinBwdIdeal.nD Cert.JoinBwdIdeal.τ).loc Cert.JoinBwdIdeal.main_arg3) = m ((c.tc : Thread Cert.JoinBwdIdeal.nD Cert.JoinBwdIdeal.τ).loc Cert.JoinBwdIdeal.main_arg3)
      ∧ r.2.mem ((c.tc : Thread Cert.JoinBwdIdeal.nD Cert.JoinBwdIdeal.τ).loc Cert.JoinBwdIdeal.main_arg4) = m ((c.tc : Thread Cert.JoinBwdIdeal.nD Cert.JoinBwdIdeal.τ).loc Cert.JoinBwdIdeal.main_arg4)
      ∧ r.2.mem ((c.tc : Thread Cert.JoinBwdIdeal.nD Cert.JoinBwdIdeal.τ).loc Cert.JoinBwdIdeal.main_arg5) = m ((c.tc : Thread Cert.JoinBwdIdeal.nD Cert.JoinBwdIdeal.τ).loc Cert.JoinBwdIdeal.main_arg5)
      ∧ r.2.mem ((c.tc : Thread Cert.JoinBwdIdeal.nD Cert.JoinBwdIdeal.τ).loc Cert.JoinBwdIdeal.main_arg6) = m ((c.tc : Thread Cert.JoinBwdIdeal.nD Cert.JoinBwdIdeal.τ).loc Cert.JoinBwdIdeal.main_arg6)
      ∧ r.2.mem ((c.tc : Thread Cert.JoinBwdIdeal.nD Cert.JoinBwdIdeal.τ).loc Cert.JoinBwdIdeal.main_arg7) = m ((c.tc : Thread Cert.JoinBwdIdeal.nD Cert.JoinBwdIdeal.τ).loc Cert.JoinBwdIdeal.main_arg7))
      ∧ r.2.sem = fun _ => 0)

def quiescent_JoinBwdRefIdeal [hJoinBwdRefIdeal : Cert.JoinBwdRefIdeal.Facts] : Prop :=
  ∀ (m : (ℓ : Loc Cert.JoinBwdRefIdeal.nD Cert.JoinBwdRefIdeal.τ Cert.JoinBwdRefIdeal.sig) → Buf (Elt Ideal) ℓ) (g : Dev Cert.JoinBwdRefIdeal.nD → PrngReg), Pre_JoinBwdRefIdeal m →
    θ_run (Cert.JoinBwdRefIdeal.defs (F := Ideal)) (onTc (τ := Cert.JoinBwdRefIdeal.τ) (Cert.JoinBwdRefIdeal.main (F := Ideal))) ⟨m, fun _ => 0, g⟩ (fun r => (∀ c : Dev Cert.JoinBwdRefIdeal.nD,
      r.2.mem ((c.tc : Thread Cert.JoinBwdRefIdeal.nD Cert.JoinBwdRefIdeal.τ).loc Cert.JoinBwdRefIdeal.main_arg0) = m ((c.tc : Thread Cert.JoinBwdRefIdeal.nD Cert.JoinBwdRefIdeal.τ).loc Cert.JoinBwdRefIdeal.main_arg0)
      ∧ r.2.mem ((c.tc : Thread Cert.JoinBwdRefIdeal.nD Cert.JoinBwdRefIdeal.τ).loc Cert.JoinBwdRefIdeal.main_arg1) = m ((c.tc : Thread Cert.JoinBwdRefIdeal.nD Cert.JoinBwdRefIdeal.τ).loc Cert.JoinBwdRefIdeal.main_arg1)
      ∧ r.2.mem ((c.tc : Thread Cert.JoinBwdRefIdeal.nD Cert.JoinBwdRefIdeal.τ).loc Cert.JoinBwdRefIdeal.main_arg2) = m ((c.tc : Thread Cert.JoinBwdRefIdeal.nD Cert.JoinBwdRefIdeal.τ).loc Cert.JoinBwdRefIdeal.main_arg2)
      ∧ r.2.mem ((c.tc : Thread Cert.JoinBwdRefIdeal.nD Cert.JoinBwdRefIdeal.τ).loc Cert.JoinBwdRefIdeal.main_arg3) = m ((c.tc : Thread Cert.JoinBwdRefIdeal.nD Cert.JoinBwdRefIdeal.τ).loc Cert.JoinBwdRefIdeal.main_arg3)
      ∧ r.2.mem ((c.tc : Thread Cert.JoinBwdRefIdeal.nD Cert.JoinBwdRefIdeal.τ).loc Cert.JoinBwdRefIdeal.main_arg4) = m ((c.tc : Thread Cert.JoinBwdRefIdeal.nD Cert.JoinBwdRefIdeal.τ).loc Cert.JoinBwdRefIdeal.main_arg4)
      ∧ r.2.mem ((c.tc : Thread Cert.JoinBwdRefIdeal.nD Cert.JoinBwdRefIdeal.τ).loc Cert.JoinBwdRefIdeal.main_arg5) = m ((c.tc : Thread Cert.JoinBwdRefIdeal.nD Cert.JoinBwdRefIdeal.τ).loc Cert.JoinBwdRefIdeal.main_arg5)
      ∧ r.2.mem ((c.tc : Thread Cert.JoinBwdRefIdeal.nD Cert.JoinBwdRefIdeal.τ).loc Cert.JoinBwdRefIdeal.main_arg6) = m ((c.tc : Thread Cert.JoinBwdRefIdeal.nD Cert.JoinBwdRefIdeal.τ).loc Cert.JoinBwdRefIdeal.main_arg6)
      ∧ r.2.mem ((c.tc : Thread Cert.JoinBwdRefIdeal.nD Cert.JoinBwdRefIdeal.τ).loc Cert.JoinBwdRefIdeal.main_arg7) = m ((c.tc : Thread Cert.JoinBwdRefIdeal.nD Cert.JoinBwdRefIdeal.τ).loc Cert.JoinBwdRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90_0)) (v1 : (c : Dev Cert.KernelIdeal.nD) → Buf (Elt Ideal) ((c.tc : Thread Cert.KernelIdeal.nD Cert.KernelIdeal.τ).loc Cert.KernelIdeal.main_v90_1)) (v2 : (c : Dev Cert.KernelIdeal.nD) → Buf (Elt Ideal) ((c.tc : Thread Cert.KernelIdeal.nD Cert.KernelIdeal.τ).loc Cert.KernelIdeal.main_v90_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_0) = v0 c
          ∧ r.2.mem ((c.tc : Thread Cert.KernelIdeal.nD Cert.KernelIdeal.τ).loc Cert.KernelIdeal.main_v90_1) = v1 c
          ∧ r.2.mem ((c.tc : Thread Cert.KernelIdeal.nD Cert.KernelIdeal.τ).loc Cert.KernelIdeal.main_v90_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v2) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v6)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v2) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_InpDx_InpDxIdeal : Prop :=
  True

def algebraic_InpDxIdeal_InpDxRefIdeal [hInpDxIdeal : Cert.InpDxIdeal.Facts] [hInpDxRefIdeal : Cert.InpDxRefIdeal.Facts] : Prop :=
  ∀ (m : (ℓ : Loc Cert.InpDxIdeal.nD Cert.InpDxIdeal.τ Cert.InpDxIdeal.sig) → Buf (Elt Ideal) ℓ) (g : Dev Cert.InpDxIdeal.nD → PrngReg)
    (m' : (ℓ : Loc Cert.InpDxRefIdeal.nD Cert.InpDxRefIdeal.τ Cert.InpDxRefIdeal.sig) → Buf (Elt Ideal) ℓ) (g' : Dev Cert.InpDxRefIdeal.nD → PrngReg), Pre_InpDxIdeal m →
    (∀ c : Dev Cert.InpDxIdeal.nD,
      m' ((c.tc : Thread Cert.InpDxRefIdeal.nD Cert.InpDxRefIdeal.τ).loc Cert.InpDxRefIdeal.main_arg0) = m ((c.tc : Thread Cert.InpDxIdeal.nD Cert.InpDxIdeal.τ).loc Cert.InpDxIdeal.main_arg0)
      ∧ m' ((c.tc : Thread Cert.InpDxRefIdeal.nD Cert.InpDxRefIdeal.τ).loc Cert.InpDxRefIdeal.main_arg1) = m ((c.tc : Thread Cert.InpDxIdeal.nD Cert.InpDxIdeal.τ).loc Cert.InpDxIdeal.main_arg1)
      ∧ m' ((c.tc : Thread Cert.InpDxRefIdeal.nD Cert.InpDxRefIdeal.τ).loc Cert.InpDxRefIdeal.main_arg2) = m ((c.tc : Thread Cert.InpDxIdeal.nD Cert.InpDxIdeal.τ).loc Cert.InpDxIdeal.main_arg2)) →
    ∃ (v0 : (c : Dev Cert.InpDxIdeal.nD) → Buf (Elt Ideal) ((c.tc : Thread Cert.InpDxIdeal.nD Cert.InpDxIdeal.τ).loc Cert.InpDxIdeal.main_v2)),
      θ_run (Cert.InpDxIdeal.defs (F := Ideal)) (onTc (τ := Cert.InpDxIdeal.τ) (Cert.InpDxIdeal.main (F := Ideal))) ⟨m, fun _ => 0, g⟩ (fun r => ∀ c : Dev Cert.InpDxIdeal.nD,
          r.2.mem ((c.tc : Thread Cert.InpDxIdeal.nD Cert.InpDxIdeal.τ).loc Cert.InpDxIdeal.main_v2) = v0 c
          ∧ r.2.mem ((c.tc : Thread Cert.InpDxIdeal.nD Cert.InpDxIdeal.τ).loc Cert.InpDxIdeal.main_arg0) = m ((c.tc : Thread Cert.InpDxIdeal.nD Cert.InpDxIdeal.τ).loc Cert.InpDxIdeal.main_arg0)
          ∧ r.2.mem ((c.tc : Thread Cert.InpDxIdeal.nD Cert.InpDxIdeal.τ).loc Cert.InpDxIdeal.main_arg1) = m ((c.tc : Thread Cert.InpDxIdeal.nD Cert.InpDxIdeal.τ).loc Cert.InpDxIdeal.main_arg1)
          ∧ r.2.mem ((c.tc : Thread Cert.InpDxIdeal.nD Cert.InpDxIdeal.τ).loc Cert.InpDxIdeal.main_arg2) = m ((c.tc : Thread Cert.InpDxIdeal.nD Cert.InpDxIdeal.τ).loc Cert.InpDxIdeal.main_arg2))
      ∧ θ_run (Cert.InpDxRefIdeal.defs (F := Ideal)) (onTc (τ := Cert.InpDxRefIdeal.τ) (Cert.InpDxRefIdeal.main (F := Ideal))) ⟨m', fun _ => 0, g'⟩ (fun r => ∀ c : Dev Cert.InpDxRefIdeal.nD,
          r.2.mem ((c.tc : Thread Cert.InpDxRefIdeal.nD Cert.InpDxRefIdeal.τ).loc Cert.InpDxRefIdeal.main_v3) = v0 c
          ∧ r.2.mem ((c.tc : Thread Cert.InpDxRefIdeal.nD Cert.InpDxRefIdeal.τ).loc Cert.InpDxRefIdeal.main_arg0) = m' ((c.tc : Thread Cert.InpDxRefIdeal.nD Cert.InpDxRefIdeal.τ).loc Cert.InpDxRefIdeal.main_arg0)
          ∧ r.2.mem ((c.tc : Thread Cert.InpDxRefIdeal.nD Cert.InpDxRefIdeal.τ).loc Cert.InpDxRefIdeal.main_arg1) = m' ((c.tc : Thread Cert.InpDxRefIdeal.nD Cert.InpDxRefIdeal.τ).loc Cert.InpDxRefIdeal.main_arg1)
          ∧ r.2.mem ((c.tc : Thread Cert.InpDxRefIdeal.nD Cert.InpDxRefIdeal.τ).loc Cert.InpDxRefIdeal.main_arg2) = m' ((c.tc : Thread Cert.InpDxRefIdeal.nD Cert.InpDxRefIdeal.τ).loc Cert.InpDxRefIdeal.main_arg2))

def preserves_InpDw_InpDwIdeal : Prop :=
  True

def algebraic_InpDwIdeal_InpDwRefIdeal [hInpDwIdeal : Cert.InpDwIdeal.Facts] [hInpDwRefIdeal : Cert.InpDwRefIdeal.Facts] : Prop :=
  ∀ (m : (ℓ : Loc Cert.InpDwIdeal.nD Cert.InpDwIdeal.τ Cert.InpDwIdeal.sig) → Buf (Elt Ideal) ℓ) (g : Dev Cert.InpDwIdeal.nD → PrngReg)
    (m' : (ℓ : Loc Cert.InpDwRefIdeal.nD Cert.InpDwRefIdeal.τ Cert.InpDwRefIdeal.sig) → Buf (Elt Ideal) ℓ) (g' : Dev Cert.InpDwRefIdeal.nD → PrngReg), Pre_InpDwIdeal m →
    (∀ c : Dev Cert.InpDwIdeal.nD,
      m' ((c.tc : Thread Cert.InpDwRefIdeal.nD Cert.InpDwRefIdeal.τ).loc Cert.InpDwRefIdeal.main_arg0) = m ((c.tc : Thread Cert.InpDwIdeal.nD Cert.InpDwIdeal.τ).loc Cert.InpDwIdeal.main_arg0)
      ∧ m' ((c.tc : Thread Cert.InpDwRefIdeal.nD Cert.InpDwRefIdeal.τ).loc Cert.InpDwRefIdeal.main_arg1) = m ((c.tc : Thread Cert.InpDwIdeal.nD Cert.InpDwIdeal.τ).loc Cert.InpDwIdeal.main_arg1)
      ∧ m' ((c.tc : Thread Cert.InpDwRefIdeal.nD Cert.InpDwRefIdeal.τ).loc Cert.InpDwRefIdeal.main_arg2) = m ((c.tc : Thread Cert.InpDwIdeal.nD Cert.InpDwIdeal.τ).loc Cert.InpDwIdeal.main_arg2)) →
    ∃ (v0 : (c : Dev Cert.InpDwIdeal.nD) → Buf (Elt Ideal) ((c.tc : Thread Cert.InpDwIdeal.nD Cert.InpDwIdeal.τ).loc Cert.InpDwIdeal.main_v2)),
      θ_run (Cert.InpDwIdeal.defs (F := Ideal)) (onTc (τ := Cert.InpDwIdeal.τ) (Cert.InpDwIdeal.main (F := Ideal))) ⟨m, fun _ => 0, g⟩ (fun r => ∀ c : Dev Cert.InpDwIdeal.nD,
          r.2.mem ((c.tc : Thread Cert.InpDwIdeal.nD Cert.InpDwIdeal.τ).loc Cert.InpDwIdeal.main_v2) = v0 c
          ∧ r.2.mem ((c.tc : Thread Cert.InpDwIdeal.nD Cert.InpDwIdeal.τ).loc Cert.InpDwIdeal.main_arg0) = m ((c.tc : Thread Cert.InpDwIdeal.nD Cert.InpDwIdeal.τ).loc Cert.InpDwIdeal.main_arg0)
          ∧ r.2.mem ((c.tc : Thread Cert.InpDwIdeal.nD Cert.InpDwIdeal.τ).loc Cert.InpDwIdeal.main_arg1) = m ((c.tc : Thread Cert.InpDwIdeal.nD Cert.InpDwIdeal.τ).loc Cert.InpDwIdeal.main_arg1)
          ∧ r.2.mem ((c.tc : Thread Cert.InpDwIdeal.nD Cert.InpDwIdeal.τ).loc Cert.InpDwIdeal.main_arg2) = m ((c.tc : Thread Cert.InpDwIdeal.nD Cert.InpDwIdeal.τ).loc Cert.InpDwIdeal.main_arg2))
      ∧ θ_run (Cert.InpDwRefIdeal.defs (F := Ideal)) (onTc (τ := Cert.InpDwRefIdeal.τ) (Cert.InpDwRefIdeal.main (F := Ideal))) ⟨m', fun _ => 0, g'⟩ (fun r => ∀ c : Dev Cert.InpDwRefIdeal.nD,
          r.2.mem ((c.tc : Thread Cert.InpDwRefIdeal.nD Cert.InpDwRefIdeal.τ).loc Cert.InpDwRefIdeal.main_v2) = v0 c
          ∧ r.2.mem ((c.tc : Thread Cert.InpDwRefIdeal.nD Cert.InpDwRefIdeal.τ).loc Cert.InpDwRefIdeal.main_arg0) = m' ((c.tc : Thread Cert.InpDwRefIdeal.nD Cert.InpDwRefIdeal.τ).loc Cert.InpDwRefIdeal.main_arg0)
          ∧ r.2.mem ((c.tc : Thread Cert.InpDwRefIdeal.nD Cert.InpDwRefIdeal.τ).loc Cert.InpDwRefIdeal.main_arg1) = m' ((c.tc : Thread Cert.InpDwRefIdeal.nD Cert.InpDwRefIdeal.τ).loc Cert.InpDwRefIdeal.main_arg1)
          ∧ r.2.mem ((c.tc : Thread Cert.InpDwRefIdeal.nD Cert.InpDwRefIdeal.τ).loc Cert.InpDwRefIdeal.main_arg2) = m' ((c.tc : Thread Cert.InpDwRefIdeal.nD Cert.InpDwRefIdeal.τ).loc Cert.InpDwRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v2)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v2) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v0) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v86) = v0 c
          ∧ r.2.mem ((c.tc : Thread Cert.MidRefIdeal.nD Cert.MidRefIdeal.τ).loc Cert.MidRefIdeal.main_v88) = v1 c
          ∧ r.2.mem ((c.tc : Thread Cert.MidRefIdeal.nD Cert.MidRefIdeal.τ).loc Cert.MidRefIdeal.main_v89) = v2 c
          ∧ r.2.mem ((c.tc : Thread Cert.MidRefIdeal.nD Cert.MidRefIdeal.τ).loc Cert.MidRefIdeal.main_v90) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2))

def preserves_MidFwd_MidFwdIdeal : Prop :=
  True

def algebraic_MidFwdIdeal_MidFwdRefIdeal [hMidFwdIdeal : Cert.MidFwdIdeal.Facts] [hMidFwdRefIdeal : Cert.MidFwdRefIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg)
    (m' : (ℓ : Loc Cert.MidFwdRefIdeal.nD Cert.MidFwdRefIdeal.τ Cert.MidFwdRefIdeal.sig) → Buf (Elt Ideal) ℓ) (g' : Dev Cert.MidFwdRefIdeal.nD → PrngReg), Pre_MidFwdIdeal m →
    (∀ c : Dev Cert.MidFwdIdeal.nD,
      m' ((c.tc : Thread Cert.MidFwdRefIdeal.nD Cert.MidFwdRefIdeal.τ).loc Cert.MidFwdRefIdeal.main_arg0) = m ((c.tc : Thread Cert.MidFwdIdeal.nD Cert.MidFwdIdeal.τ).loc Cert.MidFwdIdeal.main_arg0)
      ∧ m' ((c.tc : Thread Cert.MidFwdRefIdeal.nD Cert.MidFwdRefIdeal.τ).loc Cert.MidFwdRefIdeal.main_arg1) = m ((c.tc : Thread Cert.MidFwdIdeal.nD Cert.MidFwdIdeal.τ).loc Cert.MidFwdIdeal.main_arg1)) →
    ∃ (v0 : (c : Dev Cert.MidFwdIdeal.nD) → Buf (Elt Ideal) ((c.tc : Thread Cert.MidFwdIdeal.nD Cert.MidFwdIdeal.τ).loc Cert.MidFwdIdeal.main_v0)),
      θ_run (Cert.MidFwdIdeal.defs (F := Ideal)) (onTc (τ := Cert.MidFwdIdeal.τ) (Cert.MidFwdIdeal.main (F := Ideal))) ⟨m, fun _ => 0, g⟩ (fun r => ∀ c : Dev Cert.MidFwdIdeal.nD,
          r.2.mem ((c.tc : Thread Cert.MidFwdIdeal.nD Cert.MidFwdIdeal.τ).loc Cert.MidFwdIdeal.main_v0) = v0 c
          ∧ r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
          ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1))
      ∧ θ_run (Cert.MidFwdRefIdeal.defs (F := Ideal)) (onTc (τ := Cert.MidFwdRefIdeal.τ) (Cert.MidFwdRefIdeal.main (F := Ideal))) ⟨m', fun _ => 0, g'⟩ (fun r => ∀ c : Dev Cert.MidFwdRefIdeal.nD,
          r.2.mem ((c.tc : Thread Cert.MidFwdRefIdeal.nD Cert.MidFwdRefIdeal.τ).loc Cert.MidFwdRefIdeal.main_v32) = v0 c
          ∧ r.2.mem ((c.tc : Thread Cert.MidFwdRefIdeal.nD Cert.MidFwdRefIdeal.τ).loc Cert.MidFwdRefIdeal.main_arg0) = m' ((c.tc : Thread Cert.MidFwdRefIdeal.nD Cert.MidFwdRefIdeal.τ).loc Cert.MidFwdRefIdeal.main_arg0)
          ∧ r.2.mem ((c.tc : Thread Cert.MidFwdRefIdeal.nD Cert.MidFwdRefIdeal.τ).loc Cert.MidFwdRefIdeal.main_arg1) = m' ((c.tc : Thread Cert.MidFwdRefIdeal.nD Cert.MidFwdRefIdeal.τ).loc Cert.MidFwdRefIdeal.main_arg1))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v7) = v0 c
          ∧ r.2.mem ((c.tc : Thread Cert.GateBwdRefIdeal.nD Cert.GateBwdRefIdeal.τ).loc Cert.GateBwdRefIdeal.main_v6) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v48) = v0 c
          ∧ r.2.mem ((c.tc : Thread Cert.NormBwdRefIdeal.nD Cert.NormBwdRefIdeal.τ).loc Cert.NormBwdRefIdeal.main_v31) = v1 c
          ∧ r.2.mem ((c.tc : Thread Cert.NormBwdRefIdeal.nD Cert.NormBwdRefIdeal.τ).loc Cert.NormBwdRefIdeal.main_v26) = v2 c
          ∧ r.2.mem ((c.tc : Thread Cert.NormBwdRefIdeal.nD Cert.NormBwdRefIdeal.τ).loc Cert.NormBwdRefIdeal.main_v23) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_JoinBwd_JoinBwdIdeal : Prop :=
  True

def algebraic_JoinBwdIdeal_JoinBwdRefIdeal [hJoinBwdIdeal : Cert.JoinBwdIdeal.Facts] [hJoinBwdRefIdeal : Cert.JoinBwdRefIdeal.Facts] : Prop :=
  ∀ (m : (ℓ : Loc Cert.JoinBwdIdeal.nD Cert.JoinBwdIdeal.τ Cert.JoinBwdIdeal.sig) → Buf (Elt Ideal) ℓ) (g : Dev Cert.JoinBwdIdeal.nD → PrngReg)
    (m' : (ℓ : Loc Cert.JoinBwdRefIdeal.nD Cert.JoinBwdRefIdeal.τ Cert.JoinBwdRefIdeal.sig) → Buf (Elt Ideal) ℓ) (g' : Dev Cert.JoinBwdRefIdeal.nD → PrngReg), Pre_JoinBwdIdeal m →
    (∀ c : Dev Cert.JoinBwdIdeal.nD,
      m' ((c.tc : Thread Cert.JoinBwdRefIdeal.nD Cert.JoinBwdRefIdeal.τ).loc Cert.JoinBwdRefIdeal.main_arg0) = m ((c.tc : Thread Cert.JoinBwdIdeal.nD Cert.JoinBwdIdeal.τ).loc Cert.JoinBwdIdeal.main_arg0)
      ∧ m' ((c.tc : Thread Cert.JoinBwdRefIdeal.nD Cert.JoinBwdRefIdeal.τ).loc Cert.JoinBwdRefIdeal.main_arg1) = m ((c.tc : Thread Cert.JoinBwdIdeal.nD Cert.JoinBwdIdeal.τ).loc Cert.JoinBwdIdeal.main_arg1)
      ∧ m' ((c.tc : Thread Cert.JoinBwdRefIdeal.nD Cert.JoinBwdRefIdeal.τ).loc Cert.JoinBwdRefIdeal.main_arg2) = m ((c.tc : Thread Cert.JoinBwdIdeal.nD Cert.JoinBwdIdeal.τ).loc Cert.JoinBwdIdeal.main_arg2)
      ∧ m' ((c.tc : Thread Cert.JoinBwdRefIdeal.nD Cert.JoinBwdRefIdeal.τ).loc Cert.JoinBwdRefIdeal.main_arg3) = m ((c.tc : Thread Cert.JoinBwdIdeal.nD Cert.JoinBwdIdeal.τ).loc Cert.JoinBwdIdeal.main_arg3)
      ∧ m' ((c.tc : Thread Cert.JoinBwdRefIdeal.nD Cert.JoinBwdRefIdeal.τ).loc Cert.JoinBwdRefIdeal.main_arg4) = m ((c.tc : Thread Cert.JoinBwdIdeal.nD Cert.JoinBwdIdeal.τ).loc Cert.JoinBwdIdeal.main_arg4)
      ∧ m' ((c.tc : Thread Cert.JoinBwdRefIdeal.nD Cert.JoinBwdRefIdeal.τ).loc Cert.JoinBwdRefIdeal.main_arg5) = m ((c.tc : Thread Cert.JoinBwdIdeal.nD Cert.JoinBwdIdeal.τ).loc Cert.JoinBwdIdeal.main_arg5)
      ∧ m' ((c.tc : Thread Cert.JoinBwdRefIdeal.nD Cert.JoinBwdRefIdeal.τ).loc Cert.JoinBwdRefIdeal.main_arg6) = m ((c.tc : Thread Cert.JoinBwdIdeal.nD Cert.JoinBwdIdeal.τ).loc Cert.JoinBwdIdeal.main_arg6)
      ∧ m' ((c.tc : Thread Cert.JoinBwdRefIdeal.nD Cert.JoinBwdRefIdeal.τ).loc Cert.JoinBwdRefIdeal.main_arg7) = m ((c.tc : Thread Cert.JoinBwdIdeal.nD Cert.JoinBwdIdeal.τ).loc Cert.JoinBwdIdeal.main_arg7)) →
    ∃ (v0 : (c : Dev Cert.JoinBwdIdeal.nD) → Buf (Elt Ideal) ((c.tc : Thread Cert.JoinBwdIdeal.nD Cert.JoinBwdIdeal.τ).loc Cert.JoinBwdIdeal.main_v3_0)) (v1 : (c : Dev Cert.JoinBwdIdeal.nD) → Buf (Elt Ideal) ((c.tc : Thread Cert.JoinBwdIdeal.nD Cert.JoinBwdIdeal.τ).loc Cert.JoinBwdIdeal.main_v3_1)) (v2 : (c : Dev Cert.JoinBwdIdeal.nD) → Buf (Elt Ideal) ((c.tc : Thread Cert.JoinBwdIdeal.nD Cert.JoinBwdIdeal.τ).loc Cert.JoinBwdIdeal.main_v3_2)) (v3 : (c : Dev Cert.JoinBwdIdeal.nD) → Buf (Elt Ideal) ((c.tc : Thread Cert.JoinBwdIdeal.nD Cert.JoinBwdIdeal.τ).loc Cert.JoinBwdIdeal.main_v3_3)) (v4 : (c : Dev Cert.JoinBwdIdeal.nD) → Buf (Elt Ideal) ((c.tc : Thread Cert.JoinBwdIdeal.nD Cert.JoinBwdIdeal.τ).loc Cert.JoinBwdIdeal.main_v3_4)) (v5 : (c : Dev Cert.JoinBwdIdeal.nD) → Buf (Elt Ideal) ((c.tc : Thread Cert.JoinBwdIdeal.nD Cert.JoinBwdIdeal.τ).loc Cert.JoinBwdIdeal.main_v3_5)),
      θ_run (Cert.JoinBwdIdeal.defs (F := Ideal)) (onTc (τ := Cert.JoinBwdIdeal.τ) (Cert.JoinBwdIdeal.main (F := Ideal))) ⟨m, fun _ => 0, g⟩ (fun r => ∀ c : Dev Cert.JoinBwdIdeal.nD,
          r.2.mem ((c.tc : Thread Cert.JoinBwdIdeal.nD Cert.JoinBwdIdeal.τ).loc Cert.JoinBwdIdeal.main_v3_0) = v0 c
          ∧ r.2.mem ((c.tc : Thread Cert.JoinBwdIdeal.nD Cert.JoinBwdIdeal.τ).loc Cert.JoinBwdIdeal.main_v3_1) = v1 c
          ∧ r.2.mem ((c.tc : Thread Cert.JoinBwdIdeal.nD Cert.JoinBwdIdeal.τ).loc Cert.JoinBwdIdeal.main_v3_2) = v2 c
          ∧ r.2.mem ((c.tc : Thread Cert.JoinBwdIdeal.nD Cert.JoinBwdIdeal.τ).loc Cert.JoinBwdIdeal.main_v3_3) = v3 c
          ∧ r.2.mem ((c.tc : Thread Cert.JoinBwdIdeal.nD Cert.JoinBwdIdeal.τ).loc Cert.JoinBwdIdeal.main_v3_4) = v4 c
          ∧ r.2.mem ((c.tc : Thread Cert.JoinBwdIdeal.nD Cert.JoinBwdIdeal.τ).loc Cert.JoinBwdIdeal.main_v3_5) = v5 c
          ∧ r.2.mem ((c.tc : Thread Cert.JoinBwdIdeal.nD Cert.JoinBwdIdeal.τ).loc Cert.JoinBwdIdeal.main_arg0) = m ((c.tc : Thread Cert.JoinBwdIdeal.nD Cert.JoinBwdIdeal.τ).loc Cert.JoinBwdIdeal.main_arg0)
          ∧ r.2.mem ((c.tc : Thread Cert.JoinBwdIdeal.nD Cert.JoinBwdIdeal.τ).loc Cert.JoinBwdIdeal.main_arg1) = m ((c.tc : Thread Cert.JoinBwdIdeal.nD Cert.JoinBwdIdeal.τ).loc Cert.JoinBwdIdeal.main_arg1)
          ∧ r.2.mem ((c.tc : Thread Cert.JoinBwdIdeal.nD Cert.JoinBwdIdeal.τ).loc Cert.JoinBwdIdeal.main_arg2) = m ((c.tc : Thread Cert.JoinBwdIdeal.nD Cert.JoinBwdIdeal.τ).loc Cert.JoinBwdIdeal.main_arg2)
          ∧ r.2.mem ((c.tc : Thread Cert.JoinBwdIdeal.nD Cert.JoinBwdIdeal.τ).loc Cert.JoinBwdIdeal.main_arg3) = m ((c.tc : Thread Cert.JoinBwdIdeal.nD Cert.JoinBwdIdeal.τ).loc Cert.JoinBwdIdeal.main_arg3)
          ∧ r.2.mem ((c.tc : Thread Cert.JoinBwdIdeal.nD Cert.JoinBwdIdeal.τ).loc Cert.JoinBwdIdeal.main_arg4) = m ((c.tc : Thread Cert.JoinBwdIdeal.nD Cert.JoinBwdIdeal.τ).loc Cert.JoinBwdIdeal.main_arg4)
          ∧ r.2.mem ((c.tc : Thread Cert.JoinBwdIdeal.nD Cert.JoinBwdIdeal.τ).loc Cert.JoinBwdIdeal.main_arg5) = m ((c.tc : Thread Cert.JoinBwdIdeal.nD Cert.JoinBwdIdeal.τ).loc Cert.JoinBwdIdeal.main_arg5)
          ∧ r.2.mem ((c.tc : Thread Cert.JoinBwdIdeal.nD Cert.JoinBwdIdeal.τ).loc Cert.JoinBwdIdeal.main_arg6) = m ((c.tc : Thread Cert.JoinBwdIdeal.nD Cert.JoinBwdIdeal.τ).loc Cert.JoinBwdIdeal.main_arg6)
          ∧ r.2.mem ((c.tc : Thread Cert.JoinBwdIdeal.nD Cert.JoinBwdIdeal.τ).loc Cert.JoinBwdIdeal.main_arg7) = m ((c.tc : Thread Cert.JoinBwdIdeal.nD Cert.JoinBwdIdeal.τ).loc Cert.JoinBwdIdeal.main_arg7))
      ∧ θ_run (Cert.JoinBwdRefIdeal.defs (F := Ideal)) (onTc (τ := Cert.JoinBwdRefIdeal.τ) (Cert.JoinBwdRefIdeal.main (F := Ideal))) ⟨m', fun _ => 0, g'⟩ (fun r => ∀ c : Dev Cert.JoinBwdRefIdeal.nD,
          r.2.mem ((c.tc : Thread Cert.JoinBwdRefIdeal.nD Cert.JoinBwdRefIdeal.τ).loc Cert.JoinBwdRefIdeal.main_v51) = v0 c
          ∧ r.2.mem ((c.tc : Thread Cert.JoinBwdRefIdeal.nD Cert.JoinBwdRefIdeal.τ).loc Cert.JoinBwdRefIdeal.main_v58) = v1 c
          ∧ r.2.mem ((c.tc : Thread Cert.JoinBwdRefIdeal.nD Cert.JoinBwdRefIdeal.τ).loc Cert.JoinBwdRefIdeal.main_v34) = v2 c
          ∧ r.2.mem ((c.tc : Thread Cert.JoinBwdRefIdeal.nD Cert.JoinBwdRefIdeal.τ).loc Cert.JoinBwdRefIdeal.main_v29) = v3 c
          ∧ r.2.mem ((c.tc : Thread Cert.JoinBwdRefIdeal.nD Cert.JoinBwdRefIdeal.τ).loc Cert.JoinBwdRefIdeal.main_v26) = v4 c
          ∧ r.2.mem ((c.tc : Thread Cert.JoinBwdRefIdeal.nD Cert.JoinBwdRefIdeal.τ).loc Cert.JoinBwdRefIdeal.main_v57) = v5 c
          ∧ r.2.mem ((c.tc : Thread Cert.JoinBwdRefIdeal.nD Cert.JoinBwdRefIdeal.τ).loc Cert.JoinBwdRefIdeal.main_arg0) = m' ((c.tc : Thread Cert.JoinBwdRefIdeal.nD Cert.JoinBwdRefIdeal.τ).loc Cert.JoinBwdRefIdeal.main_arg0)
          ∧ r.2.mem ((c.tc : Thread Cert.JoinBwdRefIdeal.nD Cert.JoinBwdRefIdeal.τ).loc Cert.JoinBwdRefIdeal.main_arg1) = m' ((c.tc : Thread Cert.JoinBwdRefIdeal.nD Cert.JoinBwdRefIdeal.τ).loc Cert.JoinBwdRefIdeal.main_arg1)
          ∧ r.2.mem ((c.tc : Thread Cert.JoinBwdRefIdeal.nD Cert.JoinBwdRefIdeal.τ).loc Cert.JoinBwdRefIdeal.main_arg2) = m' ((c.tc : Thread Cert.JoinBwdRefIdeal.nD Cert.JoinBwdRefIdeal.τ).loc Cert.JoinBwdRefIdeal.main_arg2)
          ∧ r.2.mem ((c.tc : Thread Cert.JoinBwdRefIdeal.nD Cert.JoinBwdRefIdeal.τ).loc Cert.JoinBwdRefIdeal.main_arg3) = m' ((c.tc : Thread Cert.JoinBwdRefIdeal.nD Cert.JoinBwdRefIdeal.τ).loc Cert.JoinBwdRefIdeal.main_arg3)
          ∧ r.2.mem ((c.tc : Thread Cert.JoinBwdRefIdeal.nD Cert.JoinBwdRefIdeal.τ).loc Cert.JoinBwdRefIdeal.main_arg4) = m' ((c.tc : Thread Cert.JoinBwdRefIdeal.nD Cert.JoinBwdRefIdeal.τ).loc Cert.JoinBwdRefIdeal.main_arg4)
          ∧ r.2.mem ((c.tc : Thread Cert.JoinBwdRefIdeal.nD Cert.JoinBwdRefIdeal.τ).loc Cert.JoinBwdRefIdeal.main_arg5) = m' ((c.tc : Thread Cert.JoinBwdRefIdeal.nD Cert.JoinBwdRefIdeal.τ).loc Cert.JoinBwdRefIdeal.main_arg5)
          ∧ r.2.mem ((c.tc : Thread Cert.JoinBwdRefIdeal.nD Cert.JoinBwdRefIdeal.τ).loc Cert.JoinBwdRefIdeal.main_arg6) = m' ((c.tc : Thread Cert.JoinBwdRefIdeal.nD Cert.JoinBwdRefIdeal.τ).loc Cert.JoinBwdRefIdeal.main_arg6)
          ∧ r.2.mem ((c.tc : Thread Cert.JoinBwdRefIdeal.nD Cert.JoinBwdRefIdeal.τ).loc Cert.JoinBwdRefIdeal.main_arg7) = m' ((c.tc : Thread Cert.JoinBwdRefIdeal.nD Cert.JoinBwdRefIdeal.τ).loc Cert.JoinBwdRefIdeal.main_arg7))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInpDx : Cert.InpDx.Facts) (hInpDxIdeal : Cert.InpDxIdeal.Facts) (hInpDxRefIdeal : Cert.InpDxRefIdeal.Facts) (hInpDw : Cert.InpDw.Facts) (hInpDwIdeal : Cert.InpDwIdeal.Facts) (hInpDwRefIdeal : Cert.InpDwRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hMid : Cert.Mid.Facts) (hMidIdeal : Cert.MidIdeal.Facts) (hMidRefIdeal : Cert.MidRefIdeal.Facts) (hMidFwd : Cert.MidFwd.Facts) (hMidFwdIdeal : Cert.MidFwdIdeal.Facts) (hMidFwdRefIdeal : Cert.MidFwdRefIdeal.Facts) (hGateBwd : Cert.GateBwd.Facts) (hGateBwdIdeal : Cert.GateBwdIdeal.Facts) (hGateBwdRefIdeal : Cert.GateBwdRefIdeal.Facts) (hNormBwd : Cert.NormBwd.Facts) (hNormBwdIdeal : Cert.NormBwdIdeal.Facts) (hNormBwdRefIdeal : Cert.NormBwdRefIdeal.Facts) (hJoinBwd : Cert.JoinBwd.Facts) (hJoinBwdIdeal : Cert.JoinBwdIdeal.Facts) (hJoinBwdRefIdeal : Cert.JoinBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InpDx (hInpDx := hInpDx)
    ∧ quiescent_InpDxIdeal (hInpDxIdeal := hInpDxIdeal)
    ∧ quiescent_InpDxRefIdeal (hInpDxRefIdeal := hInpDxRefIdeal)
    ∧ quiescent_InpDw (hInpDw := hInpDw)
    ∧ quiescent_InpDwIdeal (hInpDwIdeal := hInpDwIdeal)
    ∧ quiescent_InpDwRefIdeal (hInpDwRefIdeal := hInpDwRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_Mid (hMid := hMid)
    ∧ quiescent_MidIdeal (hMidIdeal := hMidIdeal)
    ∧ quiescent_MidRefIdeal (hMidRefIdeal := hMidRefIdeal)
    ∧ quiescent_MidFwd (hMidFwd := hMidFwd)
    ∧ quiescent_MidFwdIdeal (hMidFwdIdeal := hMidFwdIdeal)
    ∧ quiescent_MidFwdRefIdeal (hMidFwdRefIdeal := hMidFwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_JoinBwd (hJoinBwd := hJoinBwd)
    ∧ quiescent_JoinBwdIdeal (hJoinBwdIdeal := hJoinBwdIdeal)
    ∧ quiescent_JoinBwdRefIdeal (hJoinBwdRefIdeal := hJoinBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InpDx_InpDxIdeal
    ∧ algebraic_InpDxIdeal_InpDxRefIdeal (hInpDxIdeal := hInpDxIdeal) (hInpDxRefIdeal := hInpDxRefIdeal)
    ∧ preserves_InpDw_InpDwIdeal
    ∧ algebraic_InpDwIdeal_InpDwRefIdeal (hInpDwIdeal := hInpDwIdeal) (hInpDwRefIdeal := hInpDwRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_Mid_MidIdeal
    ∧ algebraic_MidIdeal_MidRefIdeal (hMidIdeal := hMidIdeal) (hMidRefIdeal := hMidRefIdeal)
    ∧ preserves_MidFwd_MidFwdIdeal
    ∧ algebraic_MidFwdIdeal_MidFwdRefIdeal (hMidFwdIdeal := hMidFwdIdeal) (hMidFwdRefIdeal := hMidFwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_JoinBwd_JoinBwdIdeal
    ∧ algebraic_JoinBwdIdeal_JoinBwdRefIdeal (hJoinBwdIdeal := hJoinBwdIdeal) (hJoinBwdRefIdeal := hJoinBwdRefIdeal)
-- ==== Pre_finite.lean ====
abbrev S8192x384 : Shape := ⟨2, ![8192, 384]⟩
abbrev S8192x6x64 : Shape := ⟨3, ![8192, 6, 64]⟩
abbrev S8192x6 : Shape := ⟨2, ![8192, 6]⟩
abbrev S_ : Shape := ⟨0, ![]⟩

class Facts : Prop where
  bcast_S_S8192x384 : S_.BroadcastsInDim S8192x384 (![] : Fin 0 → Fin S8192x384.rank)
  bcast_S_S8192x6x64 : S_.BroadcastsInDim S8192x6x64 (![] : Fin 0 → Fin S8192x6x64.rank)
  bcast_S_S8192x6 : S_.BroadcastsInDim S8192x6 (![] : Fin 0 → Fin S8192x6.rank)

variable [Facts]

def fn_part1 {F : FTy → Type} [FloatOps F] (main_arg6 : FVec F S8192x6 .f32) (main_arg7 : FVec F S8192x384 .f32) (main_v2 : IVec S8192x384 1) (main_v5 : IVec S8192x384 1) (main_v8 : IVec S8192x384 1) (main_v11 : IVec S8192x6x64 1) (main_v14 : IVec S8192x6 1) (main_v17 : IVec S8192x6x64 1) : IVec S8192x384 1 × IVec S8192x384 1 × IVec S8192x384 1 × IVec S8192x6x64 1 × IVec S8192x6 1 × IVec S8192x6x64 1 × IVec S8192x6 1 × IVec S8192x384 1 :=
  let main_v18 : FVec F S8192x6 .f32 := Host.absf main_arg6
  let main_cst_5 : FVec F S_ .f32 := constant S_ .f32 0x7F800000#32
  let main_v19 : FVec F S8192x6 .f32 := broadcastInDim S8192x6 ![] bcast_S_S8192x6 main_cst_5
  let main_v20 : IVec S8192x6 1 := cmpf .olt main_v18 main_v19
  let main_v21 : FVec F S8192x384 .f32 := Host.absf main_arg7
  let main_cst_6 : FVec F S_ .f32 := constant S_ .f32 0x7F800000#32
  let main_v22 : FVec F S8192x384 .f32 := broadcastInDim S8192x384 ![] bcast_S_S8192x384 main_cst_6
  let main_v23 : IVec S8192x384 1 := cmpf .olt main_v21 main_v22
  (main_v2, main_v5, main_v8, main_v11, main_v14, main_v17, main_v20, main_v23)

def fn {F : FTy → Type} [FloatOps F] (main_arg0 : FVec F S8192x384 .f32) (main_arg1 : FVec F S8192x384 .f32) (main_arg2 : FVec F S8192x384 .f32) (main_arg3 : FVec F S8192x6x64 .f32) (main_arg4 : FVec F S8192x6 .f32) (main_arg5 : FVec F S8192x6x64 .f32) (main_arg6 : FVec F S8192x6 .f32) (main_arg7 : FVec F S8192x384 .f32) : IVec S8192x384 1 × IVec S8192x384 1 × IVec S8192x384 1 × IVec S8192x6x64 1 × IVec S8192x6 1 × IVec S8192x6x64 1 × IVec S8192x6 1 × IVec S8192x384 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S8192x384 .f32 := Host.absf main_arg1
  let main_cst_0 : FVec F S_ .f32 := constant S_ .f32 0x7F800000#32
  let main_v4 : FVec F S8192x384 .f32 := broadcastInDim S8192x384 ![] bcast_S_S8192x384 main_cst_0
  let main_v5 : IVec S8192x384 1 := cmpf .olt main_v3 main_v4
  let main_v6 : FVec F S8192x384 .f32 := Host.absf main_arg2
  let main_cst_1 : FVec F S_ .f32 := constant S_ .f32 0x7F800000#32
  let main_v7 : FVec F S8192x384 .f32 := broadcastInDim S8192x384 ![] bcast_S_S8192x384 main_cst_1
  let main_v8 : IVec S8192x384 1 := cmpf .olt main_v6 main_v7
  let main_v9 : FVec F S8192x6x64 .f32 := Host.absf main_arg3
  let main_cst_2 : FVec F S_ .f32 := constant S_ .f32 0x7F800000#32
  let main_v10 : FVec F S8192x6x64 .f32 := broadcastInDim S8192x6x64 ![] bcast_S_S8192x6x64 main_cst_2
  let main_v11 : IVec S8192x6x64 1 := cmpf .olt main_v9 main_v10
  let main_v12 : FVec F S8192x6 .f32 := Host.absf main_arg4
  let main_cst_3 : FVec F S_ .f32 := constant S_ .f32 0x7F800000#32
  let main_v13 : FVec F S8192x6 .f32 := broadcastInDim S8192x6 ![] bcast_S_S8192x6 main_cst_3
  let main_v14 : IVec S8192x6 1 := cmpf .olt main_v12 main_v13
  let main_v15 : FVec F S8192x6x64 .f32 := Host.absf main_arg5
  let main_cst_4 : FVec F S_ .f32 := constant S_ .f32 0x7F800000#32
  let main_v16 : FVec F S8192x6x64 .f32 := broadcastInDim S8192x6x64 ![] bcast_S_S8192x6x64 main_cst_4
  let main_v17 : IVec S8192x6x64 1 := cmpf .olt main_v15 main_v16
  fn_part1 (F := F) main_arg6 main_arg7 main_v2 main_v5 main_v8 main_v11 main_v14 main_v17
-- ==== Kernel.lean ====
abbrev S8192x384 : Shape := ⟨2, ![8192, 384]⟩
abbrev S8192x6x64 : Shape := ⟨3, ![8192, 6, 64]⟩
abbrev S8192x6 : Shape := ⟨2, ![8192, 6]⟩
abbrev S2048x4x6x64 : Shape := ⟨4, ![2048, 4, 6, 64]⟩
abbrev S4x2048x6x64 : Shape := ⟨4, ![4, 2048, 6, 64]⟩
abbrev S_ : Shape := ⟨0, ![]⟩
abbrev S1 : Shape := ⟨1, ![1]⟩
abbrev S6 : Shape := ⟨1, ![6]⟩
abbrev S2048x2048 : Shape := ⟨2, ![2048, 2048]⟩
abbrev S4x6x2048x2048 : Shape := ⟨4, ![4, 6, 2048, 2048]⟩
abbrev S6x1x1 : Shape := ⟨3, ![6, 1, 1]⟩
abbrev S1x2048x2048 : Shape := ⟨3, ![1, 2048, 2048]⟩
abbrev S6x2048x2048 : Shape := ⟨3, ![6, 2048, 2048]⟩
abbrev S1x6x2048x2048 : Shape := ⟨4, ![1, 6, 2048, 2048]⟩
abbrev S4x6x2048 : Shape := ⟨3, ![4, 6, 2048]⟩
abbrev S4x6x2048x1 : Shape := ⟨4, ![4, 6, 2048, 1]⟩
abbrev S4x6x64x2048 : Shape := ⟨4, ![4, 6, 64, 2048]⟩
abbrev S2048x4x6 : Shape := ⟨3, ![2048, 4, 6]⟩
abbrev S8192x6x1 : Shape := ⟨3, ![8192, 6, 1]⟩
abbrev S8192x2 : Shape := ⟨2, ![8192, 2]⟩
abbrev S8192x114 : Shape := ⟨2, ![8192, 114]⟩
abbrev S8192x128 : Shape := ⟨2, ![8192, 128]⟩
abbrev S8192x1152 : Shape := ⟨2, ![8192, 1152]⟩
abbrev S2048x4608 : Shape := ⟨2, ![2048, 4608]⟩
abbrev S2048x1536 : Shape := ⟨2, ![2048, 1536]⟩
abbrev S2048x512 : Shape := ⟨2, ![2048, 512]⟩
abbrev S64x384 : Shape := ⟨2, ![64, 384]⟩
abbrev S512x384 : Shape := ⟨2, ![512, 384]⟩
abbrev S64x128 : Shape := ⟨2, ![64, 128]⟩
abbrev S512x128 : Shape := ⟨2, ![512, 128]⟩
abbrev S640x128 : Shape := ⟨2, ![640, 128]⟩
abbrev S128x256 : Shape := ⟨2, ![128, 256]⟩
abbrev S256x128 : Shape := ⟨2, ![256, 128]⟩
abbrev S640x384 : Shape := ⟨2, ![640, 384]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S256 : Shape := ⟨1, ![256]⟩
abbrev S256x1 : Shape := ⟨2, ![256, 1]⟩

abbrev nBuf : Space → Nat
  | .hbm => 119
  | .vmem => 36
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x6x64, .f32⟩
  | .hbm, ⟨4, _⟩ => ⟨S8192x6, .f32⟩
  | .hbm, ⟨5, _⟩ => ⟨S8192x6x64, .f32⟩
  | .hbm, ⟨6, _⟩ => ⟨S8192x6, .f32⟩
  | .hbm, ⟨7, _⟩ => ⟨S8192x384, .f32⟩
  | .hbm, ⟨8, _⟩ => ⟨S2048x4x6x64, .f32⟩
  | .hbm, ⟨9, _⟩ => ⟨S4x2048x6x64, .f32⟩
  | .hbm, ⟨10, _⟩ => ⟨S2048x4x6x64, .f32⟩
  | .hbm, ⟨11, _⟩ => ⟨S4x2048x6x64, .f32⟩
  | .hbm, ⟨12, _⟩ => ⟨S2048x4x6x64, .f32⟩
  | .hbm, ⟨13, _⟩ => ⟨S4x2048x6x64, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S6, .f32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .f32⟩
  | .hbm, ⟨35, _⟩ => ⟨S4x6x2048x2048, .f32⟩
  | .hbm, ⟨36, _⟩ => ⟨S_, .f32⟩
  | .hbm, ⟨37, _⟩ => ⟨S4x6x2048x2048, .f32⟩
  | .hbm, ⟨38, _⟩ => ⟨S4x6x2048x2048, .f32⟩
  | .hbm, ⟨39, _⟩ => ⟨S6x1x1, .f32⟩
  | .hbm, ⟨40, _⟩ => ⟨S1x2048x2048, .f32⟩
  | .hbm, ⟨41, _⟩ => ⟨S6x2048x2048, .f32⟩
  | .hbm, ⟨42, _⟩ => ⟨S6x2048x2048, .f32⟩
  | .hbm, ⟨43, _⟩ => ⟨S6x2048x2048, .f32⟩
  | .hbm, ⟨44, _⟩ => ⟨S1x6x2048x2048, .f32⟩
  | .hbm, ⟨45, _⟩ => ⟨S4x6x2048x2048, .f32⟩
  | .hbm, ⟨46, _⟩ => ⟨S4x6x2048x2048, .f32⟩
  | .hbm, ⟨47, _⟩ => ⟨S_, .i32⟩
  | .hbm, ⟨48, _⟩ => ⟨S2048x2048, .i32⟩
  | .hbm, ⟨49, _⟩ => ⟨S2048x2048, .i1⟩
  | .hbm, ⟨50, _⟩ => ⟨S_, .f32⟩
  | .hbm, ⟨51, _⟩ => ⟨S_, .f32⟩
  | .hbm, ⟨52, _⟩ => ⟨S4x6x2048x2048, .i1⟩
  | .hbm, ⟨53, _⟩ => ⟨S4x6x2048x2048, .f32⟩
  | .hbm, ⟨54, _⟩ => ⟨S4x6x2048x2048, .f32⟩
  | .hbm, ⟨55, _⟩ => ⟨S_, .f32⟩
  | .hbm, ⟨56, _⟩ => ⟨S4x6x2048, .f32⟩
  | .hbm, ⟨57, _⟩ => ⟨S4x6x2048x1, .f32⟩
  | .hbm, ⟨58, _⟩ => ⟨S4x6x2048x2048, .f32⟩
  | .hbm, ⟨59, _⟩ => ⟨S4x6x2048x2048, .f32⟩
  | .hbm, ⟨60, _⟩ => ⟨S4x6x2048x2048, .f32⟩
  | .hbm, ⟨61, _⟩ => ⟨S_, .f32⟩
  | .hbm, ⟨62, _⟩ => ⟨S4x6x2048, .f32⟩
  | .hbm, ⟨63, _⟩ => ⟨S4x6x2048, .f32⟩
  | .hbm, ⟨64, _⟩ => ⟨S4x6x2048, .f32⟩
  | .hbm, ⟨65, _⟩ => ⟨S4x6x2048x1, .f32⟩
  | .hbm, ⟨66, _⟩ => ⟨S4x6x2048x2048, .f32⟩
  | .hbm, ⟨67, _⟩ => ⟨S4x6x2048x2048, .f32⟩
  | .hbm, ⟨68, _⟩ => ⟨S4x6x2048x2048, .f32⟩
  | .hbm, ⟨69, _⟩ => ⟨S4x6x64x2048, .f32⟩
  | .hbm, ⟨70, _⟩ => ⟨S4x2048x6x64, .f32⟩
  | .hbm, ⟨71, _⟩ => ⟨S2048x4x6x64, .f32⟩
  | .hbm, ⟨72, _⟩ => ⟨S8192x6x64, .f32⟩
  | .hbm, ⟨73, _⟩ => ⟨S2048x4x6, .f32⟩
  | .hbm, ⟨74, _⟩ => ⟨S8192x6, .f32⟩
  | .hbm, ⟨75, _⟩ => ⟨S8192x6, .f32⟩
  | .hbm, ⟨76, _⟩ => ⟨S8192x6, .f32⟩
  | .hbm, ⟨77, _⟩ => ⟨S8192x6, .f32⟩
  | .hbm, ⟨78, _⟩ => ⟨S8192x6, .f32⟩
  | .hbm, ⟨79, _⟩ => ⟨S8192x6, .f32⟩
  | .hbm, ⟨80, _⟩ => ⟨S8192x6, .f32⟩
  | .hbm, ⟨81, _⟩ => ⟨S8192x6, .f32⟩
  | .hbm, ⟨82, _⟩ => ⟨S8192x6, .f32⟩
  | .hbm, ⟨83, _⟩ => ⟨S8192x6, .f32⟩
  | .hbm, ⟨84, _⟩ => ⟨S8192x6, .f32⟩
  | .hbm, ⟨85, _⟩ => ⟨S8192x6, .f32⟩
  | .hbm, ⟨86, _⟩ => ⟨S8192x6x1, .f32⟩
  | .hbm, ⟨87, _⟩ => ⟨S8192x6x64, .f32⟩
  | .hbm, ⟨88, _⟩ => ⟨S8192x6x64, .f32⟩
  | .hbm, ⟨89, _⟩ => ⟨S8192x6, .f32⟩
  | .hbm, ⟨90, _⟩ => ⟨S8192x6x1, .f32⟩
  | .hbm, ⟨91, _⟩ => ⟨S8192x6x64, .f32⟩
  | .hbm, ⟨92, _⟩ => ⟨S8192x6x64, .f32⟩
  | .hbm, ⟨93, _⟩ => ⟨S8192x6x64, .f32⟩
  | .hbm, ⟨94, _⟩ => ⟨S8192x6, .f32⟩
  | .hbm, ⟨95, _⟩ => ⟨S8192x6x1, .f32⟩
  | .hbm, ⟨96, _⟩ => ⟨S8192x6x64, .f32⟩
  | .hbm, ⟨97, _⟩ => ⟨S8192x6x64, .f32⟩
  | .hbm, ⟨98, _⟩ => ⟨S8192x6x64, .f32⟩
  | .hbm, ⟨99, _⟩ => ⟨S8192x6, .f32⟩
  | .hbm, ⟨100, _⟩ => ⟨S8192x6, .f32⟩
  | .hbm, ⟨101, _⟩ => ⟨S8192x6x64, .f32⟩
  | .hbm, ⟨102, _⟩ => ⟨S8192x6x64, .f32⟩
  | .hbm, ⟨103, _⟩ => ⟨S_, .f32⟩
  | .hbm, ⟨104, _⟩ => ⟨S8192x6, .f32⟩
  | .hbm, ⟨105, _⟩ => ⟨S_, .f32⟩
  | .hbm, ⟨106, _⟩ => ⟨S8192x2, .f32⟩
  | .hbm, ⟨107, _⟩ => ⟨S_, .f32⟩
  | .hbm, ⟨108, _⟩ => ⟨S8192x114, .f32⟩
  | .hbm, ⟨109, _⟩ => ⟨S8192x128, .f32⟩
  | .hbm, ⟨110, _⟩ => ⟨S8192x1152, .f32⟩
  | .hbm, ⟨111, _⟩ => ⟨S8192x1152, .bf16⟩
  | .hbm, ⟨112, _⟩ => ⟨S2048x4608, .bf16⟩
  | .hbm, ⟨113, _⟩ => ⟨S8192x384, .bf16⟩
  | .hbm, ⟨114, _⟩ => ⟨S2048x1536, .bf16⟩
  | .hbm, ⟨115, _⟩ => ⟨S2048x512, .f32⟩
  | .hbm, ⟨116, _⟩ => ⟨S2048x1536, .bf16⟩
  | .hbm, ⟨117, _⟩ => ⟨S2048x1536, .bf16⟩
  | .hbm, ⟨118, _⟩ => ⟨S2048x1536, .bf16⟩
  | .local _ .vmem, ⟨0, _⟩ => ⟨S64x384, .bf16⟩
  | .local _ .vmem, ⟨1, _⟩ => ⟨S64x384, .bf16⟩
  | .local _ .vmem, ⟨2, _⟩ => ⟨S512x384, .bf16⟩
  | .local _ .vmem, ⟨3, _⟩ => ⟨S512x384, .bf16⟩
  | .local _ .vmem, ⟨4, _⟩ => ⟨S64x384, .bf16⟩
  | .local _ .vmem, ⟨5, _⟩ => ⟨S64x384, .bf16⟩
  | .local _ .vmem, ⟨6, _⟩ => ⟨S64x384, .bf16⟩
  | .local _ .vmem, ⟨7, _⟩ => ⟨S64x384, .bf16⟩
  | .local _ .vmem, ⟨8, _⟩ => ⟨S512x384, .bf16⟩
  | .local _ .vmem, ⟨9, _⟩ => ⟨S512x384, .bf16⟩
  | .local _ .vmem, ⟨10, _⟩ => ⟨S64x384, .bf16⟩
  | .local _ .vmem, ⟨11, _⟩ => ⟨S64x384, .bf16⟩
  | .local _ .vmem, ⟨12, _⟩ => ⟨S64x384, .bf16⟩
  | .local _ .vmem, ⟨13, _⟩ => ⟨S64x384, .bf16⟩
  | .local _ .vmem, ⟨14, _⟩ => ⟨S512x384, .bf16⟩
  | .local _ .vmem, ⟨15, _⟩ => ⟨S512x384, .bf16⟩
  | .local _ .vmem, ⟨16, _⟩ => ⟨S64x384, .bf16⟩
  | .local _ .vmem, ⟨17, _⟩ => ⟨S64x384, .bf16⟩
  | .local _ .vmem, ⟨18, _⟩ => ⟨S64x384, .bf16⟩
  | .local _ .vmem, ⟨19, _⟩ => ⟨S64x384, .bf16⟩
  | .local _ .vmem, ⟨20, _⟩ => ⟨S512x384, .bf16⟩
  | .local _ .vmem, ⟨21, _⟩ => ⟨S512x384, .bf16⟩
  | .local _ .vmem, ⟨22, _⟩ => ⟨S64x384, .bf16⟩
  | .local _ .vmem, ⟨23, _⟩ => ⟨S64x384, .bf16⟩
  | .local _ .vmem, ⟨24, _⟩ => ⟨S64x128, .f32⟩
  | .local _ .vmem, ⟨25, _⟩ => ⟨S64x128, .f32⟩
  | .local _ .vmem, ⟨26, _⟩ => ⟨S512x128, .f32⟩
  | .local _ .vmem, ⟨27, _⟩ => ⟨S512x128, .f32⟩
  | .local _ .vmem, ⟨28, _⟩ => ⟨S64x128, .f32⟩
  | .local _ .vmem, ⟨29, _⟩ => ⟨S64x128, .f32⟩
  | .local _ .vmem, ⟨30, _⟩ => ⟨S512x384, .bf16⟩
  | .local _ .vmem, ⟨31, _⟩ => ⟨S512x384, .bf16⟩
  | .local _ .vmem, ⟨32, _⟩ => ⟨S512x384, .bf16⟩
  | .local _ .vmem, ⟨33, _⟩ => ⟨S512x384, .bf16⟩
  | .local _ .vmem, ⟨34, _⟩ => ⟨S512x384, .bf16⟩
  | .local _ .vmem, ⟨35, _⟩ => ⟨S512x384, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90_0 : Ref sig .tc := ⟨.hbm, 116, rfl⟩
abbrev main_v90_1 : Ref sig .tc := ⟨.hbm, 117, rfl⟩
abbrev main_v90_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg0 c3_i32
  let c0_i32_0 : BitVec 32 := 0#32
  let v4 : BitVec 32 := Scalar.addi v3 c0_i32_0
  let c0_i32_1 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c3_i32 : BitVec 32 := 3#32
  let v3 : BitVec 32 := Scalar.muli arg0 c3_i32
  let c0_i32 : BitVec 32 := 0#32
  let v4 : BitVec 32 := Scalar.addi v3 c0_i32
  let c0_i32_0 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg0 c3_i32
  let c1_i32_0 : BitVec 32 := 1#32
  let v4 : BitVec 32 := Scalar.addi v3 c1_i32_0
  let c0_i32_1 : BitVec 32 := 0#32
  ![v2.toNat, v4.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c3_i32 : BitVec 32 := 3#32
  let v3 : BitVec 32 := Scalar.muli arg0 c3_i32
  let c1_i32_0 : BitVec 32 := 1#32
  let v4 : BitVec 32 := Scalar.addi v3 c1_i32_0
  let c0_i32 : BitVec 32 := 0#32
  ![v2.toNat, v4.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg0 c3_i32
  let c2_i32 : BitVec 32 := 2#32
  let v4 : BitVec 32 := Scalar.addi v3 c2_i32
  let c0_i32_0 : BitVec 32 := 0#32
  ![v2.toNat, v4.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  ![arg1.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c3_i32 : BitVec 32 := 3#32
  let v3 : BitVec 32 := Scalar.muli arg0 c3_i32
  let c2_i32 : BitVec 32 := 2#32
  let v4 : BitVec 32 := Scalar.addi v3 c2_i32
  let c0_i32 : BitVec 32 := 0#32
  ![v2.toNat, v4.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8192x384 : Shape := ⟨2, ![8192, 384]⟩
abbrev S8192x6x64 : Shape := ⟨3, ![8192, 6, 64]⟩
abbrev S8192x6 : Shape := ⟨2, ![8192, 6]⟩
abbrev S2048x4x6x64 : Shape := ⟨4, ![2048, 4, 6, 64]⟩
abbrev S4x2048x6x64 : Shape := ⟨4, ![4, 2048, 6, 64]⟩
abbrev S_ : Shape := ⟨0, ![]⟩
abbrev S1 : Shape := ⟨1, ![1]⟩
abbrev S6 : Shape := ⟨1, ![6]⟩
abbrev S2048x2048 : Shape := ⟨2, ![2048, 2048]⟩
abbrev S4x6x2048x2048 : Shape := ⟨4, ![4, 6, 2048, 2048]⟩
abbrev S6x1x1 : Shape := ⟨3, ![6, 1, 1]⟩
abbrev S1x2048x2048 : Shape := ⟨3, ![1, 2048, 2048]⟩
abbrev S6x2048x2048 : Shape := ⟨3, ![6, 2048, 2048]⟩
abbrev S1x6x2048x2048 : Shape := ⟨4, ![1, 6, 2048, 2048]⟩
abbrev S4x6x2048 : Shape := ⟨3, ![4, 6, 2048]⟩
abbrev S4x6x2048x1 : Shape := ⟨4, ![4, 6, 2048, 1]⟩
abbrev S4x6x64x2048 : Shape := ⟨4, ![4, 6, 64, 2048]⟩
abbrev S2048x4x6 : Shape := ⟨3, ![2048, 4, 6]⟩
abbrev S1x8192x6 : Shape := ⟨3, ![1, 8192, 6]⟩
abbrev S3x8192x6 : Shape := ⟨3, ![3, 8192, 6]⟩
abbrev S3x8192x6x1 : Shape := ⟨4, ![3, 8192, 6, 1]⟩
abbrev S1x8192x6x64 : Shape := ⟨4, ![1, 8192, 6, 64]⟩
abbrev S3x8192x6x64 : Shape := ⟨4, ![3, 8192, 6, 64]⟩
abbrev S4x6x2048x64 : Shape := ⟨4, ![4, 6, 2048, 64]⟩
abbrev S2048x1536 : Shape := ⟨2, ![2048, 1536]⟩

abbrev nBuf : Space → Nat
  | .hbm => 221
  | .vmem => 0
  | .smem => 0
  | _ => 0

abbrev hbmTy0_0 (i : Nat) : BufTy := match i % 128 with
  | 0 => ⟨S8192x384, .f32⟩
  | 1 => ⟨S8192x384, .f32⟩
  | 2 => ⟨S8192x384, .f32⟩
  | 3 => ⟨S8192x6x64, .f32⟩
  | 4 => ⟨S8192x6, .f32⟩
  | 5 => ⟨S8192x6x64, .f32⟩
  | 6 => ⟨S8192x6, .f32⟩
  | 7 => ⟨S8192x384, .f32⟩
  | 8 => ⟨S2048x4x6x64, .f32⟩
  | 9 => ⟨S4x2048x6x64, .f32⟩
  | 10 => ⟨S2048x4x6x64, .f32⟩
  | 11 => ⟨S4x2048x6x64, .f32⟩
  | 12 => ⟨S2048x4x6x64, .f32⟩
  | 13 => ⟨S4x2048x6x64, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S1, .f32⟩
  | 26 => ⟨S6, .f32⟩
  | 27 => ⟨S2048x2048, .i32⟩
  | 28 => ⟨S2048x2048, .i32⟩
  | 29 => ⟨S2048x2048, .i32⟩
  | 30 => ⟨S2048x2048, .i32⟩
  | 31 => ⟨S_, .i32⟩
  | 32 => ⟨S2048x2048, .i32⟩
  | 33 => ⟨S2048x2048, .i32⟩
  | 34 => ⟨S2048x2048, .f32⟩
  | 35 => ⟨S4x6x2048x2048, .f32⟩
  | 36 => ⟨S_, .f32⟩
  | 37 => ⟨S4x6x2048x2048, .f32⟩
  | 38 => ⟨S4x6x2048x2048, .f32⟩
  | 39 => ⟨S6x1x1, .f32⟩
  | 40 => ⟨S1x2048x2048, .f32⟩
  | 41 => ⟨S6x2048x2048, .f32⟩
  | 42 => ⟨S6x2048x2048, .f32⟩
  | 43 => ⟨S6x2048x2048, .f32⟩
  | 44 => ⟨S1x6x2048x2048, .f32⟩
  | 45 => ⟨S4x6x2048x2048, .f32⟩
  | 46 => ⟨S4x6x2048x2048, .f32⟩
  | 47 => ⟨S_, .i32⟩
  | 48 => ⟨S2048x2048, .i32⟩
  | 49 => ⟨S2048x2048, .i1⟩
  | 50 => ⟨S_, .f32⟩
  | 51 => ⟨S_, .f32⟩
  | 52 => ⟨S4x6x2048x2048, .i1⟩
  | 53 => ⟨S4x6x2048x2048, .f32⟩
  | 54 => ⟨S4x6x2048x2048, .f32⟩
  | 55 => ⟨S_, .f32⟩
  | 56 => ⟨S4x6x2048x2048, .f32⟩
  | 57 => ⟨S_, .f32⟩
  | 58 => ⟨S4x6x2048, .f32⟩
  | 59 => ⟨S4x6x2048x1, .f32⟩
  | 60 => ⟨S4x6x2048x2048, .f32⟩
  | 61 => ⟨S4x6x2048x2048, .i1⟩
  | 62 => ⟨S4x6x2048x2048, .f32⟩
  | 63 => ⟨S_, .f32⟩
  | 64 => ⟨S4x6x2048, .f32⟩
  | 65 => ⟨S4x6x2048x1, .f32⟩
  | 66 => ⟨S4x6x2048x2048, .f32⟩
  | 67 => ⟨S4x6x2048x2048, .f32⟩
  | 68 => ⟨S4x6x2048x2048, .f32⟩
  | 69 => ⟨S_, .f32⟩
  | 70 => ⟨S4x6x2048, .f32⟩
  | 71 => ⟨S4x6x2048, .f32⟩
  | 72 => ⟨S4x6x2048, .f32⟩
  | 73 => ⟨S4x6x2048x1, .f32⟩
  | 74 => ⟨S4x6x2048x2048, .f32⟩
  | 75 => ⟨S4x6x2048x2048, .f32⟩
  | 76 => ⟨S4x6x2048x2048, .f32⟩
  | 77 => ⟨S4x6x64x2048, .f32⟩
  | 78 => ⟨S4x2048x6x64, .f32⟩
  | 79 => ⟨S2048x4x6x64, .f32⟩
  | 80 => ⟨S8192x6x64, .f32⟩
  | 81 => ⟨S2048x4x6, .f32⟩
  | 82 => ⟨S8192x6, .f32⟩
  | 83 => ⟨S1x8192x6, .f32⟩
  | 84 => ⟨S1x8192x6, .f32⟩
  | 85 => ⟨S1x8192x6, .f32⟩
  | 86 => ⟨S3x8192x6, .f32⟩
  | 87 => ⟨S_, .f32⟩
  | 88 => ⟨S8192x6, .f32⟩
  | 89 => ⟨S_, .f32⟩
  | 90 => ⟨S8192x6, .f32⟩
  | 91 => ⟨S_, .f32⟩
  | 92 => ⟨S8192x6, .f32⟩
  | 93 => ⟨S1x8192x6, .f32⟩
  | 94 => ⟨S3x8192x6, .f32⟩
  | 95 => ⟨S3x8192x6, .i1⟩
  | 96 => ⟨S3x8192x6, .f32⟩
  | 97 => ⟨S_, .f32⟩
  | 98 => ⟨S8192x6, .f32⟩
  | 99 => ⟨S_, .f32⟩
  | 100 => ⟨S8192x6, .f32⟩
  | 101 => ⟨S8192x6, .f32⟩
  | 102 => ⟨S_, .f32⟩
  | 103 => ⟨S8192x6, .f32⟩
  | 104 => ⟨S8192x6, .i1⟩
  | 105 => ⟨S_, .f32⟩
  | 106 => ⟨S8192x6, .f32⟩
  | 107 => ⟨S8192x6, .i1⟩
  | 108 => ⟨S_, .f32⟩
  | 109 => ⟨S8192x6, .f32⟩
  | 110 => ⟨S_, .f32⟩
  | 111 => ⟨S8192x6, .f32⟩
  | 112 => ⟨S_, .f32⟩
  | 113 => ⟨S8192x6, .f32⟩
  | 114 => ⟨S8192x6, .f32⟩
  | 115 => ⟨S8192x6, .f32⟩
  | 116 => ⟨S1x8192x6, .f32⟩
  | 117 => ⟨S3x8192x6, .f32⟩
  | 118 => ⟨S3x8192x6, .f32⟩
  | 119 => ⟨S3x8192x6, .f32⟩
  | 120 => ⟨S_, .f32⟩
  | 121 => ⟨S8192x6, .f32⟩
  | 122 => ⟨S1x8192x6, .f32⟩
  | 123 => ⟨S3x8192x6, .f32⟩
  | 124 => ⟨S3x8192x6, .f32⟩
  | 125 => ⟨S1x8192x6, .f32⟩
  | 126 => ⟨S_, .f32⟩
  | 127 => ⟨S1x8192x6, .f32⟩
  | _ => ⟨S8192x384, .f32⟩

abbrev hbmTy0_1 (i : Nat) : BufTy := match i % 128 with
  | 0 => ⟨S1x8192x6, .f32⟩
  | 1 => ⟨S3x8192x6x1, .f32⟩
  | 2 => ⟨S1x8192x6x64, .f32⟩
  | 3 => ⟨S1x8192x6x64, .f32⟩
  | 4 => ⟨S1x8192x6x64, .f32⟩
  | 5 => ⟨S3x8192x6x64, .f32⟩
  | 6 => ⟨S_, .f32⟩
  | 7 => ⟨S8192x6x64, .f32⟩
  | 8 => ⟨S_, .f32⟩
  | 9 => ⟨S8192x6x64, .f32⟩
  | 10 => ⟨S3x8192x6x64, .f32⟩
  | 11 => ⟨S3x8192x6x64, .f32⟩
  | 12 => ⟨S_, .f32⟩
  | 13 => ⟨S8192x6x64, .f32⟩
  | 14 => ⟨S8192x384, .f32⟩
  | 15 => ⟨S8192x6x64, .f32⟩
  | 16 => ⟨S3x8192x6x64, .f32⟩
  | 17 => ⟨S3x8192x6x64, .f32⟩
  | 18 => ⟨S3x8192x6x64, .f32⟩
  | 19 => ⟨S3x8192x6x64, .f32⟩
  | 20 => ⟨S_, .f32⟩
  | 21 => ⟨S3x8192x6, .f32⟩
  | 22 => ⟨S3x8192x6x1, .f32⟩
  | 23 => ⟨S1x8192x6x64, .f32⟩
  | 24 => ⟨S8192x6x64, .f32⟩
  | 25 => ⟨S1x8192x6x64, .f32⟩
  | 26 => ⟨S8192x6x64, .f32⟩
  | 27 => ⟨S1x8192x6x64, .f32⟩
  | 28 => ⟨S8192x6x64, .f32⟩
  | 29 => ⟨S_, .f32⟩
  | 30 => ⟨S3x8192x6, .f32⟩
  | 31 => ⟨S3x8192x6, .f32⟩
  | 32 => ⟨S3x8192x6, .f32⟩
  | 33 => ⟨S3x8192x6, .f32⟩
  | 34 => ⟨S_, .f32⟩
  | 35 => ⟨S8192x6, .f32⟩
  | 36 => ⟨S1x8192x6, .f32⟩
  | 37 => ⟨S1x8192x6, .f32⟩
  | 38 => ⟨S3x8192x6, .f32⟩
  | 39 => ⟨S3x8192x6, .f32⟩
  | 40 => ⟨S_, .f32⟩
  | 41 => ⟨S8192x6, .f32⟩
  | 42 => ⟨S3x8192x6, .f32⟩
  | 43 => ⟨S3x8192x6, .f32⟩
  | 44 => ⟨S3x8192x6, .f32⟩
  | 45 => ⟨S1x8192x6, .f32⟩
  | 46 => ⟨S8192x6, .f32⟩
  | 47 => ⟨S1x8192x6, .f32⟩
  | 48 => ⟨S8192x6, .f32⟩
  | 49 => ⟨S1x8192x6, .f32⟩
  | 50 => ⟨S8192x6, .f32⟩
  | 51 => ⟨S2048x4x6, .f32⟩
  | 52 => ⟨S4x6x2048, .f32⟩
  | 53 => ⟨S2048x4x6x64, .f32⟩
  | 54 => ⟨S4x2048x6x64, .f32⟩
  | 55 => ⟨S4x6x64x2048, .f32⟩
  | 56 => ⟨S4x6x2048x2048, .f32⟩
  | 57 => ⟨S4x6x64x2048, .f32⟩
  | 58 => ⟨S4x2048x6x64, .f32⟩
  | 59 => ⟨S4x6x2048x2048, .f32⟩
  | 60 => ⟨S4x6x2048x2048, .f32⟩
  | 61 => ⟨S_, .f32⟩
  | 62 => ⟨S4x6x2048, .f32⟩
  | 63 => ⟨S4x6x2048x1, .f32⟩
  | 64 => ⟨S_, .f32⟩
  | 65 => ⟨S4x6x2048, .f32⟩
  | 66 => ⟨S4x6x2048, .f32⟩
  | 67 => ⟨S4x6x2048, .f32⟩
  | 68 => ⟨S4x6x2048x2048, .f32⟩
  | 69 => ⟨S4x6x2048x2048, .f32⟩
  | 70 => ⟨S4x6x2048x2048, .f32⟩
  | 71 => ⟨S_, .f32⟩
  | 72 => ⟨S4x6x2048x2048, .f32⟩
  | 73 => ⟨S4x6x2048x2048, .f32⟩
  | 74 => ⟨S_, .f32⟩
  | 75 => ⟨S4x6x2048x2048, .f32⟩
  | 76 => ⟨S4x6x2048x2048, .f32⟩
  | 77 => ⟨S4x6x2048x64, .f32⟩
  | 78 => ⟨S4x2048x6x64, .f32⟩
  | 79 => ⟨S4x6x2048x64, .f32⟩
  | 80 => ⟨S4x2048x6x64, .f32⟩
  | 81 => ⟨S2048x4x6x64, .f32⟩
  | 82 => ⟨S8192x384, .f32⟩
  | 83 => ⟨S2048x4x6x64, .f32⟩
  | 84 => ⟨S8192x384, .f32⟩
  | 85 => ⟨S2048x4x6x64, .f32⟩
  | 86 => ⟨S8192x384, .f32⟩
  | 87 => ⟨S8192x384, .bf16⟩
  | 88 => ⟨S2048x1536, .bf16⟩
  | 89 => ⟨S8192x384, .bf16⟩
  | 90 => ⟨S2048x1536, .bf16⟩
  | 91 => ⟨S8192x384, .bf16⟩
  | 92 => ⟨S2048x1536, .bf16⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call0_v0 : Ref sig .tc := ⟨.hbm, 51, rfl⟩
abbrev main_v33_1 : Ref sig .tc := ⟨.hbm, 52, rfl⟩
abbrev main_call0_v2 : Ref sig .tc := ⟨.hbm, 53, rfl⟩
abbrev main_v33_0 : Ref sig .tc := ⟨.hbm, 54, rfl⟩
abbrev main_call0_cst : Ref sig .tc := ⟨.hbm, 55, rfl⟩
abbrev main_v33_2 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_v74 : Ref sig .tc := ⟨.hbm, 107, rfl⟩
abbrev main_cst_18 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_22 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_v96 : Ref sig .tc := ⟨.hbm, 135, rfl⟩
abbrev main_cst_24 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_25 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_26 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_27 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_28 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_29 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_30 : Ref sig .tc := ⟨.hbm, 189, rfl⟩
abbrev main_v144 : Ref sig .tc := ⟨.hbm, 190, rfl⟩
abbrev main_v145 : Ref sig .tc := ⟨.hbm, 191, rfl⟩
abbrev main_cst_31 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_call1_cst : Ref sig .tc := ⟨.hbm, 199, rfl⟩
abbrev main_call1_v0 : Ref sig .tc := ⟨.hbm, 200, rfl⟩
abbrev main_v152 : Ref sig .tc := ⟨.hbm, 201, rfl⟩
abbrev main_cst_32 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩

abbrev nD : Nat := 1
abbrev τ : Topo := Topo.v7x

variable {F : FTy → Type} [FloatOps F]
-- ==== DownDx.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S512x2816 : Shape := ⟨2, ![512, 2816]⟩

abbrev nBuf : Space → Nat
  | .hbm => 6
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1024x2816 : Shape := ⟨2, ![1024, 2816]⟩
abbrev S512x2816 : Shape := ⟨2, ![512, 2816]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S1024x5632, .bf16⟩
  | .hbm, ⟨5, _⟩ => ⟨S8192x2816, .bf16⟩
  | .hbm, ⟨6, _⟩ => ⟨S8192x2816, .bf16⟩
  | .hbm, ⟨7, _⟩ => ⟨S1024x2816, .bf16⟩
  | .hbm, ⟨8, _⟩ => ⟨S1024x2816, .bf16⟩
  | .hbm, ⟨9, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpDxRefIdeal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InpDx.lean ====
abbrev S8192x1024 : Shape := ⟨2, ![8192, 1024]⟩
abbrev S1024x3584 : Shape := ⟨2, ![1024, 3584]⟩
abbrev S8192x3584 : Shape := ⟨2, ![8192, 3584]⟩
abbrev S512x3584 : Shape := ⟨2, ![512, 3584]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S8192x3584, .f32⟩
  | .hbm, ⟨3, _⟩ => ⟨S8192x3584, .bf16⟩
  | .hbm, ⟨4, _⟩ => ⟨S1024x3584, .bf16⟩
  | .hbm, ⟨5, _⟩ => ⟨S8192x1024, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpDxRefIdeal.lean ====
abbrev S8192x1024 : Shape := ⟨2, ![8192, 1024]⟩
abbrev S1024x3584 : Shape := ⟨2, ![1024, 3584]⟩
abbrev S8192x3584 : Shape := ⟨2, ![8192, 3584]⟩
abbrev S3584x1024 : Shape := ⟨2, ![3584, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S8192x3584, .f32⟩
  | .hbm, ⟨3, _⟩ => ⟨S8192x3584, .f32⟩
  | .hbm, ⟨4, _⟩ => ⟨S3584x1024, .f32⟩
  | .hbm, ⟨5, _⟩ => ⟨S1024x3584, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InpDw.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x1792 : Shape := ⟨2, ![1024, 1792]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S8192x3584, .f32⟩
  | .hbm, ⟨3, _⟩ => ⟨S8192x1024, .bf16⟩
  | .hbm, ⟨4, _⟩ => ⟨S8192x3584, .bf16⟩
  | .hbm, ⟨5, _⟩ => ⟨S1024x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpDwRefIdeal.lean ====
abbrev S8192x1024 : Shape := ⟨2, ![8192, 1024]⟩
abbrev S1024x3584 : Shape := ⟨2, ![1024, 3584]⟩
abbrev S8192x3584 : Shape := ⟨2, ![8192, 3584]⟩
abbrev S3584x1024 : Shape := ⟨2, ![3584, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S8192x3584, .f32⟩
  | .hbm, ⟨3, _⟩ => ⟨S8192x3584, .f32⟩
  | .hbm, ⟨4, _⟩ => ⟨S3584x1024, .f32⟩
  | .hbm, ⟨5, _⟩ => ⟨S1024x3584, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Inp.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x1792 : Shape := ⟨2, ![1024, 1792]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S8192x1024, .bf16⟩
  | .hbm, ⟨3, _⟩ => ⟨S1024x3584, .bf16⟩
  | .hbm, ⟨4, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpRefIdeal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S8192x3584, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mid.lean ====
abbrev S8192x5632 : Shape := ⟨2, ![8192, 5632]⟩
abbrev S8192x2816 : Shape := ⟨2, ![8192, 2816]⟩
abbrev S3x5632 : Shape := ⟨2, ![3, 5632]⟩
abbrev S3x2816 : Shape := ⟨2, ![3, 2816]⟩
abbrev S8x256 : Shape := ⟨2, ![8, 256]⟩
abbrev S512x256 : Shape := ⟨2, ![512, 256]⟩
abbrev S3x256 : Shape := ⟨2, ![3, 256]⟩
abbrev S528x256 : Shape := ⟨2, ![528, 256]⟩
abbrev S1x256 : Shape := ⟨2, ![1, 256]⟩
abbrev S256 : Shape := ⟨1, ![256]⟩

abbrev nBuf : Space → Nat
  | .hbm => 7
  | .vmem => 30
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S8192x2816, .bf16⟩
  | .hbm, ⟨4, _⟩ => ⟨S8192x2816, .bf16⟩
  | .hbm, ⟨5, _⟩ => ⟨S3x2816, .f32⟩
  | .hbm, ⟨6, _⟩ => ⟨S3x2816, .f32⟩
  | .local _ .vmem, ⟨0, _⟩ => ⟨S8x256, .f32⟩
  | .local _ .vmem, ⟨1, _⟩ => ⟨S8x256, .f32⟩
  | .local _ .vmem, ⟨2, _⟩ => ⟨S512x256, .f32⟩
  | .local _ .vmem, ⟨3, _⟩ => ⟨S512x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S512x256, .f32⟩
  | .local _ .vmem, ⟨9, _⟩ => ⟨S512x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S512x256, .f32⟩
  | .local _ .vmem, ⟨15, _⟩ => ⟨S512x256, .f32⟩
  | .local _ .vmem, ⟨16, _⟩ => ⟨S8x256, .f32⟩
  | .local _ .vmem, ⟨17, _⟩ => ⟨S8x256, .f32⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S3x256, .f32⟩
  | .local _ .vmem, ⟨27, _⟩ => ⟨S3x256, .f32⟩
  | .local _ .vmem, ⟨28, _⟩ => ⟨S3x256, .f32⟩
  | .local _ .vmem, ⟨29, _⟩ => ⟨S3x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c11_i32 : BitVec 32 := 11#32
  let v3 : BitVec 32 := Scalar.addi arg0 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MidRefIdeal.lean ====
abbrev S8192x5632 : Shape := ⟨2, ![8192, 5632]⟩
abbrev S8192x2816 : Shape := ⟨2, ![8192, 2816]⟩
abbrev S3x5632 : Shape := ⟨2, ![3, 5632]⟩
abbrev S_ : Shape := ⟨0, ![]⟩
abbrev S1x5632 : Shape := ⟨2, ![1, 5632]⟩
abbrev S8194x5632 : Shape := ⟨2, ![8194, 5632]⟩
abbrev S5632 : Shape := ⟨1, ![5632]⟩
abbrev S3x2816 : Shape := ⟨2, ![3, 2816]⟩

abbrev nBuf : Space → Nat
  | .hbm => 114
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S_, .f32⟩
  | .hbm, ⟨4, _⟩ => ⟨S1x5632, .f32⟩
  | .hbm, ⟨5, _⟩ => ⟨S8194x5632, .f32⟩
  | .hbm, ⟨6, _⟩ => ⟨S_, .f32⟩
  | .hbm, ⟨7, _⟩ => ⟨S1x5632, .f32⟩
  | .hbm, ⟨8, _⟩ => ⟨S_, .f32⟩
  | .hbm, ⟨9, _⟩ => ⟨S1x5632, .f32⟩
  | .hbm, ⟨10, _⟩ => ⟨S8192x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S8192x5632, .f32⟩
  | .hbm, ⟨67, _⟩ => ⟨S8192x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S_, .f32⟩
  | .hbm, ⟨72, _⟩ => ⟨S3x5632, .f32⟩
  | .hbm, ⟨73, _⟩ => ⟨S_, .f32⟩
  | .hbm, ⟨74, _⟩ => ⟨S8194x5632, .f32⟩
  | .hbm, ⟨75, _⟩ => ⟨S8192x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S8192x5632, .f32⟩
  | .hbm, ⟨80, _⟩ => ⟨S8192x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S3x5632, .f32⟩
  | .hbm, ⟨86, _⟩ => ⟨S3x5632, .f32⟩
  | .hbm, ⟨87, _⟩ => ⟨S_, .f32⟩
  | .hbm, ⟨88, _⟩ => ⟨S8194x5632, .f32⟩
  | .hbm, ⟨89, _⟩ => ⟨S8194x5632, .f32⟩
  | .hbm, ⟨90, _⟩ => ⟨S8192x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S8192x5632, .f32⟩
  | .hbm, ⟨95, _⟩ => ⟨S8192x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S_, .f32⟩
  | .hbm, ⟨100, _⟩ => ⟨S3x5632, .f32⟩
  | .hbm, ⟨101, _⟩ => ⟨S3x5632, .f32⟩
  | .hbm, ⟨102, _⟩ => ⟨S_, .f32⟩
  | .hbm, ⟨103, _⟩ => ⟨S8194x5632, .f32⟩
  | .hbm, ⟨104, _⟩ => ⟨S8194x5632, .f32⟩
  | .hbm, ⟨105, _⟩ => ⟨S1x5632, .f32⟩
  | .hbm, ⟨106, _⟩ => ⟨S8192x5632, .f32⟩
  | .hbm, ⟨107, _⟩ => ⟨S1x5632, .f32⟩
  | .hbm, ⟨108, _⟩ => ⟨S8192x2816, .f32⟩
  | .hbm, ⟨109, _⟩ => ⟨S8192x2816, .bf16⟩
  | .hbm, ⟨110, _⟩ => ⟨S8192x2816, .f32⟩
  | .hbm, ⟨111, _⟩ => ⟨S8192x2816, .bf16⟩
  | .hbm, ⟨112, _⟩ => ⟨S3x2816, .f32⟩
  | .hbm, ⟨113, _⟩ => ⟨S3x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_cst_17 : Ref sig .tc := ⟨.hbm, 99, rfl⟩
abbrev main_v78 : Ref sig .tc := ⟨.hbm, 100, rfl⟩
abbrev main_v79 : Ref sig .tc := ⟨.hbm, 101, rfl⟩
abbrev main_cst_18 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== MidFwd.lean ====
abbrev S8192x5632 : Shape := ⟨2, ![8192, 5632]⟩
abbrev S3x5632 : Shape := ⟨2, ![3, 5632]⟩
abbrev S8192x2816 : Shape := ⟨2, ![8192, 2816]⟩
abbrev S8x256 : Shape := ⟨2, ![8, 256]⟩
abbrev S2048x256 : Shape := ⟨2, ![2048, 256]⟩
abbrev S3x256 : Shape := ⟨2, ![3, 256]⟩
abbrev S2064x256 : Shape := ⟨2, ![2064, 256]⟩
abbrev S1x256 : Shape := ⟨2, ![1, 256]⟩

abbrev nBuf : Space → Nat
  | .hbm => 3
  | .vmem => 18
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S8192x2816, .bf16⟩
  | .local _ .vmem, ⟨0, _⟩ => ⟨S8x256, .f32⟩
  | .local _ .vmem, ⟨1, _⟩ => ⟨S8x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S2048x256, .f32⟩
  | .local _ .vmem, ⟨9, _⟩ => ⟨S2048x256, .f32⟩
  | .local _ .vmem, ⟨10, _⟩ => ⟨S8x256, .f32⟩
  | .local _ .vmem, ⟨11, _⟩ => ⟨S8x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S2048x256, .bf16⟩
  | .local _ .vmem, ⟨17, _⟩ => ⟨S2048x256, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1023_i32 : BitVec 32 := 1023#32
  let v2 : BitVec 32 := Scalar.minsi v1 c1023_i32
  let c11_i32 : BitVec 32 := 11#32
  let v3 : BitVec 32 := Scalar.addi arg0 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidFwdRefIdeal.lean ====
abbrev S8192x5632 : Shape := ⟨2, ![8192, 5632]⟩
abbrev S3x5632 : Shape := ⟨2, ![3, 5632]⟩
abbrev S_ : Shape := ⟨0, ![]⟩
abbrev S1x5632 : Shape := ⟨2, ![1, 5632]⟩
abbrev S8194x5632 : Shape := ⟨2, ![8194, 5632]⟩
abbrev S5632 : Shape := ⟨1, ![5632]⟩
abbrev S8192x2816 : Shape := ⟨2, ![8192, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S_, .f32⟩
  | .hbm, ⟨3, _⟩ => ⟨S1x5632, .f32⟩
  | .hbm, ⟨4, _⟩ => ⟨S8194x5632, .f32⟩
  | .hbm, ⟨5, _⟩ => ⟨S8192x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== GateBwd.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== GateBwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== JoinBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== JoinBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.Blocks.lean ====
/- The kernel's body in a short vocabulary: one definition for each step of a tile, over the tile's
   sliced blocks, the two heads' lanes and their slopes. The body repeats these steps for twelve
   tiles (four row tiles times three pairs of heads). -/
module

public import proofs.«01_k».proof.Proof.Gen.KernelIdeal.Frame

@[expose] public section

noncomputable section

namespace Cert.KernelIdeal.Blk

open Idealize.ShloMosaic Idealize.SL.Sem Cert.KernelIdeal.Gen

variable {F : FTy → Type} [FloatOps F]

/-! ## Masks of a head's lanes, and the choice of one lane -/

/-- The 64 lanes of head `b` of a pair, among the 128 lanes of the tile. -/
def headLanes (b : BitVec 32) : IVec S1x128 1 :=
  cmpi .eq (shrsi (iota .tc S1x128 32 [1] iota_S1x128_d1_w32) (broadcast S1x128 6#32)) (broadcast S1x128 b)

/-- The lane `n` alone. -/
def oneLane (n : BitVec 32) : IVec S1x128 1 :=
  cmpi .eq (iota .tc S1x128 32 [1] iota_S1x128_d1_w32) (broadcast S1x128 n)

/-- A lane mask on all 128 rows. -/
def rows128 (m : IVec S1x128 1) : IVec S128x128 1 :=
  broadcastTo S128x128 (shapeCast S1x128 m shapeCasts_S1x128_S1x128) broadcasts_S1x128_S128x128

/-- A lane mask on all 256 rows. -/
def rows256 (m : IVec S1x128 1) : IVec S256x128 1 :=
  broadcastTo S256x128 (shapeCast S1x128 m shapeCasts_S1x128_S1x128) broadcasts_S1x128_S256x128

/-- The lanes of head `b` of a middle block, zero elsewhere. -/
def only128 (b : BitVec 32) (x : FVec F S128x128 .bf16) : FVec F S128x128 .bf16 :=
  select (rows128 (headLanes b)) x (broadcast S128x128 (Scalar.ofBits .bf16 0x0000#16))

/-- The lanes of head `b` of an extended block, zero elsewhere. -/
def only256 (b : BitVec 32) (x : FVec F S256x128 .bf16) : FVec F S256x128 .bf16 :=
  select (rows256 (headLanes b)) x (broadcast S256x128 (Scalar.ofBits .bf16 0x0000#16))

/-- Lane `n` of each of the 128 rows, as a column. -/
def pick128 (n : BitVec 32) (l : FVec F S128x128 .f32) : FVec F S128x1 .f32 :=
  shapeCast S128x1 (multiReduction .add [1] S128
    (select (rows128 (oneLane n)) l (broadcast S128x128 (Scalar.ofBits .f32 0x00000000#32)))
    0x00000000#32 reduces_S128x128_S128 (.inl rfl) rfl) shapeCasts_S128_S128x1

/-- Lane `n` of each of the 256 rows, as a column. -/
def pick256 (n : BitVec 32) (l : FVec F S256x128 .f32) : FVec F S256x1 .f32 :=
  shapeCast S256x1 (multiReduction .add [1] S256
    (select (rows256 (oneLane n)) l (broadcast S256x128 (Scalar.ofBits .f32 0x00000000#32)))
    0x00000000#32 reduces_S256x128_S256 (.inl rfl) rfl) shapeCasts_S256_S256x1

/-! ## The tile's own rows as queries -/

/-- The masked probabilities of 128 queries against their 256 keys. -/
def probQ (b n s : BitVec 32) (valid : IVec S128x256 1) (dist : FVec F S128x256 .f32)
    (qm : FVec F S128x128 .bf16) (ke : FVec F S256x128 .bf16) (lm : FVec F S128x128 .f32) :
    FVec F S128x256 .f32 :=
  select valid
    (exp (subf
      (subf (mulf (matmul dot_S128x128_S256x128_S128x256_1_1_0_0_n_n none (only128 b qm) ke
          (constant S128x256 .f32 0x00000000#32)) (broadcast S128x256 (Scalar.ofBits .f32 0x3E000000#32)))
        (mulf (broadcast S128x256 (Scalar.ofBits .f32 s)) dist))
      (broadcastTo S128x256 (pick128 n lm) broadcasts_S128x1_S128x256)))
    (broadcast S128x256 (Scalar.ofBits .f32 0x00000000#32))

/-- The cotangent of the scores of 128 queries against their 256 keys. -/
def dsQ (b n n' s : BitVec 32) (valid : IVec S128x256 1) (dist : FVec F S128x256 .f32)
    (qm gm : FVec F S128x128 .bf16) (ke ve : FVec F S256x128 .bf16) (lm : FVec F S128x128 .f32) :
    FVec F S128x256 .f32 :=
  mulf (probQ b n s valid dist qm ke lm)
    (subf (matmul dot_S128x128_S256x128_S128x256_1_1_0_0_n_n none (only128 b gm) ve
        (constant S128x256 .f32 0x00000000#32))
      (broadcastTo S128x256 (pick128 n' lm) broadcasts_S128x1_S128x256))

/-- One head's part of the queries' gradient, put over what the other head left. -/
def dqOf (b n n' s : BitVec 32) (valid : IVec S128x256 1) (dist : FVec F S128x256 .f32)
    (qm gm : FVec F S128x128 .bf16) (ke ve : FVec F S256x128 .bf16) (lm : FVec F S128x128 .f32)
    (rest : FVec F S128x128 .f32) : FVec F S128x128 .f32 :=
  select (rows128 (headLanes b))
    (matmul dot_S128x256_S256x128_S128x128_1_0_0_1_n_n none
      (truncf .bf16 (dsQ b n n' s valid dist qm gm ke ve lm) bitsLt_bf16_f32) ke
      (constant S128x128 .f32 0x00000000#32)) rest

/-! ## The tile's own rows as keys -/

/-- The masked probabilities of 256 queries against the tile's 128 keys. -/
def probK (b n s : BitVec 32) (valid : IVec S256x128 1) (dist : FVec F S256x128 .f32)
    (qe : FVec F S256x128 .bf16) (km : FVec F S128x128 .bf16) (le : FVec F S256x128 .f32) :
    FVec F S256x128 .f32 :=
  select valid
    (exp (subf
      (subf (mulf (matmul dot_S256x128_S128x128_S256x128_1_1_0_0_n_n none (only256 b qe) km
          (constant S256x128 .f32 0x00000000#32)) (broadcast S256x128 (Scalar.ofBits .f32 0x3E000000#32)))
        (mulf (broadcast S256x128 (Scalar.ofBits .f32 s)) dist))
      (broadcastTo S256x128 (pick256 n le) broadcasts_S256x1_S256x128)))
    (broadcast S256x128 (Scalar.ofBits .f32 0x00000000#32))

/-- The cotangent of the scores of 256 queries against the tile's 128 keys. -/
def dsK (b n n' s : BitVec 32) (valid : IVec S256x128 1) (dist : FVec F S256x128 .f32)
    (qe ge : FVec F S256x128 .bf16) (km vm : FVec F S128x128 .bf16) (le : FVec F S256x128 .f32) :
    FVec F S256x128 .f32 :=
  mulf (probK b n s valid dist qe km le)
    (subf (matmul dot_S256x128_S128x128_S256x128_1_1_0_0_n_n none (only256 b ge) vm
        (constant S256x128 .f32 0x00000000#32))
      (broadcastTo S256x128 (pick256 n' le) broadcasts_S256x1_S256x128))

/-- One head's part of the values' gradient, put over what the other head left. -/
def dvOf (b n s : BitVec 32) (valid : IVec S256x128 1) (dist : FVec F S256x128 .f32)
    (qe ge : FVec F S256x128 .bf16) (km : FVec F S128x128 .bf16) (le : FVec F S256x128 .f32)
    (rest : FVec F S128x128 .f32) : FVec F S128x128 .f32 :=
  select (rows128 (headLanes b))
    (matmul dot_S256x128_S256x128_S128x128_0_0_1_1_n_n none
      (truncf .bf16 (probK b n s valid dist qe km le) bitsLt_bf16_f32) ge
      (constant S128x128 .f32 0x00000000#32)) rest

/-- One head's part of the keys' gradient, put over what the other head left. -/
def dkOf (b n n' s : BitVec 32) (valid : IVec S256x128 1) (dist : FVec F S256x128 .f32)
    (qe ge : FVec F S256x128 .bf16) (km vm : FVec F S128x128 .bf16) (le : FVec F S256x128 .f32)
    (rest : FVec F S128x128 .f32) : FVec F S128x128 .f32 :=
  select (rows128 (headLanes b))
    (matmul dot_S256x128_S256x128_S128x128_0_0_1_1_n_n none
      (truncf .bf16 (dsK b n n' s valid dist qe ge km vm le) bitsLt_bf16_f32) qe
      (constant S128x128 .f32 0x00000000#32)) rest

/-- A tile before any head is added. -/
def none128 : FVec F S128x128 .f32 := broadcast S128x128 (Scalar.ofBits .f32 0x00000000#32)

/-- The scale on the way out, and the rounding. -/
def scaleOut (x : FVec F S128x128 .f32) : FVec F S128x128 .bf16 :=
  truncf .bf16 (mulf x (broadcast S128x128 (Scalar.ofBits .f32 0x3E000000#32))) bitsLt_bf16_f32

/-- The rounding alone. -/
def roundOut (x : FVec F S128x128 .f32) : FVec F S128x128 .bf16 := truncf .bf16 x bitsLt_bf16_f32

/-! ## Distances, validity, and the windows with their halos -/

/-- The key's position from the query's, queries down. -/
def relQ : IVec S128x256 32 :=
  subi (subi (iota .tc S128x256 32 [1] iota_S128x256_d1_w32) (broadcast S128x256 64#32))
    (iota .tc S128x256 32 [0] iota_S128x256_d0_w32)

/-- The key's position from the query's, keys across. -/
def relK : IVec S256x128 32 :=
  subi (addi (iota .tc S256x128 32 [1] iota_S256x128_d1_w32) (broadcast S256x128 64#32))
    (iota .tc S256x128 32 [0] iota_S256x128_d0_w32)

/-- Four times the distance, queries down. -/
def distQ : FVec F S128x256 .f32 :=
  mulf (sitofp .f32 (absi relQ)) (broadcast S128x256 (Scalar.ofBits .f32 0x40800000#32))

/-- Four times the distance, keys across. -/
def distK : FVec F S256x128 .f32 :=
  mulf (sitofp .f32 (absi relK)) (broadcast S256x128 (Scalar.ofBits .f32 0x40800000#32))

/-- The row a tile's extended block begins at, as the kernel computes it. -/
def startWord (t a : BitVec 32) : BitVec 32 :=
  Scalar.subi (Scalar.addi (Scalar.muli t 512#32) a) 64#32

/-- Where a query of the tile meets a key: within the band and within the residue's 2048 rows. -/
def validQ (t a : BitVec 32) : IVec S128x256 1 :=
  andi (andi (cmpi .sle (absi relQ) (broadcast S128x256 64#32))
      (cmpi .sge (addi (broadcast S128x256 (startWord t a)) (iota .tc S128x256 32 [1] iota_S128x256_d1_w32))
        (broadcast S128x256 0#32)))
    (cmpi .slt (addi (broadcast S128x256 (startWord t a)) (iota .tc S128x256 32 [1] iota_S128x256_d1_w32))
      (broadcast S128x256 2048#32))

/-- Where a query meets a key of the tile: within the band and within the residue's 2048 rows. -/
def validK (t a : BitVec 32) : IVec S256x128 1 :=
  andi (andi (cmpi .sle (absi relK) (broadcast S256x128 64#32))
      (cmpi .sge (addi (broadcast S256x128 (startWord t a)) (iota .tc S256x128 32 [0] iota_S256x128_d0_w32))
        (broadcast S256x128 0#32)))
    (cmpi .slt (addi (broadcast S256x128 (startWord t a)) (iota .tc S256x128 32 [0] iota_S256x128_d0_w32))
      (broadcast S256x128 2048#32))

/-- A window of 512 rows with 64 rows before and after. -/
def halo (p : Vec F S64x384 .bf16) (c : Vec F S512x384 .bf16) (n : Vec F S64x384 .bf16) : FVec F S640x384 .bf16 :=
  concatenate S640x384 0 [⟨S64x384, shapeCast S64x384 p shapeCasts_S64x384_S64x384⟩,
    ⟨S512x384, shapeCast S512x384 c shapeCasts_S512x384_S512x384⟩,
    ⟨S64x384, shapeCast S64x384 n shapeCasts_S64x384_S64x384⟩] concatenates_S64x384_S512x384_S64x384_S640x384_d0

/-- The same of the rows' two sums. -/
def haloLd (p : Vec F S64x128 .f32) (c : Vec F S512x128 .f32) (n : Vec F S64x128 .f32) : FVec F S640x128 .f32 :=
  concatenate S640x128 0 [⟨S64x128, shapeCast S64x128 p shapeCasts_S64x128_S64x128⟩,
    ⟨S512x128, shapeCast S512x128 c shapeCasts_S512x128_S512x128⟩,
    ⟨S64x128, shapeCast S64x128 n shapeCasts_S64x128_S64x128⟩] concatenates_S64x128_S512x128_S64x128_S640x128_d0

/-! ## A tile: its own 128 rows and the 256 around them, for a pair of heads -/

/-- The tile's own rows of a window. -/
def midOf (r c : ℕ) (h : S640x384.Slices ![r, c] S128x128) (x : FVec F S640x384 .bf16) : FVec F S128x128 .bf16 :=
  extractStridedSlice S128x128 ![r, c] x h

/-- The tile's extended rows of a window. -/
def extOf (r c : ℕ) (h : S640x384.Slices ![r, c] S256x128) (x : FVec F S640x384 .bf16) : FVec F S256x128 .bf16 :=
  extractStridedSlice S256x128 ![r, c] x h

/-- The tile's own rows of the sums. -/
def midLd (r : ℕ) (h : S640x128.Slices ![r, 0] S128x128) (x : FVec F S640x128 .f32) : FVec F S128x128 .f32 :=
  extractStridedSlice S128x128 ![r, 0] x h

/-- The tile's extended rows of the sums. -/
def extLd (r : ℕ) (h : S640x128.Slices ![r, 0] S256x128) (x : FVec F S640x128 .f32) : FVec F S256x128 .f32 :=
  extractStridedSlice S256x128 ![r, 0] x h

/-- The queries' gradient of a tile and a pair of heads `n`, `n + 1`. -/
def tileDq (t a n0 n1 d0 d1 s0 s1 : BitVec 32) (qm gm : FVec F S128x128 .bf16) (ke ve : FVec F S256x128 .bf16)
    (lm : FVec F S128x128 .f32) : FVec F S128x128 .bf16 :=
  scaleOut (dqOf 1#32 n1 d1 s1 (validQ t a) distQ qm gm ke ve lm
    (dqOf 0#32 n0 d0 s0 (validQ t a) distQ qm gm ke ve lm none128))

/-- The keys' gradient of a tile and a pair of heads. -/
def tileDk (t a n0 n1 d0 d1 s0 s1 : BitVec 32) (qe ge : FVec F S256x128 .bf16) (km vm : FVec F S128x128 .bf16)
    (le : FVec F S256x128 .f32) : FVec F S128x128 .bf16 :=
  scaleOut (dkOf 1#32 n1 d1 s1 (validK t a) distK qe ge km vm le
    (dkOf 0#32 n0 d0 s0 (validK t a) distK qe ge km vm le none128))

/-- The values' gradient of a tile and a pair of heads. -/
def tileDv (t a n0 n1 s0 s1 : BitVec 32) (qe ge : FVec F S256x128 .bf16) (km : FVec F S128x128 .bf16)
    (le : FVec F S256x128 .f32) : FVec F S128x128 .bf16 :=
  roundOut (dvOf 1#32 n1 s1 (validK t a) distK qe ge km le
    (dvOf 0#32 n0 s0 (validK t a) distK qe ge km le none128))

end Cert.KernelIdeal.Blk
-- ==== Proof.Words.lean ====
/- The body's words as numbers: which lanes a head has, how far a key is from a query, where both
   lie within the residue's rows, and the constants. -/
module

public import proofs.«01_k».proof.Proof.Blocks
public import Idealize.ShloMosaic.Lib.Pointwise
public import Idealize.ShloMosaic.Lib.IdealHost

@[expose] public section

noncomputable section

namespace Cert.KernelIdeal.Blk

open Idealize.ShloMosaic Idealize.ShloMosaic.WordCmp Idealize.SL.Sem Cert.KernelIdeal.Gen

/-! ## Constants -/

theorem eighth : Ideal.ofBits .f32 0x3E000000#32 = ((1 / 8 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem minusInf : Ideal.ofBits .f32 0xFF800000#32 = ⊥ := by
  simp [Ideal.ofBits, Ideal.ieee]

theorem plusInf : Ideal.ofBits .f32 0x7F800000#32 = ⊤ := by
  simp [Ideal.ofBits, Ideal.ieee]

/-- The word of each head's slope. -/
def slopeWord (h : Fin 6) : BitVec 32 :=
  ![0x3ECB2FF5#32, 0x3E214518#32, 0x3D800000#32, 0x3CCB2FF5#32, 0x3C214518#32, 0x3B800000#32] h

/-- Each head's slope. -/
def slope (h : Fin 6) : ℝ := (Ideal.ofBits .f32 (slopeWord h)).toReal

theorem slope_coe (h : Fin 6) : Ideal.ofBits .f32 (slopeWord h) = ((slope h : ℝ) : EReal) := by
  have key : ∃ x : ℝ, Ideal.ofBits .f32 (slopeWord h) = (x : EReal) := by
    fin_cases h <;> simp [slopeWord, Ideal.ofBits, Ideal.ieee, -EReal.coe_mul]
  obtain ⟨x, hx⟩ := key
  rw [slope, hx, EReal.toReal_coe]

/-! ## Lanes -/

/-- Which lanes head `b` of a pair has. -/
theorem headLanes_word (b : Fin 2) (x : Fin 128) :
    IntOp.cmpi .eq (IntOp.shrsi ArithUnit.vector (BitVec.ofNat 32 x.val) 6#32) (BitVec.ofNat 32 b.val)
      = if x.val / 64 = b.val then 1#1 else 0#1 := by
  revert b x; decide

/-- Lane `n` alone. -/
theorem oneLane_word (n x : Fin 128) :
    IntOp.cmpi .eq (BitVec.ofNat 32 x.val) (BitVec.ofNat 32 n.val) = if x = n then 1#1 else 0#1 := by
  rw [cmpi_eq_ofNat (by omega) (by omega)]
  by_cases h : x = n
  · subst h; simp
  · have : x.val ≠ n.val := fun e => h (Fin.ext e)
    simp [h, this]

/-! ## Distances -/

theorem toInt_small {a : ℤ} {x : BitVec 32} (hx : x = BitVec.ofInt 32 a) (h : -2147483648 ≤ a) (h' : a < 2147483648) :
    x.toInt = a := by
  subst hx
  rw [BitVec.toInt_ofInt]
  exact Int.bmod_eq_of_le (by norm_num; omega) (by norm_num; omega)

theorem ofInt_sub (a b : ℤ) : BitVec.ofInt 32 (a - b) = BitVec.ofInt 32 a - BitVec.ofInt 32 b := by
  rw [sub_eq_add_neg, BitVec.ofInt_add, BitVec.ofInt_neg, BitVec.sub_eq_add_neg]

theorem sitofp_word (x : BitVec 32) : FloatOps.sitofp (F := Ideal) .f32 x = ((x.toInt : ℝ) : EReal) := rfl

theorem relQ_word (r : Fin 128) (j : Fin 256) :
    (IntOp.subi (IntOp.subi (BitVec.ofNat 32 j.val) 64#32) (BitVec.ofNat 32 r.val)).toInt = (j.val : ℤ) - 64 - r.val := by
  refine toInt_small (a := (j.val : ℤ) - 64 - r.val) ?_ (by omega) (by omega)
  simp only [IntOp.subi, ofInt_sub, BitVec.ofInt_natCast]
  rfl

theorem relK_word (e : Fin 256) (r : Fin 128) :
    (IntOp.subi (IntOp.addi (BitVec.ofNat 32 r.val) 64#32) (BitVec.ofNat 32 e.val)).toInt = (r.val : ℤ) + 64 - e.val := by
  refine toInt_small (a := (r.val : ℤ) + 64 - e.val) ?_ (by omega) (by omega)
  simp only [IntOp.subi, IntOp.addi, ofInt_sub, BitVec.ofInt_add, BitVec.ofInt_natCast]
  rfl

theorem absi_toInt (x : BitVec 32) (h : -2147483648 < x.toInt) : (IntOp.absi x).toInt = |x.toInt| := by
  unfold IntOp.absi
  by_cases hm : x.msb
  · have hneg : x.toInt < 0 := by rw [BitVec.msb_eq_toInt] at hm; simpa using hm
    have hlt : x.toInt < 2147483648 := by omega
    rw [if_pos hm, BitVec.toInt_neg, abs_of_neg hneg]
    exact Int.bmod_eq_of_le (by norm_num; omega) (by norm_num; omega)
  · have hpos : 0 ≤ x.toInt := by rw [BitVec.msb_eq_toInt] at hm; simpa using hm
    rw [if_neg hm, abs_of_nonneg hpos]

theorem startWord_toInt (t a : Fin 4) (j : Fin 256) :
    (IntOp.addi (Scalar.subi (Scalar.addi (Scalar.muli (BitVec.ofNat 32 t.val) 512#32) (BitVec.ofNat 32 (128 * a.val))) 64#32)
      (BitVec.ofNat 32 j.val)).toInt = 512 * (t.val : ℤ) + 128 * a.val - 64 + j.val := by
  refine toInt_small (a := (((512 * t.val : ℕ) : ℤ) + ((128 * a.val : ℕ) : ℤ) - 64 + j.val)) ?_ (by omega) (by omega) |>.trans (by push_cast; ring)
  simp only [Scalar.subi, Scalar.addi, Scalar.muli, IntOp.subi, IntOp.addi, IntOp.muli, ofInt_sub, BitVec.ofInt_add,
    BitVec.ofInt_natCast]
  rw [← BitVec.ofNat_mul, Nat.mul_comm]
  rfl

/-- A query `r` of a tile and a row `j` of the 256 around it: within the band, and a row there is. -/
def Meets (t a : Fin 4) (r : Fin 128) (j : Fin 256) : Prop :=
  |(j.val : ℤ) - 64 - r.val| ≤ 64 ∧ 0 ≤ 512 * (t.val : ℤ) + 128 * a.val - 64 + j.val
    ∧ 512 * (t.val : ℤ) + 128 * a.val - 64 + j.val < 2048

instance (t a : Fin 4) (r : Fin 128) (j : Fin 256) : Decidable (Meets t a r j) := by unfold Meets; infer_instance

theorem ofBool_and3 (p q s : Prop) [Decidable p] [Decidable q] [Decidable s] :
    IntOp.andi (IntOp.andi (BitVec.ofBool (decide p)) (BitVec.ofBool (decide q))) (BitVec.ofBool (decide s))
      = if p ∧ q ∧ s then 1#1 else 0#1 := by
  by_cases hp : p <;> by_cases hq : q <;> by_cases hs : s <;> simp [hp, hq, hs, IntOp.andi]

theorem validQ_at (t a : Fin 4) (r : Fin 128) (j : Fin 256) :
    validQ (BitVec.ofNat 32 t.val) (BitVec.ofNat 32 (128 * a.val)) (ix2 r j) = if Meets t a r j then 1#1 else 0#1 := by
  pointwise [validQ, relQ, startWord]
  rw [cmpi_sle_eq, cmpi_sge_eq, cmpi_slt_eq, startWord_toInt, absi_toInt _ (by rw [relQ_word]; omega), relQ_word,
    ofBool_and3]
  rfl

theorem validK_at (t a : Fin 4) (e : Fin 256) (r : Fin 128) :
    validK (BitVec.ofNat 32 t.val) (BitVec.ofNat 32 (128 * a.val)) (ix2 e r) = if Meets t a r e then 1#1 else 0#1 := by
  pointwise [validK, relK, startWord]
  rw [cmpi_sle_eq, cmpi_sge_eq, cmpi_slt_eq, startWord_toInt, absi_toInt _ (by rw [relK_word]; omega), relK_word,
    ofBool_and3, show ((r.val : ℤ) + 64 - e.val) = -((e.val : ℤ) - 64 - r.val) by ring, abs_neg]
  rfl

theorem distQ_at (r : Fin 128) (j : Fin 256) :
    distQ (F := Ideal) (ix2 r j) = ((|(j.val : ℝ) - 64 - r.val| * 4 : ℝ) : EReal) := by
  pointwise [distQ, relQ]
  rw [four, sitofp_word, absi_toInt _ (by rw [relQ_word]; omega), relQ_word, ← EReal.coe_mul]
  push_cast
  rfl

theorem distK_at (e : Fin 256) (r : Fin 128) :
    distK (F := Ideal) (ix2 e r) = ((|(e.val : ℝ) - 64 - r.val| * 4 : ℝ) : EReal) := by
  pointwise [distK, relK]
  rw [four, sitofp_word, absi_toInt _ (by rw [relK_word]; omega), relK_word, ← EReal.coe_mul,
    show ((r.val : ℤ) + 64 - e.val) = -((e.val : ℤ) - 64 - r.val) by ring, abs_neg]
  push_cast
  rfl

end Cert.KernelIdeal.Blk
-- ==== Proof.Band.lean ====
/- The banded attention's gradient in real numbers: one head of one residue, 2048 rows, keys at most
   64 rows away. `L` is a row's log-sum over all branches, `D` its cotangent dotted with its output. -/
module

public import proofs.«01_k».proof.Proof.Words

@[expose] public section

noncomputable section

namespace Cert.Band

open Cert.KernelIdeal.Blk

/-- Rows at most 64 apart. -/
def Near (i j : Fin 2048) : Prop := |(j.val : ℤ) - i.val| ≤ 64

instance (i j : Fin 2048) : Decidable (Near i j) := by unfold Near; infer_instance

theorem near_self (i : Fin 2048) : Near i i := by simp [Near]

variable (q k v g : Fin 2048 → Fin 64 → ℝ) (σ : ℝ) (L D : Fin 2048 → ℝ)

/-- A score: the scaled product less the slope times four times the distance. -/
def score (i j : Fin 2048) : ℝ := (∑ d, q i d * k j d) * (1 / 8) - σ * (|(j.val : ℝ) - i.val| * 4)

/-- A probability among all branches' keys. -/
def prob (i j : Fin 2048) : ℝ := Real.exp (score q k σ i j - L i)

/-- The cotangent of a score. -/
def dscore (i j : Fin 2048) : ℝ := prob q k σ L i j * ((∑ d, g i d * v j d) - D i)

/-- The queries' gradient. -/
def dq (i : Fin 2048) (d : Fin 64) : ℝ :=
  (∑ j, if Near i j then dscore q k v g σ L D i j * k j d else 0) * (1 / 8)

/-- The keys' gradient. -/
def dk (j : Fin 2048) (d : Fin 64) : ℝ :=
  (∑ i, if Near i j then dscore q k v g σ L D i j * q i d else 0) * (1 / 8)

/-- The values' gradient. -/
def dv (j : Fin 2048) (d : Fin 64) : ℝ := ∑ i, if Near i j then prob q k σ L i j * g i d else 0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A tile's rows among the residue's -/

/-- The tile's own row. -/
def mrow (t a : Fin 4) (r : Fin 128) : Fin 2048 := ⟨512 * t.val + 128 * a.val + r.val, by omega⟩

/-- The row a window of 640 loads at `e`: its own 512, and 64 on either side; at the ends the nearest there is. -/
def wrow (t : Fin 4) (e : Fin 640) : Fin 2048 :=
  if h : e.val < 64 then ⟨64 * (8 * t.val - 1) + e.val, by omega⟩
  else if h' : e.val < 576 then ⟨512 * t.val + (e.val - 64), by omega⟩
  else ⟨64 * (min (8 * t.val + 8) 31) + (e.val - 576), by omega⟩

/-- The row the tile's extended block has at `j`. -/
def erow (t a : Fin 4) (j : Fin 256) : Fin 2048 := wrow t ⟨128 * a.val + j.val, by omega⟩

theorem wrow_mid (t a : Fin 4) (r : Fin 128) : wrow t ⟨128 * a.val + 64 + r.val, by omega⟩ = mrow t a r := by
  apply Fin.ext
  unfold wrow mrow
  rw [dif_neg (by simp only; omega), dif_pos (by simp only; omega)]
  simp only; omega

theorem erow_of_meets {t a : Fin 4} {r : Fin 128} {j : Fin 256} (h : Meets t a r j) :
    ((erow t a j).val : ℤ) = 512 * (t.val : ℤ) + 128 * a.val - 64 + j.val := by
  obtain ⟨-, h0, h1⟩ := h
  unfold erow
  obtain ⟨e, he⟩ : ∃ e : Fin 640, e = ⟨128 * a.val + j.val, by omega⟩ := ⟨_, rfl⟩
  have he' : e.val = 128 * a.val + j.val := by rw [he]
  rw [← he]
  unfold wrow
  split_ifs with h2 h3
  · show ((64 * (8 * t.val - 1) + e.val : ℕ) : ℤ) = _
    omega
  · show ((512 * t.val + (e.val - 64) : ℕ) : ℤ) = _
    omega
  · show ((64 * (min (8 * t.val + 8) 31) + (e.val - 576) : ℕ) : ℤ) = _
    omega

theorem near_of_meets {t a : Fin 4} {r : Fin 128} {j : Fin 256} (h : Meets t a r j) : Near (mrow t a r) (erow t a j) := by
  have e := erow_of_meets h
  unfold Near mrow
  rw [e]
  have := h.1
  simp only
  push_cast
  rw [show 512 * (t.val : ℤ) + 128 * a.val - 64 + j.val - (512 * t.val + 128 * a.val + r.val) = j.val - 64 - r.val by ring]
  exact this

theorem near_symm {i j : Fin 2048} : Near i j ↔ Near j i := by unfold Near; rw [abs_sub_comm]

theorem dist_of_meets {t a : Fin 4} {r : Fin 128} {j : Fin 256} (h : Meets t a r j) :
    |(j.val : ℝ) - 64 - r.val| = |((erow t a j).val : ℝ) - (mrow t a r).val| := by
  have e : (((erow t a j).val : ℤ) : ℝ) = ((512 * (t.val : ℤ) + 128 * a.val - 64 + j.val : ℤ) : ℝ) := by
    rw [erow_of_meets h]
  rw [Int.cast_natCast] at e
  rw [e]
  unfold mrow
  congr 1
  push_cast
  ring

/-- The rows a tile's row meets in its extended block are the residue's rows near it. -/
theorem sum_meets (t a : Fin 4) (r : Fin 128) (f : Fin 2048 → ℝ) :
    (∑ j : Fin 256, if Meets t a r j then f (erow t a j) else 0) = ∑ j, if Near (mrow t a r) j then f j else 0 := by
  rw [← Finset.sum_filter, ← Finset.sum_filter]
  refine Finset.sum_bij (fun j _ => erow t a j) ?_ ?_ ?_ ?_
  · intro j hj
    simp only [Finset.mem_filter, Finset.mem_univ, true_and] at hj ⊢
    exact near_of_meets hj
  · intro j hj j' hj' e
    simp only [Finset.mem_filter, Finset.mem_univ, true_and] at hj hj'
    have e1 := erow_of_meets hj
    have e2 := erow_of_meets hj'
    rw [e, e2] at e1
    apply Fin.ext; omega
  · intro J hJ
    simp only [Finset.mem_filter, Finset.mem_univ, true_and] at hJ
    have hb := abs_le.mp hJ
    unfold mrow at hb
    simp only at hb
    push_cast at hb
    have hlo : 512 * t.val + 128 * a.val ≤ J.val + 64 := by omega
    have hm : Meets t a r ⟨J.val + 64 - (512 * t.val + 128 * a.val), by omega⟩ := by
      refine ⟨abs_le.mpr ⟨?_, ?_⟩, ?_, ?_⟩ <;> simp only <;> omega
    refine ⟨_, by simpa using hm, ?_⟩
    have e := erow_of_meets hm
    apply Fin.ext
    simp only at e
    omega
  · intro j _; rfl

/-- A lane of head `b` of a pair. -/
def lane (b : Fin 2) (d : Fin 64) : Fin 128 := ⟨64 * b.val + d.val, by omega⟩

/-- A sum over the lanes of head `b`. -/
theorem sum_lanes {M : Type} [AddCommMonoid M] (b : Fin 2) (f : Fin 128 → M) :
    (∑ x : Fin 128, if x.val / 64 = b.val then f x else 0) = ∑ d : Fin 64, f (lane b d) := by
  rw [← Finset.sum_filter]
  symm
  refine Finset.sum_bij (fun d _ => lane b d) ?_ ?_ ?_ ?_
  · intro d _
    simp only [Finset.mem_filter, Finset.mem_univ, true_and, lane]
    omega
  · intro d _ d' _ e
    have := congrArg Fin.val e
    simp only [lane] at this
    apply Fin.ext; omega
  · intro x hx
    simp only [Finset.mem_filter, Finset.mem_univ, true_and] at hx
    refine ⟨⟨x.val - 64 * b.val, by omega⟩, Finset.mem_univ _, ?_⟩
    apply Fin.ext
    simp only [lane]
    omega
  · intro d _; rfl

end Cert.Band
-- ==== Proof.Tile.lean ====
/- A tile's three results at an index, over blocks that hold real numbers: they are the banded
   attention's gradient. -/
module

public import proofs.«01_k».proof.Proof.Band

@[expose] public section

noncomputable section

namespace Cert.KernelIdeal.Blk

open Idealize.ShloMosaic Idealize.SL.Sem Cert.KernelIdeal.Gen Cert.Band

theorem select_ite {α : Type} (p : Prop) [Decidable p] (a b : α) :
    Scalar.select (if p then 1#1 else 0#1) a b = if p then a else b := by
  by_cases h : p <;> simp [h, Scalar.select]

/-- The chosen lane of a row, as the sum over the masked lanes. -/
theorem pick_sum (n : Fin 128) (f : Fin 128 → EReal) :
    (∑ x : Fin 128, Scalar.select (IntOp.cmpi .eq (BitVec.ofNat 32 x.val) (BitVec.ofNat 32 n.val)) (f x) 0) = f n := by
  simp only [oneLane_word, select_ite]
  rw [Finset.sum_ite_eq' Finset.univ n f, if_pos (Finset.mem_univ n)]

/-- A head's product over its lanes. -/
theorem head_sum (b : Fin 2) (f : Fin 128 → EReal) :
    (∑ x : Fin 128, Scalar.select (IntOp.cmpi .eq (IntOp.shrsi ArithUnit.vector (BitVec.ofNat 32 x.val) 6#32)
      (BitVec.ofNat 32 b.val)) (f x) 0) = ∑ d : Fin 64, f (lane b d) := by
  simp only [headLanes_word, select_ite]
  exact sum_lanes b f

theorem coe_ite (p : Prop) [Decidable p] (x : ℝ) : (if p then (x : EReal) else 0) = ((if p then x else 0 : ℝ) : EReal) := by
  by_cases h : p <;> simp [h]

/-- What a tile is given: the blocks' entries as real numbers, the lanes of the two sums, the slopes. -/
structure Given (t a : Fin 4) (q k v g : Fin 2048 → Fin 128 → ℝ) (L D : Fin 2 → Fin 2048 → ℝ)
    (n n' : Fin 2 → Fin 128)
    (qm km vm gm : FVec Ideal S128x128 .bf16) (qe ke ve ge : FVec Ideal S256x128 .bf16)
    (lm : FVec Ideal S128x128 .f32) (le : FVec Ideal S256x128 .f32) : Prop where
  hqm : ∀ r x, qm (ix2 r x) = (q (mrow t a r) x : EReal)
  hkm : ∀ r x, km (ix2 r x) = (k (mrow t a r) x : EReal)
  hvm : ∀ r x, vm (ix2 r x) = (v (mrow t a r) x : EReal)
  hgm : ∀ r x, gm (ix2 r x) = (g (mrow t a r) x : EReal)
  hqe : ∀ j x, qe (ix2 j x) = (q (erow t a j) x : EReal)
  hke : ∀ j x, ke (ix2 j x) = (k (erow t a j) x : EReal)
  hve : ∀ j x, ve (ix2 j x) = (v (erow t a j) x : EReal)
  hge : ∀ j x, ge (ix2 j x) = (g (erow t a j) x : EReal)
  hlm : ∀ b r, lm (ix2 r (n b)) = (L b (mrow t a r) : EReal)
  hdm : ∀ b r, lm (ix2 r (n' b)) = (D b (mrow t a r) : EReal)
  hle : ∀ b j, le (ix2 j (n b)) = (L b (erow t a j) : EReal)
  hde : ∀ b j, le (ix2 j (n' b)) = (D b (erow t a j) : EReal)

section
variable {t a : Fin 4} {q k v g : Fin 2048 → Fin 128 → ℝ} {L D : Fin 2 → Fin 2048 → ℝ} {n n' : Fin 2 → Fin 128}
  {qm km vm gm : FVec Ideal S128x128 .bf16} {qe ke ve ge : FVec Ideal S256x128 .bf16}
  {lm : FVec Ideal S128x128 .f32} {le : FVec Ideal S256x128 .f32}
  {s : BitVec 32} {σ : ℝ}

/-- One head's lanes of a pair's rows. -/
abbrev headOf (q : Fin 2048 → Fin 128 → ℝ) (b : Fin 2) : Fin 2048 → Fin 64 → ℝ := fun i d => q i (lane b d)

variable (t a) in
/-- The tile's validity words. -/
abbrev vq : IVec S128x256 1 := validQ (BitVec.ofNat 32 t.val) (BitVec.ofNat 32 (128 * a.val))
variable (t a) in
abbrev vk : IVec S256x128 1 := validK (BitVec.ofNat 32 t.val) (BitVec.ofNat 32 (128 * a.val))

theorem probQ_at (G : Given t a q k v g L D n n' qm km vm gm qe ke ve ge lm le) (hs : Ideal.ofBits .f32 s = (σ : EReal))
    (b : Fin 2) (r : Fin 128) (j : Fin 256) :
    probQ (BitVec.ofNat 32 b.val) (BitVec.ofNat 32 (n b).val) s (vq t a) distQ qm ke lm (ix2 r j)
      = ((if Meets t a r j then prob (headOf q b) (headOf k b) σ (L b) (mrow t a r) (erow t a j) else 0 : ℝ) : EReal) := by
  pointwise [probQ, only128, pick128, rows128, headLanes, oneLane]
  rw [show vq t a (ix2 r j) = _ from validQ_at t a r j, select_ite, head_sum, pick_sum, hs, eighth, distQ_at, G.hlm]
  simp only [G.hqm, G.hke, ← EReal.coe_mul, ← coe_sum, ← EReal.coe_sub, Ideal.exp_coe]
  by_cases h : Meets t a r j
  · rw [if_pos h, if_pos h, dist_of_meets h]
    rfl
  · rw [if_neg h, if_neg h]; rfl

theorem probK_at (G : Given t a q k v g L D n n' qm km vm gm qe ke ve ge lm le) (hs : Ideal.ofBits .f32 s = (σ : EReal))
    (b : Fin 2) (j : Fin 256) (r : Fin 128) :
    probK (BitVec.ofNat 32 b.val) (BitVec.ofNat 32 (n b).val) s (vk t a) distK qe km le (ix2 j r)
      = ((if Meets t a r j then prob (headOf q b) (headOf k b) σ (L b) (erow t a j) (mrow t a r) else 0 : ℝ) : EReal) := by
  pointwise [probK, only256, pick256, rows256, headLanes, oneLane]
  rw [show vk t a (ix2 j r) = _ from validK_at t a j r, select_ite, head_sum, pick_sum, hs, eighth, distK_at, G.hle]
  simp only [G.hqe, G.hkm, ← EReal.coe_mul, ← coe_sum, ← EReal.coe_sub, Ideal.exp_coe]
  by_cases h : Meets t a r j
  · rw [if_pos h, if_pos h, dist_of_meets h, abs_sub_comm]
    rfl
  · rw [if_neg h, if_neg h]; rfl

theorem dsQ_at (G : Given t a q k v g L D n n' qm km vm gm qe ke ve ge lm le) (hs : Ideal.ofBits .f32 s = (σ : EReal))
    (b : Fin 2) (r : Fin 128) (j : Fin 256) :
    dsQ (BitVec.ofNat 32 b.val) (BitVec.ofNat 32 (n b).val) (BitVec.ofNat 32 (n' b).val) s (vq t a) distQ qm gm ke ve lm
        (ix2 r j)
      = ((if Meets t a r j then dscore (headOf q b) (headOf k b) (headOf v b) (headOf g b) σ (L b) (D b)
            (mrow t a r) (erow t a j) else 0 : ℝ) : EReal) := by
  pointwise [dsQ, only128, pick128, rows128, headLanes, oneLane]
  rw [probQ_at G hs, head_sum, pick_sum, G.hdm]
  simp only [G.hgm, G.hve, ← EReal.coe_mul, ← coe_sum, ← EReal.coe_sub]
  by_cases h : Meets t a r j
  · rw [if_pos h, if_pos h]; rfl
  · rw [if_neg h, if_neg h, zero_mul]

theorem dsK_at (G : Given t a q k v g L D n n' qm km vm gm qe ke ve ge lm le) (hs : Ideal.ofBits .f32 s = (σ : EReal))
    (b : Fin 2) (j : Fin 256) (r : Fin 128) :
    dsK (BitVec.ofNat 32 b.val) (BitVec.ofNat 32 (n b).val) (BitVec.ofNat 32 (n' b).val) s (vk t a) distK qe ge km vm le
        (ix2 j r)
      = ((if Meets t a r j then dscore (headOf q b) (headOf k b) (headOf v b) (headOf g b) σ (L b) (D b)
            (erow t a j) (mrow t a r) else 0 : ℝ) : EReal) := by
  pointwise [dsK, only256, pick256, rows256, headLanes, oneLane]
  rw [probK_at G hs, head_sum, pick_sum, G.hde]
  simp only [G.hge, G.hvm, ← EReal.coe_mul, ← coe_sum, ← EReal.coe_sub]
  by_cases h : Meets t a r j
  · rw [if_pos h, if_pos h]; rfl
  · rw [if_neg h, if_neg h, zero_mul]

/-- A sum over the extended block of what vanishes off the band is the sum over the rows near. -/
theorem sum_band (t a : Fin 4) (r : Fin 128) (f h : Fin 2048 → ℝ) :
    (∑ j : Fin 256, (((if Meets t a r j then f (erow t a j) else 0 : ℝ) : EReal)) * (h (erow t a j) : EReal))
      = ((∑ j, if Near (mrow t a r) j then f j * h j else 0 : ℝ) : EReal) := by
  rw [← sum_meets t a r fun j => f j * h j, coe_sum]
  refine Finset.sum_congr rfl fun j _ => ?_
  rw [← EReal.coe_mul]
  by_cases hm : Meets t a r j <;> simp [hm]

theorem dqOf_at (G : Given t a q k v g L D n n' qm km vm gm qe ke ve ge lm le) (hs : Ideal.ofBits .f32 s = (σ : EReal))
    (b b' : Fin 2) (rest : FVec Ideal S128x128 .f32) (r : Fin 128) (d : Fin 64) :
    dqOf (BitVec.ofNat 32 b.val) (BitVec.ofNat 32 (n b).val) (BitVec.ofNat 32 (n' b).val) s (vq t a) distQ qm gm ke ve lm
        rest (ix2 r (lane b' d))
      = if b' = b then ((∑ j, if Near (mrow t a r) j then dscore (headOf q b) (headOf k b) (headOf v b) (headOf g b) σ
            (L b) (D b) (mrow t a r) j * headOf k b j d else 0 : ℝ) : EReal) else rest (ix2 r (lane b' d)) := by
  pointwise [dqOf, rows128, headLanes]
  rw [headLanes_word, select_ite]
  have hl : (lane b' d).val / 64 = b'.val := by unfold lane; simp only; omega
  by_cases h : b' = b
  · subst h
    rw [if_pos hl, if_pos rfl, ← sum_band t a r _ fun j => headOf k b' j d]
    refine Finset.sum_congr rfl fun j _ => ?_
    rw [dsQ_at G hs, G.hke]
  · rw [if_neg (fun e => h (Fin.ext (hl.symm.trans e))), if_neg h]

theorem dkOf_at (G : Given t a q k v g L D n n' qm km vm gm qe ke ve ge lm le) (hs : Ideal.ofBits .f32 s = (σ : EReal))
    (b b' : Fin 2) (rest : FVec Ideal S128x128 .f32) (r : Fin 128) (d : Fin 64) :
    dkOf (BitVec.ofNat 32 b.val) (BitVec.ofNat 32 (n b).val) (BitVec.ofNat 32 (n' b).val) s (vk t a) distK qe ge km vm le
        rest (ix2 r (lane b' d))
      = if b' = b then ((∑ i, if Near i (mrow t a r) then dscore (headOf q b) (headOf k b) (headOf v b) (headOf g b) σ
            (L b) (D b) i (mrow t a r) * headOf q b i d else 0 : ℝ) : EReal) else rest (ix2 r (lane b' d)) := by
  pointwise [dkOf, rows128, headLanes]
  rw [headLanes_word, select_ite]
  have hl : (lane b' d).val / 64 = b'.val := by unfold lane; simp only; omega
  by_cases h : b' = b
  · subst h
    simp only [near_symm (j := mrow t a r)]
    rw [if_pos hl, if_pos trivial, ← sum_band t a r (fun i => dscore (headOf q b') (headOf k b') (headOf v b') (headOf g b') σ
      (L b') (D b') i (mrow t a r)) fun j => headOf q b' j d]
    refine Finset.sum_congr rfl fun j _ => ?_
    rw [dsK_at G hs, G.hqe]
  · rw [if_neg (fun e => h (Fin.ext (hl.symm.trans e))), if_neg h]

theorem dvOf_at (G : Given t a q k v g L D n n' qm km vm gm qe ke ve ge lm le) (hs : Ideal.ofBits .f32 s = (σ : EReal))
    (b b' : Fin 2) (rest : FVec Ideal S128x128 .f32) (r : Fin 128) (d : Fin 64) :
    dvOf (BitVec.ofNat 32 b.val) (BitVec.ofNat 32 (n b).val) s (vk t a) distK qe ge km le rest (ix2 r (lane b' d))
      = if b' = b then (Band.dv (headOf q b) (headOf k b) (headOf g b) σ (L b) (mrow t a r) d : EReal)
        else rest (ix2 r (lane b' d)) := by
  pointwise [dvOf, rows128, headLanes]
  rw [headLanes_word, select_ite]
  have hl : (lane b' d).val / 64 = b'.val := by unfold lane; simp only; omega
  by_cases h : b' = b
  · subst h
    unfold Band.dv
    simp only [near_symm (j := mrow t a r)]
    rw [if_pos hl, if_pos trivial, ← sum_band t a r (fun i => prob (headOf q b') (headOf k b') σ (L b') i (mrow t a r))
      fun j => headOf g b' j d]
    refine Finset.sum_congr rfl fun j _ => ?_
    rw [probK_at G hs, G.hge]
  · rw [if_neg (fun e => h (Fin.ext (hl.symm.trans e))), if_neg h]

end

section
variable {t a : Fin 4} {q k v g : Fin 2048 → Fin 128 → ℝ} {L D : Fin 2 → Fin 2048 → ℝ} {n n' : Fin 2 → Fin 128}
  {qm km vm gm : FVec Ideal S128x128 .bf16} {qe ke ve ge : FVec Ideal S256x128 .bf16}
  {lm : FVec Ideal S128x128 .f32} {le : FVec Ideal S256x128 .f32}
  {s : Fin 2 → BitVec 32} {σ : Fin 2 → ℝ}

theorem tileDq_at (G : Given t a q k v g L D n n' qm km vm gm qe ke ve ge lm le)
    (hs : ∀ b, Ideal.ofBits .f32 (s b) = (σ b : EReal)) (b : Fin 2) (r : Fin 128) (d : Fin 64) :
    tileDq (BitVec.ofNat 32 t.val) (BitVec.ofNat 32 (128 * a.val)) (BitVec.ofNat 32 (n 0).val) (BitVec.ofNat 32 (n 1).val)
        (BitVec.ofNat 32 (n' 0).val) (BitVec.ofNat 32 (n' 1).val) (s 0) (s 1) qm gm ke ve lm (ix2 r (lane b d))
      = (Band.dq (headOf q b) (headOf k b) (headOf v b) (headOf g b) (σ b) (L b) (D b) (mrow t a r) d : EReal) := by
  pointwise [tileDq, scaleOut]
  rw [show (1#32 : BitVec 32) = BitVec.ofNat 32 (1 : Fin 2).val from rfl, dqOf_at G (hs 1),
    show (0#32 : BitVec 32) = BitVec.ofNat 32 (0 : Fin 2).val from rfl, dqOf_at G (hs 0), eighth]
  unfold Band.dq
  fin_cases b <;> exact (EReal.coe_mul _ _).symm

theorem tileDk_at (G : Given t a q k v g L D n n' qm km vm gm qe ke ve ge lm le)
    (hs : ∀ b, Ideal.ofBits .f32 (s b) = (σ b : EReal)) (b : Fin 2) (r : Fin 128) (d : Fin 64) :
    tileDk (BitVec.ofNat 32 t.val) (BitVec.ofNat 32 (128 * a.val)) (BitVec.ofNat 32 (n 0).val) (BitVec.ofNat 32 (n 1).val)
        (BitVec.ofNat 32 (n' 0).val) (BitVec.ofNat 32 (n' 1).val) (s 0) (s 1) qe ge km vm le (ix2 r (lane b d))
      = (Band.dk (headOf q b) (headOf k b) (headOf v b) (headOf g b) (σ b) (L b) (D b) (mrow t a r) d : EReal) := by
  pointwise [tileDk, scaleOut]
  rw [show (1#32 : BitVec 32) = BitVec.ofNat 32 (1 : Fin 2).val from rfl, dkOf_at G (hs 1),
    show (0#32 : BitVec 32) = BitVec.ofNat 32 (0 : Fin 2).val from rfl, dkOf_at G (hs 0), eighth]
  unfold Band.dk
  fin_cases b <;> exact (EReal.coe_mul _ _).symm

theorem tileDv_at (G : Given t a q k v g L D n n' qm km vm gm qe ke ve ge lm le)
    (hs : ∀ b, Ideal.ofBits .f32 (s b) = (σ b : EReal)) (b : Fin 2) (r : Fin 128) (d : Fin 64) :
    tileDv (BitVec.ofNat 32 t.val) (BitVec.ofNat 32 (128 * a.val)) (BitVec.ofNat 32 (n 0).val) (BitVec.ofNat 32 (n 1).val)
        (s 0) (s 1) qe ge km le (ix2 r (lane b d))
      = (Band.dv (headOf q b) (headOf k b) (headOf g b) (σ b) (L b) (mrow t a r) d : EReal) := by
  pointwise [tileDv, roundOut]
  rw [show (1#32 : BitVec 32) = BitVec.ofNat 32 (1 : Fin 2).val from rfl, dvOf_at G (hs 1),
    show (0#32 : BitVec 32) = BitVec.ofNat 32 (0 : Fin 2).val from rfl, dvOf_at G (hs 0)]
  fin_cases b <;> rfl

end

end Cert.KernelIdeal.Blk
-- ==== Proof.Pieces.lean ====
/- What the body leaves in each output window, in the short vocabulary: twelve tiles, one per four
   row tiles and three pairs of heads. -/
module

public import proofs.«01_k».proof.Proof.Blocks

@[expose] public section

noncomputable section

namespace Cert.KernelIdeal.Blk

open Idealize.ShloMosaic Idealize.SL.Sem Cert.KernelIdeal.Gen

variable {F : FTy → Type} [FloatOps F]

/-- The window of 640 rows the body loads of q, k, v or the output's cotangent. -/
def win (p : Vec F S64x384 .bf16) (c : Vec F S512x384 .bf16) (n : Vec F S64x384 .bf16) : FVec F S640x384 .bf16 :=
  halo (View.ld p r0_2) (View.ld c r0_3) (View.ld n r0_2)

/-- The window of 640 rows the body loads of the rows' two sums. -/
def winLd (p : Vec F S64x128 .f32) (c : Vec F S512x128 .f32) (n : Vec F S64x128 .f32) : FVec F S640x128 .f32 :=
  haloLd (View.ld p r0_0) (View.ld c r0_1) (View.ld n r0_0)

/-- The queries' gradient, tile by tile. -/
theorem out_dq (i : grid0.Coords) (x0 : Vec F S64x384 .bf16) (x1 : Vec F S512x384 .bf16) (x2 : Vec F S64x384 .bf16) (x3 : Vec F S64x384 .bf16) (x4 : Vec F S512x384 .bf16) (x5 : Vec F S64x384 .bf16) (x6 : Vec F S64x384 .bf16) (x7 : Vec F S512x384 .bf16) (x8 : Vec F S64x384 .bf16) (x9 : Vec F S64x384 .bf16) (x10 : Vec F S512x384 .bf16) (x11 : Vec F S64x384 .bf16) (x12 : Vec F S64x128 .f32) (x13 : Vec F S512x128 .f32) (x14 : Vec F S64x128 .f32) :
    out0_15 i x0 x1 x2 x3 x4 x5 x6 x7 x8 x9 x10 x11 x12 x13 x14 = View.canon [
    ⟨r0_15, tileDq (BitVec.ofNat 32 (i 1).val) 384#32 4#32 5#32 12#32 13#32 0x3C214518#32 0x3B800000#32 (midOf 448 256 slices_S640x384_o448_256_S128x128 (win x0 x1 x2)) (midOf 448 256 slices_S640x384_o448_256_S128x128 (win x9 x10 x11)) (extOf 384 256 slices_S640x384_o384_256_S256x128 (win x3 x4 x5)) (extOf 384 256 slices_S640x384_o384_256_S256x128 (win x6 x7 x8)) (midLd 448 slices_S640x128_o448_0_S128x128 (winLd x12 x13 x14))⟩,
    ⟨r0_14, tileDq (BitVec.ofNat 32 (i 1).val) 384#32 2#32 3#32 10#32 11#32 0x3D800000#32 0x3CCB2FF5#32 (midOf 448 128 slices_S640x384_o448_128_S128x128 (win x0 x1 x2)) (midOf 448 128 slices_S640x384_o448_128_S128x128 (win x9 x10 x11)) (extOf 384 128 slices_S640x384_o384_128_S256x128 (win x3 x4 x5)) (extOf 384 128 slices_S640x384_o384_128_S256x128 (win x6 x7 x8)) (midLd 448 slices_S640x128_o448_0_S128x128 (winLd x12 x13 x14))⟩,
    ⟨r0_13, tileDq (BitVec.ofNat 32 (i 1).val) 384#32 0#32 1#32 8#32 9#32 0x3ECB2FF5#32 0x3E214518#32 (midOf 448 0 slices_S640x384_o448_0_S128x128 (win x0 x1 x2)) (midOf 448 0 slices_S640x384_o448_0_S128x128 (win x9 x10 x11)) (extOf 384 0 slices_S640x384_o384_0_S256x128 (win x3 x4 x5)) (extOf 384 0 slices_S640x384_o384_0_S256x128 (win x6 x7 x8)) (midLd 448 slices_S640x128_o448_0_S128x128 (winLd x12 x13 x14))⟩,
    ⟨r0_12, tileDq (BitVec.ofNat 32 (i 1).val) 256#32 4#32 5#32 12#32 13#32 0x3C214518#32 0x3B800000#32 (midOf 320 256 slices_S640x384_o320_256_S128x128 (win x0 x1 x2)) (midOf 320 256 slices_S640x384_o320_256_S128x128 (win x9 x10 x11)) (extOf 256 256 slices_S640x384_o256_256_S256x128 (win x3 x4 x5)) (extOf 256 256 slices_S640x384_o256_256_S256x128 (win x6 x7 x8)) (midLd 320 slices_S640x128_o320_0_S128x128 (winLd x12 x13 x14))⟩,
    ⟨r0_11, tileDq (BitVec.ofNat 32 (i 1).val) 256#32 2#32 3#32 10#32 11#32 0x3D800000#32 0x3CCB2FF5#32 (midOf 320 128 slices_S640x384_o320_128_S128x128 (win x0 x1 x2)) (midOf 320 128 slices_S640x384_o320_128_S128x128 (win x9 x10 x11)) (extOf 256 128 slices_S640x384_o256_128_S256x128 (win x3 x4 x5)) (extOf 256 128 slices_S640x384_o256_128_S256x128 (win x6 x7 x8)) (midLd 320 slices_S640x128_o320_0_S128x128 (winLd x12 x13 x14))⟩,
    ⟨r0_10, tileDq (BitVec.ofNat 32 (i 1).val) 256#32 0#32 1#32 8#32 9#32 0x3ECB2FF5#32 0x3E214518#32 (midOf 320 0 slices_S640x384_o320_0_S128x128 (win x0 x1 x2)) (midOf 320 0 slices_S640x384_o320_0_S128x128 (win x9 x10 x11)) (extOf 256 0 slices_S640x384_o256_0_S256x128 (win x3 x4 x5)) (extOf 256 0 slices_S640x384_o256_0_S256x128 (win x6 x7 x8)) (midLd 320 slices_S640x128_o320_0_S128x128 (winLd x12 x13 x14))⟩,
    ⟨r0_9, tileDq (BitVec.ofNat 32 (i 1).val) 128#32 4#32 5#32 12#32 13#32 0x3C214518#32 0x3B800000#32 (midOf 192 256 slices_S640x384_o192_256_S128x128 (win x0 x1 x2)) (midOf 192 256 slices_S640x384_o192_256_S128x128 (win x9 x10 x11)) (extOf 128 256 slices_S640x384_o128_256_S256x128 (win x3 x4 x5)) (extOf 128 256 slices_S640x384_o128_256_S256x128 (win x6 x7 x8)) (midLd 192 slices_S640x128_o192_0_S128x128 (winLd x12 x13 x14))⟩,
    ⟨r0_8, tileDq (BitVec.ofNat 32 (i 1).val) 128#32 2#32 3#32 10#32 11#32 0x3D800000#32 0x3CCB2FF5#32 (midOf 192 128 slices_S640x384_o192_128_S128x128 (win x0 x1 x2)) (midOf 192 128 slices_S640x384_o192_128_S128x128 (win x9 x10 x11)) (extOf 128 128 slices_S640x384_o128_128_S256x128 (win x3 x4 x5)) (extOf 128 128 slices_S640x384_o128_128_S256x128 (win x6 x7 x8)) (midLd 192 slices_S640x128_o192_0_S128x128 (winLd x12 x13 x14))⟩,
    ⟨r0_7, tileDq (BitVec.ofNat 32 (i 1).val) 128#32 0#32 1#32 8#32 9#32 0x3ECB2FF5#32 0x3E214518#32 (midOf 192 0 slices_S640x384_o192_0_S128x128 (win x0 x1 x2)) (midOf 192 0 slices_S640x384_o192_0_S128x128 (win x9 x10 x11)) (extOf 128 0 slices_S640x384_o128_0_S256x128 (win x3 x4 x5)) (extOf 128 0 slices_S640x384_o128_0_S256x128 (win x6 x7 x8)) (midLd 192 slices_S640x128_o192_0_S128x128 (winLd x12 x13 x14))⟩,
    ⟨r0_6, tileDq (BitVec.ofNat 32 (i 1).val) 0#32 4#32 5#32 12#32 13#32 0x3C214518#32 0x3B800000#32 (midOf 64 256 slices_S640x384_o64_256_S128x128 (win x0 x1 x2)) (midOf 64 256 slices_S640x384_o64_256_S128x128 (win x9 x10 x11)) (extOf 0 256 slices_S640x384_o0_256_S256x128 (win x3 x4 x5)) (extOf 0 256 slices_S640x384_o0_256_S256x128 (win x6 x7 x8)) (midLd 64 slices_S640x128_o64_0_S128x128 (winLd x12 x13 x14))⟩,
    ⟨r0_5, tileDq (BitVec.ofNat 32 (i 1).val) 0#32 2#32 3#32 10#32 11#32 0x3D800000#32 0x3CCB2FF5#32 (midOf 64 128 slices_S640x384_o64_128_S128x128 (win x0 x1 x2)) (midOf 64 128 slices_S640x384_o64_128_S128x128 (win x9 x10 x11)) (extOf 0 128 slices_S640x384_o0_128_S256x128 (win x3 x4 x5)) (extOf 0 128 slices_S640x384_o0_128_S256x128 (win x6 x7 x8)) (midLd 64 slices_S640x128_o64_0_S128x128 (winLd x12 x13 x14))⟩,
    ⟨r0_4, tileDq (BitVec.ofNat 32 (i 1).val) 0#32 0#32 1#32 8#32 9#32 0x3ECB2FF5#32 0x3E214518#32 (midOf 64 0 slices_S640x384_o64_0_S128x128 (win x0 x1 x2)) (midOf 64 0 slices_S640x384_o64_0_S128x128 (win x9 x10 x11)) (extOf 0 0 slices_S640x384_o0_0_S256x128 (win x3 x4 x5)) (extOf 0 0 slices_S640x384_o0_0_S256x128 (win x6 x7 x8)) (midLd 64 slices_S640x128_o64_0_S128x128 (winLd x12 x13 x14))⟩] := by
  dsimp only [out0_15,
    k0_pay3, k0_pay4, k0_pay5, k0_pay6, k0_pay10, k0_pay11, k0_pay12, k0_pay13, k0_pay14, k0_pay16, k0_pay18,
    k0_pay21, k0_pay23, k0_pay24, k0_pay26, k0_pay29, k0_pay30, k0_pay31, k0_pay32, k0_pay38, k0_pay39,
    k0_pay40, k0_pay41, k0_pay47, k0_pay50, k0_pay53, k0_pay55, k0_pay56, k0_pay58, k0_pay61, k0_pay62,
    k0_pay63, k0_pay64, k0_pay70, k0_pay71, k0_pay72, k0_pay73, k0_pay79, k0_pay82, k0_pay85, k0_pay87,
    k0_pay88, k0_pay90, k0_pay93, k0_pay94, k0_pay95, k0_pay96, k0_pay102, k0_pay103, k0_pay104, k0_pay109,
    k0_pay112, k0_pay114, k0_pay116, k0_pay119, k0_pay121, k0_pay122, k0_pay124, k0_pay127, k0_pay128,
    k0_pay129, k0_pay130, k0_pay131, k0_pay132, k0_pay137, k0_pay138, k0_pay139, k0_pay140, k0_pay143,
    k0_pay146, k0_pay149, k0_pay151, k0_pay152, k0_pay154, k0_pay157, k0_pay158, k0_pay159, k0_pay160,
    k0_pay161, k0_pay166, k0_pay167, k0_pay168, k0_pay171, k0_pay174, k0_pay177, k0_pay179, k0_pay180,
    k0_pay182, k0_pay185, k0_pay186, k0_pay187, k0_pay188, k0_pay189, k0_pay194, k0_pay195, k0_pay196,
    k0_pay198, k0_pay201, k0_pay203, k0_pay205, k0_pay208, k0_pay210, k0_pay211, k0_pay213, k0_pay216,
    k0_pay217, k0_pay218, k0_pay223, k0_pay224, k0_pay225, k0_pay230, k0_pay233, k0_pay236, k0_pay238,
    k0_pay239, k0_pay241, k0_pay244, k0_pay245, k0_pay246, k0_pay251, k0_pay252, k0_pay253, k0_pay258,
    k0_pay261, k0_pay264, k0_pay266, k0_pay267, k0_pay269, k0_pay272, k0_pay273, k0_pay274, k0_pay279,
    k0_pay280, k0_pay281, k0_pay282, k0_pay288, k0_pay291, k0_pay294, k0_pay296, k0_pay299, k0_pay301,
    k0_pay302, k0_pay304, k0_pay307, k0_pay308, k0_pay309, k0_pay314, k0_pay315, k0_pay316, k0_pay321,
    k0_pay325, k0_pay328, k0_pay330, k0_pay331, k0_pay333, k0_pay336, k0_pay337, k0_pay338, k0_pay343,
    k0_pay344, k0_pay345, k0_pay350, k0_pay353, k0_pay356, k0_pay358, k0_pay359, k0_pay361, k0_pay364,
    k0_pay365, k0_pay366, k0_pay367, k0_pay373, k0_pay374, k0_pay375, k0_pay380, k0_pay381, k0_pay382,
    k0_pay383, k0_pay386, k0_pay387, k0_pay388, k0_pay389, k0_pay390, k0_pay392, k0_pay396, k0_pay398,
    k0_pay399, k0_pay401, k0_pay404, k0_pay409, k0_pay411, k0_pay412, k0_pay414, k0_pay417, k0_pay422,
    k0_pay424, k0_pay425, k0_pay427, k0_pay430, k0_pay432, k0_pay434, k0_pay436, k0_pay439, k0_pay441,
    k0_pay442, k0_pay444, k0_pay445, k0_pay446, k0_pay449, k0_pay451, k0_pay452, k0_pay454, k0_pay455,
    k0_pay456, k0_pay459, k0_pay461, k0_pay463, k0_pay464, k0_pay466, k0_pay468, k0_pay472, k0_pay474,
    k0_pay475, k0_pay477, k0_pay479, k0_pay480, k0_pay483, k0_pay485, k0_pay486, k0_pay488, k0_pay490,
    k0_pay491, k0_pay494, k0_pay496, k0_pay497, k0_pay499, k0_pay502, k0_pay503, k0_pay505, k0_pay509,
    k0_pay511, k0_pay512, k0_pay514, k0_pay516, k0_pay521, k0_pay523, k0_pay524, k0_pay526, k0_pay528,
    k0_pay533, k0_pay535, k0_pay536, k0_pay538, k0_pay541, tileDq, dqOf, dsQ, probQ, scaleOut, none128,
    only128, pick128, rows128, headLanes, oneLane, midOf, extOf, midLd, distQ, validQ, relQ, startWord, halo,
    haloLd, win, winLd]

/-- The keys' gradient, tile by tile. -/
theorem out_dk (i : grid0.Coords) (x0 : Vec F S64x384 .bf16) (x1 : Vec F S512x384 .bf16) (x2 : Vec F S64x384 .bf16) (x3 : Vec F S64x384 .bf16) (x4 : Vec F S512x384 .bf16) (x5 : Vec F S64x384 .bf16) (x6 : Vec F S64x384 .bf16) (x7 : Vec F S512x384 .bf16) (x8 : Vec F S64x384 .bf16) (x9 : Vec F S64x384 .bf16) (x10 : Vec F S512x384 .bf16) (x11 : Vec F S64x384 .bf16) (x12 : Vec F S64x128 .f32) (x13 : Vec F S512x128 .f32) (x14 : Vec F S64x128 .f32) :
    out0_16 i x0 x1 x2 x3 x4 x5 x6 x7 x8 x9 x10 x11 x12 x13 x14 = View.canon [
    ⟨r0_15, tileDk (BitVec.ofNat 32 (i 1).val) 384#32 4#32 5#32 12#32 13#32 0x3C214518#32 0x3B800000#32 (extOf 384 256 slices_S640x384_o384_256_S256x128 (win x0 x1 x2)) (extOf 384 256 slices_S640x384_o384_256_S256x128 (win x9 x10 x11)) (midOf 448 256 slices_S640x384_o448_256_S128x128 (win x3 x4 x5)) (midOf 448 256 slices_S640x384_o448_256_S128x128 (win x6 x7 x8)) (extLd 384 slices_S640x128_o384_0_S256x128 (winLd x12 x13 x14))⟩,
    ⟨r0_14, tileDk (BitVec.ofNat 32 (i 1).val) 384#32 2#32 3#32 10#32 11#32 0x3D800000#32 0x3CCB2FF5#32 (extOf 384 128 slices_S640x384_o384_128_S256x128 (win x0 x1 x2)) (extOf 384 128 slices_S640x384_o384_128_S256x128 (win x9 x10 x11)) (midOf 448 128 slices_S640x384_o448_128_S128x128 (win x3 x4 x5)) (midOf 448 128 slices_S640x384_o448_128_S128x128 (win x6 x7 x8)) (extLd 384 slices_S640x128_o384_0_S256x128 (winLd x12 x13 x14))⟩,
    ⟨r0_13, tileDk (BitVec.ofNat 32 (i 1).val) 384#32 0#32 1#32 8#32 9#32 0x3ECB2FF5#32 0x3E214518#32 (extOf 384 0 slices_S640x384_o384_0_S256x128 (win x0 x1 x2)) (extOf 384 0 slices_S640x384_o384_0_S256x128 (win x9 x10 x11)) (midOf 448 0 slices_S640x384_o448_0_S128x128 (win x3 x4 x5)) (midOf 448 0 slices_S640x384_o448_0_S128x128 (win x6 x7 x8)) (extLd 384 slices_S640x128_o384_0_S256x128 (winLd x12 x13 x14))⟩,
    ⟨r0_12, tileDk (BitVec.ofNat 32 (i 1).val) 256#32 4#32 5#32 12#32 13#32 0x3C214518#32 0x3B800000#32 (extOf 256 256 slices_S640x384_o256_256_S256x128 (win x0 x1 x2)) (extOf 256 256 slices_S640x384_o256_256_S256x128 (win x9 x10 x11)) (midOf 320 256 slices_S640x384_o320_256_S128x128 (win x3 x4 x5)) (midOf 320 256 slices_S640x384_o320_256_S128x128 (win x6 x7 x8)) (extLd 256 slices_S640x128_o256_0_S256x128 (winLd x12 x13 x14))⟩,
    ⟨r0_11, tileDk (BitVec.ofNat 32 (i 1).val) 256#32 2#32 3#32 10#32 11#32 0x3D800000#32 0x3CCB2FF5#32 (extOf 256 128 slices_S640x384_o256_128_S256x128 (win x0 x1 x2)) (extOf 256 128 slices_S640x384_o256_128_S256x128 (win x9 x10 x11)) (midOf 320 128 slices_S640x384_o320_128_S128x128 (win x3 x4 x5)) (midOf 320 128 slices_S640x384_o320_128_S128x128 (win x6 x7 x8)) (extLd 256 slices_S640x128_o256_0_S256x128 (winLd x12 x13 x14))⟩,
    ⟨r0_10, tileDk (BitVec.ofNat 32 (i 1).val) 256#32 0#32 1#32 8#32 9#32 0x3ECB2FF5#32 0x3E214518#32 (extOf 256 0 slices_S640x384_o256_0_S256x128 (win x0 x1 x2)) (extOf 256 0 slices_S640x384_o256_0_S256x128 (win x9 x10 x11)) (midOf 320 0 slices_S640x384_o320_0_S128x128 (win x3 x4 x5)) (midOf 320 0 slices_S640x384_o320_0_S128x128 (win x6 x7 x8)) (extLd 256 slices_S640x128_o256_0_S256x128 (winLd x12 x13 x14))⟩,
    ⟨r0_9, tileDk (BitVec.ofNat 32 (i 1).val) 128#32 4#32 5#32 12#32 13#32 0x3C214518#32 0x3B800000#32 (extOf 128 256 slices_S640x384_o128_256_S256x128 (win x0 x1 x2)) (extOf 128 256 slices_S640x384_o128_256_S256x128 (win x9 x10 x11)) (midOf 192 256 slices_S640x384_o192_256_S128x128 (win x3 x4 x5)) (midOf 192 256 slices_S640x384_o192_256_S128x128 (win x6 x7 x8)) (extLd 128 slices_S640x128_o128_0_S256x128 (winLd x12 x13 x14))⟩,
    ⟨r0_8, tileDk (BitVec.ofNat 32 (i 1).val) 128#32 2#32 3#32 10#32 11#32 0x3D800000#32 0x3CCB2FF5#32 (extOf 128 128 slices_S640x384_o128_128_S256x128 (win x0 x1 x2)) (extOf 128 128 slices_S640x384_o128_128_S256x128 (win x9 x10 x11)) (midOf 192 128 slices_S640x384_o192_128_S128x128 (win x3 x4 x5)) (midOf 192 128 slices_S640x384_o192_128_S128x128 (win x6 x7 x8)) (extLd 128 slices_S640x128_o128_0_S256x128 (winLd x12 x13 x14))⟩,
    ⟨r0_7, tileDk (BitVec.ofNat 32 (i 1).val) 128#32 0#32 1#32 8#32 9#32 0x3ECB2FF5#32 0x3E214518#32 (extOf 128 0 slices_S640x384_o128_0_S256x128 (win x0 x1 x2)) (extOf 128 0 slices_S640x384_o128_0_S256x128 (win x9 x10 x11)) (midOf 192 0 slices_S640x384_o192_0_S128x128 (win x3 x4 x5)) (midOf 192 0 slices_S640x384_o192_0_S128x128 (win x6 x7 x8)) (extLd 128 slices_S640x128_o128_0_S256x128 (winLd x12 x13 x14))⟩,
    ⟨r0_6, tileDk (BitVec.ofNat 32 (i 1).val) 0#32 4#32 5#32 12#32 13#32 0x3C214518#32 0x3B800000#32 (extOf 0 256 slices_S640x384_o0_256_S256x128 (win x0 x1 x2)) (extOf 0 256 slices_S640x384_o0_256_S256x128 (win x9 x10 x11)) (midOf 64 256 slices_S640x384_o64_256_S128x128 (win x3 x4 x5)) (midOf 64 256 slices_S640x384_o64_256_S128x128 (win x6 x7 x8)) (extLd 0 slices_S640x128_o0_0_S256x128 (winLd x12 x13 x14))⟩,
    ⟨r0_5, tileDk (BitVec.ofNat 32 (i 1).val) 0#32 2#32 3#32 10#32 11#32 0x3D800000#32 0x3CCB2FF5#32 (extOf 0 128 slices_S640x384_o0_128_S256x128 (win x0 x1 x2)) (extOf 0 128 slices_S640x384_o0_128_S256x128 (win x9 x10 x11)) (midOf 64 128 slices_S640x384_o64_128_S128x128 (win x3 x4 x5)) (midOf 64 128 slices_S640x384_o64_128_S128x128 (win x6 x7 x8)) (extLd 0 slices_S640x128_o0_0_S256x128 (winLd x12 x13 x14))⟩,
    ⟨r0_4, tileDk (BitVec.ofNat 32 (i 1).val) 0#32 0#32 1#32 8#32 9#32 0x3ECB2FF5#32 0x3E214518#32 (extOf 0 0 slices_S640x384_o0_0_S256x128 (win x0 x1 x2)) (extOf 0 0 slices_S640x384_o0_0_S256x128 (win x9 x10 x11)) (midOf 64 0 slices_S640x384_o64_0_S128x128 (win x3 x4 x5)) (midOf 64 0 slices_S640x384_o64_0_S128x128 (win x6 x7 x8)) (extLd 0 slices_S640x128_o0_0_S256x128 (winLd x12 x13 x14))⟩] := by
  dsimp only [out0_16,
    k0_pay1, k0_pay3, k0_pay7, k0_pay8, k0_pay9, k0_pay10, k0_pay11, k0_pay12, k0_pay13, k0_pay15, k0_pay17,
    k0_pay19, k0_pay20, k0_pay22, k0_pay25, k0_pay27, k0_pay29, k0_pay33, k0_pay34, k0_pay35, k0_pay37,
    k0_pay38, k0_pay42, k0_pay43, k0_pay44, k0_pay46, k0_pay48, k0_pay51, k0_pay52, k0_pay54, k0_pay57,
    k0_pay59, k0_pay61, k0_pay65, k0_pay66, k0_pay67, k0_pay69, k0_pay70, k0_pay74, k0_pay75, k0_pay76,
    k0_pay78, k0_pay80, k0_pay83, k0_pay84, k0_pay86, k0_pay89, k0_pay91, k0_pay93, k0_pay97, k0_pay98,
    k0_pay99, k0_pay101, k0_pay102, k0_pay105, k0_pay106, k0_pay108, k0_pay110, k0_pay113, k0_pay115,
    k0_pay117, k0_pay118, k0_pay120, k0_pay123, k0_pay125, k0_pay127, k0_pay133, k0_pay135, k0_pay136,
    k0_pay137, k0_pay141, k0_pay144, k0_pay147, k0_pay148, k0_pay150, k0_pay153, k0_pay155, k0_pay157,
    k0_pay162, k0_pay164, k0_pay165, k0_pay166, k0_pay169, k0_pay172, k0_pay175, k0_pay176, k0_pay178,
    k0_pay181, k0_pay183, k0_pay185, k0_pay190, k0_pay192, k0_pay193, k0_pay194, k0_pay197, k0_pay199,
    k0_pay202, k0_pay204, k0_pay206, k0_pay207, k0_pay209, k0_pay212, k0_pay214, k0_pay216, k0_pay219,
    k0_pay220, k0_pay222, k0_pay223, k0_pay226, k0_pay228, k0_pay229, k0_pay231, k0_pay234, k0_pay235,
    k0_pay237, k0_pay240, k0_pay242, k0_pay244, k0_pay247, k0_pay248, k0_pay250, k0_pay251, k0_pay254,
    k0_pay256, k0_pay257, k0_pay259, k0_pay262, k0_pay263, k0_pay265, k0_pay268, k0_pay270, k0_pay272,
    k0_pay275, k0_pay276, k0_pay278, k0_pay279, k0_pay283, k0_pay285, k0_pay286, k0_pay287, k0_pay289,
    k0_pay292, k0_pay293, k0_pay295, k0_pay297, k0_pay298, k0_pay300, k0_pay303, k0_pay305, k0_pay307,
    k0_pay310, k0_pay311, k0_pay313, k0_pay314, k0_pay317, k0_pay318, k0_pay320, k0_pay322, k0_pay323,
    k0_pay326, k0_pay327, k0_pay329, k0_pay332, k0_pay334, k0_pay336, k0_pay339, k0_pay340, k0_pay342,
    k0_pay343, k0_pay346, k0_pay347, k0_pay349, k0_pay351, k0_pay354, k0_pay355, k0_pay357, k0_pay360,
    k0_pay362, k0_pay364, k0_pay368, k0_pay369, k0_pay370, k0_pay372, k0_pay373, k0_pay376, k0_pay377,
    k0_pay379, k0_pay381, k0_pay384, k0_pay385, k0_pay386, k0_pay387, k0_pay388, k0_pay389, k0_pay391,
    k0_pay393, k0_pay394, k0_pay395, k0_pay397, k0_pay400, k0_pay401, k0_pay402, k0_pay403, k0_pay404,
    k0_pay405, k0_pay406, k0_pay407, k0_pay408, k0_pay410, k0_pay413, k0_pay414, k0_pay415, k0_pay416,
    k0_pay417, k0_pay418, k0_pay419, k0_pay420, k0_pay421, k0_pay423, k0_pay426, k0_pay427, k0_pay428,
    k0_pay429, k0_pay430, k0_pay431, k0_pay433, k0_pay435, k0_pay437, k0_pay438, k0_pay440, k0_pay443,
    k0_pay444, k0_pay445, k0_pay447, k0_pay448, k0_pay450, k0_pay453, k0_pay454, k0_pay455, k0_pay457,
    k0_pay458, k0_pay460, k0_pay462, k0_pay463, k0_pay464, k0_pay465, k0_pay467, k0_pay469, k0_pay470,
    k0_pay471, k0_pay473, k0_pay476, k0_pay477, k0_pay478, k0_pay479, k0_pay480, k0_pay481, k0_pay482,
    k0_pay484, k0_pay487, k0_pay488, k0_pay489, k0_pay490, k0_pay491, k0_pay492, k0_pay493, k0_pay495,
    k0_pay498, k0_pay499, k0_pay500, k0_pay501, k0_pay502, k0_pay504, k0_pay506, k0_pay507, k0_pay508,
    k0_pay510, k0_pay513, k0_pay514, k0_pay515, k0_pay516, k0_pay517, k0_pay518, k0_pay519, k0_pay520,
    k0_pay522, k0_pay525, k0_pay526, k0_pay527, k0_pay528, k0_pay529, k0_pay530, k0_pay531, k0_pay532,
    k0_pay534, k0_pay537, k0_pay538, k0_pay539, k0_pay540, k0_pay541, k0_pay542, tileDk, dkOf, dsK, probK,
    scaleOut, none128, only256, pick256, rows128, rows256, headLanes, oneLane, midOf, extOf, extLd, distK,
    validK, relK, startWord, halo, haloLd, win, winLd]

/-- The values' gradient, tile by tile. -/
theorem out_dv (i : grid0.Coords) (x0 : Vec F S64x384 .bf16) (x1 : Vec F S512x384 .bf16) (x2 : Vec F S64x384 .bf16) (x3 : Vec F S64x384 .bf16) (x4 : Vec F S512x384 .bf16) (x5 : Vec F S64x384 .bf16) (x6 : Vec F S64x384 .bf16) (x7 : Vec F S512x384 .bf16) (x8 : Vec F S64x384 .bf16) (x9 : Vec F S64x384 .bf16) (x10 : Vec F S512x384 .bf16) (x11 : Vec F S64x384 .bf16) (x12 : Vec F S64x128 .f32) (x13 : Vec F S512x128 .f32) (x14 : Vec F S64x128 .f32) :
    out0_17 i x0 x1 x2 x3 x4 x5 x6 x7 x8 x9 x10 x11 x12 x13 x14 = View.canon [
    ⟨r0_15, tileDv (BitVec.ofNat 32 (i 1).val) 384#32 4#32 5#32 0x3C214518#32 0x3B800000#32 (extOf 384 256 slices_S640x384_o384_256_S256x128 (win x0 x1 x2)) (extOf 384 256 slices_S640x384_o384_256_S256x128 (win x9 x10 x11)) (midOf 448 256 slices_S640x384_o448_256_S128x128 (win x3 x4 x5)) (extLd 384 slices_S640x128_o384_0_S256x128 (winLd x12 x13 x14))⟩,
    ⟨r0_14, tileDv (BitVec.ofNat 32 (i 1).val) 384#32 2#32 3#32 0x3D800000#32 0x3CCB2FF5#32 (extOf 384 128 slices_S640x384_o384_128_S256x128 (win x0 x1 x2)) (extOf 384 128 slices_S640x384_o384_128_S256x128 (win x9 x10 x11)) (midOf 448 128 slices_S640x384_o448_128_S128x128 (win x3 x4 x5)) (extLd 384 slices_S640x128_o384_0_S256x128 (winLd x12 x13 x14))⟩,
    ⟨r0_13, tileDv (BitVec.ofNat 32 (i 1).val) 384#32 0#32 1#32 0x3ECB2FF5#32 0x3E214518#32 (extOf 384 0 slices_S640x384_o384_0_S256x128 (win x0 x1 x2)) (extOf 384 0 slices_S640x384_o384_0_S256x128 (win x9 x10 x11)) (midOf 448 0 slices_S640x384_o448_0_S128x128 (win x3 x4 x5)) (extLd 384 slices_S640x128_o384_0_S256x128 (winLd x12 x13 x14))⟩,
    ⟨r0_12, tileDv (BitVec.ofNat 32 (i 1).val) 256#32 4#32 5#32 0x3C214518#32 0x3B800000#32 (extOf 256 256 slices_S640x384_o256_256_S256x128 (win x0 x1 x2)) (extOf 256 256 slices_S640x384_o256_256_S256x128 (win x9 x10 x11)) (midOf 320 256 slices_S640x384_o320_256_S128x128 (win x3 x4 x5)) (extLd 256 slices_S640x128_o256_0_S256x128 (winLd x12 x13 x14))⟩,
    ⟨r0_11, tileDv (BitVec.ofNat 32 (i 1).val) 256#32 2#32 3#32 0x3D800000#32 0x3CCB2FF5#32 (extOf 256 128 slices_S640x384_o256_128_S256x128 (win x0 x1 x2)) (extOf 256 128 slices_S640x384_o256_128_S256x128 (win x9 x10 x11)) (midOf 320 128 slices_S640x384_o320_128_S128x128 (win x3 x4 x5)) (extLd 256 slices_S640x128_o256_0_S256x128 (winLd x12 x13 x14))⟩,
    ⟨r0_10, tileDv (BitVec.ofNat 32 (i 1).val) 256#32 0#32 1#32 0x3ECB2FF5#32 0x3E214518#32 (extOf 256 0 slices_S640x384_o256_0_S256x128 (win x0 x1 x2)) (extOf 256 0 slices_S640x384_o256_0_S256x128 (win x9 x10 x11)) (midOf 320 0 slices_S640x384_o320_0_S128x128 (win x3 x4 x5)) (extLd 256 slices_S640x128_o256_0_S256x128 (winLd x12 x13 x14))⟩,
    ⟨r0_9, tileDv (BitVec.ofNat 32 (i 1).val) 128#32 4#32 5#32 0x3C214518#32 0x3B800000#32 (extOf 128 256 slices_S640x384_o128_256_S256x128 (win x0 x1 x2)) (extOf 128 256 slices_S640x384_o128_256_S256x128 (win x9 x10 x11)) (midOf 192 256 slices_S640x384_o192_256_S128x128 (win x3 x4 x5)) (extLd 128 slices_S640x128_o128_0_S256x128 (winLd x12 x13 x14))⟩,
    ⟨r0_8, tileDv (BitVec.ofNat 32 (i 1).val) 128#32 2#32 3#32 0x3D800000#32 0x3CCB2FF5#32 (extOf 128 128 slices_S640x384_o128_128_S256x128 (win x0 x1 x2)) (extOf 128 128 slices_S640x384_o128_128_S256x128 (win x9 x10 x11)) (midOf 192 128 slices_S640x384_o192_128_S128x128 (win x3 x4 x5)) (extLd 128 slices_S640x128_o128_0_S256x128 (winLd x12 x13 x14))⟩,
    ⟨r0_7, tileDv (BitVec.ofNat 32 (i 1).val) 128#32 0#32 1#32 0x3ECB2FF5#32 0x3E214518#32 (extOf 128 0 slices_S640x384_o128_0_S256x128 (win x0 x1 x2)) (extOf 128 0 slices_S640x384_o128_0_S256x128 (win x9 x10 x11)) (midOf 192 0 slices_S640x384_o192_0_S128x128 (win x3 x4 x5)) (extLd 128 slices_S640x128_o128_0_S256x128 (winLd x12 x13 x14))⟩,
    ⟨r0_6, tileDv (BitVec.ofNat 32 (i 1).val) 0#32 4#32 5#32 0x3C214518#32 0x3B800000#32 (extOf 0 256 slices_S640x384_o0_256_S256x128 (win x0 x1 x2)) (extOf 0 256 slices_S640x384_o0_256_S256x128 (win x9 x10 x11)) (midOf 64 256 slices_S640x384_o64_256_S128x128 (win x3 x4 x5)) (extLd 0 slices_S640x128_o0_0_S256x128 (winLd x12 x13 x14))⟩,
    ⟨r0_5, tileDv (BitVec.ofNat 32 (i 1).val) 0#32 2#32 3#32 0x3D800000#32 0x3CCB2FF5#32 (extOf 0 128 slices_S640x384_o0_128_S256x128 (win x0 x1 x2)) (extOf 0 128 slices_S640x384_o0_128_S256x128 (win x9 x10 x11)) (midOf 64 128 slices_S640x384_o64_128_S128x128 (win x3 x4 x5)) (extLd 0 slices_S640x128_o0_0_S256x128 (winLd x12 x13 x14))⟩,
    ⟨r0_4, tileDv (BitVec.ofNat 32 (i 1).val) 0#32 0#32 1#32 0x3ECB2FF5#32 0x3E214518#32 (extOf 0 0 slices_S640x384_o0_0_S256x128 (win x0 x1 x2)) (extOf 0 0 slices_S640x384_o0_0_S256x128 (win x9 x10 x11)) (midOf 64 0 slices_S640x384_o64_0_S128x128 (win x3 x4 x5)) (extLd 0 slices_S640x128_o0_0_S256x128 (winLd x12 x13 x14))⟩] := by
  dsimp only [out0_17,
    k0_pay2, k0_pay3, k0_pay7, k0_pay8, k0_pay9, k0_pay10, k0_pay11, k0_pay13, k0_pay15, k0_pay17, k0_pay19,
    k0_pay22, k0_pay25, k0_pay28, k0_pay29, k0_pay33, k0_pay34, k0_pay35, k0_pay36, k0_pay38, k0_pay42,
    k0_pay43, k0_pay44, k0_pay45, k0_pay49, k0_pay51, k0_pay54, k0_pay57, k0_pay60, k0_pay61, k0_pay65,
    k0_pay66, k0_pay67, k0_pay68, k0_pay70, k0_pay74, k0_pay75, k0_pay76, k0_pay77, k0_pay81, k0_pay83,
    k0_pay86, k0_pay89, k0_pay92, k0_pay93, k0_pay97, k0_pay98, k0_pay99, k0_pay100, k0_pay102, k0_pay105,
    k0_pay106, k0_pay107, k0_pay111, k0_pay113, k0_pay115, k0_pay117, k0_pay120, k0_pay123, k0_pay126,
    k0_pay127, k0_pay133, k0_pay134, k0_pay137, k0_pay141, k0_pay142, k0_pay145, k0_pay147, k0_pay150,
    k0_pay153, k0_pay156, k0_pay157, k0_pay162, k0_pay163, k0_pay166, k0_pay169, k0_pay170, k0_pay173,
    k0_pay175, k0_pay178, k0_pay181, k0_pay184, k0_pay185, k0_pay190, k0_pay191, k0_pay194, k0_pay197,
    k0_pay200, k0_pay202, k0_pay204, k0_pay206, k0_pay209, k0_pay212, k0_pay215, k0_pay216, k0_pay219,
    k0_pay220, k0_pay221, k0_pay223, k0_pay226, k0_pay227, k0_pay232, k0_pay234, k0_pay237, k0_pay240,
    k0_pay243, k0_pay244, k0_pay247, k0_pay248, k0_pay249, k0_pay251, k0_pay254, k0_pay255, k0_pay260,
    k0_pay262, k0_pay265, k0_pay268, k0_pay271, k0_pay272, k0_pay275, k0_pay276, k0_pay277, k0_pay279,
    k0_pay283, k0_pay284, k0_pay290, k0_pay292, k0_pay293, k0_pay295, k0_pay297, k0_pay300, k0_pay303,
    k0_pay306, k0_pay307, k0_pay310, k0_pay311, k0_pay312, k0_pay314, k0_pay317, k0_pay318, k0_pay319,
    k0_pay324, k0_pay326, k0_pay329, k0_pay332, k0_pay335, k0_pay336, k0_pay339, k0_pay340, k0_pay341,
    k0_pay343, k0_pay346, k0_pay347, k0_pay348, k0_pay352, k0_pay354, k0_pay357, k0_pay360, k0_pay363,
    k0_pay364, k0_pay368, k0_pay369, k0_pay370, k0_pay371, k0_pay373, k0_pay376, k0_pay377, k0_pay378,
    k0_pay381, k0_pay384, k0_pay385, k0_pay386, k0_pay387, k0_pay389, k0_pay391, k0_pay393, k0_pay394,
    k0_pay397, k0_pay400, k0_pay401, k0_pay402, k0_pay403, k0_pay404, k0_pay405, k0_pay406, k0_pay407,
    k0_pay410, k0_pay413, k0_pay414, k0_pay415, k0_pay416, k0_pay417, k0_pay418, k0_pay419, k0_pay420,
    k0_pay423, k0_pay426, k0_pay427, k0_pay428, k0_pay429, k0_pay430, k0_pay431, k0_pay433, k0_pay435,
    k0_pay437, k0_pay440, k0_pay443, k0_pay444, k0_pay445, k0_pay447, k0_pay450, k0_pay453, k0_pay454,
    k0_pay455, k0_pay457, k0_pay460, k0_pay462, k0_pay463, k0_pay464, k0_pay465, k0_pay467, k0_pay469,
    k0_pay470, k0_pay473, k0_pay476, k0_pay477, k0_pay478, k0_pay479, k0_pay480, k0_pay481, k0_pay484,
    k0_pay487, k0_pay488, k0_pay489, k0_pay490, k0_pay491, k0_pay492, k0_pay495, k0_pay498, k0_pay499,
    k0_pay500, k0_pay501, k0_pay502, k0_pay504, k0_pay506, k0_pay507, k0_pay510, k0_pay513, k0_pay514,
    k0_pay515, k0_pay516, k0_pay517, k0_pay518, k0_pay519, k0_pay522, k0_pay525, k0_pay526, k0_pay527,
    k0_pay528, k0_pay529, k0_pay530, k0_pay531, k0_pay534, k0_pay537, k0_pay538, k0_pay539, k0_pay540,
    k0_pay541, k0_pay542, tileDv, dvOf, probK, roundOut, none128, only256, pick256, rows128, rows256,
    headLanes, oneLane, midOf, extOf, extLd, distK, validK, relK, startWord, halo, haloLd, win, winLd]

end Cert.KernelIdeal.Blk
-- ==== Proof.Window.lean ====
/- What the body leaves in its three output windows, over input windows that hold real numbers: at each
   row and column the banded attention's gradient of the column's head. -/
module

public import proofs.«01_k».proof.Proof.Tile
public import proofs.«01_k».proof.Proof.Pieces
public import Idealize.ShloMosaic.Lib.Pipeline.Value

@[expose] public section

noncomputable section

namespace Cert.KernelIdeal.Blk

open Idealize.ShloMosaic Idealize.SL.Sem Cert.KernelIdeal.Gen Cert.Band

/-! ## A residue's rows of six heads side by side -/

/-- The column of head `h`, dimension `d`. -/
def colOf (h : Fin 6) (d : Fin 64) : Fin 384 := ⟨64 * h.val + d.val, by omega⟩

/-- Head `h` of rows of six heads. -/
def hd (q : Fin 2048 → Fin 384 → ℝ) (h : Fin 6) : Fin 2048 → Fin 64 → ℝ := fun i d => q i (colOf h d)

/-- A column's head. -/
def headIx (x : Fin 384) : Fin 6 := ⟨x.val / 64, by omega⟩

/-- A column's dimension within its head. -/
def dimIx (x : Fin 384) : Fin 64 := ⟨x.val % 64, by omega⟩

/-- The lane of a row's log-sum for head `h`. -/
def sumLane (h : Fin 6) : Fin 128 := ⟨h.val, by omega⟩

/-- The lane of a row's dotted cotangent for head `h`. -/
def dotLane (h : Fin 6) : Fin 128 := ⟨h.val + 8, by omega⟩

section
variable (q k v g : Fin 2048 → Fin 384 → ℝ) (l : Fin 2048 → Fin 128 → ℝ)

/-- The queries' gradient of a residue, six heads side by side. -/
def resDq (i : Fin 2048) (x : Fin 384) : ℝ :=
  Band.dq (hd q (headIx x)) (hd k (headIx x)) (hd v (headIx x)) (hd g (headIx x)) (slope (headIx x))
    (fun i => l i (sumLane (headIx x))) (fun i => l i (dotLane (headIx x))) i (dimIx x)

/-- The keys' gradient of a residue. -/
def resDk (i : Fin 2048) (x : Fin 384) : ℝ :=
  Band.dk (hd q (headIx x)) (hd k (headIx x)) (hd v (headIx x)) (hd g (headIx x)) (slope (headIx x))
    (fun i => l i (sumLane (headIx x))) (fun i => l i (dotLane (headIx x))) i (dimIx x)

/-- The values' gradient of a residue. -/
def resDv (i : Fin 2048) (x : Fin 384) : ℝ :=
  Band.dv (hd q (headIx x)) (hd k (headIx x)) (hd g (headIx x)) (slope (headIx x))
    (fun i => l i (sumLane (headIx x))) i (dimIx x)
end

/-- The column of a pair's lane. -/
def pairCol (c : Fin 3) (x : Fin 128) : Fin 384 := ⟨128 * c.val + x.val, by omega⟩

/-- Head `b` of pair `c`. -/
def pairHead (c : Fin 3) (b : Fin 2) : Fin 6 := ⟨2 * c.val + b.val, by omega⟩

theorem headIx_pair (c : Fin 3) (b : Fin 2) (d : Fin 64) : headIx (pairCol c (lane b d)) = pairHead c b := by
  apply Fin.ext; simp only [headIx, pairCol, lane, pairHead]; omega

theorem dimIx_pair (c : Fin 3) (b : Fin 2) (d : Fin 64) : dimIx (pairCol c (lane b d)) = d := by
  apply Fin.ext; simp only [dimIx, pairCol, lane]; omega

theorem headOf_pair (q : Fin 2048 → Fin 384 → ℝ) (c : Fin 3) (b : Fin 2) :
    headOf (fun i x => q i (pairCol c x)) b = hd q (pairHead c b) := by
  funext i d
  show q i (pairCol c (lane b d)) = q i (colOf (pairHead c b) d)
  congr 1
  apply Fin.ext; simp only [pairCol, lane, colOf, pairHead]; omega

theorem lane_split (x : Fin 128) : ∃ b d, x = lane b d :=
  ⟨⟨x.val / 64, by omega⟩, ⟨x.val % 64, by omega⟩, by apply Fin.ext; simp only [lane]; omega⟩

/-- The row of an output window. -/
def orow (t : Fin 4) (y : Fin 512) : Fin 2048 := ⟨512 * t.val + y.val, by omega⟩

/-! ## The input windows' real numbers -/

/-- The five windows hold real numbers: rows of a residue, with the halo's rows. -/
structure Loads (t : Fin 4) (q k v g : Fin 2048 → Fin 384 → ℝ) (l : Fin 2048 → Fin 128 → ℝ)
    (Q K V G : FVec Ideal S640x384 .bf16) (L : FVec Ideal S640x128 .f32) : Prop where
  hQ : ∀ e x, Q (ix2 e x) = (q (wrow t e) x : EReal)
  hK : ∀ e x, K (ix2 e x) = (k (wrow t e) x : EReal)
  hV : ∀ e x, V (ix2 e x) = (v (wrow t e) x : EReal)
  hG : ∀ e x, G (ix2 e x) = (g (wrow t e) x : EReal)
  hL : ∀ e x, L (ix2 e x) = (l (wrow t e) x : EReal)

theorem midOf_at (a : Fin 4) (c : Fin 3) (h) (X : FVec Ideal S640x384 .bf16) (r x : Fin 128) :
    midOf (128 * a.val + 64) (128 * c.val) h X (ix2 r x) = X (ix2 ⟨128 * a.val + 64 + r.val, by omega⟩ (pairCol c x)) := by
  unfold midOf
  refine congrArg X (funext fun i => ?_)
  apply Fin.ext
  fin_cases i <;> simp [ix2, pairCol] <;> rfl

theorem extOf_at (a : Fin 4) (c : Fin 3) (h) (X : FVec Ideal S640x384 .bf16) (j : Fin 256) (x : Fin 128) :
    extOf (128 * a.val) (128 * c.val) h X (ix2 j x) = X (ix2 ⟨128 * a.val + j.val, by omega⟩ (pairCol c x)) := by
  unfold extOf
  refine congrArg X (funext fun i => ?_)
  apply Fin.ext
  fin_cases i <;> simp [ix2, pairCol] <;> rfl

theorem midLd_at (a : Fin 4) (h) (X : FVec Ideal S640x128 .f32) (r x : Fin 128) :
    midLd (128 * a.val + 64) h X (ix2 r x) = X (ix2 ⟨128 * a.val + 64 + r.val, by omega⟩ x) := by
  unfold midLd
  refine congrArg X (funext fun i => ?_)
  apply Fin.ext
  fin_cases i <;> simp [ix2] <;> rfl

theorem extLd_at (a : Fin 4) (h) (X : FVec Ideal S640x128 .f32) (j : Fin 256) (x : Fin 128) :
    extLd (128 * a.val) h X (ix2 j x) = X (ix2 ⟨128 * a.val + j.val, by omega⟩ x) := by
  unfold extLd
  refine congrArg X (funext fun i => ?_)
  apply Fin.ext
  fin_cases i <;> simp [ix2] <;> rfl

section
variable {t : Fin 4} {q k v g : Fin 2048 → Fin 384 → ℝ} {l : Fin 2048 → Fin 128 → ℝ}
    {Q K V G : FVec Ideal S640x384 .bf16} {L : FVec Ideal S640x128 .f32}

theorem given (H : Loads t q k v g l Q K V G L) (a : Fin 4) (c : Fin 3) (h1 h2 h3 h4) :
    Given t a (fun i x => q i (pairCol c x)) (fun i x => k i (pairCol c x)) (fun i x => v i (pairCol c x))
      (fun i x => g i (pairCol c x)) (fun b i => l i (sumLane (pairHead c b))) (fun b i => l i (dotLane (pairHead c b)))
      (fun b => sumLane (pairHead c b)) (fun b => dotLane (pairHead c b))
      (midOf (128 * a.val + 64) (128 * c.val) h1 Q) (midOf (128 * a.val + 64) (128 * c.val) h1 K)
      (midOf (128 * a.val + 64) (128 * c.val) h1 V) (midOf (128 * a.val + 64) (128 * c.val) h1 G)
      (extOf (128 * a.val) (128 * c.val) h2 Q) (extOf (128 * a.val) (128 * c.val) h2 K)
      (extOf (128 * a.val) (128 * c.val) h2 V) (extOf (128 * a.val) (128 * c.val) h2 G)
      (midLd (128 * a.val + 64) h3 L) (extLd (128 * a.val) h4 L) where
  hqm r x := by rw [midOf_at, H.hQ, wrow_mid]
  hkm r x := by rw [midOf_at, H.hK, wrow_mid]
  hvm r x := by rw [midOf_at, H.hV, wrow_mid]
  hgm r x := by rw [midOf_at, H.hG, wrow_mid]
  hqe j x := by rw [extOf_at, H.hQ]; rfl
  hke j x := by rw [extOf_at, H.hK]; rfl
  hve j x := by rw [extOf_at, H.hV]; rfl
  hge j x := by rw [extOf_at, H.hG]; rfl
  hlm b r := by rw [midLd_at, H.hL, wrow_mid]
  hdm b r := by rw [midLd_at, H.hL, wrow_mid]
  hle b j := by rw [extLd_at, H.hL]; rfl
  hde b j := by rw [extLd_at, H.hL]; rfl

/-- Where a tile's element lies in the output window. -/
theorem tile_emb (a : Fin 4) (c : Fin 3) (inb) (r : Fin 128) (b : Fin 2) (d : Fin 64) (f : Fin 2048 → Fin 384 → ℝ) :
    (fun y : S512x384.Idx => (f (orow t (y 0)) (y 1) : EReal))
        ((Rect.unit (s := S512x384) ![128 * a.val, 128 * c.val] S128x128.size inb).emb (ix2 r (lane b d)))
      = (f (mrow t a r) (pairCol c (lane b d)) : EReal) := by
  have e0 : orow t ((Rect.unit (s := S512x384) ![128 * a.val, 128 * c.val] S128x128.size inb).emb (ix2 r (lane b d)) 0)
      = mrow t a r := by
    apply Fin.ext
    show 512 * t.val + (128 * a.val + 1 * r.val) = 512 * t.val + 128 * a.val + r.val
    omega
  have e1 : (Rect.unit (s := S512x384) ![128 * a.val, 128 * c.val] S128x128.size inb).emb (ix2 r (lane b d)) 1
      = pairCol c (lane b d) := by
    apply Fin.ext
    show 128 * c.val + 1 * (lane b d).val = 128 * c.val + (lane b d).val
    omega
  show (f (orow t _) _ : EReal) = _
  rw [e0, e1]

theorem slicesExt (a : Fin 4) : S640x128.Slices ![128 * a.val, 0] S256x128 := by revert a; decide

theorem slicesMid (a : Fin 4) : S640x128.Slices ![128 * a.val + 64, 0] S128x128 := by revert a; decide

theorem pieceDq (H : Loads t q k v g l Q K V G L) (a : Fin 4) (c : Fin 3) (inb h1 h2 h3) (x : S128x128.Idx) :
    tileDq (BitVec.ofNat 32 t.val) (BitVec.ofNat 32 (128 * a.val))
        (BitVec.ofNat 32 (2 * c.val + 0)) (BitVec.ofNat 32 (2 * c.val + 1))
        (BitVec.ofNat 32 (2 * c.val + 0 + 8)) (BitVec.ofNat 32 (2 * c.val + 1 + 8))
        (slopeWord (pairHead c 0)) (slopeWord (pairHead c 1))
        (midOf (128 * a.val + 64) (128 * c.val) h1 Q) (midOf (128 * a.val + 64) (128 * c.val) h1 G)
        (extOf (128 * a.val) (128 * c.val) h2 K) (extOf (128 * a.val) (128 * c.val) h2 V)
        (midLd (128 * a.val + 64) h3 L) x
      = (fun y : S512x384.Idx => (resDq q k v g l (orow t (y 0)) (y 1) : EReal))
          ((Rect.unit (s := S512x384) ![128 * a.val, 128 * c.val] S128x128.size inb).emb x) := by
  obtain ⟨r, x', rfl⟩ : ∃ (r x' : Fin 128), x = ix2 r x' := ⟨x 0, x 1, eq_ix2 x⟩
  obtain ⟨b, d, rfl⟩ := lane_split x'
  rw [tile_emb]
  have h4 := slicesExt a
  refine (tileDq_at (given H a c h1 h2 h3 h4) (s := fun b => slopeWord (pairHead c b)) (σ := fun b => slope (pairHead c b))
    (fun b => slope_coe _) b r d).trans ?_
  unfold resDq
  simp only [headIx_pair, dimIx_pair, headOf_pair]

theorem pieceDk (H : Loads t q k v g l Q K V G L) (a : Fin 4) (c : Fin 3) (inb h1 h2 h4) (x : S128x128.Idx) :
    tileDk (BitVec.ofNat 32 t.val) (BitVec.ofNat 32 (128 * a.val))
        (BitVec.ofNat 32 (2 * c.val + 0)) (BitVec.ofNat 32 (2 * c.val + 1))
        (BitVec.ofNat 32 (2 * c.val + 0 + 8)) (BitVec.ofNat 32 (2 * c.val + 1 + 8))
        (slopeWord (pairHead c 0)) (slopeWord (pairHead c 1))
        (extOf (128 * a.val) (128 * c.val) h2 Q) (extOf (128 * a.val) (128 * c.val) h2 G)
        (midOf (128 * a.val + 64) (128 * c.val) h1 K) (midOf (128 * a.val + 64) (128 * c.val) h1 V)
        (extLd (128 * a.val) h4 L) x
      = (fun y : S512x384.Idx => (resDk q k v g l (orow t (y 0)) (y 1) : EReal))
          ((Rect.unit (s := S512x384) ![128 * a.val, 128 * c.val] S128x128.size inb).emb x) := by
  obtain ⟨r, x', rfl⟩ : ∃ (r x' : Fin 128), x = ix2 r x' := ⟨x 0, x 1, eq_ix2 x⟩
  obtain ⟨b, d, rfl⟩ := lane_split x'
  rw [tile_emb]
  have h3 := slicesMid a
  refine (tileDk_at (given H a c h1 h2 h3 h4) (s := fun b => slopeWord (pairHead c b)) (σ := fun b => slope (pairHead c b))
    (fun b => slope_coe _) b r d).trans ?_
  unfold resDk
  simp only [headIx_pair, dimIx_pair, headOf_pair]

theorem pieceDv (H : Loads t q k v g l Q K V G L) (a : Fin 4) (c : Fin 3) (inb h1 h2 h4) (x : S128x128.Idx) :
    tileDv (BitVec.ofNat 32 t.val) (BitVec.ofNat 32 (128 * a.val))
        (BitVec.ofNat 32 (2 * c.val + 0)) (BitVec.ofNat 32 (2 * c.val + 1))
        (slopeWord (pairHead c 0)) (slopeWord (pairHead c 1))
        (extOf (128 * a.val) (128 * c.val) h2 Q) (extOf (128 * a.val) (128 * c.val) h2 G)
        (midOf (128 * a.val + 64) (128 * c.val) h1 K) (extLd (128 * a.val) h4 L) x
      = (fun y : S512x384.Idx => (resDv q k g l (orow t (y 0)) (y 1) : EReal))
          ((Rect.unit (s := S512x384) ![128 * a.val, 128 * c.val] S128x128.size inb).emb x) := by
  obtain ⟨r, x', rfl⟩ : ∃ (r x' : Fin 128), x = ix2 r x' := ⟨x 0, x 1, eq_ix2 x⟩
  obtain ⟨b, d, rfl⟩ := lane_split x'
  rw [tile_emb]
  have h3 := slicesMid a
  refine (tileDv_at (given H a c h1 h2 h3 h4) (s := fun b => slopeWord (pairHead c b)) (σ := fun b => slope (pairHead c b))
    (fun b => slope_coe _) b r d).trans ?_
  unfold resDv
  simp only [headIx_pair, dimIx_pair, headOf_pair]

/-! ## The output windows -/

variable (i : grid0.Coords) (x0 : Vec Ideal S64x384 .bf16) (x1 : Vec Ideal S512x384 .bf16) (x2 : Vec Ideal S64x384 .bf16)
  (x3 : Vec Ideal S64x384 .bf16) (x4 : Vec Ideal S512x384 .bf16) (x5 : Vec Ideal S64x384 .bf16)
  (x6 : Vec Ideal S64x384 .bf16) (x7 : Vec Ideal S512x384 .bf16) (x8 : Vec Ideal S64x384 .bf16)
  (x9 : Vec Ideal S64x384 .bf16) (x10 : Vec Ideal S512x384 .bf16) (x11 : Vec Ideal S64x384 .bf16)
  (x12 : Vec Ideal S64x128 .f32) (x13 : Vec Ideal S512x128 .f32) (x14 : Vec Ideal S64x128 .f32)

/-- The queries' gradient in its output window. -/
theorem outDq (ht : (i 1).val = t.val)
    (H : Loads t q k v g l (win x0 x1 x2) (win x3 x4 x5) (win x6 x7 x8) (win x9 x10 x11) (winLd x12 x13 x14))
    (y : S512x384.Idx) :
    out0_15 i x0 x1 x2 x3 x4 x5 x6 x7 x8 x9 x10 x11 x12 x13 x14 y = (resDq q k v g l (orow t (y 0)) (y 1) : EReal) := by
  rw [out_dq, ht]
  refine View.canon_apply_of_pieces (Val := Elt Ideal) (e := .bf16) (fun y : S512x384.Idx => (resDq q k v g l (orow t (y 0)) (y 1) : EReal)) _ ?_ y
    (cover0_15 _ _ _ _ _ _ _ _ _ _ _ _ y)
  simp only [List.forall_mem_cons]
  exact ⟨pieceDq H 3 2 _ _ _ _, pieceDq H 3 1 _ _ _ _, pieceDq H 3 0 _ _ _ _,
    pieceDq H 2 2 _ _ _ _, pieceDq H 2 1 _ _ _ _, pieceDq H 2 0 _ _ _ _,
    pieceDq H 1 2 _ _ _ _, pieceDq H 1 1 _ _ _ _, pieceDq H 1 0 _ _ _ _,
    pieceDq H 0 2 _ _ _ _, pieceDq H 0 1 _ _ _ _, pieceDq H 0 0 _ _ _ _, by simp⟩

/-- The keys' gradient in its output window. -/
theorem outDk (ht : (i 1).val = t.val)
    (H : Loads t q k v g l (win x0 x1 x2) (win x3 x4 x5) (win x6 x7 x8) (win x9 x10 x11) (winLd x12 x13 x14))
    (y : S512x384.Idx) :
    out0_16 i x0 x1 x2 x3 x4 x5 x6 x7 x8 x9 x10 x11 x12 x13 x14 y = (resDk q k v g l (orow t (y 0)) (y 1) : EReal) := by
  rw [out_dk, ht]
  refine View.canon_apply_of_pieces (Val := Elt Ideal) (e := .bf16) (fun y : S512x384.Idx => (resDk q k v g l (orow t (y 0)) (y 1) : EReal)) _ ?_ y
    (cover0_16 _ _ _ _ _ _ _ _ _ _ _ _ y)
  simp only [List.forall_mem_cons]
  exact ⟨pieceDk H 3 2 _ _ _ _, pieceDk H 3 1 _ _ _ _, pieceDk H 3 0 _ _ _ _,
    pieceDk H 2 2 _ _ _ _, pieceDk H 2 1 _ _ _ _, pieceDk H 2 0 _ _ _ _,
    pieceDk H 1 2 _ _ _ _, pieceDk H 1 1 _ _ _ _, pieceDk H 1 0 _ _ _ _,
    pieceDk H 0 2 _ _ _ _, pieceDk H 0 1 _ _ _ _, pieceDk H 0 0 _ _ _ _, by simp⟩

/-- The values' gradient in its output window. -/
theorem outDv (ht : (i 1).val = t.val)
    (H : Loads t q k v g l (win x0 x1 x2) (win x3 x4 x5) (win x6 x7 x8) (win x9 x10 x11) (winLd x12 x13 x14))
    (y : S512x384.Idx) :
    out0_17 i x0 x1 x2 x3 x4 x5 x6 x7 x8 x9 x10 x11 x12 x13 x14 y = (resDv q k g l (orow t (y 0)) (y 1) : EReal) := by
  rw [out_dv, ht]
  refine View.canon_apply_of_pieces (Val := Elt Ideal) (e := .bf16) (fun y : S512x384.Idx => (resDv q k g l (orow t (y 0)) (y 1) : EReal)) _ ?_ y
    (cover0_17 _ _ _ _ _ _ _ _ _ _ _ _ y)
  simp only [List.forall_mem_cons]
  exact ⟨pieceDv H 3 2 _ _ _ _, pieceDv H 3 1 _ _ _ _, pieceDv H 3 0 _ _ _ _,
    pieceDv H 2 2 _ _ _ _, pieceDv H 2 1 _ _ _ _, pieceDv H 2 0 _ _ _ _,
    pieceDv H 1 2 _ _ _ _, pieceDv H 1 1 _ _ _ _, pieceDv H 1 0 _ _ _ _,
    pieceDv H 0 2 _ _ _ _, pieceDv H 0 1 _ _ _ _, pieceDv H 0 0 _ _ _ _, by simp⟩

end

end Cert.KernelIdeal.Blk
-- ==== Proof.Forward.lean ====
/- The reference's branch at its real numbers: scores, probabilities, output and log-sum of every row, one stage after
   another. -/
module

public import proofs.«01_k».proof.Proof.Window
public import proofs.«01_k».proof.Proof.Gen.ReferenceIdeal.Read
public import Idealize.ShloMosaic.Lib.Pointwise

@[expose] public section

set_option maxRecDepth 16384

noncomputable section

namespace Cert.Band

variable (q k v : Fin 2048 → Fin 64 → ℝ) (σ : ℝ)

/-- The sum of a row's exponentials over its band. -/
def esum (i : Fin 2048) : ℝ := ∑ j, if Near i j then Real.exp (score q k σ i j) else 0

/-- A row's log-sum. -/
def lse (i : Fin 2048) : ℝ := Real.log (esum q k σ i)

/-- A row's output. -/
def out (i : Fin 2048) (d : Fin 64) : ℝ := ∑ j, v j d * if Near i j then prob q k σ (lse q k σ) i j else 0

theorem esum_pos (i : Fin 2048) : 0 < esum q k σ i := by
  unfold esum
  refine Finset.sum_pos' (fun j _ => ?_) ⟨i, Finset.mem_univ i, ?_⟩
  · split_ifs
    · exact (Real.exp_pos _).le
    · exact le_rfl
  · rw [if_pos (near_self i)]; exact Real.exp_pos _

theorem exp_lse (i : Fin 2048) : Real.exp (lse q k σ i) = esum q k σ i := Real.exp_log (esum_pos q k σ i)

theorem esum_shift (i : Fin 2048) (M : ℝ) :
    (∑ j, if Near i j then Real.exp (score q k σ i j - M) else 0) = Real.exp (lse q k σ i - M) := by
  rw [Real.exp_sub, exp_lse, esum, Finset.sum_div]
  refine Finset.sum_congr rfl fun j _ => ?_
  split_ifs
  · rw [Real.exp_sub]
  · simp

/-- The probabilities of a row add to one. -/
theorem prob_sum (i : Fin 2048) : (∑ j, if Near i j then prob q k σ (lse q k σ) i j else 0) = 1 := by
  unfold prob
  rw [esum_shift, sub_self, Real.exp_zero]

end Cert.Band

namespace Cert.Ref

open Idealize.ShloMosaic Idealize.SL.Sem Cert.Band Cert.KernelIdeal.Blk Cert.ReferenceIdeal Cert.ReferenceIdeal.Read
open Idealize.ShloMosaic.TcCoe Idealize.ShloMosaic.WordCmp

abbrev A2 := (⟨S8192x384, .f32⟩ : BufTy).Contents (Elt Ideal)

/-- Row `i` of residue `r` among all rows. -/
def frow (r : Fin 4) (i : Fin 2048) : Fin 8192 := ⟨4 * i.val + r.val, by omega⟩

/-- One head of one residue. -/
def part (X : Fin 8192 → Fin 384 → ℝ) (r : Fin 4) (h : Fin 6) : Fin 2048 → Fin 64 → ℝ := fun i d => X (frow r i) (colOf h d)

/-- The maximum of finitely many numbers, some of them real and the others minus infinity, is real if one is. -/
theorem fold_max_real {n : Nat} (f : Fin n → EReal) (hf : ∀ j, f j = ⊥ ∨ ∃ x : ℝ, f j = x) (hne : ∃ j, f j ≠ ⊥) :
    ∃ M : ℝ, Finset.fold max (⊥ : EReal) f Finset.univ = M := by
  have key : ∀ s : Finset (Fin n), (Finset.fold max (⊥ : EReal) f s = ⊥ ∧ ∀ j ∈ s, f j = ⊥) ∨ ∃ x : ℝ, Finset.fold max (⊥ : EReal) f s = x := by
    intro s
    induction s using Finset.induction_on with
    | empty => left; simp
    | insert a s ha ih =>
      rw [Finset.fold_insert ha]
      rcases hf a with h | ⟨x, h⟩ <;> rcases ih with ⟨e, h'⟩ | ⟨y, e⟩ <;> rw [h, e]
      · left
        refine ⟨by simp, fun j hj => ?_⟩
        rcases Finset.mem_insert.mp hj with rfl | hj
        · exact h
        · exact h' j hj
      · right; exact ⟨y, by simp⟩
      · right; exact ⟨x, by simp⟩
      · right; exact ⟨max x y, ((EReal.coe_strictMono.monotone).map_max).symm⟩
  rcases key Finset.univ with ⟨-, h⟩ | h
  · obtain ⟨j, hj⟩ := hne
    exact absurd (h j (Finset.mem_univ j)) hj
  · exact h

section
variable {x0 x1 x2 : A2} {X0 X1 X2 : Fin 8192 → Fin 384 → ℝ}

theorem v1_at (h0 : ∀ i x, x0 (ix2 i x) = (X0 i x : EReal)) (r : Fin 4) (i : Fin 2048) (h : Fin 6) (d : Fin 64) :
    val_main_v1 (F := Ideal) x0 (ix4 r i h d) = (part X0 r h i d : EReal) := by
  pointwise [val_main_v1, val_main_v0]
  rw [h0]
  unfold part frow colOf
  congr 3 <;> ring

theorem v3_at (h0 : ∀ i x, x0 (ix2 i x) = (X0 i x : EReal)) (r : Fin 4) (i : Fin 2048) (h : Fin 6) (d : Fin 64) :
    val_main_v3 (F := Ideal) x0 (ix4 r i h d) = (part X0 r h i d : EReal) := v1_at h0 r i h d

theorem v5_at (h0 : ∀ i x, x0 (ix2 i x) = (X0 i x : EReal)) (r : Fin 4) (i : Fin 2048) (h : Fin 6) (d : Fin 64) :
    val_main_v5 (F := Ideal) x0 (ix4 r i h d) = (part X0 r h i d : EReal) := v1_at h0 r i h d

theorem rel_word (i j : Fin 2048) :
    (IntOp.subi (BitVec.ofNat 32 j.val) (BitVec.ofNat 32 i.val)).toInt = (j.val : ℤ) - i.val := by
  refine toInt_small (a := (j.val : ℤ) - i.val) ?_ (by omega) (by omega)
  simp only [IntOp.subi, ofInt_sub, BitVec.ofInt_natCast]

theorem v16_at (i j : Fin 2048) : (val_main_v16 (F := Ideal) (ix2 i j)).toInt = |(j.val : ℤ) - i.val| := by
  pointwise [val_main_v16, val_main_v15, val_main_v14, val_main_v13]
  rw [absi_toInt _ (by rw [rel_word]; omega), rel_word]

theorem v19_at (i j : Fin 2048) : val_main_v19 (F := Ideal) (ix2 i j) = ((|(j.val : ℝ) - i.val| * 4 : ℝ) : EReal) := by
  pointwise [val_main_v19, val_main_v18, val_main_v17, val_main_c]
  have e := v16_at i j
  have hb : |(j.val : ℤ) - i.val| < 2048 := by rw [abs_lt]; omega
  have hb' : 0 ≤ |(j.val : ℤ) - i.val| := abs_nonneg _
  rw [sitofp_word]
  have : (IntOp.muli (val_main_v16 (F := Ideal) (ix2 i j)) 4#32).toInt = |(j.val : ℤ) - i.val| * 4 := by
    unfold IntOp.muli
    rw [BitVec.toInt_mul, e, show (4#32 : BitVec 32).toInt = 4 by decide]
    exact Int.bmod_eq_of_le (by norm_num; omega) (by norm_num; omega)
  rw [this]
  push_cast
  rfl

theorem v12_at (h : Fin 6) : val_main_v12 (F := Ideal) (ix1 h) = (slope h : EReal) := by
  rw [← slope_coe]
  pointwise [val_main_v12, val_main_v6, val_main_v7, val_main_v8, val_main_v9, val_main_v10, val_main_v11,
    val_main_cst, val_main_cst_0, val_main_cst_1, val_main_cst_2, val_main_cst_3, val_main_cst_4]
  fin_cases h <;> simp [slopeWord]

theorem v20_at (h0 : ∀ i x, x0 (ix2 i x) = (X0 i x : EReal)) (h1 : ∀ i x, x1 (ix2 i x) = (X1 i x : EReal))
    (r : Fin 4) (h : Fin 6) (i j : Fin 2048) :
    val_main_v20 (F := Ideal) x0 x1 (ix4 r h i j) = ((∑ d, part X0 r h i d * part X1 r h j d : ℝ) : EReal) := by
  pointwise [val_main_v20]
  rw [coe_sum]
  refine Finset.sum_congr rfl fun d _ => ?_
  rw [v1_at h0, v3_at h1, EReal.coe_mul]

theorem v30_at (h0 : ∀ i x, x0 (ix2 i x) = (X0 i x : EReal)) (h1 : ∀ i x, x1 (ix2 i x) = (X1 i x : EReal))
    (r : Fin 4) (h : Fin 6) (i j : Fin 2048) :
    val_main_v30 (F := Ideal) x0 x1 (ix4 r h i j) = (score (part X0 r h) (part X1 r h) (slope h) i j : EReal) := by
  pointwise [val_main_v30, val_main_v29, val_main_v28, val_main_v27, val_main_v26, val_main_v25, val_main_v24,
    val_main_v23, val_main_v22, val_main_v21, val_main_cst_5]
  rw [v20_at h0 h1, v12_at, v19_at, eighth]
  unfold score
  push_cast
  rfl

theorem v32_at (i j : Fin 2048) : val_main_v32 (F := Ideal) (ix2 i j) = if Near i j then 1#1 else 0#1 := by
  pointwise [val_main_v32, val_main_v31, val_main_c_6]
  rw [cmpi_sle_eq, v16_at]
  rw [show (64#32 : BitVec 32).toInt = 64 by decide]
  by_cases h : Near i j
  · rw [if_pos h, decide_eq_true (show |(j.val : ℤ) - i.val| ≤ 64 from h)]; rfl
  · rw [if_neg h, decide_eq_false (show ¬|(j.val : ℤ) - i.val| ≤ 64 from h)]; rfl

theorem v33_at (h0 : ∀ i x, x0 (ix2 i x) = (X0 i x : EReal)) (h1 : ∀ i x, x1 (ix2 i x) = (X1 i x : EReal))
    (r : Fin 4) (h : Fin 6) (i j : Fin 2048) :
    val_main_v33_0 (F := Ideal) x0 x1 (ix4 r h i j)
      = if Near i j then (score (part X0 r h) (part X1 r h) (slope h) i j : EReal) else ⊥ := by
  pointwise [val_main_v33_0, val_main_v33_1, val_main_call0_v0, val_main_call0_v2, val_main_cst_7]
  rw [v32_at, select_ite, v30_at h0 h1]
  split_ifs
  · rfl
  · exact minusInf

theorem v34_at (h0 : ∀ i x, x0 (ix2 i x) = (X0 i x : EReal)) (h1 : ∀ i x, x1 (ix2 i x) = (X1 i x : EReal))
    (r : Fin 4) (h : Fin 6) (i : Fin 2048) :
    ∃ M : ℝ, val_main_v34 (F := Ideal) x0 x1 (ix3 r h i) = (M : EReal) := by
  pointwise [val_main_v34, val_main_cst_8]
  rw [minusInf]
  refine fold_max_real _ (fun j => ?_) ⟨i, ?_⟩
  · rw [v33_at h0 h1]
    split_ifs
    · right; exact ⟨_, rfl⟩
    · left; rfl
  · rw [v33_at h0 h1, if_pos (near_self i)]
    exact EReal.coe_ne_bot _

/-- A row's maximum. -/
def top (x0 x1 : A2) (r : Fin 4) (h : Fin 6) (i : Fin 2048) : ℝ := (val_main_v34 (F := Ideal) x0 x1 (ix3 r h i) : EReal).toReal

theorem v34_top (h0 : ∀ i x, x0 (ix2 i x) = (X0 i x : EReal)) (h1 : ∀ i x, x1 (ix2 i x) = (X1 i x : EReal))
    (r : Fin 4) (h : Fin 6) (i : Fin 2048) :
    val_main_v34 (F := Ideal) x0 x1 (ix3 r h i) = (top x0 x1 r h i : EReal) := by
  obtain ⟨M, hM⟩ := v34_at h0 h1 r h i
  unfold top
  rw [hM, EReal.toReal_coe]

theorem v43_at (h0 : ∀ i x, x0 (ix2 i x) = (X0 i x : EReal)) (h1 : ∀ i x, x1 (ix2 i x) = (X1 i x : EReal))
    (r : Fin 4) (h : Fin 6) (i j : Fin 2048) :
    val_main_v43 (F := Ideal) x0 x1 (ix4 r h i j)
      = ((if Near i j then Real.exp (score (part X0 r h) (part X1 r h) (slope h) i j - top x0 x1 r h i) else 0 : ℝ) : EReal) := by
  pointwise [val_main_v43, val_main_v42, val_main_v41, val_main_v40]
  rw [v33_at h0 h1, v34_top h0 h1]
  split_ifs
  · rw [← EReal.coe_sub, Ideal.exp_coe]
  · simp

theorem v44_at (h0 : ∀ i x, x0 (ix2 i x) = (X0 i x : EReal)) (h1 : ∀ i x, x1 (ix2 i x) = (X1 i x : EReal))
    (r : Fin 4) (h : Fin 6) (i : Fin 2048) :
    val_main_v44 (F := Ideal) x0 x1 (ix3 r h i)
      = (Real.exp (lse (part X0 r h) (part X1 r h) (slope h) i - top x0 x1 r h i) : EReal) := by
  pointwise [val_main_v44, val_main_cst_10]
  simp only [v43_at h0 h1]
  rw [← coe_sum, esum_shift]

theorem v46_at (h0 : ∀ i x, x0 (ix2 i x) = (X0 i x : EReal)) (h1 : ∀ i x, x1 (ix2 i x) = (X1 i x : EReal))
    (r : Fin 4) (h : Fin 6) (i : Fin 2048) :
    val_main_v46 (F := Ideal) x0 x1 (ix3 r h i) = (lse (part X0 r h) (part X1 r h) (slope h) i : EReal) := by
  pointwise [val_main_v46, val_main_v45]
  rw [v44_at h0 h1, v34_top h0 h1, Ideal.log_coe, if_neg (not_le.mpr (Real.exp_pos _)), Real.log_exp, ← EReal.coe_add]
  congr 1
  ring

theorem v50_at (h0 : ∀ i x, x0 (ix2 i x) = (X0 i x : EReal)) (h1 : ∀ i x, x1 (ix2 i x) = (X1 i x : EReal))
    (r : Fin 4) (h : Fin 6) (i j : Fin 2048) :
    val_main_v50 (F := Ideal) x0 x1 (ix4 r h i j)
      = ((if Near i j then prob (part X0 r h) (part X1 r h) (slope h) (lse (part X0 r h) (part X1 r h) (slope h)) i j else 0 : ℝ) : EReal) := by
  pointwise [val_main_v50, val_main_v49, val_main_v48, val_main_v47]
  rw [v33_at h0 h1, v46_at h0 h1]
  split_ifs
  · rw [← EReal.coe_sub, Ideal.exp_coe]; rfl
  · simp

theorem v51_at (h0 : ∀ i x, x0 (ix2 i x) = (X0 i x : EReal)) (h1 : ∀ i x, x1 (ix2 i x) = (X1 i x : EReal))
    (h2 : ∀ i x, x2 (ix2 i x) = (X2 i x : EReal)) (r : Fin 4) (h : Fin 6) (d : Fin 64) (i : Fin 2048) :
    val_main_v51 (F := Ideal) x0 x1 x2 (ix4 r h d i) = (out (part X0 r h) (part X1 r h) (part X2 r h) (slope h) i d : EReal) := by
  pointwise [val_main_v51]
  unfold out
  rw [coe_sum]
  refine Finset.sum_congr rfl fun j _ => ?_
  rw [v5_at h2, v50_at h0 h1, ← EReal.coe_mul]

/-- The branch's output and log-sum, row by row of the whole sequence. -/
theorem v54_at (h0 : ∀ i x, x0 (ix2 i x) = (X0 i x : EReal)) (h1 : ∀ i x, x1 (ix2 i x) = (X1 i x : EReal))
    (h2 : ∀ i x, x2 (ix2 i x) = (X2 i x : EReal)) (r : Fin 4) (h : Fin 6) (d : Fin 64) (i : Fin 2048) :
    val_main_v54 (F := Ideal) x0 x1 x2 (ix3 (frow r i) h d) = (out (part X0 r h) (part X1 r h) (part X2 r h) (slope h) i d : EReal) := by
  rw [← v51_at h0 h1 h2]
  pointwise [val_main_v54, val_main_v53, val_main_v52]
  unfold frow
  congr 2 <;> apply Fin.ext <;> simp only <;> omega

theorem v56_at (h0 : ∀ i x, x0 (ix2 i x) = (X0 i x : EReal)) (h1 : ∀ i x, x1 (ix2 i x) = (X1 i x : EReal))
    (r : Fin 4) (h : Fin 6) (i : Fin 2048) :
    val_main_v56 (F := Ideal) x0 x1 (ix2 (frow r i) h) = (lse (part X0 r h) (part X1 r h) (slope h) i : EReal) := by
  rw [← v46_at h0 h1]
  pointwise [val_main_v56, val_main_v55]
  unfold frow
  congr 2 <;> apply Fin.ext <;> simp only <;> omega

end

end Cert.Ref
-- ==== Proof.Mixture.lean ====
/- The reference's mixture of the three branches and its derivative at a row, at its real numbers. -/
module

public import proofs.«01_k».proof.Proof.Forward

@[expose] public section

set_option maxRecDepth 16384

noncomputable section

namespace Cert.Ref

open Idealize.ShloMosaic Idealize.SL.Sem Cert.Band Cert.KernelIdeal.Blk Cert.ReferenceIdeal Cert.ReferenceIdeal.Read
open Idealize.ShloMosaic.TcCoe

abbrev A3 := (⟨S8192x6x64, .f32⟩ : BufTy).Contents (Elt Ideal)
abbrev AL := (⟨S8192x6, .f32⟩ : BufTy).Contents (Elt Ideal)

/-- The eight arguments as real numbers: queries, keys, values, the two other branches' outputs and log-sums, the
    result's cotangent. -/
structure Reals where
  q : Fin 8192 → Fin 384 → ℝ
  k : Fin 8192 → Fin 384 → ℝ
  v : Fin 8192 → Fin 384 → ℝ
  oa : Fin 8192 → Fin 6 → Fin 64 → ℝ
  la : Fin 8192 → Fin 6 → ℝ
  ob : Fin 8192 → Fin 6 → Fin 64 → ℝ
  lb : Fin 8192 → Fin 6 → ℝ
  g : Fin 8192 → Fin 384 → ℝ

/-- The arrays hold those numbers. -/
structure Holds (X : Reals) (x0 x1 x2 : A2) (x3 : A3) (x4 : AL) (x5 : A3) (x6 : AL) (x7 : A2) : Prop where
  h0 : ∀ i x, x0 (ix2 i x) = (X.q i x : EReal)
  h1 : ∀ i x, x1 (ix2 i x) = (X.k i x : EReal)
  h2 : ∀ i x, x2 (ix2 i x) = (X.v i x : EReal)
  h3 : ∀ i h d, x3 (ix3 i h d) = (X.oa i h d : EReal)
  h4 : ∀ i h, x4 (ix2 i h) = (X.la i h : EReal)
  h5 : ∀ i h d, x5 (ix3 i h d) = (X.ob i h d : EReal)
  h6 : ∀ i h, x6 (ix2 i h) = (X.lb i h : EReal)
  h7 : ∀ i x, x7 (ix2 i x) = (X.g i x : EReal)

section
variable (X : Reals) (r : Fin 4) (h : Fin 6) (i : Fin 2048)

/-- The row's log-sum and output in the differentiated branch. -/
def myL : ℝ := lse (part X.q r h) (part X.k r h) (slope h) i
def myO (d : Fin 64) : ℝ := out (part X.q r h) (part X.k r h) (part X.v r h) (slope h) i d

/-- The three branches' log-sums and outputs at a row. -/
def lg (b : Fin 3) : ℝ := ![X.la (frow r i) h, myL X r h i, X.lb (frow r i) h] b
def ov (b : Fin 3) (d : Fin 64) : ℝ := ![X.oa (frow r i) h d, myO X r h i d, X.ob (frow r i) h d] b

/-- The row's log-sum over all branches. -/
def lt : ℝ := Real.log (∑ b, Real.exp (lg X r h i b))

/-- A branch's weight. -/
def wt (b : Fin 3) : ℝ := Real.exp (lg X r h i b - lt X r h i)

/-- The cotangent dotted with a branch's output. -/
def dw (b : Fin 3) : ℝ := ∑ d, part X.g r h i d * ov X r h i b d

/-- The cotangent dotted with the mixture. -/
def dt : ℝ := ∑ b, wt X r h i b * dw X r h i b

theorem lt_pos : 0 < ∑ b, Real.exp (lg X r h i b) := Finset.sum_pos (fun b _ => Real.exp_pos _) ⟨0, Finset.mem_univ _⟩

theorem lt_shift (N : ℝ) : (∑ b, Real.exp (lg X r h i b - N)) = Real.exp (lt X r h i - N) := by
  rw [Real.exp_sub, lt, Real.exp_log (lt_pos X r h i), Finset.sum_div]
  exact Finset.sum_congr rfl fun b _ => Real.exp_sub _ _

/-- The mixture's derivative with the shared maximum and its normaliser put back together. -/
theorem mix_real (N : ℝ) (a : Fin 3 → ℝ) (b : Fin 3) :
    (a b * (1 / Real.exp (lt X r h i - N))
        + -∑ x, a x * (1 * (1 / (Real.exp (lt X r h i - N) * Real.exp (lt X r h i - N)))) * Real.exp (lg X r h i x - N))
      * Real.exp (lg X r h i b - N)
      = wt X r h i b * (a b - ∑ x, wt X r h i x * a x) := by
  have hw : ∀ x, wt X r h i x = Real.exp (lg X r h i x - N) * (1 / Real.exp (lt X r h i - N)) := by
    intro x
    rw [wt, one_div, ← Real.exp_neg, ← Real.exp_add]
    congr 1; ring
  simp only [hw]
  have hn := (Real.exp_pos (lt X r h i - N)).ne'
  have hs : (∑ x, a x * (1 * (1 / (Real.exp (lt X r h i - N) * Real.exp (lt X r h i - N)))) * Real.exp (lg X r h i x - N))
      = (1 / Real.exp (lt X r h i - N)) * ∑ x, Real.exp (lg X r h i x - N) * (1 / Real.exp (lt X r h i - N)) * a x := by
    rw [Finset.mul_sum]
    refine Finset.sum_congr rfl fun x _ => ?_
    field_simp
  rw [hs]
  ring
end

section
variable {X : Reals} {x0 x1 x2 : A2} {x3 : A3} {x4 : AL} {x5 : A3} {x6 : AL} {x7 : A2}
variable (H : Holds X x0 x1 x2 x3 x4 x5 x6 x7) (r : Fin 4) (h : Fin 6) (i : Fin 2048)
include H

theorem v60_at (b : Fin 3) : val_main_v60 (F := Ideal) x0 x1 x4 x6 (ix3 b (frow r i) h) = (lg X r h i b : EReal) := by
  pointwise [val_main_v60, val_main_v57, val_main_v58, val_main_v59]
  rw [v56_at H.h0 H.h1, H.h4, H.h6]
  fin_cases b <;> simp [lg, myL]

theorem v70_real : ∃ N : ℝ, val_main_v70 (F := Ideal) x0 x1 x4 x6 (ix2 (frow r i) h) = (N : EReal) := by
  pointwise [val_main_v70, val_main_v69, val_main_v63, val_main_cst_13, val_main_cst_15]
  rw [minusInf]
  obtain ⟨N, hN⟩ := fold_max_real (fun x => val_main_v60 (F := Ideal) x0 x1 x4 x6 (ix3 x (frow r i) h))
    (fun b => Or.inr ⟨_, v60_at H r h i b⟩) ⟨0, by rw [v60_at H]; exact EReal.coe_ne_bot _⟩
  exact ⟨N, by rw [show Finset.fold max (⊥ : EReal) (fun x => val_main_v60 (F := Ideal) x0 x1 x4 x6 (ix3 x (frow r i) h)) Finset.univ = _ from hN]; simp⟩

omit H in
/-- The branches' shared maximum. -/
def mixTop (x0 x1 : A2) (x4 x6 : AL) (r : Fin 4) (h : Fin 6) (i : Fin 2048) : ℝ :=
  (val_main_v70 (F := Ideal) x0 x1 x4 x6 (ix2 (frow r i) h) : EReal).toReal

theorem v70_top : val_main_v70 (F := Ideal) x0 x1 x4 x6 (ix2 (frow r i) h) = (mixTop x0 x1 x4 x6 r h i : EReal) := by
  obtain ⟨N, hN⟩ := v70_real H r h i
  unfold mixTop
  rw [hN, EReal.toReal_coe]

theorem v83_at (b : Fin 3) : val_main_v83 (F := Ideal) x0 x1 x4 x6 (ix3 b (frow r i) h)
    = (Real.exp (lg X r h i b - mixTop x0 x1 x4 x6 r h i) : EReal) := by
  pointwise [val_main_v83, val_main_v82, val_main_v81, val_main_v80]
  rw [v60_at H, v70_top H, ← EReal.coe_sub, Ideal.exp_coe]

theorem v85_at : val_main_v85 (F := Ideal) x0 x1 x4 x6 (ix3 0 (frow r i) h)
    = (Real.exp (lt X r h i - mixTop x0 x1 x4 x6 r h i) : EReal) := by
  pointwise [val_main_v85, val_main_v84, val_main_cst_21]
  simp only [v83_at H]
  rw [← coe_sum, lt_shift]

theorem v87_at (b : Fin 3) : val_main_v87 (F := Ideal) x0 x1 x4 x6 (ix3 b (frow r i) h) = (wt X r h i b : EReal) := by
  pointwise [val_main_v87, val_main_v86]
  rw [v83_at H, show val_main_v85 (F := Ideal) x0 x1 x4 x6 (ix3 0 (frow r i) h) = _ from v85_at H r h i,
    Ideal.div_coe (Real.exp_pos _).ne', ← EReal.coe_mul]
  unfold wt
  rw [one_div, ← Real.exp_neg, ← Real.exp_add]
  congr 2; ring

theorem v103_at (b : Fin 3) (d : Fin 64) : val_main_v103 (F := Ideal) x7 (ix4 b (frow r i) h d) = (part X.g r h i d : EReal) := by
  pointwise [val_main_v103, val_main_v102]
  rw [H.h7]
  unfold part colOf
  congr 3; ring

theorem v105_at (b : Fin 3) (d : Fin 64) : val_main_v105 (F := Ideal) x0 x1 x4 x6 x7 (ix4 b (frow r i) h d)
    = (wt X r h i b * part X.g r h i d : ℝ) := by
  pointwise [val_main_v105, val_main_v104, val_main_v91]
  rw [v87_at H, v103_at H, EReal.coe_mul]

theorem v115_at (b : Fin 3) : val_main_v115 (F := Ideal) x0 x1 x2 x3 x5 x7 (ix3 b (frow r i) h) = (dw X r h i b : EReal) := by
  pointwise [val_main_v115, val_main_v108, val_main_v107, val_main_v106, val_main_cst_26, val_main_cst_27, val_main_v95,
    val_main_v92, val_main_v93, val_main_v94]
  simp only [Finset.sum_const, Finset.card_univ, Fintype.card_fin, one_smul]
  unfold dw
  rw [coe_sum]
  refine Finset.sum_congr rfl fun d _ => ?_
  rw [v103_at H, v54_at H.h0 H.h1 H.h2, H.h3, H.h5, EReal.coe_mul]
  congr 1
  fin_cases b <;> simp [ov, myO]

theorem v127_at (b : Fin 3) : val_main_v127 (F := Ideal) x0 x1 x2 x3 x4 x5 x6 x7 (ix3 b (frow r i) h)
    = (wt X r h i b * (dw X r h i b - dt X r h i) : ℝ) := by
  pointwise [val_main_v127, val_main_v126, val_main_v125, val_main_v124, val_main_v123, val_main_v122, val_main_v121,
    val_main_v120, val_main_v119, val_main_cst_29, val_main_cst_28, val_main_v118, val_main_v117, val_main_v116,
    val_main_v90, val_main_v89, val_main_v88, val_main_cst_22]
  simp only [Finset.sum_const, Finset.card_univ, Fintype.card_fin, one_smul]
  have e85 := v85_at H r h i
  have hn := (Real.exp_pos (lt X r h i - mixTop x0 x1 x4 x6 r h i)).ne'
  simp only [e85, v115_at H, v83_at H, ← EReal.coe_mul, ← EReal.coe_one, Ideal.div_coe hn, Ideal.div_coe (mul_ne_zero hn hn)]
  rw [← coe_sum, ← EReal.coe_neg, ← EReal.coe_add, ← EReal.coe_mul, mix_real]
  rfl
end

end Cert.Ref
-- ==== Proof.Finite.lean ====
/- The precondition in plain words: every entry of every argument is a real number. -/
module

public import proofs.«01_k».proof.Proof.Mixture
public import proofs.«01_k».proof.Proof.Gen.Pre_finite
public import proofs.«01_k».proof.Pre_finite

@[expose] public section

noncomputable section

namespace Cert.Finite

open Idealize.ShloMosaic Cert.Ref
open Cert.Pre_finite (S_ S8192x384 S8192x6x64 S8192x6)

/-- An entry whose absolute value lies below the infinity is a real number. -/
theorem real_of_lt (a : EReal) (h : Ideal.cmp .olt (max a (-a)) (Ideal.ofBits .f32 0x7F800000#32) = 1#1) :
    a = ((a.toReal : ℝ) : EReal) := by
  rw [Cert.KernelIdeal.Blk.plusInf] at h
  refine (EReal.coe_toReal ?_ ?_).symm
  · rintro rfl
    simp [Ideal.cmp] at h
  · rintro rfl
    simp [Ideal.cmp] at h

/-- The same for an array compared as the precondition compares it. -/
theorem real_of_all {s : Shape} (b : S_.BroadcastsInDim s ![]) (x : FVec Ideal s .f32)
    (h : cmpf .olt (Host.absf x) (broadcastInDim s ![] b (constant S_ .f32 0x7F800000#32)) = fun _ => 1#1) (i : s.Idx) :
    x i = ((EReal.toReal (x i) : ℝ) : EReal) := real_of_lt (x i) (congrFun h i)

/-- The numbers of eight arrays. -/
def reals (x0 x1 x2 : A2) (x3 : A3) (x4 : AL) (x5 : A3) (x6 : AL) (x7 : A2) : Reals where
  q i x := EReal.toReal (x0 (ix2 i x))
  k i x := EReal.toReal (x1 (ix2 i x))
  v i x := EReal.toReal (x2 (ix2 i x))
  oa i h d := EReal.toReal (x3 (ix3 i h d))
  la i h := EReal.toReal (x4 (ix2 i h))
  ob i h d := EReal.toReal (x5 (ix3 i h d))
  lb i h := EReal.toReal (x6 (ix2 i h))
  g i x := EReal.toReal (x7 (ix2 i x))

theorem holds (x0 x1 x2 : A2) (x3 : A3) (x4 : AL) (x5 : A3) (x6 : AL) (x7 : A2)
    (h : (Cert.Pre_finite.fn (F := Ideal) x0 x1 x2 x3 x4 x5 x6 x7).1 = (fun _ => 1#1)
      ∧ (Cert.Pre_finite.fn (F := Ideal) x0 x1 x2 x3 x4 x5 x6 x7).2.1 = (fun _ => 1#1)
      ∧ (Cert.Pre_finite.fn (F := Ideal) x0 x1 x2 x3 x4 x5 x6 x7).2.2.1 = (fun _ => 1#1)
      ∧ (Cert.Pre_finite.fn (F := Ideal) x0 x1 x2 x3 x4 x5 x6 x7).2.2.2.1 = (fun _ => 1#1)
      ∧ (Cert.Pre_finite.fn (F := Ideal) x0 x1 x2 x3 x4 x5 x6 x7).2.2.2.2.1 = (fun _ => 1#1)
      ∧ (Cert.Pre_finite.fn (F := Ideal) x0 x1 x2 x3 x4 x5 x6 x7).2.2.2.2.2.1 = (fun _ => 1#1)
      ∧ (Cert.Pre_finite.fn (F := Ideal) x0 x1 x2 x3 x4 x5 x6 x7).2.2.2.2.2.2.1 = (fun _ => 1#1)
      ∧ (Cert.Pre_finite.fn (F := Ideal) x0 x1 x2 x3 x4 x5 x6 x7).2.2.2.2.2.2.2 = (fun _ => 1#1)) :
    Holds (reals x0 x1 x2 x3 x4 x5 x6 x7) x0 x1 x2 x3 x4 x5 x6 x7 where
  h0 i x := real_of_all Cert.Pre_finite.Facts.bcast_S_S8192x384 x0 h.1 (ix2 i x)
  h1 i x := real_of_all Cert.Pre_finite.Facts.bcast_S_S8192x384 x1 h.2.1 (ix2 i x)
  h2 i x := real_of_all Cert.Pre_finite.Facts.bcast_S_S8192x384 x2 h.2.2.1 (ix2 i x)
  h3 i j d := real_of_all Cert.Pre_finite.Facts.bcast_S_S8192x6x64 x3 h.2.2.2.1 (ix3 i j d)
  h4 i j := real_of_all Cert.Pre_finite.Facts.bcast_S_S8192x6 x4 h.2.2.2.2.1 (ix2 i j)
  h5 i j d := real_of_all Cert.Pre_finite.Facts.bcast_S_S8192x6x64 x5 h.2.2.2.2.2.1 (ix3 i j d)
  h6 i j := real_of_all Cert.Pre_finite.Facts.bcast_S_S8192x6 x6 h.2.2.2.2.2.2.1 (ix2 i j)
  h7 i x := real_of_all Cert.Pre_finite.Facts.bcast_S_S8192x384 x7 h.2.2.2.2.2.2.2 (ix2 i x)

end Cert.Finite

end
-- ==== Proof.Array.lean ====
/- What the kernel's three result arrays hold after the run, when the three prepared arrays hold real numbers: each
   input window's block is a part of its prepared array, three of them together are one tile's extended rows, and each
   output window's blocks tile its array. -/
module

public import proofs.«01_k».proof.Proof.Window
public import proofs.«01_k».proof.Proof.Gen.KernelIdeal.Value
public import Idealize.ShloMosaic.Lib.Pipeline.ValueKit

@[expose] public section

set_option maxRecDepth 16384

noncomputable section

namespace Cert.KernelIdeal.Blk

open Idealize.ShloMosaic Idealize.SL.Sem Cert.KernelIdeal.Gen Cert.Band
open Idealize.ShloMosaic.TcCoe

/-! ## A window's three blocks, one under the other -/

theorem win_at (p : Vec Ideal S64x384 .bf16) (c : Vec Ideal S512x384 .bf16) (n : Vec Ideal S64x384 .bf16) (e : Fin 640) (x : Fin 384) :
    win p c n (ix2 e x) = if h : e.val < 64 then p (ix2 ⟨e, h⟩ x)
      else if h' : e.val - 64 < 512 then c (ix2 ⟨e - 64, h'⟩ x) else n (ix2 ⟨e - 64 - 512, by omega⟩ x) := by
  unfold win
  have hz : (![0, 0] : Fin 2 → Nat) = fun _ => 0 := by decide
  rw [show View.ld p r0_2 = p from View.ld_unit_zero (S := S64x384) hz _ p,
    show View.ld c r0_3 = c from View.ld_unit_zero (S := S512x384) hz _ c,
    show View.ld n r0_2 = n from View.ld_unit_zero (S := S64x384) hz _ n]
  pointwise [halo]

theorem winLd_at (p : Vec Ideal S64x128 .f32) (c : Vec Ideal S512x128 .f32) (n : Vec Ideal S64x128 .f32) (e : Fin 640) (x : Fin 128) :
    winLd p c n (ix2 e x) = if h : e.val < 64 then p (ix2 ⟨e, h⟩ x)
      else if h' : e.val - 64 < 512 then c (ix2 ⟨e - 64, h'⟩ x) else n (ix2 ⟨e - 64 - 512, by omega⟩ x) := by
  unfold winLd
  have hz : (![0, 0] : Fin 2 → Nat) = fun _ => 0 := by decide
  rw [show View.ld p r0_0 = p from View.ld_unit_zero (S := S64x128) hz _ p,
    show View.ld c r0_1 = c from View.ld_unit_zero (S := S512x128) hz _ c,
    show View.ld n r0_0 = n from View.ld_unit_zero (S := S64x128) hz _ n]
  pointwise [haloLd]

/-! ## Where the blocks lie -/

theorem ix2_zero {a b : Nat} (i : Fin a) (j : Fin b) : (ix2 i j) 0 = i := rfl
theorem ix2_one {a b : Nat} (i : Fin a) (j : Fin b) : (ix2 i j) 1 = j := rfl

theorem ix2_of {a b : Nat} {z : Shape.Idx ⟨2, ![a, b]⟩} {i : Fin a} {j : Fin b} (h0 : (z 0).val = i.val) (h1 : (z 1).val = j.val) :
    z = ix2 i j := by
  funext k
  fin_cases k
  · exact Fin.ext h0
  · exact Fin.ext h1

theorem point_lt (t : Fin cfg0.N) : t.val < 16 := t.isLt

/-- The row tile and the residue of a grid point. -/
def tileOf (t : Fin cfg0.N) : Fin 4 := ⟨t.val % 4, by omega⟩
def resOf (t : Fin cfg0.N) : Fin 4 := ⟨t.val / 4, by have := point_lt t; omega⟩

theorem coords_tile : ∀ t : Fin cfg0.N, (grid0.coords t 1).val = (tileOf t).val :=
  (by decide +kernel : ∀ t : Fin grid0.N, (grid0.coords t 1).val = t.val % 4)

theorem idx0 : ∀ t : Fin cfg0.N, win0_0.index t (0 : Fin 2) = 8 * (t.val % 4) - 1 ∧ win0_0.index t (1 : Fin 2) = 3 * (t.val / 4) :=
  (by decide +kernel : ∀ t : Fin grid0.N, _)

theorem place0 (t : Fin cfg0.N) (y : Shape.Idx ⟨2, ![64, 384]⟩) :
    (((cfg0.win 0).blk t).view.emb y (0 : Fin 2)).val = 64 * (8 * (t.val % 4) - 1) + (y 0).val ∧
    (((cfg0.win 0).blk t).view.emb y (1 : Fin 2)).val = 384 * (3 * (t.val / 4)) + (y 1).val := by
  obtain ⟨h0, h1⟩ := idx0 t
  constructor
  · show win0_0.index t (0 : Fin 2) * 64 + 1 * (y 0).val = _
    rw [h0]; omega
  · show win0_0.index t (1 : Fin 2) * 384 + 1 * (y 1).val = _
    rw [h1]; omega

theorem idx1 : ∀ t : Fin cfg0.N, win0_1.index t (0 : Fin 2) = t.val % 4 ∧ win0_1.index t (1 : Fin 2) = 3 * (t.val / 4) :=
  (by decide +kernel : ∀ t : Fin grid0.N, _)

theorem place1 (t : Fin cfg0.N) (y : Shape.Idx ⟨2, ![512, 384]⟩) :
    (((cfg0.win 1).blk t).view.emb y (0 : Fin 2)).val = 512 * (t.val % 4) + (y 0).val ∧
    (((cfg0.win 1).blk t).view.emb y (1 : Fin 2)).val = 384 * (3 * (t.val / 4)) + (y 1).val := by
  obtain ⟨h0, h1⟩ := idx1 t
  constructor
  · show win0_1.index t (0 : Fin 2) * 512 + 1 * (y 0).val = _
    rw [h0]; omega
  · show win0_1.index t (1 : Fin 2) * 384 + 1 * (y 1).val = _
    rw [h1]; omega

theorem idx2 : ∀ t : Fin cfg0.N, win0_2.index t (0 : Fin 2) = min (8 * (t.val % 4) + 8) 31 ∧ win0_2.index t (1 : Fin 2) = 3 * (t.val / 4) :=
  (by decide +kernel : ∀ t : Fin grid0.N, _)

theorem place2 (t : Fin cfg0.N) (y : Shape.Idx ⟨2, ![64, 384]⟩) :
    (((cfg0.win 2).blk t).view.emb y (0 : Fin 2)).val = 64 * (min (8 * (t.val % 4) + 8) 31) + (y 0).val ∧
    (((cfg0.win 2).blk t).view.emb y (1 : Fin 2)).val = 384 * (3 * (t.val / 4)) + (y 1).val := by
  obtain ⟨h0, h1⟩ := idx2 t
  constructor
  · show win0_2.index t (0 : Fin 2) * 64 + 1 * (y 0).val = _
    rw [h0]; omega
  · show win0_2.index t (1 : Fin 2) * 384 + 1 * (y 1).val = _
    rw [h1]; omega

theorem idx3 : ∀ t : Fin cfg0.N, win0_3.index t (0 : Fin 2) = 8 * (t.val % 4) - 1 ∧ win0_3.index t (1 : Fin 2) = 3 * (t.val / 4) + 1 :=
  (by decide +kernel : ∀ t : Fin grid0.N, _)

theorem place3 (t : Fin cfg0.N) (y : Shape.Idx ⟨2, ![64, 384]⟩) :
    (((cfg0.win 3).blk t).view.emb y (0 : Fin 2)).val = 64 * (8 * (t.val % 4) - 1) + (y 0).val ∧
    (((cfg0.win 3).blk t).view.emb y (1 : Fin 2)).val = 384 * (3 * (t.val / 4) + 1) + (y 1).val := by
  obtain ⟨h0, h1⟩ := idx3 t
  constructor
  · show win0_3.index t (0 : Fin 2) * 64 + 1 * (y 0).val = _
    rw [h0]; omega
  · show win0_3.index t (1 : Fin 2) * 384 + 1 * (y 1).val = _
    rw [h1]; omega

theorem idx4 : ∀ t : Fin cfg0.N, win0_4.index t (0 : Fin 2) = t.val % 4 ∧ win0_4.index t (1 : Fin 2) = 3 * (t.val / 4) + 1 :=
  (by decide +kernel : ∀ t : Fin grid0.N, _)

theorem place4 (t : Fin cfg0.N) (y : Shape.Idx ⟨2, ![512, 384]⟩) :
    (((cfg0.win 4).blk t).view.emb y (0 : Fin 2)).val = 512 * (t.val % 4) + (y 0).val ∧
    (((cfg0.win 4).blk t).view.emb y (1 : Fin 2)).val = 384 * (3 * (t.val / 4) + 1) + (y 1).val := by
  obtain ⟨h0, h1⟩ := idx4 t
  constructor
  · show win0_4.index t (0 : Fin 2) * 512 + 1 * (y 0).val = _
    rw [h0]; omega
  · show win0_4.index t (1 : Fin 2) * 384 + 1 * (y 1).val = _
    rw [h1]; omega

theorem idx5 : ∀ t : Fin cfg0.N, win0_5.index t (0 : Fin 2) = min (8 * (t.val % 4) + 8) 31 ∧ win0_5.index t (1 : Fin 2) = 3 * (t.val / 4) + 1 :=
  (by decide +kernel : ∀ t : Fin grid0.N, _)

theorem place5 (t : Fin cfg0.N) (y : Shape.Idx ⟨2, ![64, 384]⟩) :
    (((cfg0.win 5).blk t).view.emb y (0 : Fin 2)).val = 64 * (min (8 * (t.val % 4) + 8) 31) + (y 0).val ∧
    (((cfg0.win 5).blk t).view.emb y (1 : Fin 2)).val = 384 * (3 * (t.val / 4) + 1) + (y 1).val := by
  obtain ⟨h0, h1⟩ := idx5 t
  constructor
  · show win0_5.index t (0 : Fin 2) * 64 + 1 * (y 0).val = _
    rw [h0]; omega
  · show win0_5.index t (1 : Fin 2) * 384 + 1 * (y 1).val = _
    rw [h1]; omega

theorem idx6 : ∀ t : Fin cfg0.N, win0_6.index t (0 : Fin 2) = 8 * (t.val % 4) - 1 ∧ win0_6.index t (1 : Fin 2) = 3 * (t.val / 4) + 2 :=
  (by decide +kernel : ∀ t : Fin grid0.N, _)

theorem place6 (t : Fin cfg0.N) (y : Shape.Idx ⟨2, ![64, 384]⟩) :
    (((cfg0.win 6).blk t).view.emb y (0 : Fin 2)).val = 64 * (8 * (t.val % 4) - 1) + (y 0).val ∧
    (((cfg0.win 6).blk t).view.emb y (1 : Fin 2)).val = 384 * (3 * (t.val / 4) + 2) + (y 1).val := by
  obtain ⟨h0, h1⟩ := idx6 t
  constructor
  · show win0_6.index t (0 : Fin 2) * 64 + 1 * (y 0).val = _
    rw [h0]; omega
  · show win0_6.index t (1 : Fin 2) * 384 + 1 * (y 1).val = _
    rw [h1]; omega

theorem idx7 : ∀ t : Fin cfg0.N, win0_7.index t (0 : Fin 2) = t.val % 4 ∧ win0_7.index t (1 : Fin 2) = 3 * (t.val / 4) + 2 :=
  (by decide +kernel : ∀ t : Fin grid0.N, _)

theorem place7 (t : Fin cfg0.N) (y : Shape.Idx ⟨2, ![512, 384]⟩) :
    (((cfg0.win 7).blk t).view.emb y (0 : Fin 2)).val = 512 * (t.val % 4) + (y 0).val ∧
    (((cfg0.win 7).blk t).view.emb y (1 : Fin 2)).val = 384 * (3 * (t.val / 4) + 2) + (y 1).val := by
  obtain ⟨h0, h1⟩ := idx7 t
  constructor
  · show win0_7.index t (0 : Fin 2) * 512 + 1 * (y 0).val = _
    rw [h0]; omega
  · show win0_7.index t (1 : Fin 2) * 384 + 1 * (y 1).val = _
    rw [h1]; omega

theorem idx8 : ∀ t : Fin cfg0.N, win0_8.index t (0 : Fin 2) = min (8 * (t.val % 4) + 8) 31 ∧ win0_8.index t (1 : Fin 2) = 3 * (t.val / 4) + 2 :=
  (by decide +kernel : ∀ t : Fin grid0.N, _)

theorem place8 (t : Fin cfg0.N) (y : Shape.Idx ⟨2, ![64, 384]⟩) :
    (((cfg0.win 8).blk t).view.emb y (0 : Fin 2)).val = 64 * (min (8 * (t.val % 4) + 8) 31) + (y 0).val ∧
    (((cfg0.win 8).blk t).view.emb y (1 : Fin 2)).val = 384 * (3 * (t.val / 4) + 2) + (y 1).val := by
  obtain ⟨h0, h1⟩ := idx8 t
  constructor
  · show win0_8.index t (0 : Fin 2) * 64 + 1 * (y 0).val = _
    rw [h0]; omega
  · show win0_8.index t (1 : Fin 2) * 384 + 1 * (y 1).val = _
    rw [h1]; omega

theorem idx9 : ∀ t : Fin cfg0.N, win0_9.index t (0 : Fin 2) = 8 * (t.val % 4) - 1 ∧ win0_9.index t (1 : Fin 2) = t.val / 4 :=
  (by decide +kernel : ∀ t : Fin grid0.N, _)

theorem place9 (t : Fin cfg0.N) (y : Shape.Idx ⟨2, ![64, 384]⟩) :
    (((cfg0.win 9).blk t).view.emb y (0 : Fin 2)).val = 64 * (8 * (t.val % 4) - 1) + (y 0).val ∧
    (((cfg0.win 9).blk t).view.emb y (1 : Fin 2)).val = 384 * (t.val / 4) + (y 1).val := by
  obtain ⟨h0, h1⟩ := idx9 t
  constructor
  · show win0_9.index t (0 : Fin 2) * 64 + 1 * (y 0).val = _
    rw [h0]; omega
  · show win0_9.index t (1 : Fin 2) * 384 + 1 * (y 1).val = _
    rw [h1]; omega

theorem idx10 : ∀ t : Fin cfg0.N, win0_10.index t (0 : Fin 2) = t.val % 4 ∧ win0_10.index t (1 : Fin 2) = t.val / 4 :=
  (by decide +kernel : ∀ t : Fin grid0.N, _)

theorem place10 (t : Fin cfg0.N) (y : Shape.Idx ⟨2, ![512, 384]⟩) :
    (((cfg0.win 10).blk t).view.emb y (0 : Fin 2)).val = 512 * (t.val % 4) + (y 0).val ∧
    (((cfg0.win 10).blk t).view.emb y (1 : Fin 2)).val = 384 * (t.val / 4) + (y 1).val := by
  obtain ⟨h0, h1⟩ := idx10 t
  constructor
  · show win0_10.index t (0 : Fin 2) * 512 + 1 * (y 0).val = _
    rw [h0]; omega
  · show win0_10.index t (1 : Fin 2) * 384 + 1 * (y 1).val = _
    rw [h1]; omega

theorem idx11 : ∀ t : Fin cfg0.N, win0_11.index t (0 : Fin 2) = min (8 * (t.val % 4) + 8) 31 ∧ win0_11.index t (1 : Fin 2) = t.val / 4 :=
  (by decide +kernel : ∀ t : Fin grid0.N, _)

theorem place11 (t : Fin cfg0.N) (y : Shape.Idx ⟨2, ![64, 384]⟩) :
    (((cfg0.win 11).blk t).view.emb y (0 : Fin 2)).val = 64 * (min (8 * (t.val % 4) + 8) 31) + (y 0).val ∧
    (((cfg0.win 11).blk t).view.emb y (1 : Fin 2)).val = 384 * (t.val / 4) + (y 1).val := by
  obtain ⟨h0, h1⟩ := idx11 t
  constructor
  · show win0_11.index t (0 : Fin 2) * 64 + 1 * (y 0).val = _
    rw [h0]; omega
  · show win0_11.index t (1 : Fin 2) * 384 + 1 * (y 1).val = _
    rw [h1]; omega

theorem idx12 : ∀ t : Fin cfg0.N, win0_12.index t (0 : Fin 2) = 8 * (t.val % 4) - 1 ∧ win0_12.index t (1 : Fin 2) = t.val / 4 :=
  (by decide +kernel : ∀ t : Fin grid0.N, _)

theorem place12 (t : Fin cfg0.N) (y : Shape.Idx ⟨2, ![64, 128]⟩) :
    (((cfg0.win 12).blk t).view.emb y (0 : Fin 2)).val = 64 * (8 * (t.val % 4) - 1) + (y 0).val ∧
    (((cfg0.win 12).blk t).view.emb y (1 : Fin 2)).val = 128 * (t.val / 4) + (y 1).val := by
  obtain ⟨h0, h1⟩ := idx12 t
  constructor
  · show win0_12.index t (0 : Fin 2) * 64 + 1 * (y 0).val = _
    rw [h0]; omega
  · show win0_12.index t (1 : Fin 2) * 128 + 1 * (y 1).val = _
    rw [h1]; omega

theorem idx13 : ∀ t : Fin cfg0.N, win0_13.index t (0 : Fin 2) = t.val % 4 ∧ win0_13.index t (1 : Fin 2) = t.val / 4 :=
  (by decide +kernel : ∀ t : Fin grid0.N, _)

theorem place13 (t : Fin cfg0.N) (y : Shape.Idx ⟨2, ![512, 128]⟩) :
    (((cfg0.win 13).blk t).view.emb y (0 : Fin 2)).val = 512 * (t.val % 4) + (y 0).val ∧
    (((cfg0.win 13).blk t).view.emb y (1 : Fin 2)).val = 128 * (t.val / 4) + (y 1).val := by
  obtain ⟨h0, h1⟩ := idx13 t
  constructor
  · show win0_13.index t (0 : Fin 2) * 512 + 1 * (y 0).val = _
    rw [h0]; omega
  · show win0_13.index t (1 : Fin 2) * 128 + 1 * (y 1).val = _
    rw [h1]; omega

theorem idx14 : ∀ t : Fin cfg0.N, win0_14.index t (0 : Fin 2) = min (8 * (t.val % 4) + 8) 31 ∧ win0_14.index t (1 : Fin 2) = t.val / 4 :=
  (by decide +kernel : ∀ t : Fin grid0.N, _)

theorem place14 (t : Fin cfg0.N) (y : Shape.Idx ⟨2, ![64, 128]⟩) :
    (((cfg0.win 14).blk t).view.emb y (0 : Fin 2)).val = 64 * (min (8 * (t.val % 4) + 8) 31) + (y 0).val ∧
    (((cfg0.win 14).blk t).view.emb y (1 : Fin 2)).val = 128 * (t.val / 4) + (y 1).val := by
  obtain ⟨h0, h1⟩ := idx14 t
  constructor
  · show win0_14.index t (0 : Fin 2) * 64 + 1 * (y 0).val = _
    rw [h0]; omega
  · show win0_14.index t (1 : Fin 2) * 128 + 1 * (y 1).val = _
    rw [h1]; omega

theorem idx15 : ∀ t : Fin cfg0.N, win0_15.index t (0 : Fin 2) = t.val % 4 ∧ win0_15.index t (1 : Fin 2) = t.val / 4 :=
  (by decide +kernel : ∀ t : Fin grid0.N, _)

theorem place15 (t : Fin cfg0.N) (y : Shape.Idx ⟨2, ![512, 384]⟩) :
    (((cfg0.win 15).blk t).view.emb y (0 : Fin 2)).val = 512 * (t.val % 4) + (y 0).val ∧
    (((cfg0.win 15).blk t).view.emb y (1 : Fin 2)).val = 384 * (t.val / 4) + (y 1).val := by
  obtain ⟨h0, h1⟩ := idx15 t
  constructor
  · show win0_15.index t (0 : Fin 2) * 512 + 1 * (y 0).val = _
    rw [h0]; omega
  · show win0_15.index t (1 : Fin 2) * 384 + 1 * (y 1).val = _
    rw [h1]; omega

theorem idx16 : ∀ t : Fin cfg0.N, win0_16.index t (0 : Fin 2) = t.val % 4 ∧ win0_16.index t (1 : Fin 2) = t.val / 4 :=
  (by decide +kernel : ∀ t : Fin grid0.N, _)

theorem place16 (t : Fin cfg0.N) (y : Shape.Idx ⟨2, ![512, 384]⟩) :
    (((cfg0.win 16).blk t).view.emb y (0 : Fin 2)).val = 512 * (t.val % 4) + (y 0).val ∧
    (((cfg0.win 16).blk t).view.emb y (1 : Fin 2)).val = 384 * (t.val / 4) + (y 1).val := by
  obtain ⟨h0, h1⟩ := idx16 t
  constructor
  · show win0_16.index t (0 : Fin 2) * 512 + 1 * (y 0).val = _
    rw [h0]; omega
  · show win0_16.index t (1 : Fin 2) * 384 + 1 * (y 1).val = _
    rw [h1]; omega

theorem idx17 : ∀ t : Fin cfg0.N, win0_17.index t (0 : Fin 2) = t.val % 4 ∧ win0_17.index t (1 : Fin 2) = t.val / 4 :=
  (by decide +kernel : ∀ t : Fin grid0.N, _)

theorem place17 (t : Fin cfg0.N) (y : Shape.Idx ⟨2, ![512, 384]⟩) :
    (((cfg0.win 17).blk t).view.emb y (0 : Fin 2)).val = 512 * (t.val % 4) + (y 0).val ∧
    (((cfg0.win 17).blk t).view.emb y (1 : Fin 2)).val = 384 * (t.val / 4) + (y 1).val := by
  obtain ⟨h0, h1⟩ := idx17 t
  constructor
  · show win0_17.index t (0 : Fin 2) * 512 + 1 * (y 0).val = _
    rw [h0]; omega
  · show win0_17.index t (1 : Fin 2) * 384 + 1 * (y 1).val = _
    rw [h1]; omega

/-- Columns of the prepared arrays: the residue's queries, keys, values (three times 384), its result gradients (384),
    and its per-row numbers (128). -/
def colQ (r : Fin 4) (x : Fin 384) : Fin 4608 := ⟨1152 * r.val + x.val, by omega⟩
def colK (r : Fin 4) (x : Fin 384) : Fin 4608 := ⟨1152 * r.val + 384 + x.val, by omega⟩
def colV (r : Fin 4) (x : Fin 384) : Fin 4608 := ⟨1152 * r.val + 768 + x.val, by omega⟩
def colG (r : Fin 4) (x : Fin 384) : Fin 1536 := ⟨384 * r.val + x.val, by omega⟩
def colL (r : Fin 4) (x : Fin 128) : Fin 512 := ⟨128 * r.val + x.val, by omega⟩

section
variable (m : (ℓ : Loc nD τ sig) → Buf (Elt Ideal) ℓ) (c : Dev nD) (t : Fin cfg0.N)

theorem read0 (y : Shape.Idx ⟨2, ![64, 384]⟩) (z) (h0 : (z (0 : Fin 2)).val = 64 * (8 * (t.val % 4) - 1) + (y 0).val)
    (h1 : (z (1 : Fin 2)).val = 384 * (3 * (t.val / 4)) + (y 1).val) : iblk m c 0 t y = V m c main_v86 z := by
  obtain ⟨p0, p1⟩ := place0 t y
  obtain rfl : ((cfg0.win 0).blk t).view.emb y = z := by
    funext a
    fin_cases a
    · exact Fin.ext (p0.trans h0.symm)
    · exact Fin.ext (p1.trans h1.symm)
  rfl

theorem read1 (y : Shape.Idx ⟨2, ![512, 384]⟩) (z) (h0 : (z (0 : Fin 2)).val = 512 * (t.val % 4) + (y 0).val)
    (h1 : (z (1 : Fin 2)).val = 384 * (3 * (t.val / 4)) + (y 1).val) : iblk m c 1 t y = V m c main_v86 z := by
  obtain ⟨p0, p1⟩ := place1 t y
  obtain rfl : ((cfg0.win 1).blk t).view.emb y = z := by
    funext a
    fin_cases a
    · exact Fin.ext (p0.trans h0.symm)
    · exact Fin.ext (p1.trans h1.symm)
  rfl

theorem read2 (y : Shape.Idx ⟨2, ![64, 384]⟩) (z) (h0 : (z (0 : Fin 2)).val = 64 * (min (8 * (t.val % 4) + 8) 31) + (y 0).val)
    (h1 : (z (1 : Fin 2)).val = 384 * (3 * (t.val / 4)) + (y 1).val) : iblk m c 2 t y = V m c main_v86 z := by
  obtain ⟨p0, p1⟩ := place2 t y
  obtain rfl : ((cfg0.win 2).blk t).view.emb y = z := by
    funext a
    fin_cases a
    · exact Fin.ext (p0.trans h0.symm)
    · exact Fin.ext (p1.trans h1.symm)
  rfl

theorem winQ_at (e : Fin 640) (x : Fin 384) :
    win (iblk m c 0 t) (iblk m c 1 t) (iblk m c 2 t) (ix2 e x) = V m c main_v86 (ix2 (wrow (tileOf t) e) (colQ (resOf t) x)) := by
  rw [win_at]
  unfold wrow colQ tileOf resOf
  have hl := point_lt t
  by_cases h : e.val < 64
  · rw [dif_pos h, dif_pos h]
    refine read0 m c t _ _ ?_ ?_
    · simp only [ix2_zero, ix2_one] <;> omega
    · simp only [ix2_zero, ix2_one] <;> omega
  by_cases h' : e.val < 576
  · rw [dif_neg h, dif_neg h, dif_pos (by omega), dif_pos h']
    refine read1 m c t _ _ ?_ ?_
    · simp only [ix2_zero, ix2_one] <;> omega
    · simp only [ix2_zero, ix2_one] <;> omega
  · rw [dif_neg h, dif_neg h, dif_neg (by omega), dif_neg h']
    refine read2 m c t _ _ ?_ ?_
    · simp only [ix2_zero, ix2_one] <;> omega
    · simp only [ix2_zero, ix2_one] <;> omega

theorem read3 (y : Shape.Idx ⟨2, ![64, 384]⟩) (z) (h0 : (z (0 : Fin 2)).val = 64 * (8 * (t.val % 4) - 1) + (y 0).val)
    (h1 : (z (1 : Fin 2)).val = 384 * (3 * (t.val / 4) + 1) + (y 1).val) : iblk m c 3 t y = V m c main_v86 z := by
  obtain ⟨p0, p1⟩ := place3 t y
  obtain rfl : ((cfg0.win 3).blk t).view.emb y = z := by
    funext a
    fin_cases a
    · exact Fin.ext (p0.trans h0.symm)
    · exact Fin.ext (p1.trans h1.symm)
  rfl

theorem read4 (y : Shape.Idx ⟨2, ![512, 384]⟩) (z) (h0 : (z (0 : Fin 2)).val = 512 * (t.val % 4) + (y 0).val)
    (h1 : (z (1 : Fin 2)).val = 384 * (3 * (t.val / 4) + 1) + (y 1).val) : iblk m c 4 t y = V m c main_v86 z := by
  obtain ⟨p0, p1⟩ := place4 t y
  obtain rfl : ((cfg0.win 4).blk t).view.emb y = z := by
    funext a
    fin_cases a
    · exact Fin.ext (p0.trans h0.symm)
    · exact Fin.ext (p1.trans h1.symm)
  rfl

theorem read5 (y : Shape.Idx ⟨2, ![64, 384]⟩) (z) (h0 : (z (0 : Fin 2)).val = 64 * (min (8 * (t.val % 4) + 8) 31) + (y 0).val)
    (h1 : (z (1 : Fin 2)).val = 384 * (3 * (t.val / 4) + 1) + (y 1).val) : iblk m c 5 t y = V m c main_v86 z := by
  obtain ⟨p0, p1⟩ := place5 t y
  obtain rfl : ((cfg0.win 5).blk t).view.emb y = z := by
    funext a
    fin_cases a
    · exact Fin.ext (p0.trans h0.symm)
    · exact Fin.ext (p1.trans h1.symm)
  rfl

theorem winK_at (e : Fin 640) (x : Fin 384) :
    win (iblk m c 3 t) (iblk m c 4 t) (iblk m c 5 t) (ix2 e x) = V m c main_v86 (ix2 (wrow (tileOf t) e) (colK (resOf t) x)) := by
  rw [win_at]
  unfold wrow colK tileOf resOf
  have hl := point_lt t
  by_cases h : e.val < 64
  · rw [dif_pos h, dif_pos h]
    refine read3 m c t _ _ ?_ ?_
    · simp only [ix2_zero, ix2_one] <;> omega
    · simp only [ix2_zero, ix2_one] <;> omega
  by_cases h' : e.val < 576
  · rw [dif_neg h, dif_neg h, dif_pos (by omega), dif_pos h']
    refine read4 m c t _ _ ?_ ?_
    · simp only [ix2_zero, ix2_one] <;> omega
    · simp only [ix2_zero, ix2_one] <;> omega
  · rw [dif_neg h, dif_neg h, dif_neg (by omega), dif_neg h']
    refine read5 m c t _ _ ?_ ?_
    · simp only [ix2_zero, ix2_one] <;> omega
    · simp only [ix2_zero, ix2_one] <;> omega

theorem read6 (y : Shape.Idx ⟨2, ![64, 384]⟩) (z) (h0 : (z (0 : Fin 2)).val = 64 * (8 * (t.val % 4) - 1) + (y 0).val)
    (h1 : (z (1 : Fin 2)).val = 384 * (3 * (t.val / 4) + 2) + (y 1).val) : iblk m c 6 t y = V m c main_v86 z := by
  obtain ⟨p0, p1⟩ := place6 t y
  obtain rfl : ((cfg0.win 6).blk t).view.emb y = z := by
    funext a
    fin_cases a
    · exact Fin.ext (p0.trans h0.symm)
    · exact Fin.ext (p1.trans h1.symm)
  rfl

theorem read7 (y : Shape.Idx ⟨2, ![512, 384]⟩) (z) (h0 : (z (0 : Fin 2)).val = 512 * (t.val % 4) + (y 0).val)
    (h1 : (z (1 : Fin 2)).val = 384 * (3 * (t.val / 4) + 2) + (y 1).val) : iblk m c 7 t y = V m c main_v86 z := by
  obtain ⟨p0, p1⟩ := place7 t y
  obtain rfl : ((cfg0.win 7).blk t).view.emb y = z := by
    funext a
    fin_cases a
    · exact Fin.ext (p0.trans h0.symm)
    · exact Fin.ext (p1.trans h1.symm)
  rfl

theorem read8 (y : Shape.Idx ⟨2, ![64, 384]⟩) (z) (h0 : (z (0 : Fin 2)).val = 64 * (min (8 * (t.val % 4) + 8) 31) + (y 0).val)
    (h1 : (z (1 : Fin 2)).val = 384 * (3 * (t.val / 4) + 2) + (y 1).val) : iblk m c 8 t y = V m c main_v86 z := by
  obtain ⟨p0, p1⟩ := place8 t y
  obtain rfl : ((cfg0.win 8).blk t).view.emb y = z := by
    funext a
    fin_cases a
    · exact Fin.ext (p0.trans h0.symm)
    · exact Fin.ext (p1.trans h1.symm)
  rfl

theorem winV_at (e : Fin 640) (x : Fin 384) :
    win (iblk m c 6 t) (iblk m c 7 t) (iblk m c 8 t) (ix2 e x) = V m c main_v86 (ix2 (wrow (tileOf t) e) (colV (resOf t) x)) := by
  rw [win_at]
  unfold wrow colV tileOf resOf
  have hl := point_lt t
  by_cases h : e.val < 64
  · rw [dif_pos h, dif_pos h]
    refine read6 m c t _ _ ?_ ?_
    · simp only [ix2_zero, ix2_one] <;> omega
    · simp only [ix2_zero, ix2_one] <;> omega
  by_cases h' : e.val < 576
  · rw [dif_neg h, dif_neg h, dif_pos (by omega), dif_pos h']
    refine read7 m c t _ _ ?_ ?_
    · simp only [ix2_zero, ix2_one] <;> omega
    · simp only [ix2_zero, ix2_one] <;> omega
  · rw [dif_neg h, dif_neg h, dif_neg (by omega), dif_neg h']
    refine read8 m c t _ _ ?_ ?_
    · simp only [ix2_zero, ix2_one] <;> omega
    · simp only [ix2_zero, ix2_one] <;> omega

theorem read9 (y : Shape.Idx ⟨2, ![64, 384]⟩) (z) (h0 : (z (0 : Fin 2)).val = 64 * (8 * (t.val % 4) - 1) + (y 0).val)
    (h1 : (z (1 : Fin 2)).val = 384 * (t.val / 4) + (y 1).val) : iblk m c 9 t y = V m c main_v88 z := by
  obtain ⟨p0, p1⟩ := place9 t y
  obtain rfl : ((cfg0.win 9).blk t).view.emb y = z := by
    funext a
    fin_cases a
    · exact Fin.ext (p0.trans h0.symm)
    · exact Fin.ext (p1.trans h1.symm)
  rfl

theorem read10 (y : Shape.Idx ⟨2, ![512, 384]⟩) (z) (h0 : (z (0 : Fin 2)).val = 512 * (t.val % 4) + (y 0).val)
    (h1 : (z (1 : Fin 2)).val = 384 * (t.val / 4) + (y 1).val) : iblk m c 10 t y = V m c main_v88 z := by
  obtain ⟨p0, p1⟩ := place10 t y
  obtain rfl : ((cfg0.win 10).blk t).view.emb y = z := by
    funext a
    fin_cases a
    · exact Fin.ext (p0.trans h0.symm)
    · exact Fin.ext (p1.trans h1.symm)
  rfl

theorem read11 (y : Shape.Idx ⟨2, ![64, 384]⟩) (z) (h0 : (z (0 : Fin 2)).val = 64 * (min (8 * (t.val % 4) + 8) 31) + (y 0).val)
    (h1 : (z (1 : Fin 2)).val = 384 * (t.val / 4) + (y 1).val) : iblk m c 11 t y = V m c main_v88 z := by
  obtain ⟨p0, p1⟩ := place11 t y
  obtain rfl : ((cfg0.win 11).blk t).view.emb y = z := by
    funext a
    fin_cases a
    · exact Fin.ext (p0.trans h0.symm)
    · exact Fin.ext (p1.trans h1.symm)
  rfl

theorem winG_at (e : Fin 640) (x : Fin 384) :
    win (iblk m c 9 t) (iblk m c 10 t) (iblk m c 11 t) (ix2 e x) = V m c main_v88 (ix2 (wrow (tileOf t) e) (colG (resOf t) x)) := by
  rw [win_at]
  unfold wrow colG tileOf resOf
  have hl := point_lt t
  by_cases h : e.val < 64
  · rw [dif_pos h, dif_pos h]
    refine read9 m c t _ _ ?_ ?_
    · simp only [ix2_zero, ix2_one] <;> omega
    · simp only [ix2_zero, ix2_one] <;> omega
  by_cases h' : e.val < 576
  · rw [dif_neg h, dif_neg h, dif_pos (by omega), dif_pos h']
    refine read10 m c t _ _ ?_ ?_
    · simp only [ix2_zero, ix2_one] <;> omega
    · simp only [ix2_zero, ix2_one] <;> omega
  · rw [dif_neg h, dif_neg h, dif_neg (by omega), dif_neg h']
    refine read11 m c t _ _ ?_ ?_
    · simp only [ix2_zero, ix2_one] <;> omega
    · simp only [ix2_zero, ix2_one] <;> omega

theorem read12 (y : Shape.Idx ⟨2, ![64, 128]⟩) (z) (h0 : (z (0 : Fin 2)).val = 64 * (8 * (t.val % 4) - 1) + (y 0).val)
    (h1 : (z (1 : Fin 2)).val = 128 * (t.val / 4) + (y 1).val) : iblk m c 12 t y = V m c main_v89 z := by
  obtain ⟨p0, p1⟩ := place12 t y
  obtain rfl : ((cfg0.win 12).blk t).view.emb y = z := by
    funext a
    fin_cases a
    · exact Fin.ext (p0.trans h0.symm)
    · exact Fin.ext (p1.trans h1.symm)
  rfl

theorem read13 (y : Shape.Idx ⟨2, ![512, 128]⟩) (z) (h0 : (z (0 : Fin 2)).val = 512 * (t.val % 4) + (y 0).val)
    (h1 : (z (1 : Fin 2)).val = 128 * (t.val / 4) + (y 1).val) : iblk m c 13 t y = V m c main_v89 z := by
  obtain ⟨p0, p1⟩ := place13 t y
  obtain rfl : ((cfg0.win 13).blk t).view.emb y = z := by
    funext a
    fin_cases a
    · exact Fin.ext (p0.trans h0.symm)
    · exact Fin.ext (p1.trans h1.symm)
  rfl

theorem read14 (y : Shape.Idx ⟨2, ![64, 128]⟩) (z) (h0 : (z (0 : Fin 2)).val = 64 * (min (8 * (t.val % 4) + 8) 31) + (y 0).val)
    (h1 : (z (1 : Fin 2)).val = 128 * (t.val / 4) + (y 1).val) : iblk m c 14 t y = V m c main_v89 z := by
  obtain ⟨p0, p1⟩ := place14 t y
  obtain rfl : ((cfg0.win 14).blk t).view.emb y = z := by
    funext a
    fin_cases a
    · exact Fin.ext (p0.trans h0.symm)
    · exact Fin.ext (p1.trans h1.symm)
  rfl

theorem winL_at (e : Fin 640) (x : Fin 128) :
    winLd (iblk m c 12 t) (iblk m c 13 t) (iblk m c 14 t) (ix2 e x) = V m c main_v89 (ix2 (wrow (tileOf t) e) (colL (resOf t) x)) := by
  rw [winLd_at]
  unfold wrow colL tileOf resOf
  have hl := point_lt t
  by_cases h : e.val < 64
  · rw [dif_pos h, dif_pos h]
    refine read12 m c t _ _ ?_ ?_
    · simp only [ix2_zero, ix2_one] <;> omega
    · simp only [ix2_zero, ix2_one] <;> omega
  by_cases h' : e.val < 576
  · rw [dif_neg h, dif_neg h, dif_pos (by omega), dif_pos h']
    refine read13 m c t _ _ ?_ ?_
    · simp only [ix2_zero, ix2_one] <;> omega
    · simp only [ix2_zero, ix2_one] <;> omega
  · rw [dif_neg h, dif_neg h, dif_neg (by omega), dif_neg h']
    refine read14 m c t _ _ ?_ ?_
    · simp only [ix2_zero, ix2_one] <;> omega
    · simp only [ix2_zero, ix2_one] <;> omega

/-! ## The result arrays -/

variable (A : Fin 2048 → Fin 4608 → ℝ) (B : Fin 2048 → Fin 1536 → ℝ) (L : Fin 2048 → Fin 512 → ℝ)
variable (hA : ∀ i x, V m c main_v86 (ix2 i x) = (A i x : EReal))
variable (hB : ∀ i x, V m c main_v88 (ix2 i x) = (B i x : EReal))
variable (hL : ∀ i x, V m c main_v89 (ix2 i x) = (L i x : EReal))

include hA hB hL in
theorem loads_at : Loads (tileOf t) (fun i x => A i (colQ (resOf t) x)) (fun i x => A i (colK (resOf t) x))
    (fun i x => A i (colV (resOf t) x)) (fun i x => B i (colG (resOf t) x)) (fun i x => L i (colL (resOf t) x))
    (win (iblk m c 0 t) (iblk m c 1 t) (iblk m c 2 t)) (win (iblk m c 3 t) (iblk m c 4 t) (iblk m c 5 t))
    (win (iblk m c 6 t) (iblk m c 7 t) (iblk m c 8 t)) (win (iblk m c 9 t) (iblk m c 10 t) (iblk m c 11 t))
    (winLd (iblk m c 12 t) (iblk m c 13 t) (iblk m c 14 t)) where
  hQ e x := (winQ_at m c t e x).trans (hA _ _)
  hK e x := (winK_at m c t e x).trans (hA _ _)
  hV e x := (winV_at m c t e x).trans (hA _ _)
  hG e x := (winG_at m c t e x).trans (hB _ _)
  hL e x := (winL_at m c t e x).trans (hL _ _)

/-- The residue of a column of a result, and the column inside that residue. -/
def resCol (x : Fin 1536) : Fin 4 := ⟨x.val / 384, by omega⟩
def inCol (x : Fin 1536) : Fin 384 := ⟨x.val % 384, by omega⟩

include hA hB hL in
theorem arrDq : (dats m 0 c).arrAt 15 cfg0.N = fun y : S2048x1536.Idx =>
    (resDq (fun i x => A i (colQ (resCol (y 1)) x)) (fun i x => A i (colK (resCol (y 1)) x)) (fun i x => A i (colV (resCol (y 1)) x)) (fun i x => B i (colG (resCol (y 1)) x)) (fun i x => L i (colL (resCol (y 1)) x)) (y 0) (inCol (y 1)) : EReal) := by
  refine (dats m 0 c).arrAt_eq_of_covers 15 _ (by decide +kernel) fun t hf y => ?_
  blk_simp
  rw [after0_15]
  refine (outDq (grid0.coords t) _ _ _ _ _ _ _ _ _ _ _ _ _ _ _ (coords_tile t) (loads_at m c t A B L hA hB hL) y).trans ?_
  obtain ⟨z, hz⟩ : ∃ z, z = (win0_15.blk t).view.emb y := ⟨_, rfl⟩
  have h0 : z 0 = orow (tileOf t) (y 0) := by
    apply Fin.ext; rw [hz]; exact (place15 t y).1
  have h1 : (z 1).val = 384 * (t.val / 4) + (y 1).val := by
    rw [hz]; exact (place15 t y).2
  have hy : (y 1).val < 384 := (y 1).isLt
  have h2 : resCol (z 1) = resOf t := by
    apply Fin.ext; unfold resCol resOf; show (z 1).val / 384 = t.val / 4; omega
  have h3 : inCol (z 1) = y 1 := by
    apply Fin.ext; unfold inCol; show (z 1).val % 384 = (y 1).val; omega
  rw [← hz, h0, h2, h3]

include hA hB hL in
theorem arrDk : (dats m 0 c).arrAt 16 cfg0.N = fun y : S2048x1536.Idx =>
    (resDk (fun i x => A i (colQ (resCol (y 1)) x)) (fun i x => A i (colK (resCol (y 1)) x)) (fun i x => A i (colV (resCol (y 1)) x)) (fun i x => B i (colG (resCol (y 1)) x)) (fun i x => L i (colL (resCol (y 1)) x)) (y 0) (inCol (y 1)) : EReal) := by
  refine (dats m 0 c).arrAt_eq_of_covers 16 _ (by decide +kernel) fun t hf y => ?_
  blk_simp
  rw [after0_16]
  refine (outDk (grid0.coords t) _ _ _ _ _ _ _ _ _ _ _ _ _ _ _ (coords_tile t) (loads_at m c t A B L hA hB hL) y).trans ?_
  obtain ⟨z, hz⟩ : ∃ z, z = (win0_16.blk t).view.emb y := ⟨_, rfl⟩
  have h0 : z 0 = orow (tileOf t) (y 0) := by
    apply Fin.ext; rw [hz]; exact (place16 t y).1
  have h1 : (z 1).val = 384 * (t.val / 4) + (y 1).val := by
    rw [hz]; exact (place16 t y).2
  have hy : (y 1).val < 384 := (y 1).isLt
  have h2 : resCol (z 1) = resOf t := by
    apply Fin.ext; unfold resCol resOf; show (z 1).val / 384 = t.val / 4; omega
  have h3 : inCol (z 1) = y 1 := by
    apply Fin.ext; unfold inCol; show (z 1).val % 384 = (y 1).val; omega
  rw [← hz, h0, h2, h3]

include hA hB hL in
theorem arrDv : (dats m 0 c).arrAt 17 cfg0.N = fun y : S2048x1536.Idx =>
    (resDv (fun i x => A i (colQ (resCol (y 1)) x)) (fun i x => A i (colK (resCol (y 1)) x)) (fun i x => B i (colG (resCol (y 1)) x)) (fun i x => L i (colL (resCol (y 1)) x)) (y 0) (inCol (y 1)) : EReal) := by
  refine (dats m 0 c).arrAt_eq_of_covers 17 _ (by decide +kernel) fun t hf y => ?_
  blk_simp
  rw [after0_17]
  refine (outDv (grid0.coords t) _ _ _ _ _ _ _ _ _ _ _ _ _ _ _ (coords_tile t) (loads_at m c t A B L hA hB hL) y).trans ?_
  obtain ⟨z, hz⟩ : ∃ z, z = (win0_17.blk t).view.emb y := ⟨_, rfl⟩
  have h0 : z 0 = orow (tileOf t) (y 0) := by
    apply Fin.ext; rw [hz]; exact (place17 t y).1
  have h1 : (z 1).val = 384 * (t.val / 4) + (y 1).val := by
    rw [hz]; exact (place17 t y).2
  have hy : (y 1).val < 384 := (y 1).isLt
  have h2 : resCol (z 1) = resOf t := by
    apply Fin.ext; unfold resCol resOf; show (z 1).val / 384 = t.val / 4; omega
  have h3 : inCol (z 1) = y 1 := by
    apply Fin.ext; unfold inCol; show (z 1).val % 384 = (y 1).val; omega
  rw [← hz, h0, h2, h3]

end

end Cert.KernelIdeal.Blk
-- ==== Proof.Prep.lean ====
/- The host operations in front of the kernel's call, read back: what the three arrays that the call is given hold,
   as terms of the arguments. The operations stand in four windows; each window's results are stated from the results of the
   windows before it, and the last section states the three arrays by name. -/
module

public import proofs.«01_k».proof.Proof.Gen.KernelIdeal.Frame
public import proofs.«01_k».proof.Proof.Gen.ReferenceIdeal.Read
public import Idealize.ShloMosaic.Lib.StableHlo.Run

@[expose] public section

noncomputable section

namespace Cert.KernelIdeal.Prep

open Cert.KernelIdeal Cert.KernelIdeal.Gen Idealize.ShloMosaic Idealize.ShloMosaic.TcCoe Idealize.SL.Sem Idealize.ShloMosaic.StableHlo

variable {F : FTy → Type} [FloatOps F]

/-- The function of the operation that writes `main_v12`, named. It packs its operands into a list of dependent pairs
    whose shapes a later argument's type mentions, so `simp` cannot rewrite an operand where it stands; applied by
    name, the operands are plain arguments, which the window lemmas below rewrite before the name unfolds. -/
def fn_main_v12 : (main_v6 : Ref sig .tc).ty.Contents (Elt F) → (main_v7 : Ref sig .tc).ty.Contents (Elt F) → (main_v8 : Ref sig .tc).ty.Contents (Elt F) → (main_v9 : Ref sig .tc).ty.Contents (Elt F) → (main_v10 : Ref sig .tc).ty.Contents (Elt F) → (main_v11 : Ref sig .tc).ty.Contents (Elt F) → (main_v12 : Ref sig .tc).ty.Contents (Elt F) :=
  (fun u0 u1 u2 u3 u4 u5 => (concatenate S6 0 [⟨S1, (u0 : (⟨S1, .f32⟩ : BufTy).Contents (Elt F))⟩, ⟨S1, (u1 : (⟨S1, .f32⟩ : BufTy).Contents (Elt F))⟩, ⟨S1, (u2 : (⟨S1, .f32⟩ : BufTy).Contents (Elt F))⟩, ⟨S1, (u3 : (⟨S1, .f32⟩ : BufTy).Contents (Elt F))⟩, ⟨S1, (u4 : (⟨S1, .f32⟩ : BufTy).Contents (Elt F))⟩, ⟨S1, (u5 : (⟨S1, .f32⟩ : BufTy).Contents (Elt F))⟩] concatenates_S1_S1_S1_S1_S1_S1_S6_d0 : (⟨S6, .f32⟩ : BufTy).Contents (Elt F)))

/-- The function of the operation that writes `main_v83`, named. It packs its operands into a list of dependent pairs
    whose shapes a later argument's type mentions, so `simp` cannot rewrite an operand where it stands; applied by
    name, the operands are plain arguments, which the window lemmas below rewrite before the name unfolds. -/
def fn_main_v83 : (main_v77 : Ref sig .tc).ty.Contents (Elt F) → (main_v81 : Ref sig .tc).ty.Contents (Elt F) → (main_v80 : Ref sig .tc).ty.Contents (Elt F) → (main_v82 : Ref sig .tc).ty.Contents (Elt F) → (main_v83 : Ref sig .tc).ty.Contents (Elt F) :=
  (fun u0 u1 u2 u3 => (concatenate S8192x128 1 [⟨S8192x6, (u0 : (⟨S8192x6, .f32⟩ : BufTy).Contents (Elt F))⟩, ⟨S8192x2, (u1 : (⟨S8192x2, .f32⟩ : BufTy).Contents (Elt F))⟩, ⟨S8192x6, (u2 : (⟨S8192x6, .f32⟩ : BufTy).Contents (Elt F))⟩, ⟨S8192x114, (u3 : (⟨S8192x114, .f32⟩ : BufTy).Contents (Elt F))⟩] concatenates_S8192x6_S8192x2_S8192x6_S8192x114_S8192x128_d1 : (⟨S8192x128, .f32⟩ : BufTy).Contents (Elt F)))

/-- The function of the operation that writes `main_v84`, named. It packs its operands into a list of dependent pairs
    whose shapes a later argument's type mentions, so `simp` cannot rewrite an operand where it stands; applied by
    name, the operands are plain arguments, which the window lemmas below rewrite before the name unfolds. -/
def fn_main_v84 : (main_arg0 : Ref sig .tc).ty.Contents (Elt F) → (main_arg1 : Ref sig .tc).ty.Contents (Elt F) → (main_arg2 : Ref sig .tc).ty.Contents (Elt F) → (main_v84 : Ref sig .tc).ty.Contents (Elt F) :=
  (fun u0 u1 u2 => (concatenate S8192x1152 1 [⟨S8192x384, (u0 : (⟨S8192x384, .f32⟩ : BufTy).Contents (Elt F))⟩, ⟨S8192x384, (u1 : (⟨S8192x384, .f32⟩ : BufTy).Contents (Elt F))⟩, ⟨S8192x384, (u2 : (⟨S8192x384, .f32⟩ : BufTy).Contents (Elt F))⟩] concatenates_S8192x384_S8192x384_S8192x384_S8192x1152_d1 : (⟨S8192x1152, .f32⟩ : BufTy).Contents (Elt F)))

/-- @main's operations 1 … 30 of 108 (window `main_part0`). -/
abbrev ops_part0_0 : List (HloOp τ sig (Elt F)) :=
  [ reshape main_arg0 main_v0 (rfl : (.f32 : EltTy) = .f32) shapeCasts_S8192x384_S2048x4x6x64,
    unary main_v0 main_v1 ((transpose S4x2048x6x64 [1, 0, 2, 3] · transposes_S2048x4x6x64_S4x2048x6x64_1_0_2_3) : (⟨S2048x4x6x64, .f32⟩ : BufTy).Contents (Elt F) → (⟨S4x2048x6x64, .f32⟩ : BufTy).Contents (Elt F)),
    reshape main_arg1 main_v2 (rfl : (.f32 : EltTy) = .f32) shapeCasts_S8192x384_S2048x4x6x64,
    unary main_v2 main_v3 ((transpose S4x2048x6x64 [1, 0, 2, 3] · transposes_S2048x4x6x64_S4x2048x6x64_1_0_2_3) : (⟨S2048x4x6x64, .f32⟩ : BufTy).Contents (Elt F) → (⟨S4x2048x6x64, .f32⟩ : BufTy).Contents (Elt F)),
    reshape main_arg2 main_v4 (rfl : (.f32 : EltTy) = .f32) shapeCasts_S8192x384_S2048x4x6x64,
    unary main_v4 main_v5 ((transpose S4x2048x6x64 [1, 0, 2, 3] · transposes_S2048x4x6x64_S4x2048x6x64_1_0_2_3) : (⟨S2048x4x6x64, .f32⟩ : BufTy).Contents (Elt F) → (⟨S4x2048x6x64, .f32⟩ : BufTy).Contents (Elt F)),
    nullary main_cst (constant S_ .f32 0x3ECB2FF5#32),
    unary main_cst main_v6 (broadcastInDim S1 ![] bcast_S_S1 : (⟨S_, .f32⟩ : BufTy).Contents (Elt F) → (⟨S1, .f32⟩ : BufTy).Contents (Elt F)),
    nullary main_cst_0 (constant S_ .f32 0x3E214518#32),
    unary main_cst_0 main_v7 (broadcastInDim S1 ![] bcast_S_S1 : (⟨S_, .f32⟩ : BufTy).Contents (Elt F) → (⟨S1, .f32⟩ : BufTy).Contents (Elt F)),
    nullary main_cst_1 (constant S_ .f32 0x3D800000#32),
    unary main_cst_1 main_v8 (broadcastInDim S1 ![] bcast_S_S1 : (⟨S_, .f32⟩ : BufTy).Contents (Elt F) → (⟨S1, .f32⟩ : BufTy).Contents (Elt F)),
    nullary main_cst_2 (constant S_ .f32 0x3CCB2FF5#32),
    unary main_cst_2 main_v9 (broadcastInDim S1 ![] bcast_S_S1 : (⟨S_, .f32⟩ : BufTy).Contents (Elt F) → (⟨S1, .f32⟩ : BufTy).Contents (Elt F)),
    nullary main_cst_3 (constant S_ .f32 0x3C214518#32),
    unary main_cst_3 main_v10 (broadcastInDim S1 ![] bcast_S_S1 : (⟨S_, .f32⟩ : BufTy).Contents (Elt F) → (⟨S1, .f32⟩ : BufTy).Contents (Elt F)),
    nullary main_cst_4 (constant S_ .f32 0x3B800000#32),
    unary main_cst_4 main_v11 (broadcastInDim S1 ![] bcast_S_S1 : (⟨S_, .f32⟩ : BufTy).Contents (Elt F) → (⟨S1, .f32⟩ : BufTy).Contents (Elt F)),
    nary ![main_v6, main_v7, main_v8, main_v9, main_v10, main_v11] main_v12 (fun u => fn_main_v12 (F := F) (u 0) (u 1) (u 2) (u 3) (u 4) (u 5)),
    nullary main_v13 (iotaInDim S2048x2048 32 1),
    nullary main_v14 (iotaInDim S2048x2048 32 0),
    binary main_v13 main_v14 main_v15 (subi : (⟨S2048x2048, .i32⟩ : BufTy).Contents (Elt F) → (⟨S2048x2048, .i32⟩ : BufTy).Contents (Elt F) → (⟨S2048x2048, .i32⟩ : BufTy).Contents (Elt F)),
    unary main_v15 main_v16 (absi : (⟨S2048x2048, .i32⟩ : BufTy).Contents (Elt F) → (⟨S2048x2048, .i32⟩ : BufTy).Contents (Elt F)),
    nullary main_c (constantI S_ 32 4#32),
    unary main_c main_v17 (broadcastInDim S2048x2048 ![] bcast_S_S2048x2048 : (⟨S_, .i32⟩ : BufTy).Contents (Elt F) → (⟨S2048x2048, .i32⟩ : BufTy).Contents (Elt F)),
    binary main_v16 main_v17 main_v18 (muli : (⟨S2048x2048, .i32⟩ : BufTy).Contents (Elt F) → (⟨S2048x2048, .i32⟩ : BufTy).Contents (Elt F) → (⟨S2048x2048, .i32⟩ : BufTy).Contents (Elt F)),
    unary main_v18 main_v19 (sitofp .f32 : (⟨S2048x2048, .i32⟩ : BufTy).Contents (Elt F) → (⟨S2048x2048, .f32⟩ : BufTy).Contents (Elt F)),
    binary main_v1 main_v3 main_v20 ((fun l r => Host.dotGeneral dot_S4x2048x6x64_S4x2048x6x64_S4x6x2048x2048_3_3_1_1_02_02 none l r) : (⟨S4x2048x6x64, .f32⟩ : BufTy).Contents (Elt F) → (⟨S4x2048x6x64, .f32⟩ : BufTy).Contents (Elt F) → (⟨S4x6x2048x2048, .f32⟩ : BufTy).Contents (Elt F)),
    nullary main_cst_5 (constant S_ .f32 0x3E000000#32),
    unary main_cst_5 main_v21 (broadcastInDim S4x6x2048x2048 ![] bcast_S_S4x6x2048x2048 : (⟨S_, .f32⟩ : BufTy).Contents (Elt F) → (⟨S4x6x2048x2048, .f32⟩ : BufTy).Contents (Elt F)) ]

/-- @main's operations 31 … 60 of 108 (window `main_part0`). -/
abbrev ops_part0_1 : List (HloOp τ sig (Elt F)) :=
  [ binary main_v20 main_v21 main_v22 (mulf : (⟨S4x6x2048x2048, .f32⟩ : BufTy).Contents (Elt F) → (⟨S4x6x2048x2048, .f32⟩ : BufTy).Contents (Elt F) → (⟨S4x6x2048x2048, .f32⟩ : BufTy).Contents (Elt F)),
    unary main_v12 main_v23 (broadcastInDim S6x1x1 ![0] bcast_S6_S6x1x1_0 : (⟨S6, .f32⟩ : BufTy).Contents (Elt F) → (⟨S6x1x1, .f32⟩ : BufTy).Contents (Elt F)),
    unary main_v19 main_v24 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v23 main_v25 (broadcastInDim S6x2048x2048 ![0, 1, 2] bcast_S6x1x1_S6x2048x2048_0_1_2 : (⟨S6x1x1, .f32⟩ : BufTy).Contents (Elt F) → (⟨S6x2048x2048, .f32⟩ : BufTy).Contents (Elt F)),
    unary main_v24 main_v26 (broadcastInDim S6x2048x2048 ![0, 1, 2] bcast_S1x2048x2048_S6x2048x2048_0_1_2 : (⟨S1x2048x2048, .f32⟩ : BufTy).Contents (Elt F) → (⟨S6x2048x2048, .f32⟩ : BufTy).Contents (Elt F)),
    binary main_v25 main_v26 main_v27 (mulf : (⟨S6x2048x2048, .f32⟩ : BufTy).Contents (Elt F) → (⟨S6x2048x2048, .f32⟩ : BufTy).Contents (Elt F) → (⟨S6x2048x2048, .f32⟩ : BufTy).Contents (Elt F)),
    unary main_v27 main_v28 (broadcastInDim S1x6x2048x2048 ![1, 2, 3] bcast_S6x2048x2048_S1x6x2048x2048_1_2_3 : (⟨S6x2048x2048, .f32⟩ : BufTy).Contents (Elt F) → (⟨S1x6x2048x2048, .f32⟩ : BufTy).Contents (Elt F)),
    unary main_v28 main_v29 (broadcastInDim S4x6x2048x2048 ![0, 1, 2, 3] bcast_S1x6x2048x2048_S4x6x2048x2048_0_1_2_3 : (⟨S1x6x2048x2048, .f32⟩ : BufTy).Contents (Elt F) → (⟨S4x6x2048x2048, .f32⟩ : BufTy).Contents (Elt F)),
    binary main_v22 main_v29 main_v30 (subf : (⟨S4x6x2048x2048, .f32⟩ : BufTy).Contents (Elt F) → (⟨S4x6x2048x2048, .f32⟩ : BufTy).Contents (Elt F) → (⟨S4x6x2048x2048, .f32⟩ : BufTy).Contents (Elt F)),
    nullary main_c_6 (constantI S_ 32 64#32),
    unary main_c_6 main_v31 (broadcastInDim S2048x2048 ![] bcast_S_S2048x2048 : (⟨S_, .i32⟩ : BufTy).Contents (Elt F) → (⟨S2048x2048, .i32⟩ : BufTy).Contents (Elt F)),
    binary main_v16 main_v31 main_v32 (cmpi .sle : (⟨S2048x2048, .i32⟩ : BufTy).Contents (Elt F) → (⟨S2048x2048, .i32⟩ : BufTy).Contents (Elt F) → (⟨S2048x2048, .i1⟩ : BufTy).Contents (Elt F)),
    nullary main_cst_7 (constant S_ .f32 0xFF800000#32),
    TRef.unary (TRef.of (T := ⟨S_, .f32⟩) main_cst_7) (TRef.of (T := ⟨S_, .f32⟩) main_call0_v0) id,
    TRef.unary (TRef.of (T := ⟨S2048x2048, .i1⟩) main_v32) (TRef.of (T := ⟨S4x6x2048x2048, .i1⟩) main_call0_v1) (broadcastInDim S4x6x2048x2048 ![2, 3] bcast_S2048x2048_S4x6x2048x2048_2_3),
    TRef.unary (TRef.of (T := ⟨S_, .f32⟩) main_call0_v0) (TRef.of (T := ⟨S4x6x2048x2048, .f32⟩) main_call0_v2) (broadcastInDim S4x6x2048x2048 ![] bcast_S_S4x6x2048x2048),
    TRef.ternary (TRef.of (T := ⟨S4x6x2048x2048, .i1⟩) main_call0_v1) (TRef.of (T := ⟨S4x6x2048x2048, .f32⟩) main_v30) (TRef.of (T := ⟨S4x6x2048x2048, .f32⟩) main_call0_v2) (TRef.of (T := ⟨S4x6x2048x2048, .f32⟩) main_v33) select,
    nullary main_cst_8 (constant S_ .f32 0xFF800000#32),
    binary main_v33 main_cst_8 main_v34 ((fun x v => Host.reduce FloatOps.maximumf x v reducesTo_S4x6x2048x2048_S4x6x2048_d3 h_S_) : (⟨S4x6x2048x2048, .f32⟩ : BufTy).Contents (Elt F) → (⟨S_, .f32⟩ : BufTy).Contents (Elt F) → (⟨S4x6x2048, .f32⟩ : BufTy).Contents (Elt F)),
    unary main_v34 main_v35 (broadcastInDim S4x6x2048x1 ![0, 1, 2] bcast_S4x6x2048_S4x6x2048x1_0_1_2 : (⟨S4x6x2048, .f32⟩ : BufTy).Contents (Elt F) → (⟨S4x6x2048x1, .f32⟩ : BufTy).Contents (Elt F)),
    unary main_v35 main_v36 (broadcastInDim S4x6x2048x2048 ![0, 1, 2, 3] bcast_S4x6x2048x1_S4x6x2048x2048_0_1_2_3 : (⟨S4x6x2048x1, .f32⟩ : BufTy).Contents (Elt F) → (⟨S4x6x2048x2048, .f32⟩ : BufTy).Contents (Elt F)),
    binary main_v33 main_v36 main_v37 (subf : (⟨S4x6x2048x2048, .f32⟩ : BufTy).Contents (Elt F) → (⟨S4x6x2048x2048, .f32⟩ : BufTy).Contents (Elt F) → (⟨S4x6x2048x2048, .f32⟩ : BufTy).Contents (Elt F)),
    unary main_v37 main_v38 (Host.exp : (⟨S4x6x2048x2048, .f32⟩ : BufTy).Contents (Elt F) → (⟨S4x6x2048x2048, .f32⟩ : BufTy).Contents (Elt F)),
    nullary main_cst_9 (constant S_ .f32 0x00000000#32),
    binary main_v38 main_cst_9 main_v39 ((fun x v => Host.reduceAdd x v reducesTo_S4x6x2048x2048_S4x6x2048_d3 h_S_) : (⟨S4x6x2048x2048, .f32⟩ : BufTy).Contents (Elt F) → (⟨S_, .f32⟩ : BufTy).Contents (Elt F) → (⟨S4x6x2048, .f32⟩ : BufTy).Contents (Elt F)),
    unary main_v39 main_v40 (Host.log : (⟨S4x6x2048, .f32⟩ : BufTy).Contents (Elt F) → (⟨S4x6x2048, .f32⟩ : BufTy).Contents (Elt F)),
    binary main_v40 main_v34 main_v41 (addf : (⟨S4x6x2048, .f32⟩ : BufTy).Contents (Elt F) → (⟨S4x6x2048, .f32⟩ : BufTy).Contents (Elt F) → (⟨S4x6x2048, .f32⟩ : BufTy).Contents (Elt F)),
    unary main_v41 main_v42 (broadcastInDim S4x6x2048x1 ![0, 1, 2] bcast_S4x6x2048_S4x6x2048x1_0_1_2 : (⟨S4x6x2048, .f32⟩ : BufTy).Contents (Elt F) → (⟨S4x6x2048x1, .f32⟩ : BufTy).Contents (Elt F)),
    unary main_v42 main_v43 (broadcastInDim S4x6x2048x2048 ![0, 1, 2, 3] bcast_S4x6x2048x1_S4x6x2048x2048_0_1_2_3 : (⟨S4x6x2048x1, .f32⟩ : BufTy).Contents (Elt F) → (⟨S4x6x2048x2048, .f32⟩ : BufTy).Contents (Elt F)),
    binary main_v33 main_v43 main_v44 (subf : (⟨S4x6x2048x2048, .f32⟩ : BufTy).Contents (Elt F) → (⟨S4x6x2048x2048, .f32⟩ : BufTy).Contents (Elt F) → (⟨S4x6x2048x2048, .f32⟩ : BufTy).Contents (Elt F)) ]

/-- @main's operations 61 … 63 of 108 (window `main_part0`). -/
abbrev ops_part0_2 : List (HloOp τ sig (Elt F)) :=
  [ unary main_v44 main_v45 (Host.exp : (⟨S4x6x2048x2048, .f32⟩ : BufTy).Contents (Elt F) → (⟨S4x6x2048x2048, .f32⟩ : BufTy).Contents (Elt F)),
    binary main_v5 main_v45 main_v46 ((fun l r => Host.dotGeneral dot_S4x2048x6x64_S4x6x2048x2048_S4x6x64x2048_1_3_3_2_02_01 none l r) : (⟨S4x2048x6x64, .f32⟩ : BufTy).Contents (Elt F) → (⟨S4x6x2048x2048, .f32⟩ : BufTy).Contents (Elt F) → (⟨S4x6x64x2048, .f32⟩ : BufTy).Contents (Elt F)),
    unary main_v46 main_v47 ((transpose S4x2048x6x64 [0, 3, 1, 2] · transposes_S4x6x64x2048_S4x2048x6x64_0_3_1_2) : (⟨S4x6x64x2048, .f32⟩ : BufTy).Contents (Elt F) → (⟨S4x2048x6x64, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 64 … 108 of 108 (window `main_part1`). -/
abbrev ops_part1 : List (HloOp τ sig (Elt F)) :=
  [ unary main_v47 main_v48 ((transpose S2048x4x6x64 [1, 0, 2, 3] · transposes_S4x2048x6x64_S2048x4x6x64_1_0_2_3) : (⟨S4x2048x6x64, .f32⟩ : BufTy).Contents (Elt F) → (⟨S2048x4x6x64, .f32⟩ : BufTy).Contents (Elt F)),
    reshape main_v48 main_v49 (rfl : (.f32 : EltTy) = .f32) shapeCasts_S2048x4x6x64_S8192x6x64,
    unary main_v41 main_v50 ((transpose S2048x4x6 [2, 0, 1] · transposes_S4x6x2048_S2048x4x6_2_0_1) : (⟨S4x6x2048, .f32⟩ : BufTy).Contents (Elt F) → (⟨S2048x4x6, .f32⟩ : BufTy).Contents (Elt F)),
    reshape main_v50 main_v51 (rfl : (.f32 : EltTy) = .f32) shapeCasts_S2048x4x6_S8192x6,
    binary main_arg4 main_v51 main_v52 (maximumf : (⟨S8192x6, .f32⟩ : BufTy).Contents (Elt F) → (⟨S8192x6, .f32⟩ : BufTy).Contents (Elt F) → (⟨S8192x6, .f32⟩ : BufTy).Contents (Elt F)),
    binary main_v52 main_arg6 main_v53 (maximumf : (⟨S8192x6, .f32⟩ : BufTy).Contents (Elt F) → (⟨S8192x6, .f32⟩ : BufTy).Contents (Elt F) → (⟨S8192x6, .f32⟩ : BufTy).Contents (Elt F)),
    binary main_arg4 main_v53 main_v54 (subf : (⟨S8192x6, .f32⟩ : BufTy).Contents (Elt F) → (⟨S8192x6, .f32⟩ : BufTy).Contents (Elt F) → (⟨S8192x6, .f32⟩ : BufTy).Contents (Elt F)),
    unary main_v54 main_v55 (Host.exp : (⟨S8192x6, .f32⟩ : BufTy).Contents (Elt F) → (⟨S8192x6, .f32⟩ : BufTy).Contents (Elt F)),
    binary main_v51 main_v53 main_v56 (subf : (⟨S8192x6, .f32⟩ : BufTy).Contents (Elt F) → (⟨S8192x6, .f32⟩ : BufTy).Contents (Elt F) → (⟨S8192x6, .f32⟩ : BufTy).Contents (Elt F)),
    unary main_v56 main_v57 (Host.exp : (⟨S8192x6, .f32⟩ : BufTy).Contents (Elt F) → (⟨S8192x6, .f32⟩ : BufTy).Contents (Elt F)),
    binary main_arg6 main_v53 main_v58 (subf : (⟨S8192x6, .f32⟩ : BufTy).Contents (Elt F) → (⟨S8192x6, .f32⟩ : BufTy).Contents (Elt F) → (⟨S8192x6, .f32⟩ : BufTy).Contents (Elt F)),
    unary main_v58 main_v59 (Host.exp : (⟨S8192x6, .f32⟩ : BufTy).Contents (Elt F) → (⟨S8192x6, .f32⟩ : BufTy).Contents (Elt F)),
    binary main_v55 main_v57 main_v60 (addf : (⟨S8192x6, .f32⟩ : BufTy).Contents (Elt F) → (⟨S8192x6, .f32⟩ : BufTy).Contents (Elt F) → (⟨S8192x6, .f32⟩ : BufTy).Contents (Elt F)),
    binary main_v60 main_v59 main_v61 (addf : (⟨S8192x6, .f32⟩ : BufTy).Contents (Elt F) → (⟨S8192x6, .f32⟩ : BufTy).Contents (Elt F) → (⟨S8192x6, .f32⟩ : BufTy).Contents (Elt F)),
    binary main_v55 main_v61 main_v62 (Host.divf : (⟨S8192x6, .f32⟩ : BufTy).Contents (Elt F) → (⟨S8192x6, .f32⟩ : BufTy).Contents (Elt F) → (⟨S8192x6, .f32⟩ : BufTy).Contents (Elt F)),
    unary main_v62 main_v63 (broadcastInDim S8192x6x1 ![0, 1] bcast_S8192x6_S8192x6x1_0_1 : (⟨S8192x6, .f32⟩ : BufTy).Contents (Elt F) → (⟨S8192x6x1, .f32⟩ : BufTy).Contents (Elt F)),
    unary main_v63 main_v64 (broadcastInDim S8192x6x64 ![0, 1, 2] bcast_S8192x6x1_S8192x6x64_0_1_2 : (⟨S8192x6x1, .f32⟩ : BufTy).Contents (Elt F) → (⟨S8192x6x64, .f32⟩ : BufTy).Contents (Elt F)),
    binary main_v64 main_arg3 main_v65 (mulf : (⟨S8192x6x64, .f32⟩ : BufTy).Contents (Elt F) → (⟨S8192x6x64, .f32⟩ : BufTy).Contents (Elt F) → (⟨S8192x6x64, .f32⟩ : BufTy).Contents (Elt F)),
    binary main_v57 main_v61 main_v66 (Host.divf : (⟨S8192x6, .f32⟩ : BufTy).Contents (Elt F) → (⟨S8192x6, .f32⟩ : BufTy).Contents (Elt F) → (⟨S8192x6, .f32⟩ : BufTy).Contents (Elt F)),
    unary main_v66 main_v67 (broadcastInDim S8192x6x1 ![0, 1] bcast_S8192x6_S8192x6x1_0_1 : (⟨S8192x6, .f32⟩ : BufTy).Contents (Elt F) → (⟨S8192x6x1, .f32⟩ : BufTy).Contents (Elt F)),
    unary main_v67 main_v68 (broadcastInDim S8192x6x64 ![0, 1, 2] bcast_S8192x6x1_S8192x6x64_0_1_2 : (⟨S8192x6x1, .f32⟩ : BufTy).Contents (Elt F) → (⟨S8192x6x64, .f32⟩ : BufTy).Contents (Elt F)),
    binary main_v68 main_v49 main_v69 (mulf : (⟨S8192x6x64, .f32⟩ : BufTy).Contents (Elt F) → (⟨S8192x6x64, .f32⟩ : BufTy).Contents (Elt F) → (⟨S8192x6x64, .f32⟩ : BufTy).Contents (Elt F)),
    binary main_v65 main_v69 main_v70 (addf : (⟨S8192x6x64, .f32⟩ : BufTy).Contents (Elt F) → (⟨S8192x6x64, .f32⟩ : BufTy).Contents (Elt F) → (⟨S8192x6x64, .f32⟩ : BufTy).Contents (Elt F)),
    binary main_v59 main_v61 main_v71 (Host.divf : (⟨S8192x6, .f32⟩ : BufTy).Contents (Elt F) → (⟨S8192x6, .f32⟩ : BufTy).Contents (Elt F) → (⟨S8192x6, .f32⟩ : BufTy).Contents (Elt F)),
    unary main_v71 main_v72 (broadcastInDim S8192x6x1 ![0, 1] bcast_S8192x6_S8192x6x1_0_1 : (⟨S8192x6, .f32⟩ : BufTy).Contents (Elt F) → (⟨S8192x6x1, .f32⟩ : BufTy).Contents (Elt F)),
    unary main_v72 main_v73 (broadcastInDim S8192x6x64 ![0, 1, 2] bcast_S8192x6x1_S8192x6x64_0_1_2 : (⟨S8192x6x1, .f32⟩ : BufTy).Contents (Elt F) → (⟨S8192x6x64, .f32⟩ : BufTy).Contents (Elt F)),
    binary main_v73 main_arg5 main_v74 (mulf : (⟨S8192x6x64, .f32⟩ : BufTy).Contents (Elt F) → (⟨S8192x6x64, .f32⟩ : BufTy).Contents (Elt F) → (⟨S8192x6x64, .f32⟩ : BufTy).Contents (Elt F)),
    binary main_v70 main_v74 main_v75 (addf : (⟨S8192x6x64, .f32⟩ : BufTy).Contents (Elt F) → (⟨S8192x6x64, .f32⟩ : BufTy).Contents (Elt F) → (⟨S8192x6x64, .f32⟩ : BufTy).Contents (Elt F)),
    unary main_v61 main_v76 (Host.log : (⟨S8192x6, .f32⟩ : BufTy).Contents (Elt F) → (⟨S8192x6, .f32⟩ : BufTy).Contents (Elt F)),
    binary main_v53 main_v76 main_v77 (addf : (⟨S8192x6, .f32⟩ : BufTy).Contents (Elt F) → (⟨S8192x6, .f32⟩ : BufTy).Contents (Elt F) → (⟨S8192x6, .f32⟩ : BufTy).Contents (Elt F)),
    reshape main_arg7 main_v78 (rfl : (.f32 : EltTy) = .f32) shapeCasts_S8192x384_S8192x6x64,
    binary main_v78 main_v75 main_v79 (mulf : (⟨S8192x6x64, .f32⟩ : BufTy).Contents (Elt F) → (⟨S8192x6x64, .f32⟩ : BufTy).Contents (Elt F) → (⟨S8192x6x64, .f32⟩ : BufTy).Contents (Elt F)),
    nullary main_cst_10 (constant S_ .f32 0x00000000#32),
    binary main_v79 main_cst_10 main_v80 ((fun x v => Host.reduceAdd x v reducesTo_S8192x6x64_S8192x6_d2 h_S_) : (⟨S8192x6x64, .f32⟩ : BufTy).Contents (Elt F) → (⟨S_, .f32⟩ : BufTy).Contents (Elt F) → (⟨S8192x6, .f32⟩ : BufTy).Contents (Elt F)),
    nullary main_cst_11 (constant S_ .f32 0x00000000#32),
    unary main_cst_11 main_v81 (broadcastInDim S8192x2 ![] bcast_S_S8192x2 : (⟨S_, .f32⟩ : BufTy).Contents (Elt F) → (⟨S8192x2, .f32⟩ : BufTy).Contents (Elt F)),
    nullary main_cst_12 (constant S_ .f32 0x00000000#32),
    unary main_cst_12 main_v82 (broadcastInDim S8192x114 ![] bcast_S_S8192x114 : (⟨S_, .f32⟩ : BufTy).Contents (Elt F) → (⟨S8192x114, .f32⟩ : BufTy).Contents (Elt F)),
    nary ![main_v77, main_v81, main_v80, main_v82] main_v83 (fun u => fn_main_v83 (F := F) (u 0) (u 1) (u 2) (u 3)),
    nary ![main_arg0, main_arg1, main_arg2] main_v84 (fun u => fn_main_v84 (F := F) (u 0) (u 1) (u 2)),
    unary main_v84 main_v85 ((truncf .bf16 · bitsLt_bf16_f32) : (⟨S8192x1152, .f32⟩ : BufTy).Contents (Elt F) → (⟨S8192x1152, .bf16⟩ : BufTy).Contents (Elt F)),
    reshape main_v85 main_v86 (rfl : (.bf16 : EltTy) = .bf16) shapeCasts_S8192x1152_S2048x4608,
    unary main_arg7 main_v87 ((truncf .bf16 · bitsLt_bf16_f32) : (⟨S8192x384, .f32⟩ : BufTy).Contents (Elt F) → (⟨S8192x384, .bf16⟩ : BufTy).Contents (Elt F)),
    reshape main_v87 main_v88 (rfl : (.bf16 : EltTy) = .bf16) shapeCasts_S8192x384_S2048x1536,
    reshape main_v83 main_v89 (rfl : (.f32 : EltTy) = .f32) shapeCasts_S8192x128_S2048x512 ]

/-- @main's 108 operations, in order (a called function's operations stand in its call's place, spelt `TRef.…`). -/
abbrev ops : List (HloOp τ sig (Elt F)) :=
  ops_part0 ++ (ops_part1)

set_option maxRecDepth 8192 in
/-- `main_v16`'s composed term of the arguments (named: it is used 2 times). -/
def res_main_v16 (V0 : Valuation τ sig (Elt F)) : (Proc.devRef .tc main_v16 : DevRef τ sig).ty.Contents (Elt F) :=
  absi (subi (iotaInDim S2048x2048 32 1) (iotaInDim S2048x2048 32 0))

set_option maxRecDepth 8192 in
/-- `main_v33`'s composed term of the arguments (named: it is used 3 times). -/
def res_main_v33 (V0 : Valuation τ sig (Elt F)) : (Proc.devRef .tc main_v33 : DevRef τ sig).ty.Contents (Elt F) :=
  select (broadcastInDim S4x6x2048x2048 ![2, 3] bcast_S2048x2048_S4x6x2048x2048_2_3 (cmpi .sle (res_main_v16 V0) (broadcastInDim S2048x2048 ![] bcast_S_S2048x2048 (constantI S_ 32 64#32)))) (subf (mulf (Host.dotGeneral dot_S4x2048x6x64_S4x2048x6x64_S4x6x2048x2048_3_3_1_1_02_02 none (transpose S4x2048x6x64 [1, 0, 2, 3] (shapeCast _ (V0 (Proc.devRef .tc main_arg0)) shapeCasts_S8192x384_S2048x4x6x64) transposes_S2048x4x6x64_S4x2048x6x64_1_0_2_3) (transpose S4x2048x6x64 [1, 0, 2, 3] (shapeCast _ (V0 (Proc.devRef .tc main_arg1)) shapeCasts_S8192x384_S2048x4x6x64) transposes_S2048x4x6x64_S4x2048x6x64_1_0_2_3)) (broadcastInDim S4x6x2048x2048 ![] bcast_S_S4x6x2048x2048 (constant S_ .f32 0x3E000000#32))) (broadcastInDim S4x6x2048x2048 ![0, 1, 2, 3] bcast_S1x6x2048x2048_S4x6x2048x2048_0_1_2_3 (broadcastInDim S1x6x2048x2048 ![1, 2, 3] bcast_S6x2048x2048_S1x6x2048x2048_1_2_3 (mulf (broadcastInDim S6x2048x2048 ![0, 1, 2] bcast_S6x1x1_S6x2048x2048_0_1_2 (broadcastInDim S6x1x1 ![0] bcast_S6_S6x1x1_0 ((concatenate S6 0 [⟨S1, ((broadcastInDim S1 ![] bcast_S_S1 (constant S_ .f32 0x3ECB2FF5#32)) : (⟨S1, .f32⟩ : BufTy).Contents (Elt F))⟩, ⟨S1, ((broadcastInDim S1 ![] bcast_S_S1 (constant S_ .f32 0x3E214518#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3CCB2FF5#32)) : (⟨S1, .f32⟩ : BufTy).Contents (Elt F))⟩, ⟨S1, ((broadcastInDim S1 ![] bcast_S_S1 (constant S_ .f32 0x3C214518#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S6_d0 : (⟨S6, .f32⟩ : BufTy).Contents (Elt F))))) (broadcastInDim S6x2048x2048 ![0, 1, 2] bcast_S1x2048x2048_S6x2048x2048_0_1_2 (broadcastInDim S1x2048x2048 ![1, 2] bcast_S2048x2048_S1x2048x2048_1_2 (sitofp .f32 (muli (res_main_v16 V0) (broadcastInDim S2048x2048 ![] bcast_S_S2048x2048 (constantI S_ 32 4#32)))))))))) (broadcastInDim S4x6x2048x2048 ![] bcast_S_S4x6x2048x2048 (id (constant S_ .f32 0xFF800000#32)))

set_option maxRecDepth 8192 in
/-- `main_v34`'s composed term of the arguments (named: it is used 2 times). -/
def res_main_v34 (V0 : Valuation τ sig (Elt F)) : (Proc.devRef .tc main_v34 : DevRef τ sig).ty.Contents (Elt F) :=
  Host.reduce FloatOps.maximumf (res_main_v33 V0) (constant S_ .f32 0xFF800000#32) reducesTo_S4x6x2048x2048_S4x6x2048_d3 h_S_

set_option maxRecDepth 8192 in
/-- `main_v41`'s composed term of the arguments (named: it is used 2 times). -/
def res_main_v41 (V0 : Valuation τ sig (Elt F)) : (Proc.devRef .tc main_v41 : DevRef τ sig).ty.Contents (Elt F) :=
  addf (Host.log (Host.reduceAdd (Host.exp (subf (res_main_v33 V0) (broadcastInDim S4x6x2048x2048 ![0, 1, 2, 3] bcast_S4x6x2048x1_S4x6x2048x2048_0_1_2_3 (broadcastInDim S4x6x2048x1 ![0, 1, 2] bcast_S4x6x2048_S4x6x2048x1_0_1_2 (res_main_v34 V0))))) (constant S_ .f32 0x00000000#32) reducesTo_S4x6x2048x2048_S4x6x2048_d3 h_S_)) (res_main_v34 V0)

set_option maxRecDepth 8192 in
/-- `main_v51`'s composed term of the arguments (named: it is used 2 times). -/
def res_main_v51 (V0 : Valuation τ sig (Elt F)) : (Proc.devRef .tc main_v51 : DevRef τ sig).ty.Contents (Elt F) :=
  shapeCast _ (transpose S2048x4x6 [2, 0, 1] (res_main_v41 V0) transposes_S4x6x2048_S2048x4x6_2_0_1) shapeCasts_S2048x4x6_S8192x6

set_option maxRecDepth 8192 in
/-- `main_v53`'s composed term of the arguments (named: it is used 4 times). -/
def res_main_v53 (V0 : Valuation τ sig (Elt F)) : (Proc.devRef .tc main_v53 : DevRef τ sig).ty.Contents (Elt F) :=
  maximumf (maximumf (V0 (Proc.devRef .tc main_arg4)) (res_main_v51 V0)) (V0 (Proc.devRef .tc main_arg6))

set_option maxRecDepth 8192 in
/-- `main_v55`'s composed term of the arguments (named: it is used 2 times). -/
def res_main_v55 (V0 : Valuation τ sig (Elt F)) : (Proc.devRef .tc main_v55 : DevRef τ sig).ty.Contents (Elt F) :=
  Host.exp (subf (V0 (Proc.devRef .tc main_arg4)) (res_main_v53 V0))

set_option maxRecDepth 8192 in
/-- `main_v57`'s composed term of the arguments (named: it is used 2 times). -/
def res_main_v57 (V0 : Valuation τ sig (Elt F)) : (Proc.devRef .tc main_v57 : DevRef τ sig).ty.Contents (Elt F) :=
  Host.exp (subf (res_main_v51 V0) (res_main_v53 V0))

set_option maxRecDepth 8192 in
/-- `main_v59`'s composed term of the arguments (named: it is used 2 times). -/
def res_main_v59 (V0 : Valuation τ sig (Elt F)) : (Proc.devRef .tc main_v59 : DevRef τ sig).ty.Contents (Elt F) :=
  Host.exp (subf (V0 (Proc.devRef .tc main_arg6)) (res_main_v53 V0))

set_option maxRecDepth 8192 in
/-- `main_v61`'s composed term of the arguments (named: it is used 4 times). -/
def res_main_v61 (V0 : Valuation τ sig (Elt F)) : (Proc.devRef .tc main_v61 : DevRef τ sig).ty.Contents (Elt F) :=
  addf (addf (res_main_v55 V0) (res_main_v57 V0)) (res_main_v59 V0)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_cst, main_v6, main_cst_0, main_v7, main_cst_1, main_v8, main_cst_2, main_v9, main_cst_3, main_v10, main_cst_4, main_v11, main_v12, main_v13, main_v14, main_v15, main_v16, main_c, main_v17, main_v18, main_v19, main_v20, main_cst_5, main_v21]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
set_option maxRecDepth 8192 in
set_option maxHeartbeats 2000000 in
theorem val0_1_main_v5 (V0 : Valuation τ sig (Elt F)) : val0_1 V0 (no_index (Proc.devRef .tc main_v5)) = transpose S4x2048x6x64 [1, 0, 2, 3] (shapeCast _ (V0 (Proc.devRef .tc main_arg2)) shapeCasts_S8192x384_S2048x4x6x64) transposes_S2048x4x6x64_S4x2048x6x64_1_0_2_3 := by
  unfold val0_1
  simp only [ops_part0_0]
  after_results_simp
  try dsimp only [Matrix.cons_val]
  try after_results_simp
  simp only [val0_main_arg2] <;> rfl
set_option maxRecDepth 8192 in
set_option maxHeartbeats 2000000 in
theorem val0_1_main_v12 (V0 : Valuation τ sig (Elt F)) : val0_1 V0 (no_index (Proc.devRef .tc main_v12)) = (concatenate S6 0 [⟨S1, ((broadcastInDim S1 ![] bcast_S_S1 (constant S_ .f32 0x3ECB2FF5#32)) : (⟨S1, .f32⟩ : BufTy).Contents (Elt F))⟩, ⟨S1, ((broadcastInDim S1 ![] bcast_S_S1 (constant S_ .f32 0x3E214518#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3CCB2FF5#32)) : (⟨S1, .f32⟩ : BufTy).Contents (Elt F))⟩, ⟨S1, ((broadcastInDim S1 ![] bcast_S_S1 (constant S_ .f32 0x3C214518#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S6_d0 : (⟨S6, .f32⟩ : BufTy).Contents (Elt F)) := by
  unfold val0_1
  simp only [ops_part0_0]
  after_results_simp
  try dsimp only [Matrix.cons_val]
  try after_results_simp
  all_goals rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0]
  after_results_simp
  try dsimp only [Matrix.cons_val]
  try after_results_simp
  all_goals rfl
set_option maxRecDepth 8192 in
set_option maxHeartbeats 2000000 in
theorem val0_1_main_v19 (V0 : Valuation τ sig (Elt F)) : val0_1 V0 (no_index (Proc.devRef .tc main_v19)) = sitofp .f32 (muli (res_main_v16 V0) (broadcastInDim S2048x2048 ![] bcast_S_S2048x2048 (constantI S_ 32 4#32))) := by
  unfold val0_1
  simp only [ops_part0_0]
  after_results_simp
  try dsimp only [Matrix.cons_val]
  try after_results_simp
  all_goals rfl
set_option maxRecDepth 8192 in
set_option maxHeartbeats 2000000 in
theorem val0_1_main_v20 (V0 : Valuation τ sig (Elt F)) : val0_1 V0 (no_index (Proc.devRef .tc main_v20)) = Host.dotGeneral dot_S4x2048x6x64_S4x2048x6x64_S4x6x2048x2048_3_3_1_1_02_02 none (transpose S4x2048x6x64 [1, 0, 2, 3] (shapeCast _ (V0 (Proc.devRef .tc main_arg0)) shapeCasts_S8192x384_S2048x4x6x64) transposes_S2048x4x6x64_S4x2048x6x64_1_0_2_3) (transpose S4x2048x6x64 [1, 0, 2, 3] (shapeCast _ (V0 (Proc.devRef .tc main_arg1)) shapeCasts_S8192x384_S2048x4x6x64) transposes_S2048x4x6x64_S4x2048x6x64_1_0_2_3) := by
  unfold val0_1
  simp only [ops_part0_0]
  after_results_simp
  try dsimp only [Matrix.cons_val]
  try after_results_simp
  simp only [val0_main_arg1, val0_main_arg0] <;> rfl
set_option maxRecDepth 8192 in
set_option maxHeartbeats 2000000 in
theorem val0_1_main_v21 (V0 : Valuation τ sig (Elt F)) : val0_1 V0 (no_index (Proc.devRef .tc main_v21)) = broadcastInDim S4x6x2048x2048 ![] bcast_S_S4x6x2048x2048 (constant S_ .f32 0x3E000000#32) := by
  unfold val0_1
  simp only [ops_part0_0]
  after_results_simp
  try dsimp only [Matrix.cons_val]
  try after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v22, main_v23, main_v24, main_v25, main_v26, main_v27, main_v28, main_v29, main_v30, main_c_6, main_v31, main_v32, main_cst_7, main_call0_v0, main_call0_v1, main_call0_v2, main_v33, main_cst_8, main_v34, main_v35, main_v36, main_v37, main_v38, main_cst_9, main_v39, main_v40, main_v41, main_v42, main_v43, main_v44]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_v5 (V0 : Valuation τ sig (Elt F)) : val0_2 V0 (no_index (Proc.devRef .tc main_v5)) = transpose S4x2048x6x64 [1, 0, 2, 3] (shapeCast _ (V0 (Proc.devRef .tc main_arg2)) shapeCasts_S8192x384_S2048x4x6x64) transposes_S2048x4x6x64_S4x2048x6x64_1_0_2_3 :=
  (val0_2_keep V0 main_v5 (by decide)).trans (val0_1_main_v5 V0)
set_option maxRecDepth 8192 in
set_option maxHeartbeats 2000000 in
theorem val0_2_main_v41 (V0 : Valuation τ sig (Elt F)) : val0_2 V0 (no_index (Proc.devRef .tc main_v41)) = res_main_v41 V0 := by
  unfold val0_2
  simp only [ops_part0_1, TRef.ternary, TRef.unary, TRef.toBuf, TRef.ofBuf, cast_eq]
  after_results_simp
  simp only [val0_1_main_v19, val0_1_main_v12, val0_1_main_v21, val0_1_main_v20, val0_1_main_v16] <;> rfl
set_option maxRecDepth 8192 in
set_option maxHeartbeats 2000000 in
theorem val0_2_main_v44 (V0 : Valuation τ sig (Elt F)) : val0_2 V0 (no_index (Proc.devRef .tc main_v44)) = subf (res_main_v33 V0) (broadcastInDim S4x6x2048x2048 ![0, 1, 2, 3] bcast_S4x6x2048x1_S4x6x2048x2048_0_1_2_3 (broadcastInDim S4x6x2048x1 ![0, 1, 2] bcast_S4x6x2048_S4x6x2048x1_0_1_2 (res_main_v41 V0))) := by
  unfold val0_2
  simp only [ops_part0_1, TRef.ternary, TRef.unary, TRef.toBuf, TRef.ofBuf, cast_eq]
  after_results_simp
  simp only [val0_1_main_v19, val0_1_main_v12, val0_1_main_v21, val0_1_main_v20, val0_1_main_v16] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v45, main_v46, main_v47]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_v41 (V0 : Valuation τ sig (Elt F)) : val1 V0 (no_index (Proc.devRef .tc main_v41)) = res_main_v41 V0 :=
  (val1_keep V0 main_v41 (by decide)).trans (val0_2_main_v41 V0)
set_option maxRecDepth 8192 in
theorem val1_main_v47 (V0 : Valuation τ sig (Elt F)) : val1 V0 (no_index (Proc.devRef .tc main_v47)) = transpose S4x2048x6x64 [0, 3, 1, 2] (Host.dotGeneral dot_S4x2048x6x64_S4x6x2048x2048_S4x6x64x2048_1_3_3_2_02_01 none (transpose S4x2048x6x64 [1, 0, 2, 3] (shapeCast _ (V0 (Proc.devRef .tc main_arg2)) shapeCasts_S8192x384_S2048x4x6x64) transposes_S2048x4x6x64_S4x2048x6x64_1_0_2_3) (Host.exp (subf (res_main_v33 V0) (broadcastInDim S4x6x2048x2048 ![0, 1, 2, 3] bcast_S4x6x2048x1_S4x6x2048x2048_0_1_2_3 (broadcastInDim S4x6x2048x1 ![0, 1, 2] bcast_S4x6x2048_S4x6x2048x1_0_1_2 (res_main_v41 V0)))))) transposes_S4x6x64x2048_S4x2048x6x64_0_3_1_2 := by
  unfold val1
  simp only [ops_part0_2]
  after_results_simp
  simp only [val0_2_main_v44, val0_2_main_v5] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_cst_10, main_v80, main_cst_11, main_v81, main_cst_12, main_v82, main_v83, main_v84, main_v85, main_v86, main_v87, main_v88, main_v89]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
set_option maxRecDepth 8192 in
set_option maxHeartbeats 2000000 in
theorem val2_main_v86 (V0 : Valuation τ sig (Elt F)) : val2 V0 (no_index (Proc.devRef .tc main_v86)) = shapeCast _ (truncf .bf16 ((concatenate S8192x1152 1 [⟨S8192x384, ((V0 (Proc.devRef .tc main_arg0)) : (⟨S8192x384, .f32⟩ : BufTy).Contents (Elt F))⟩, ⟨S8192x384, ((V0 (Proc.devRef .tc main_arg1)) : (⟨S8192x384, .f32⟩ : BufTy).Contents (Elt F))⟩, ⟨S8192x384, ((V0 (Proc.devRef .tc main_arg2)) : (⟨S8192x384, .f32⟩ : BufTy).Contents (Elt F))⟩] concatenates_S8192x384_S8192x384_S8192x384_S8192x1152_d1 : (⟨S8192x1152, .f32⟩ : BufTy).Contents (Elt F))) bitsLt_bf16_f32) shapeCasts_S8192x1152_S2048x4608 := by
  unfold val2
  simp only [ops_part1]
  after_results_simp
  try dsimp only [Matrix.cons_val]
  try after_results_simp
  simp only [val1_main_arg2, val1_main_arg1, val1_main_arg0] <;> rfl
set_option maxRecDepth 8192 in
set_option maxHeartbeats 2000000 in
theorem val2_main_v88 (V0 : Valuation τ sig (Elt F)) : val2 V0 (no_index (Proc.devRef .tc main_v88)) = shapeCast _ (truncf .bf16 (V0 (Proc.devRef .tc main_arg7)) bitsLt_bf16_f32) shapeCasts_S8192x384_S2048x1536 := by
  unfold val2
  simp only [ops_part1]
  after_results_simp
  try dsimp only [Matrix.cons_val]
  try after_results_simp
  simp only [val1_main_arg7] <;> rfl
set_option maxRecDepth 8192 in
set_option maxHeartbeats 2000000 in
theorem val2_main_v89 (V0 : Valuation τ sig (Elt F)) : val2 V0 (no_index (Proc.devRef .tc main_v89)) = shapeCast _ ((concatenate S8192x128 1 [⟨S8192x6, ((addf (res_main_v53 V0) (Host.log (res_main_v61 V0))) : (⟨S8192x6, .f32⟩ : BufTy).Contents (Elt F))⟩, ⟨S8192x2, ((broadcastInDim S8192x2 ![] bcast_S_S8192x2 (constant S_ .f32 0x00000000#32)) : (⟨S8192x2, .f32⟩ : BufTy).Contents (Elt F))⟩, ⟨S8192x6, ((Host.reduceAdd (mulf (shapeCast _ (V0 (Proc.devRef .tc main_arg7)) shapeCasts_S8192x384_S8192x6x64) (addf (addf (mulf (broadcastInDim S8192x6x64 ![0, 1, 2] bcast_S8192x6x1_S8192x6x64_0_1_2 (broadcastInDim S8192x6x1 ![0, 1] bcast_S8192x6_S8192x6x1_0_1 (Host.divf (res_main_v55 V0) (res_main_v61 V0)))) (V0 (Proc.devRef .tc main_arg3))) (mulf (broadcastInDim S8192x6x64 ![0, 1, 2] bcast_S8192x6x1_S8192x6x64_0_1_2 (broadcastInDim S8192x6x1 ![0, 1] bcast_S8192x6_S8192x6x1_0_1 (Host.divf (res_main_v57 V0) (res_main_v61 V0)))) (shapeCast _ (transpose S2048x4x6x64 [1, 0, 2, 3] (transpose S4x2048x6x64 [0, 3, 1, 2] (Host.dotGeneral dot_S4x2048x6x64_S4x6x2048x2048_S4x6x64x2048_1_3_3_2_02_01 none (transpose S4x2048x6x64 [1, 0, 2, 3] (shapeCast _ (V0 (Proc.devRef .tc main_arg2)) shapeCasts_S8192x384_S2048x4x6x64) transposes_S2048x4x6x64_S4x2048x6x64_1_0_2_3) (Host.exp (subf (res_main_v33 V0) (broadcastInDim S4x6x2048x2048 ![0, 1, 2, 3] bcast_S4x6x2048x1_S4x6x2048x2048_0_1_2_3 (broadcastInDim S4x6x2048x1 ![0, 1, 2] bcast_S4x6x2048_S4x6x2048x1_0_1_2 (res_main_v41 V0)))))) transposes_S4x6x64x2048_S4x2048x6x64_0_3_1_2) transposes_S4x2048x6x64_S2048x4x6x64_1_0_2_3) shapeCasts_S2048x4x6x64_S8192x6x64))) (mulf (broadcastInDim S8192x6x64 ![0, 1, 2] bcast_S8192x6x1_S8192x6x64_0_1_2 (broadcastInDim S8192x6x1 ![0, 1] bcast_S8192x6_S8192x6x1_0_1 (Host.divf (res_main_v59 V0) (res_main_v61 V0)))) (V0 (Proc.devRef .tc main_arg5))))) (constant S_ .f32 0x00000000#32) reducesTo_S8192x6x64_S8192x6_d2 h_S_) : (⟨S8192x6, .f32⟩ : BufTy).Contents (Elt F))⟩, ⟨S8192x114, ((broadcastInDim S8192x114 ![] bcast_S_S8192x114 (constant S_ .f32 0x00000000#32)) : (⟨S8192x114, .f32⟩ : BufTy).Contents (Elt F))⟩] concatenates_S8192x6_S8192x2_S8192x6_S8192x114_S8192x128_d1 : (⟨S8192x128, .f32⟩ : BufTy).Contents (Elt F))) shapeCasts_S8192x128_S2048x512 := by
  unfold val2
  simp only [ops_part1]
  after_results_simp
  try dsimp only [Matrix.cons_val]
  try after_results_simp
  simp only [val1_main_arg5, val1_main_arg6, val1_main_arg4, val1_main_v41, val1_main_v47, val1_main_arg3, val1_main_arg7] <;> rfl

/-- The windows one after another. -/
theorem after_ops (V0 : Valuation τ sig (Elt F)) : after (List.flatten [hostOps0, hostOps0_1, hostOps0_2]) V0 = val2 V0 := by
  have h : (List.flatten [hostOps0, hostOps0_1, hostOps0_2] : List (HloOp τ sig (Elt F))) = ops := rfl
  rw [h]
  simp only [ops, ops_part0, after_append]
  rfl

end Cert.KernelIdeal.Prep

end
-- ==== Proof.Prepared.lean ====
/- The three prepared arrays that the kernel's call is given, at the arguments' real numbers. -/
module

public import proofs.«01_k».proof.Proof.Prep
public import proofs.«01_k».proof.Proof.Mixture

@[expose] public section

set_option maxRecDepth 16384

noncomputable section

namespace Cert.KernelIdeal.Prep

open Idealize.ShloMosaic Idealize.SL.Sem Cert.Band Cert.KernelIdeal.Blk Cert.Ref Idealize.ShloMosaic.StableHlo
open Idealize.ShloMosaic.TcCoe Cert.KernelIdeal.Gen

/-- The queries, keys and values of all residues side by side. -/
def qkvR (X : Reals) (i : Fin 2048) (x : Fin 4608) : ℝ :=
  if h : x.val % 1152 < 384 then X.q (frow ⟨x.val / 1152, by omega⟩ i) ⟨x.val % 1152, h⟩
  else if h' : x.val % 1152 - 384 < 384 then X.k (frow ⟨x.val / 1152, by omega⟩ i) ⟨x.val % 1152 - 384, h'⟩
  else X.v (frow ⟨x.val / 1152, by omega⟩ i) ⟨x.val % 1152 - 384 - 384, by omega⟩

/-- The result's cotangent. -/
def gR (X : Reals) (i : Fin 2048) (x : Fin 1536) : ℝ := X.g (frow ⟨x.val / 384, by omega⟩ i) ⟨x.val % 384, by omega⟩

/-- A row's log-sums and dotted cotangents: six heads of the first in lanes 0 to 5, of the second in lanes 8 to 13. -/
def ldR (X : Reals) (i : Fin 2048) (x : Fin 512) : ℝ :=
  if h : x.val % 128 < 6 then lt X ⟨x.val / 128, by omega⟩ ⟨x.val % 128, h⟩ i
  else if x.val % 128 - 6 < 2 then 0
  else if h' : x.val % 128 - 6 - 2 < 6 then dt X ⟨x.val / 128, by omega⟩ ⟨x.val % 128 - 6 - 2, h'⟩ i
  else 0

section
variable (V0 : Valuation τ sig (Elt Ideal))

theorem v51_eq : res_main_v51 V0 = Cert.ReferenceIdeal.Read.val_main_v56 (F := Ideal) (V0 (Proc.devRef .tc main_arg0)) (V0 (Proc.devRef .tc main_arg1)) := rfl

theorem out_eq : shapeCast S8192x6x64 (transpose S2048x4x6x64 [1, 0, 2, 3] (transpose S4x2048x6x64 [0, 3, 1, 2]
      (Host.dotGeneral (φ₁ := .f32) dot_S4x2048x6x64_S4x6x2048x2048_S4x6x64x2048_1_3_3_2_02_01 none
        (transpose S4x2048x6x64 [1, 0, 2, 3] (shapeCast S2048x4x6x64 (V0 (Proc.devRef .tc main_arg2) : FVec Ideal S8192x384 .f32) shapeCasts_S8192x384_S2048x4x6x64)
          transposes_S2048x4x6x64_S4x2048x6x64_1_0_2_3)
        (Host.exp (subf (res_main_v33 V0) (broadcastInDim S4x6x2048x2048 ![0, 1, 2, 3] bcast_S4x6x2048x1_S4x6x2048x2048_0_1_2_3
          (broadcastInDim S4x6x2048x1 ![0, 1, 2] bcast_S4x6x2048_S4x6x2048x1_0_1_2 (res_main_v41 V0))))))
      transposes_S4x6x64x2048_S4x2048x6x64_0_3_1_2) transposes_S4x2048x6x64_S2048x4x6x64_1_0_2_3) shapeCasts_S2048x4x6x64_S8192x6x64
    = Cert.ReferenceIdeal.Read.val_main_v54 (F := Ideal) (V0 (Proc.devRef .tc main_arg0)) (V0 (Proc.devRef .tc main_arg1))
        (V0 (Proc.devRef .tc main_arg2)) := rfl

theorem row_eq {n : Nat} (i : Fin 2048) (x : Fin n) (w : Nat) (hw : n = w * 4) (p) (p' : x.val / w < 4) :
    (⟨i.val * 4 + x.val / w, p⟩ : Fin 8192) = frow ⟨x.val / w, p'⟩ i := by
  apply Fin.ext; unfold frow; simp only; ring

variable {V0} {X : Reals}
  (H : Holds X (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)))
include H

theorem qkv_at (i : Fin 2048) (x : Fin 4608) :
    val2 V0 (Proc.devRef .tc main_v86) (ix2 i x) = (qkvR X i x : EReal) := by
  rw [val2_main_v86]
  pointwise
  unfold qkvR
  by_cases h : x.val % 1152 < 384
  · rw [dif_pos h, dif_pos h]
    refine (H.h0 _ _).trans ?_
    rw [row_eq i x 1152 rfl _ (by omega)]
  by_cases h' : x.val % 1152 - 384 < 384
  · rw [dif_neg h, dif_neg h, dif_pos h', dif_pos h']
    refine (H.h1 _ _).trans ?_
    rw [row_eq i x 1152 rfl _ (by omega)]
  · rw [dif_neg h, dif_neg h, dif_neg h', dif_neg h']
    refine (H.h2 _ _).trans ?_
    rw [row_eq i x 1152 rfl _ (by omega)]

theorem g_at (i : Fin 2048) (x : Fin 1536) :
    val2 V0 (Proc.devRef .tc main_v88) (ix2 i x) = (gR X i x : EReal) := by
  rw [val2_main_v88]
  pointwise
  refine (H.h7 _ _).trans ?_
  rw [row_eq i x 384 rfl _ (by omega)]
  rfl

section
variable (r : Fin 4) (h : Fin 6) (i : Fin 2048)

omit H in
/-- The shared maximum that the kernel's host lines take. -/
def hostTop (X : Reals) (r : Fin 4) (h : Fin 6) (i : Fin 2048) : ℝ :=
  max (max (X.la (frow r i) h) (myL X r h i)) (X.lb (frow r i) h)

theorem r51_at : res_main_v51 V0 (ix2 (frow r i) h) = (myL X r h i : EReal) := by
  rw [v51_eq]; exact v56_at H.h0 H.h1 r h i

theorem r53_at : res_main_v53 V0 (ix2 (frow r i) h) = (hostTop X r h i : EReal) := by
  pointwise [res_main_v53]
  rw [r51_at H, H.h4, H.h6, hostTop]
  rw [EReal.coe_strictMono.monotone.map_max, EReal.coe_strictMono.monotone.map_max]

theorem r55_at : res_main_v55 V0 (ix2 (frow r i) h) = (Real.exp (lg X r h i 0 - hostTop X r h i) : EReal) := by
  pointwise [res_main_v55]
  rw [r53_at H, H.h4, ← EReal.coe_sub, Ideal.exp_coe]
  rfl

theorem r57_at : res_main_v57 V0 (ix2 (frow r i) h) = (Real.exp (lg X r h i 1 - hostTop X r h i) : EReal) := by
  pointwise [res_main_v57]
  rw [r53_at H, r51_at H, ← EReal.coe_sub, Ideal.exp_coe]
  rfl

theorem r59_at : res_main_v59 V0 (ix2 (frow r i) h) = (Real.exp (lg X r h i 2 - hostTop X r h i) : EReal) := by
  pointwise [res_main_v59]
  rw [r53_at H, H.h6, ← EReal.coe_sub, Ideal.exp_coe]
  rfl

theorem r61_at : res_main_v61 V0 (ix2 (frow r i) h) = (Real.exp (lt X r h i - hostTop X r h i) : EReal) := by
  pointwise [res_main_v61]
  rw [r55_at H, r57_at H, r59_at H, ← EReal.coe_add, ← EReal.coe_add, ← lt_shift, Fin.sum_univ_three]

theorem weight_at (b : Fin 3) :
    Ideal.div (Real.exp (lg X r h i b - hostTop X r h i) : ℝ) (Real.exp (lt X r h i - hostTop X r h i) : ℝ) = (wt X r h i b : EReal) := by
  rw [Ideal.div_coe (Real.exp_pos _).ne', ← EReal.coe_mul]
  unfold wt
  rw [one_div, ← Real.exp_neg, ← Real.exp_add]
  congr 2; ring
end

omit H in
/-- The rows' log-sums and dotted cotangents as two arrays. -/
def sumArr (V0 : Valuation τ sig (Elt Ideal)) : FVec Ideal S8192x6 .f32 := addf (res_main_v53 V0) (Host.log (res_main_v61 V0))

omit H in
def dotArr (V0 : Valuation τ sig (Elt Ideal)) : FVec Ideal S8192x6 .f32 :=
  Host.reduceAdd (mulf (shapeCast S8192x6x64 (V0 (Proc.devRef .tc main_arg7)) shapeCasts_S8192x384_S8192x6x64)
    (addf (addf
      (mulf (broadcastInDim S8192x6x64 ![0, 1, 2] bcast_S8192x6x1_S8192x6x64_0_1_2 (broadcastInDim S8192x6x1 ![0, 1] bcast_S8192x6_S8192x6x1_0_1
        (Host.divf (res_main_v55 V0) (res_main_v61 V0)))) (V0 (Proc.devRef .tc main_arg3)))
      (mulf (broadcastInDim S8192x6x64 ![0, 1, 2] bcast_S8192x6x1_S8192x6x64_0_1_2 (broadcastInDim S8192x6x1 ![0, 1] bcast_S8192x6_S8192x6x1_0_1
        (Host.divf (res_main_v57 V0) (res_main_v61 V0))))
        (Cert.ReferenceIdeal.Read.val_main_v54 (F := Ideal) (V0 (Proc.devRef .tc main_arg0)) (V0 (Proc.devRef .tc main_arg1))
          (V0 (Proc.devRef .tc main_arg2)))))
      (mulf (broadcastInDim S8192x6x64 ![0, 1, 2] bcast_S8192x6x1_S8192x6x64_0_1_2 (broadcastInDim S8192x6x1 ![0, 1] bcast_S8192x6_S8192x6x1_0_1
        (Host.divf (res_main_v59 V0) (res_main_v61 V0)))) (V0 (Proc.devRef .tc main_arg5)))))
    (constant S_ .f32 0x00000000#32) reducesTo_S8192x6x64_S8192x6_d2 h_S_

theorem sumArr_at (r : Fin 4) (h : Fin 6) (i : Fin 2048) : sumArr V0 (ix2 (frow r i) h) = (lt X r h i : EReal) := by
  pointwise [sumArr]
  rw [r53_at H, r61_at H, Ideal.log_coe, if_neg (not_le.mpr (Real.exp_pos _)), Real.log_exp, ← EReal.coe_add]
  congr 1; ring

theorem dotArr_at (r : Fin 4) (h : Fin 6) (i : Fin 2048) : dotArr V0 (ix2 (frow r i) h) = (dt X r h i : EReal) := by
  pointwise [dotArr]
  rw [r55_at H, r57_at H, r59_at H, r61_at H, weight_at H, weight_at H, weight_at H]
  unfold dt dw
  simp only [Finset.mul_sum]
  rw [Finset.sum_comm, coe_sum]
  refine Finset.sum_congr rfl fun d _ => ?_
  rw [H.h7, H.h3, H.h5, v54_at H.h0 H.h1 H.h2, Fin.sum_univ_three, ← EReal.coe_mul, ← EReal.coe_mul, ← EReal.coe_mul, ← EReal.coe_add,
    ← EReal.coe_add, ← EReal.coe_mul]
  congr 1
  have hc : (⟨h.val * 64 + d.val, by omega⟩ : Fin 384) = colOf h d := by apply Fin.ext; unfold colOf; simp only; ring
  rw [hc]
  simp only [ov, myO, part, Matrix.cons_val_zero, Matrix.cons_val_one, Matrix.cons_val]
  ring

omit H in
theorem pack_at (A B : FVec Ideal S8192x6 .f32) (i : Fin 2048) (x : Fin 512) :
    shapeCast S2048x512 (concatenate S8192x128 1 [⟨S8192x6, A⟩,
      ⟨S8192x2, broadcastInDim S8192x2 ![] bcast_S_S8192x2 (constant (F := Ideal) S_ .f32 0x00000000#32)⟩, ⟨S8192x6, B⟩,
      ⟨S8192x114, broadcastInDim S8192x114 ![] bcast_S_S8192x114 (constant (F := Ideal) S_ .f32 0x00000000#32)⟩]
      concatenates_S8192x6_S8192x2_S8192x6_S8192x114_S8192x128_d1) shapeCasts_S8192x128_S2048x512 (ix2 i x)
    = if h : x.val % 128 < 6 then A (ix2 (frow ⟨x.val / 128, by omega⟩ i) ⟨x.val % 128, h⟩)
      else if x.val % 128 - 6 < 2 then (0 : EReal)
      else if h' : x.val % 128 - 6 - 2 < 6 then B (ix2 (frow ⟨x.val / 128, by omega⟩ i) ⟨x.val % 128 - 6 - 2, h'⟩)
      else (0 : EReal) := by
  pointwise
  by_cases h : x.val % 128 < 6
  · rw [dif_pos h, dif_pos h]
    exact congrArg (fun z => A (ix2 z _)) (row_eq i x 128 rfl _ _)
  rw [dif_neg h, dif_neg h]
  by_cases h2 : x.val % 128 - 6 < 2
  · rw [if_pos h2]
    simp only [h2, ↓reduceDIte, ↓reduceIte]
  rw [if_neg h2]
  by_cases h3 : x.val % 128 - 6 - 2 < 6
  · simp only [h2, ↓reduceDIte, ↓reduceIte]
    rw [dif_pos h3, dif_pos h3]
    exact congrArg (fun z => B (ix2 z _)) (row_eq i x 128 rfl _ _)
  · simp only [h2, h3, ↓reduceDIte, ↓reduceIte]

theorem ld_at (i : Fin 2048) (x : Fin 512) :
    val2 V0 (Proc.devRef .tc main_v89) (ix2 i x) = (ldR X i x : EReal) := by
  rw [val2_main_v89, out_eq]
  refine (pack_at (sumArr V0) (dotArr V0) i x).trans ?_
  unfold ldR
  split_ifs
  · exact sumArr_at H _ _ _
  · rfl
  · exact dotArr_at H _ _ _
  · rfl
end

end Cert.KernelIdeal.Prep
-- ==== Proof.Backward.lean ====
/- The reference's three results at its real numbers: they are the banded attention's gradient. -/
module

public import proofs.«01_k».proof.Proof.Mixture

@[expose] public section

set_option maxRecDepth 16384

noncomputable section

namespace Cert.Band

variable (q k v g : Fin 2048 → Fin 64 → ℝ) (σ : ℝ)

/-- A row's cotangent dotted with its output, as a sum over the row's keys. -/
theorem dot_out (w : ℝ) (i : Fin 2048) :
    (∑ j, (∑ d, w * g i d * v j d) * if Near i j then prob q k σ (lse q k σ) i j else 0)
      = w * ∑ d, g i d * out q k v σ i d := by
  unfold out
  simp only [Finset.mul_sum, Finset.sum_mul]
  rw [Finset.sum_comm]
  refine Finset.sum_congr rfl fun d _ => Finset.sum_congr rfl fun j _ => ?_
  ring

/-- A score's cotangent: what the reference adds up at a key of the band. -/
theorem dscore_real (L D : Fin 2048 → ℝ) (M : ℝ) (i j : Fin 2048) (hn : Near i j) :
    (∑ d, Real.exp (lse q k σ i - L i) * g i d * v j d) * (if Near i j then prob q k σ (lse q k σ) i j else 0)
      + (Real.exp (lse q k σ i - L i) * ((∑ d, g i d * out q k v σ i d) - D i)
          + ∑ x, -((∑ d, Real.exp (lse q k σ i - L i) * g i d * v x d) * if Near i x then prob q k σ (lse q k σ) i x else 0))
        * (1 / Real.exp (lse q k σ i - M)) * (if Near i j then Real.exp (score q k σ i j - M) else 0)
      = dscore q k v g σ L D i j := by
  rw [Finset.sum_neg_distrib, dot_out, if_pos hn, if_pos hn]
  unfold dscore prob
  have e1 : Real.exp (score q k σ i j - L i) = Real.exp (lse q k σ i - L i) * Real.exp (score q k σ i j - lse q k σ i) := by
    rw [← Real.exp_add]; congr 1; ring
  have e2 : (1 / Real.exp (lse q k σ i - M)) * Real.exp (score q k σ i j - M) = Real.exp (score q k σ i j - lse q k σ i) := by
    rw [one_div, ← Real.exp_neg, ← Real.exp_add]; congr 1; ring
  have e3 : (∑ d, Real.exp (lse q k σ i - L i) * g i d * v j d) = Real.exp (lse q k σ i - L i) * ∑ d, g i d * v j d := by
    rw [Finset.mul_sum]; exact Finset.sum_congr rfl fun d _ => by ring
  rw [e1, mul_assoc _ (1 / _), e2, e3]
  ring

end Cert.Band

namespace Cert.Ref

open Idealize.ShloMosaic Idealize.SL.Sem Cert.Band Cert.KernelIdeal.Blk Cert.ReferenceIdeal Cert.ReferenceIdeal.Read
open Idealize.ShloMosaic.TcCoe

/-- The gradients of one head of one residue. -/
def gradQ (X : Reals) (r : Fin 4) (h : Fin 6) : Fin 2048 → Fin 64 → ℝ :=
  Band.dq (part X.q r h) (part X.k r h) (part X.v r h) (part X.g r h) (slope h) (lt X r h) (dt X r h)
def gradK (X : Reals) (r : Fin 4) (h : Fin 6) : Fin 2048 → Fin 64 → ℝ :=
  Band.dk (part X.q r h) (part X.k r h) (part X.v r h) (part X.g r h) (slope h) (lt X r h) (dt X r h)
def gradV (X : Reals) (r : Fin 4) (h : Fin 6) : Fin 2048 → Fin 64 → ℝ :=
  Band.dv (part X.q r h) (part X.k r h) (part X.g r h) (slope h) (lt X r h)

/-- The residue, head and dimension of a result's column. -/
def resCol (x : Fin 1536) : Fin 4 := ⟨x.val / 384, by omega⟩
def headCol (x : Fin 1536) : Fin 6 := ⟨x.val % 384 / 64, by omega⟩
def dimCol (x : Fin 1536) : Fin 64 := ⟨x.val % 384 % 64, by omega⟩

section
variable {X : Reals} {x0 x1 x2 : A2} {x3 : A3} {x4 : AL} {x5 : A3} {x6 : AL} {x7 : A2}
variable (H : Holds X x0 x1 x2 x3 x4 x5 x6 x7) (r : Fin 4) (h : Fin 6)
include H

theorem frow_eq (r : Fin 4) (i : Fin 2048) (p) : (⟨i.val * 4 + r.val, p⟩ : Fin 8192) = frow r i := by
  apply Fin.ext; unfold frow; simp only; ring

theorem v135_at (i : Fin 2048) : val_main_v135 (F := Ideal) x0 x1 x2 x3 x4 x5 x6 x7 (ix3 r h i)
    = (wt X r h i 1 * (dw X r h i 1 - dt X r h i) : ℝ) := by
  pointwise [val_main_v135, val_main_v134, val_main_v131, val_main_v130]
  rw [frow_eq H r i]
  exact v127_at H r h i 1

theorem v138_at (d : Fin 64) (i : Fin 2048) : val_main_v138 (F := Ideal) x0 x1 x4 x6 x7 (ix4 r h d i)
    = (wt X r h i 1 * part X.g r h i d : ℝ) := by
  pointwise [val_main_v138, val_main_v137, val_main_v136, val_main_v112, val_main_v111]
  rw [frow_eq H r i]
  exact v105_at H r h i 1 d

theorem v142_at (i j : Fin 2048) : val_main_v142 (F := Ideal) x0 x1 x2 x4 x6 x7 (ix4 r h i j)
    = ((∑ d, wt X r h i 1 * part X.g r h i d * part X.v r h j d)
        * (if Near i j then prob (part X.q r h) (part X.k r h) (slope h) (lse (part X.q r h) (part X.k r h) (slope h)) i j else 0) : ℝ) := by
  pointwise [val_main_v142, val_main_v139]
  rw [v50_at H.h0 H.h1, EReal.coe_mul, coe_sum]
  congr 1
  refine Finset.sum_congr rfl fun d _ => ?_
  rw [v138_at H, v5_at H.h2, ← EReal.coe_mul]

theorem v152_at (i j : Fin 2048) : val_main_v152 (F := Ideal) x0 x1 x2 x3 x4 x5 x6 x7 (ix4 r h i j)
    = ((if Near i j then dscore (part X.q r h) (part X.k r h) (part X.v r h) (part X.g r h) (slope h) (lt X r h) (dt X r h) i j else 0 : ℝ) : EReal) := by
  pointwise [val_main_v152, val_main_v151, val_main_v150, val_main_v149, val_main_v148, val_main_v147, val_main_v146,
    val_main_v145, val_main_v144, val_main_v143, val_main_cst_31, val_main_cst_30, val_main_v33_1, val_main_call1_v0,
    val_main_call1_cst]
  rw [v32_at, select_ite]
  by_cases hn : Near i j
  · rw [if_pos hn, if_pos hn]
    simp only [Finset.sum_const, Finset.card_univ, Fintype.card_fin, one_smul]
    simp only [v142_at H, v135_at H, v44_at H.h0 H.h1, v43_at H.h0 H.h1, Ideal.div_coe (Real.exp_pos _).ne', ← EReal.coe_neg]
    rw [← coe_sum, ← EReal.coe_add, ← EReal.coe_mul, ← EReal.coe_mul, ← EReal.coe_add]
    exact congrArg _ (dscore_real (part X.q r h) (part X.k r h) (part X.v r h) (part X.g r h) (slope h) (lt X r h) (dt X r h) _ i j hn)
  · rw [if_neg hn, if_neg hn]; simp

theorem frow_res (i : Fin 2048) (x : Fin 1536) (p) : (⟨(i.val * 4 + x.val / 384) % 4, p⟩ : Fin 4) = resCol x := by
  apply Fin.ext; unfold resCol; simp only; omega

/-- The first result is the queries' gradient. -/
theorem v166_at (i : Fin 2048) (x : Fin 1536) : val_main_v166 (F := Ideal) x0 x1 x2 x3 x4 x5 x6 x7 (ix2 i x)
    = (gradQ X (resCol x) (headCol x) i (dimCol x) : EReal) := by
  pointwise [val_main_v166, val_main_v165, val_main_v164, val_main_v163, val_main_v158, val_main_v157, val_main_v154,
    val_main_v153, val_main_cst_32]
  unfold gradQ Band.dq
  rw [Finset.sum_mul, coe_sum]
  refine Finset.sum_congr rfl fun j _ => ?_
  rw [frow_res H, show (⟨x.val % 384 / 64, _⟩ : Fin 6) = headCol x from rfl, show (⟨x.val % 384 % 64, _⟩ : Fin 64) = dimCol x from rfl,
    v152_at H, v3_at H.h1, eighth, ← EReal.coe_mul, ← EReal.coe_mul]
  congr 1
  split_ifs <;> ring

/-- The second is the keys'. -/
theorem v168_at (j : Fin 2048) (x : Fin 1536) : val_main_v168 (F := Ideal) x0 x1 x2 x3 x4 x5 x6 x7 (ix2 j x)
    = (gradK X (resCol x) (headCol x) j (dimCol x) : EReal) := by
  pointwise [val_main_v168, val_main_v167, val_main_v162, val_main_v161, val_main_v156, val_main_v155, val_main_v154,
    val_main_v153, val_main_cst_32]
  unfold gradK Band.dk
  rw [Finset.sum_mul, coe_sum]
  refine Finset.sum_congr rfl fun i _ => ?_
  rw [frow_res H, show (⟨x.val % 384 / 64, _⟩ : Fin 6) = headCol x from rfl, show (⟨x.val % 384 % 64, _⟩ : Fin 64) = dimCol x from rfl,
    v152_at H, v1_at H.h0, eighth, ← EReal.coe_mul, ← EReal.coe_mul]
  congr 1
  split_ifs <;> ring

/-- The third is the values'. -/
theorem v170_at (j : Fin 2048) (x : Fin 1536) : val_main_v170 (F := Ideal) x0 x1 x4 x6 x7 (ix2 j x)
    = (gradV X (resCol x) (headCol x) j (dimCol x) : EReal) := by
  pointwise [val_main_v170, val_main_v169, val_main_v160, val_main_v159, val_main_v141, val_main_v140]
  unfold gradV Band.dv
  rw [coe_sum]
  refine Finset.sum_congr rfl fun i _ => ?_
  rw [frow_res H, show (⟨x.val % 384 / 64, _⟩ : Fin 6) = headCol x from rfl, show (⟨x.val % 384 % 64, _⟩ : Fin 64) = dimCol x from rfl,
    v138_at H, v50_at H.h0 H.h1, ← EReal.coe_mul]
  congr 1
  split_ifs
  · unfold wt prob
    rw [show lg X (resCol x) (headCol x) i 1 = lse (part X.q (resCol x) (headCol x)) (part X.k (resCol x) (headCol x)) (slope (headCol x)) i from rfl]
    rw [mul_right_comm, ← Real.exp_add]
    congr 2; ring
  · simp
end

end Cert.Ref
-- ==== Proof.Match.lean ====
/- The two programs' arrays are one another's: the kernel's three results, at the arguments' real numbers,
   are the three gradients that the reference computes. -/
module

public import proofs.«01_k».proof.Proof.Array
public import proofs.«01_k».proof.Proof.Prepared
public import proofs.«01_k».proof.Proof.Backward

@[expose] public section

set_option maxRecDepth 16384

noncomputable section

namespace Cert.KernelIdeal.Match

open Idealize.ShloMosaic Idealize.SL.Sem Cert.KernelIdeal.Gen Cert.KernelIdeal.Prep Cert.KernelIdeal.Blk
open Idealize.ShloMosaic.StableHlo Idealize.ShloMosaic.TcCoe
open Cert.Ref (Reals Holds part lt dt frow gradQ gradK gradV headCol dimCol)

/-! ## The prepared arrays, a residue and a head at a time -/

section
variable (X : Reals) (r : Fin 4) (h : Fin 6)

theorem hd_q : hd (fun i x => qkvR X i (colQ r x)) h = part X.q r h := by
  funext i d
  have lh := h.isLt
  have ld := d.isLt
  have e : (colQ r (colOf h d)).val = 1152 * r.val + (64 * h.val + d.val) := rfl
  show qkvR X i (colQ r (colOf h d)) = X.q (frow r i) (colOf h d)
  unfold qkvR
  rw [dif_pos (show (colQ r (colOf h d)).val % 1152 < 384 by omega)]
  exact congrArg₂ (fun a b => X.q (frow a i) b) (Fin.ext (show (colQ r (colOf h d)).val / 1152 = r.val by omega))
    (Fin.ext (show (colQ r (colOf h d)).val % 1152 = 64 * h.val + d.val by omega))

theorem hd_k : hd (fun i x => qkvR X i (colK r x)) h = part X.k r h := by
  funext i d
  have lh := h.isLt
  have ld := d.isLt
  have e : (colK r (colOf h d)).val = 1152 * r.val + 384 + (64 * h.val + d.val) := rfl
  show qkvR X i (colK r (colOf h d)) = X.k (frow r i) (colOf h d)
  unfold qkvR
  rw [dif_neg (show ¬(colK r (colOf h d)).val % 1152 < 384 by omega),
    dif_pos (show (colK r (colOf h d)).val % 1152 - 384 < 384 by omega)]
  exact congrArg₂ (fun a b => X.k (frow a i) b) (Fin.ext (show (colK r (colOf h d)).val / 1152 = r.val by omega))
    (Fin.ext (show (colK r (colOf h d)).val % 1152 - 384 = 64 * h.val + d.val by omega))

theorem hd_v : hd (fun i x => qkvR X i (colV r x)) h = part X.v r h := by
  funext i d
  have lh := h.isLt
  have ld := d.isLt
  have e : (colV r (colOf h d)).val = 1152 * r.val + 768 + (64 * h.val + d.val) := rfl
  show qkvR X i (colV r (colOf h d)) = X.v (frow r i) (colOf h d)
  unfold qkvR
  rw [dif_neg (show ¬(colV r (colOf h d)).val % 1152 < 384 by omega),
    dif_neg (show ¬(colV r (colOf h d)).val % 1152 - 384 < 384 by omega)]
  exact congrArg₂ (fun a b => X.v (frow a i) b) (Fin.ext (show (colV r (colOf h d)).val / 1152 = r.val by omega))
    (Fin.ext (show (colV r (colOf h d)).val % 1152 - 384 - 384 = 64 * h.val + d.val by omega))

theorem hd_g : hd (fun i x => gR X i (colG r x)) h = part X.g r h := by
  funext i d
  have lh := h.isLt
  have ld := d.isLt
  have e : (colG r (colOf h d)).val = 384 * r.val + (64 * h.val + d.val) := rfl
  show gR X i (colG r (colOf h d)) = X.g (frow r i) (colOf h d)
  unfold gR
  exact congrArg₂ (fun a b => X.g (frow a i) b) (Fin.ext (show (colG r (colOf h d)).val / 384 = r.val by omega))
    (Fin.ext (show (colG r (colOf h d)).val % 384 = 64 * h.val + d.val by omega))

theorem row_sum (i : Fin 2048) : ldR X i (colL r (sumLane h)) = lt X r h i := by
  have hh := h.isLt; have hr := r.isLt
  have e1 : (128 * r.val + h.val) / 128 = r.val := by omega
  have e2 : (128 * r.val + h.val) % 128 = h.val := by omega
  simp only [ldR, colL, sumLane, e1, e2]
  rw [dif_pos hh]

theorem row_dot (i : Fin 2048) : ldR X i (colL r (dotLane h)) = dt X r h i := by
  have hh := h.isLt; have hr := r.isLt
  have e1 : (128 * r.val + (h.val + 8)) / 128 = r.val := by omega
  have e2 : (128 * r.val + (h.val + 8)) % 128 = h.val + 8 := by omega
  have e3 : h.val + 8 - 6 - 2 = h.val := by omega
  simp only [ldR, colL, dotLane, e1, e2, e3]
  rw [dif_neg (by omega), if_neg (by omega), dif_pos hh]

theorem resDq_eq (i : Fin 2048) (x : Fin 384) :
    resDq (fun i x => qkvR X i (colQ r x)) (fun i x => qkvR X i (colK r x)) (fun i x => qkvR X i (colV r x))
      (fun i x => gR X i (colG r x)) (fun i x => ldR X i (colL r x)) i x = gradQ X r (headIx x) i (dimIx x) := by
  simp only [resDq, gradQ, hd_q, hd_k, hd_v, hd_g, row_sum, row_dot]

theorem resDk_eq (i : Fin 2048) (x : Fin 384) :
    resDk (fun i x => qkvR X i (colQ r x)) (fun i x => qkvR X i (colK r x)) (fun i x => qkvR X i (colV r x))
      (fun i x => gR X i (colG r x)) (fun i x => ldR X i (colL r x)) i x = gradK X r (headIx x) i (dimIx x) := by
  simp only [resDk, gradK, hd_q, hd_k, hd_v, hd_g, row_sum, row_dot]

theorem resDv_eq (i : Fin 2048) (x : Fin 384) :
    resDv (fun i x => qkvR X i (colQ r x)) (fun i x => qkvR X i (colK r x))
      (fun i x => gR X i (colG r x)) (fun i x => ldR X i (colL r x)) i x = gradV X r (headIx x) i (dimIx x) := by
  simp only [resDv, gradV, hd_q, hd_k, hd_g, row_sum]
end

/-! ## The three results -/

section
variable (m : (ℓ : Loc nD τ sig) → Buf (Elt Ideal) ℓ) (c : Dev nD) (X : Reals)
variable (H : Holds X (launchContents m c (Proc.devRef .tc main_arg0)) (launchContents m c (Proc.devRef .tc main_arg1)) (launchContents m c (Proc.devRef .tc main_arg2))
  (launchContents m c (Proc.devRef .tc main_arg3)) (launchContents m c (Proc.devRef .tc main_arg4)) (launchContents m c (Proc.devRef .tc main_arg5))
  (launchContents m c (Proc.devRef .tc main_arg6)) (launchContents m c (Proc.devRef .tc main_arg7)))
include H

theorem qkv_real (i : Fin 2048) (x : Fin 4608) : V m c main_v86 (ix2 i x) = (qkvR X i x : EReal) :=
  (congrFun (congrFun (after_ops (launchContents m c)) (Proc.devRef .tc main_v86)) (ix2 i x)).trans (qkv_at H i x)

theorem g_real (i : Fin 2048) (x : Fin 1536) : V m c main_v88 (ix2 i x) = (gR X i x : EReal) :=
  (congrFun (congrFun (after_ops (launchContents m c)) (Proc.devRef .tc main_v88)) (ix2 i x)).trans (g_at H i x)

theorem ld_real (i : Fin 2048) (x : Fin 512) : V m c main_v89 (ix2 i x) = (ldR X i x : EReal) :=
  (congrFun (congrFun (after_ops (launchContents m c)) (Proc.devRef .tc main_v89)) (ix2 i x)).trans (ld_at H i x)

/-- The queries' gradient. -/
theorem dq_eq : (dats m 0 c).arrAt 15 cfg0.N = Cert.ReferenceIdeal.Read.val_main_v166 (F := Ideal)
    (launchContents m c (Proc.devRef .tc main_arg0)) (launchContents m c (Proc.devRef .tc main_arg1)) (launchContents m c (Proc.devRef .tc main_arg2))
    (launchContents m c (Proc.devRef .tc main_arg3)) (launchContents m c (Proc.devRef .tc main_arg4)) (launchContents m c (Proc.devRef .tc main_arg5))
    (launchContents m c (Proc.devRef .tc main_arg6)) (launchContents m c (Proc.devRef .tc main_arg7)) := by
  refine (arrDq m c (qkvR X) (gR X) (ldR X) (qkv_real m c X H) (g_real m c X H) (ld_real m c X H)).trans (funext fun y => ?_)
  exact (congrArg _ (resDq_eq X (resCol (y 1)) (y 0) (inCol (y 1)))).trans
    ((Cert.Ref.v166_at H (y 0) (y 1)).symm.trans (congrArg _ (ix2_of rfl rfl).symm))

/-- The keys' gradient. -/
theorem dk_eq : (dats m 0 c).arrAt 16 cfg0.N = Cert.ReferenceIdeal.Read.val_main_v168 (F := Ideal)
    (launchContents m c (Proc.devRef .tc main_arg0)) (launchContents m c (Proc.devRef .tc main_arg1)) (launchContents m c (Proc.devRef .tc main_arg2))
    (launchContents m c (Proc.devRef .tc main_arg3)) (launchContents m c (Proc.devRef .tc main_arg4)) (launchContents m c (Proc.devRef .tc main_arg5))
    (launchContents m c (Proc.devRef .tc main_arg6)) (launchContents m c (Proc.devRef .tc main_arg7)) := by
  refine (arrDk m c (qkvR X) (gR X) (ldR X) (qkv_real m c X H) (g_real m c X H) (ld_real m c X H)).trans (funext fun y => ?_)
  exact (congrArg _ (resDk_eq X (resCol (y 1)) (y 0) (inCol (y 1)))).trans
    ((Cert.Ref.v168_at H (y 0) (y 1)).symm.trans (congrArg _ (ix2_of rfl rfl).symm))

/-- The values' gradient. -/
theorem dv_eq : (dats m 0 c).arrAt 17 cfg0.N = Cert.ReferenceIdeal.Read.val_main_v170 (F := Ideal)
    (launchContents m c (Proc.devRef .tc main_arg0)) (launchContents m c (Proc.devRef .tc main_arg1))
    (launchContents m c (Proc.devRef .tc main_arg4)) (launchContents m c (Proc.devRef .tc main_arg6)) (launchContents m c (Proc.devRef .tc main_arg7)) := by
  refine (arrDv m c (qkvR X) (gR X) (ldR X) (qkv_real m c X H) (g_real m c X H) (ld_real m c X H)).trans (funext fun y => ?_)
  exact (congrArg _ (resDv_eq X (resCol (y 1)) (y 0) (inCol (y 1)))).trans
    ((Cert.Ref.v170_at H (y 0) (y 1)).symm.trans (congrArg _ (ix2_of rfl rfl).symm))
end

end Cert.KernelIdeal.Match

end
-- ==== Proof.Product.lean ====
/- The three products of matrices that a layer `y = h w` has: its own, the one with the second matrix's rows
   (the gradient of `h`), and the one with the first matrix's columns (the gradient of `w`), the last also as what
   an accumulator holds that goes through the rows block by block. -/
module

public import Idealize.ShloMosaic.PureOps
public import Idealize.ShloMosaic.Lib.Pointwise
public import Idealize.ShloMosaic.Lib.IdealHost
public import Idealize.ShloMosaic.Lib.Pipeline.ValueKit

@[expose] public section

noncomputable section

namespace Cert.Product

open Idealize.ShloMosaic

/-- A matrix of extended reals. -/
abbrev Mat (a b : Nat) := (⟨2, ![a, b]⟩ : Shape).Idx → EReal

variable {M K N : Nat}

/-- `a b`. -/
def nn (a : Mat M K) (b : Mat K N) : Mat M N := fun i => ∑ k : Fin K, a (ix2 (i 0) k) * b (ix2 k (i 1))

/-- `a bᵀ`. -/
def nt (a : Mat M K) (b : Mat N K) : Mat M N := fun i => ∑ k : Fin K, a (ix2 (i 0) k) * b (ix2 (i 1) k)

/-- `aᵀ b`. -/
def tn (a : Mat K M) (b : Mat K N) : Mat M N := fun i => ∑ k : Fin K, a (ix2 k (i 0)) * b (ix2 k (i 1))

/-- The product with the second matrix's rows, as the sum of the products of the two parts of the columns. -/
theorem nt_halves {L₁ L₂ : ℕ} (a : Mat M K) (b : Mat N K) (hK : K = L₁ + L₂) (i : (⟨2, ![M, N]⟩ : Shape).Idx)
    (f₁ g₁ : Fin L₁ → EReal) (f₂ g₂ : Fin L₂ → EReal) (hf₁ : ∀ k, f₁ k = a (ix2 (i 0) ⟨k.val, by omega⟩))
    (hg₁ : ∀ k, g₁ k = b (ix2 (i 1) ⟨k.val, by omega⟩)) (hf₂ : ∀ k, f₂ k = a (ix2 (i 0) ⟨L₁ + k.val, by omega⟩))
    (hg₂ : ∀ k, g₂ k = b (ix2 (i 1) ⟨L₁ + k.val, by omega⟩)) : ∑ k, f₁ k * g₁ k + ∑ k, f₂ k * g₂ k = nt a b i := by
  subst hK
  unfold nt
  rw [Fin.sum_univ_add]
  exact congrArg₂ (· + ·) (Finset.sum_congr rfl fun k _ => by rw [hf₁, hg₁]; rfl)
    (Finset.sum_congr rfl fun k _ => by rw [hf₂, hg₂]; rfl)

/-- Of the product over the rows, the share of the `s`-th block of `L` rows, at row `p` and column `q` of the result. -/
def tnPart (a : Mat K M) (b : Mat K N) (L s p q : ℕ) : EReal :=
  ∑ k : Fin L, if h : s * L + k.val < K ∧ p < M ∧ q < N then
    a (ix2 ⟨s * L + k.val, h.1⟩ ⟨p, h.2.1⟩) * b (ix2 ⟨s * L + k.val, h.1⟩ ⟨q, h.2.2⟩) else 0

/-- A share, in terms of two blocks that hold the rows it multiplies. -/
theorem tnPart_eq (a : Mat K M) (b : Mat K N) (L s p q : ℕ) (hs : s * L + L ≤ K) (hp : p < M) (hq : q < N) (f g : Fin L → EReal)
    (hf : ∀ k : Fin L, f k = a (ix2 ⟨s * L + k.val, by omega⟩ ⟨p, hp⟩))
    (hg : ∀ k : Fin L, g k = b (ix2 ⟨s * L + k.val, by omega⟩ ⟨q, hq⟩)) : ∑ k, f k * g k = tnPart a b L s p q :=
  Finset.sum_congr rfl fun k _ => by rw [dif_pos ⟨by omega, hp, hq⟩, hf, hg]

/-- The shares of all the blocks of rows add up to the product. -/
theorem sum_tnPart (a : Mat K M) (b : Mat K N) (S L : ℕ) (hK : K = S * L) (i : (⟨2, ![M, N]⟩ : Shape).Idx) :
    ∑ s ∈ Finset.range S, tnPart a b L s (i 0).val (i 1).val = tn a b i := by
  rw [← Fin.sum_univ_eq_sum_range (fun s => tnPart a b L s (i 0).val (i 1).val)]
  unfold tnPart tn
  refine Fin.sum_mul_add_congr (fun s k hl => ?_) hK
  rw [dif_pos ⟨hl, (i 0).isLt, (i 1).isLt⟩]
  rfl

/-- An accumulator that takes the first block's share at the first point of a run of `S` points, and adds the share of the
    next block at each later one, holds the product after the run's last point. -/
theorem run_tn {n : ℕ} {ι : Type} (a : Mat K M) (b : Mat K N) (S L : ℕ) (hK : K = S * L) (f : (t : ℕ) → t < n → ι → EReal)
    (row col : ℕ → ι → ℕ)
    (h0 : ∀ t : Fin n, t.val % S = 0 → ∀ y, f t.val t.isLt y =
      tnPart a b L (t.val % S) (row (t.val / S) y) (col (t.val / S) y))
    (hs : ∀ t : Fin n, ¬t.val % S = 0 → ∀ y, f t.val t.isLt y = f (t.val - 1) (Nat.lt_of_le_of_lt (Nat.sub_le _ _) t.isLt) y +
      tnPart a b L (t.val % S) (row (t.val / S) y) (col (t.val / S) y))
    (t : Fin n) (hS : 0 < S) (ht : t.val % S = S - 1) (y : ι) (i : (⟨2, ![M, N]⟩ : Shape).Idx) (hi : (i 0).val = row (t.val / S) y)
    (hj : (i 1).val = col (t.val / S) y) : f t.val t.isLt y = tn a b i := by
  have H := Pipeline.eq_sum_of_reset_step_apply_divmod f S (fun _ => 0)
    (fun q s y => tnPart a b L s (row q y) (col q y)) (fun t h y => (h0 t h y).trans (zero_add _).symm) hs t y
  rw [H, zero_add, ht, ← sum_tnPart a b S L hK i, hi, hj, Nat.sub_add_cancel hS]

end Cert.Product

end
-- ==== Proof.DownDx.lean ====
/- The gradient of the down projection of the gated layer in its input. -/
module

public import proofs.«01_k».proof.Defs
public import proofs.«01_k».proof.Proof.Gen.DownDxIdeal.Value
public import proofs.«01_k».proof.Proof.Gen.DownDxRefIdeal.Run
public import Idealize.ShloMosaic.Lib.Pipeline.ValueKit
public import proofs.«01_k».proof.Proof.Product

@[expose] public section

set_option maxRecDepth 16384

namespace Cert.DownDxIdeal.Val

open Idealize.ShloMosaic Idealize.SL.Sem Cert.DownDxIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val, 0] ∧ win0_1.index t = ![0, 0] ∧ win0_2.index t = ![t.val, 0] :=
  (by decide +kernel : ∀ t : Fin grid0.N, _)

/-- The array the kernel leaves. -/
theorem arr : (dats m 0 c).arrAt 2 cfg0.N = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  pointwise
  unfold Product.nt
  blk_point [iblk, V, idx t]

/-- The reference's array. -/
theorem ref (a : FVec Ideal Cert.DownDxRefIdeal.S8192x1024 .f32) (b : FVec Ideal Cert.DownDxRefIdeal.S2816x1024 .f32) :
    Host.dotGeneral Cert.DownDxRefIdeal.dot_S8192x1024_S2816x1024_S8192x2816_1_1_0_0_n_n none a b = Product.nt a b := by
  funext i
  pointwise
  rfl

/-- The reference ends with its arguments unchanged; it declares no semaphore. -/
theorem frame : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- The kernel's array is the reference's. -/
theorem value : Cert.algebraic_DownDxIdeal_DownDxRefIdeal := fun m ρ m' ρ' _ hm => by
  refine ⟨fun c => (dats m 0 c).arrAt 2 cfg0.N, Value.run_blocks m ρ, ?_⟩
  refine (θ_run Cert.DownDxRefIdeal.defs _ _).mono (fun r h c => ⟨?_, (h c).2⟩) (Cert.DownDxRefIdeal.Value.run (F := Ideal) m' ρ')
  obtain ⟨-, eb, ea⟩ := hm c
  exact (h c).1.trans ((ref _ _).trans ((congrArg₂ Product.nt ea eb).trans (arr m c).symm))

end Cert.DownDxIdeal.Val
-- ==== Proof.DownDw.lean ====
/- The gradient of the down projection of the gated layer in its weight: an accumulator goes through
   the tokens in eight blocks. -/
module

public import proofs.«01_k».proof.Defs
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import proofs.«01_k».proof.Proof.Product

@[expose] public section

set_option maxRecDepth 16384

namespace Cert.DownDwIdeal.Val

open Idealize.ShloMosaic Idealize.SL.Sem Cert.DownDwIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of a point's two blocks is the share of its rows. -/
theorem part (t : Fin cfg0.N) (y : S1408x1024.Idx) :
    (∑ k : Fin 1024, HMul.hMul (α := EReal) (β := EReal) (iblk m c 0 t (ix2 k (y 0))) (iblk m c 1 t (ix2 k (y 1))) : EReal) =
      Product.tnPart (m ((c : Thread nD τ).loc main_arg0)) (m ((c : Thread nD τ).loc main_arg2)) 1024 (t.val % 8)
        (t.val / 8 * 1408 + (y 0).val) ((y 1).val) := by
  have ht := lt_of_lt_of_eq t.isLt (show cfg0.N = 16 from N_0)
  have h0 : (y 0).val < 1408 := (y 0).isLt
  have h1 : (y 1).val < 1024 := (y 1).isLt
  refine Product.tnPart_eq _ _ _ _ _ _ (by omega) (by omega) (by omega) _ _ (fun k => ?_) (fun k => ?_) <;>
    blk_point [iblk, V, idx t]

/-- The array the kernel leaves. -/
theorem arr : (dats m 0 c).arrAt 2 cfg0.N = Product.tn (m ((c : Thread nD τ).loc main_arg0)) (m ((c : Thread nD τ).loc main_arg2)) := by
  refine (dats m 0 c).arrAt_eq_of_covers 2 _ (by decide +kernel) fun t hf y => ?_
  have h7 : t.val % 8 = 7 := (flush0_2 t).mp hf
  blk_simp
  rw [after0_2]
  refine Eq.trans (b := (outsAt0 m c t.val t.isLt).2 y) ?_ (Product.run_tn _ _ 8 1024 rfl (fun n h => (outsAt0 m c n h).2)
    (fun q y => q * 1408 + (y 0).val) (fun _ y => (y 1).val) (fun t h y => ?_) (fun t h y => ?_) t (by omega) h7 y _ ?_ ?_)
  · rw [outsAt0_C m c t (by omega) (by omega) h7]
    frame_out
  · rw [outsAt0_A m c t h (by omega) (by omega)]
    frame_out
    unfold_payloads
    pointwise
    exact part m c t y
  · by_cases h7 : t.val % 8 = 7
    on_goal 1 => rw [outsAt0_C m c t h (by omega) h7]
    on_goal 2 => rw [outsAt0_B m c t h (by omega) h7]
    all_goals
      frame_out
      unfold_payloads
      pointwise
      simp only [read_unread_whole]
      rw [part]
  all_goals blk_simp [idx t]

/-- The reference's array. -/
theorem ref (a : FVec Ideal Cert.DownDwRefIdeal.S8192x2816 .f32) (b : FVec Ideal Cert.DownDwRefIdeal.S8192x1024 .f32) :
    transpose Cert.DownDwRefIdeal.S2816x1024 [1, 0] (Host.dotGeneral Cert.DownDwRefIdeal.dot_S8192x1024_S8192x2816_S1024x2816_0_0_1_1_n_n none b a)
      Cert.DownDwRefIdeal.Gen.transposes_S1024x2816_S2816x1024_1_0 = Product.tn a b := by
  funext i
  pointwise
  exact Finset.sum_congr rfl fun k _ => mul_comm _ _

/-- The reference ends with its arguments unchanged; it declares no semaphore. -/
theorem frame : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The kernel's array is the reference's. -/
theorem value : Cert.algebraic_DownDwIdeal_DownDwRefIdeal := fun m ρ m' ρ' _ hm => by
  refine ⟨fun c => (dats m 0 c).arrAt 2 cfg0.N, Value.run_blocks m ρ, ?_⟩
  refine (θ_run Cert.DownDwRefIdeal.defs _ _).mono (fun r h c => ⟨?_, (h c).2⟩) (Cert.DownDwRefIdeal.Value.run (F := Ideal) m' ρ')
  obtain ⟨ea, -, eb⟩ := hm c
  exact (h c).1.trans ((ref _ _).trans ((congrArg₂ Product.tn ea eb).trans (arr m c).symm))

end Cert.DownDwIdeal.Val
-- ==== Proof.UpDx.lean ====
/- The gradient of the up projection of the gated layer in its input: the kernel takes the two halves of the
   columns, gate and value, and adds their products. -/
module

public import proofs.«01_k».proof.Defs
public import proofs.«01_k».proof.Proof.Gen.UpDxIdeal.Value
public import proofs.«01_k».proof.Proof.Gen.UpDxRefIdeal.Run
public import Idealize.ShloMosaic.Lib.Pipeline.ValueKit
public import proofs.«01_k».proof.Proof.Product

@[expose] public section

set_option maxRecDepth 16384

namespace Cert.UpDxIdeal.Val

open Idealize.ShloMosaic Idealize.SL.Sem Cert.UpDxIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- The array the kernel leaves. -/
theorem arr : (dats m 0 c).arrAt 4 cfg0.N = Product.nt (m ((c : Thread nD τ).loc main_arg2)) (m ((c : Thread nD τ).loc main_arg1)) := by
  refine (dats m 0 c).arrAt_eq_of_covers 4 _ (by decide +kernel) fun t hf y => ?_
  blk_simp
  rw [after0_4]
  frame_out
  unfold_payloads
  pointwise
  refine Product.nt_halves (L₁ := 2816) (L₂ := 2816) _ _ rfl _ _ _ _ _ (fun k => ?_) (fun k => ?_) (fun k => ?_) (fun k => ?_)
  all_goals blk_point [iblk, V, idx t]

/-- The reference's array. -/
theorem ref (a : FVec Ideal Cert.UpDxRefIdeal.S8192x5632 .f32) (b : FVec Ideal Cert.UpDxRefIdeal.S1024x5632 .f32) :
    Host.dotGeneral Cert.UpDxRefIdeal.dot_S8192x5632_S1024x5632_S8192x1024_1_1_0_0_n_n none a b = Product.nt a b := by
  funext i
  pointwise
  rfl

/-- The reference ends with its arguments unchanged; it declares no semaphore. -/
theorem frame : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- The kernel's array is the reference's. -/
theorem value : Cert.algebraic_UpDxIdeal_UpDxRefIdeal := fun m ρ m' ρ' _ hm => by
  refine ⟨fun c => (dats m 0 c).arrAt 4 cfg0.N, Value.run_blocks m ρ, ?_⟩
  refine (θ_run Cert.UpDxRefIdeal.defs _ _).mono (fun r h c => ⟨?_, (h c).2⟩) (Cert.UpDxRefIdeal.Value.run (F := Ideal) m' ρ')
  obtain ⟨-, eb, ea⟩ := hm c
  exact (h c).1.trans ((ref _ _).trans ((congrArg₂ Product.nt ea eb).trans (arr m c).symm))

end Cert.UpDxIdeal.Val
-- ==== Proof.UpDw.lean ====
/- The gradient of the up projection of the gated layer, for one half of its columns, in its weight: an accumulator goes through
   the tokens in eight blocks. -/
module

public import proofs.«01_k».proof.Defs
public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import proofs.«01_k».proof.Proof.Product

@[expose] public section

set_option maxRecDepth 16384

namespace Cert.UpDwIdeal.Val

open Idealize.ShloMosaic Idealize.SL.Sem Cert.UpDwIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of a point's two blocks is the share of its rows. -/
theorem part (t : Fin cfg0.N) (y : S1024x1408.Idx) :
    (∑ k : Fin 1024, HMul.hMul (α := EReal) (β := EReal) (iblk m c 0 t (ix2 k (y 0))) (iblk m c 1 t (ix2 k (y 1))) : EReal) =
      Product.tnPart (m ((c : Thread nD τ).loc main_arg0)) (m ((c : Thread nD τ).loc main_arg2)) 1024 (t.val % 8)
        ((y 0).val) (t.val / 8 * 1408 + (y 1).val) := by
  have ht := lt_of_lt_of_eq t.isLt (show cfg0.N = 16 from N_0)
  have h0 : (y 0).val < 1024 := (y 0).isLt
  have h1 : (y 1).val < 1408 := (y 1).isLt
  refine Product.tnPart_eq _ _ _ _ _ _ (by omega) (by omega) (by omega) _ _ (fun k => ?_) (fun k => ?_) <;>
    blk_point [iblk, V, idx t]

/-- The array the kernel leaves. -/
theorem arr : (dats m 0 c).arrAt 2 cfg0.N = Product.tn (m ((c : Thread nD τ).loc main_arg0)) (m ((c : Thread nD τ).loc main_arg2)) := by
  refine (dats m 0 c).arrAt_eq_of_covers 2 _ (by decide +kernel) fun t hf y => ?_
  have h7 : t.val % 8 = 7 := (flush0_2 t).mp hf
  blk_simp
  rw [after0_2]
  refine Eq.trans (b := (outsAt0 m c t.val t.isLt).2 y) ?_ (Product.run_tn _ _ 8 1024 rfl (fun n h => (outsAt0 m c n h).2)
    (fun _ y => (y 0).val) (fun q y => q * 1408 + (y 1).val) (fun t h y => ?_) (fun t h y => ?_) t (by omega) h7 y _ ?_ ?_)
  · rw [outsAt0_C m c t (by omega) (by omega) h7]
    frame_out
  · rw [outsAt0_A m c t h (by omega) (by omega)]
    frame_out
    unfold_payloads
    pointwise
    exact part m c t y
  · by_cases h7 : t.val % 8 = 7
    on_goal 1 => rw [outsAt0_C m c t h (by omega) h7]
    on_goal 2 => rw [outsAt0_B m c t h (by omega) h7]
    all_goals
      frame_out
      unfold_payloads
      pointwise
      simp only [read_unread_whole]
      rw [part]
  all_goals blk_simp [idx t]

/-- The reference's array. -/
theorem ref (a : FVec Ideal Cert.UpDwRefIdeal.S8192x1024 .f32) (b : FVec Ideal Cert.UpDwRefIdeal.S8192x2816 .f32) :
    transpose Cert.UpDwRefIdeal.S1024x2816 [1, 0] (Host.dotGeneral Cert.UpDwRefIdeal.dot_S8192x2816_S8192x1024_S2816x1024_0_0_1_1_n_n none b a)
      Cert.UpDwRefIdeal.Gen.transposes_S2816x1024_S1024x2816_1_0 = Product.tn a b := by
  funext i
  pointwise
  exact Finset.sum_congr rfl fun k _ => mul_comm _ _

/-- The reference ends with its arguments unchanged; it declares no semaphore. -/
theorem frame : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The kernel's array is the reference's. -/
theorem value : Cert.algebraic_UpDwIdeal_UpDwRefIdeal := fun m ρ m' ρ' _ hm => by
  refine ⟨fun c => (dats m 0 c).arrAt 2 cfg0.N, Value.run_blocks m ρ, ?_⟩
  refine (θ_run Cert.UpDwRefIdeal.defs _ _).mono (fun r h c => ⟨?_, (h c).2⟩) (Cert.UpDwRefIdeal.Value.run (F := Ideal) m' ρ')
  obtain ⟨ea, -, eb⟩ := hm c
  exact (h c).1.trans ((ref _ _).trans ((congrArg₂ Product.tn ea eb).trans (arr m c).symm))

end Cert.UpDwIdeal.Val
-- ==== Proof.OutDx.lean ====
/- The gradient of the output projection of the token mixers in its input. -/
module

public import proofs.«01_k».proof.Defs
public import proofs.«01_k».proof.Proof.Gen.OutDxIdeal.Value
public import proofs.«01_k».proof.Proof.Gen.OutDxRefIdeal.Run
public import Idealize.ShloMosaic.Lib.Pipeline.ValueKit
public import proofs.«01_k».proof.Proof.Product

@[expose] public section

set_option maxRecDepth 16384

namespace Cert.OutDxIdeal.Val

open Idealize.ShloMosaic Idealize.SL.Sem Cert.OutDxIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val, 0] ∧ win0_1.index t = ![0, 0] ∧ win0_2.index t = ![t.val, 0] :=
  (by decide +kernel : ∀ t : Fin grid0.N, _)

/-- The array the kernel leaves. -/
theorem arr : (dats m 0 c).arrAt 2 cfg0.N = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  pointwise
  unfold Product.nt
  blk_point [iblk, V, idx t]

/-- The reference's array. -/
theorem ref (a : FVec Ideal Cert.OutDxRefIdeal.S8192x1024 .f32) (b : FVec Ideal Cert.OutDxRefIdeal.S1024x1024 .f32) :
    Host.dotGeneral Cert.OutDxRefIdeal.dot_S8192x1024_S1024x1024_S8192x1024_1_1_0_0_n_n none a b = Product.nt a b := by
  funext i
  pointwise
  rfl

/-- The reference ends with its arguments unchanged; it declares no semaphore. -/
theorem frame : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

/-- The kernel's array is the reference's. -/
theorem value : Cert.algebraic_OutDxIdeal_OutDxRefIdeal := fun m ρ m' ρ' _ hm => by
  refine ⟨fun c => (dats m 0 c).arrAt 2 cfg0.N, Value.run_blocks m ρ, ?_⟩
  refine (θ_run Cert.OutDxRefIdeal.defs _ _).mono (fun r h c => ⟨?_, (h c).2⟩) (Cert.OutDxRefIdeal.Value.run (F := Ideal) m' ρ')
  obtain ⟨-, eb, ea⟩ := hm c
  exact (h c).1.trans ((ref _ _).trans ((congrArg₂ Product.nt ea eb).trans (arr m c).symm))

end Cert.OutDxIdeal.Val
-- ==== Proof.OutDw.lean ====
/- The gradient of the output projection of the token mixers in its weight: an accumulator goes through
   the tokens in eight blocks. -/
module

public import proofs.«01_k».proof.Defs
public import proofs.«01_k».proof.Proof.Gen.OutDwIdeal.Value
public import proofs.«01_k».proof.Proof.Gen.OutDwRefIdeal.Run
public import Idealize.ShloMosaic.Lib.Pipeline.ValueKit
public import Idealize.ShloMosaic.Lib.Pipeline.ReadBack
public import proofs.«01_k».proof.Proof.Product

@[expose] public section

set_option maxRecDepth 16384

namespace Cert.OutDwIdeal.Val

open Idealize.ShloMosaic Idealize.SL.Sem Cert.OutDwIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val % 8, 0] ∧ win0_1.index t = ![t.val % 8, 0] ∧ win0_2.index t = ![0, 0] :=
  (by decide +kernel : ∀ t : Fin grid0.N, _)

/-- The product of a point's two blocks is the share of its rows. -/
theorem part (t : Fin cfg0.N) (y : S1024x1024.Idx) :
    (∑ k : Fin 1024, HMul.hMul (α := EReal) (β := EReal) (iblk m c 0 t (ix2 k (y 0))) (iblk m c 1 t (ix2 k (y 1))) : EReal) =
      Product.tnPart (m ((c : Thread nD τ).loc main_arg0)) (m ((c : Thread nD τ).loc main_arg2)) 1024 (t.val % 8)
        ((y 0).val) ((y 1).val) := by
  have ht := lt_of_lt_of_eq t.isLt (show cfg0.N = 8 from N_0)
  have h0 : (y 0).val < 1024 := (y 0).isLt
  have h1 : (y 1).val < 1024 := (y 1).isLt
  refine Product.tnPart_eq _ _ _ _ _ _ (by omega) (by omega) (by omega) _ _ (fun k => ?_) (fun k => ?_) <;>
    blk_point [iblk, V, idx t]

/-- The array the kernel leaves. -/
theorem arr : (dats m 0 c).arrAt 2 cfg0.N = Product.tn (m ((c : Thread nD τ).loc main_arg0)) (m ((c : Thread nD τ).loc main_arg2)) := by
  refine (dats m 0 c).arrAt_eq_of_covers 2 _ (by decide +kernel) fun t hf y => ?_
  have h7 : t.val % 8 = 7 := (flush0_2 t).mp hf
  blk_simp
  rw [after0_2]
  refine Eq.trans (b := (outsAt0 m c t.val t.isLt).2 y) ?_ (Product.run_tn _ _ 8 1024 rfl (fun n h => (outsAt0 m c n h).2)
    (fun _ y => (y 0).val) (fun _ y => (y 1).val) (fun t h y => ?_) (fun t h y => ?_) t (by omega) h7 y _ ?_ ?_)
  · rw [outsAt0_C m c t (by omega) (by omega) h7]
    frame_out
  · have ht := lt_of_lt_of_eq t.isLt (show cfg0.N = 8 from N_0)
    rw [outsAt0_A m c t h (by omega) (by omega)]
    frame_out
    unfold_payloads
    pointwise
    exact part m c t y
  · by_cases h7 : t.val % 8 = 7
    on_goal 1 => rw [outsAt0_C m c t h (by omega) h7]
    on_goal 2 => rw [outsAt0_B m c t h (by omega) h7]
    all_goals
      frame_out
      unfold_payloads
      pointwise
      simp only [read_unread_whole]
      rw [part]
  all_goals blk_simp [idx t]

/-- The reference's array. -/
theorem ref (a : FVec Ideal Cert.OutDwRefIdeal.S8192x1024 .f32) (b : FVec Ideal Cert.OutDwRefIdeal.S8192x1024 .f32) :
    transpose Cert.OutDwRefIdeal.S1024x1024 [1, 0] (Host.dotGeneral Cert.OutDwRefIdeal.dot_S8192x1024_S8192x1024_S1024x1024_0_0_1_1_n_n none b a)
      Cert.OutDwRefIdeal.Gen.transposes_S1024x1024_S1024x1024_1_0 = Product.tn a b := by
  funext i
  pointwise
  exact Finset.sum_congr rfl fun k _ => mul_comm _ _

/-- The reference ends with its arguments unchanged; it declares no semaphore. -/
theorem frame : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The kernel's array is the reference's. -/
theorem value : Cert.algebraic_OutDwIdeal_OutDwRefIdeal := fun m ρ m' ρ' _ hm => by
  refine ⟨fun c => (dats m 0 c).arrAt 2 cfg0.N, Value.run_blocks m ρ, ?_⟩
  refine (θ_run Cert.OutDwRefIdeal.defs _ _).mono (fun r h c => ⟨?_, (h c).2⟩) (Cert.OutDwRefIdeal.Value.run (F := Ideal) m' ρ')
  obtain ⟨ea, -, eb⟩ := hm c
  exact (h c).1.trans ((ref _ _).trans ((congrArg₂ Product.tn ea eb).trans (arr m c).symm))

end Cert.OutDwIdeal.Val
-- ==== Proof.InpDx.lean ====
/- The gradient of the input projection of the token mixers in its input. -/
module

public import proofs.«01_k».proof.Defs
public import proofs.«01_k».proof.Proof.Gen.InpDxIdeal.Value
public import proofs.«01_k».proof.Proof.Gen.InpDxRefIdeal.Run
public import Idealize.ShloMosaic.Lib.Pipeline.ValueKit
public import proofs.«01_k».proof.Proof.Product

@[expose] public section

set_option maxRecDepth 16384

namespace Cert.InpDxIdeal.Val

open Idealize.ShloMosaic Idealize.SL.Sem Cert.InpDxIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val, 0] ∧ win0_1.index t = ![0, 0] ∧ win0_2.index t = ![t.val, 0] :=
  (by decide +kernel : ∀ t : Fin grid0.N, _)

/-- The array the kernel leaves. -/
theorem arr : (dats m 0 c).arrAt 2 cfg0.N = Product.nt (m ((c : Thread nD τ).loc main_arg2)) (m ((c : Thread nD τ).loc main_arg1)) := by
  refine (dats m 0 c).arrAt_eq_of_covers 2 _ (by decide +kernel) fun t hf y => ?_
  blk_simp
  rw [after0_2]
  frame_out
  unfold_payloads
  pointwise
  unfold Product.nt
  blk_point [iblk, V, idx t]

/-- The reference's array. -/
theorem ref (a : FVec Ideal Cert.InpDxRefIdeal.S8192x3584 .f32) (b : FVec Ideal Cert.InpDxRefIdeal.S1024x3584 .f32) :
    Host.dotGeneral Cert.InpDxRefIdeal.dot_S8192x3584_S1024x3584_S8192x1024_1_1_0_0_n_n none a b = Product.nt a b := by
  funext i
  pointwise
  rfl

/-- The reference ends with its arguments unchanged; it declares no semaphore. -/
theorem frame : Cert.quiescent_InpDxRefIdeal := fun m ρ _ =>
  (θ_run Cert.InpDxRefIdeal.defs _ _).mono (fun r h => ⟨fun c => (h c).2, sem_eq_zero_of_no_sems (by decide) r.2⟩)
    (Cert.InpDxRefIdeal.Value.run (F := Ideal) m ρ)

/-- The kernel's array is the reference's. -/
theorem value : Cert.algebraic_InpDxIdeal_InpDxRefIdeal := fun m ρ m' ρ' _ hm => by
  refine ⟨fun c => (dats m 0 c).arrAt 2 cfg0.N, Value.run_blocks m ρ, ?_⟩
  refine (θ_run Cert.InpDxRefIdeal.defs _ _).mono (fun r h c => ⟨?_, (h c).2⟩) (Cert.InpDxRefIdeal.Value.run (F := Ideal) m' ρ')
  obtain ⟨-, eb, ea⟩ := hm c
  exact (h c).1.trans ((ref _ _).trans ((congrArg₂ Product.nt ea eb).trans (arr m c).symm))

end Cert.InpDxIdeal.Val
-- ==== Proof.InpDw.lean ====
/- The gradient of the input projection of the token mixers in its weight: an accumulator goes through
   the tokens in eight blocks. -/
module

public import proofs.«01_k».proof.Defs
public import proofs.«01_k».proof.Proof.Gen.InpDwIdeal.Value
public import proofs.«01_k».proof.Proof.Gen.InpDwRefIdeal.Run
public import Idealize.ShloMosaic.Lib.Pipeline.ValueKit
public import Idealize.ShloMosaic.Lib.Pipeline.ReadBack
public import proofs.«01_k».proof.Proof.Product

@[expose] public section

set_option maxRecDepth 16384

namespace Cert.InpDwIdeal.Val

open Idealize.ShloMosaic Idealize.SL.Sem Cert.InpDwIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of a point's two blocks is the share of its rows. -/
theorem part (t : Fin cfg0.N) (y : S1024x1792.Idx) :
    (∑ k : Fin 1024, HMul.hMul (α := EReal) (β := EReal) (iblk m c 0 t (ix2 k (y 0))) (iblk m c 1 t (ix2 k (y 1))) : EReal) =
      Product.tnPart (m ((c : Thread nD τ).loc main_arg0)) (m ((c : Thread nD τ).loc main_arg2)) 1024 (t.val % 8)
        ((y 0).val) (t.val / 8 * 1792 + (y 1).val) := by
  have ht := lt_of_lt_of_eq t.isLt (show cfg0.N = 16 from N_0)
  have h0 : (y 0).val < 1024 := (y 0).isLt
  have h1 : (y 1).val < 1792 := (y 1).isLt
  refine Product.tnPart_eq _ _ _ _ _ _ (by omega) (by omega) (by omega) _ _ (fun k => ?_) (fun k => ?_) <;>
    blk_point [iblk, V, idx t]

/-- The array the kernel leaves. -/
theorem arr : (dats m 0 c).arrAt 2 cfg0.N = Product.tn (m ((c : Thread nD τ).loc main_arg0)) (m ((c : Thread nD τ).loc main_arg2)) := by
  refine (dats m 0 c).arrAt_eq_of_covers 2 _ (by decide +kernel) fun t hf y => ?_
  have h7 : t.val % 8 = 7 := (flush0_2 t).mp hf
  blk_simp
  rw [after0_2]
  refine Eq.trans (b := (outsAt0 m c t.val t.isLt).2 y) ?_ (Product.run_tn _ _ 8 1024 rfl (fun n h => (outsAt0 m c n h).2)
    (fun _ y => (y 0).val) (fun q y => q * 1792 + (y 1).val) (fun t h y => ?_) (fun t h y => ?_) t (by omega) h7 y _ ?_ ?_)
  · rw [outsAt0_C m c t (by omega) (by omega) h7]
    frame_out
  · rw [outsAt0_A m c t h (by omega) (by omega)]
    frame_out
    unfold_payloads
    pointwise
    exact part m c t y
  · by_cases h7 : t.val % 8 = 7
    on_goal 1 => rw [outsAt0_C m c t h (by omega) h7]
    on_goal 2 => rw [outsAt0_B m c t h (by omega) h7]
    all_goals
      frame_out
      unfold_payloads
      pointwise
      simp only [read_unread_whole]
      rw [part]
  all_goals blk_simp [idx t]

/-- The reference's array. -/
theorem ref (a : FVec Ideal Cert.InpDwRefIdeal.S8192x1024 .f32) (b : FVec Ideal Cert.InpDwRefIdeal.S8192x3584 .f32) :
    transpose Cert.InpDwRefIdeal.S1024x3584 [1, 0] (Host.dotGeneral Cert.InpDwRefIdeal.dot_S8192x3584_S8192x1024_S3584x1024_0_0_1_1_n_n none b a)
      Cert.InpDwRefIdeal.Gen.transposes_S3584x1024_S1024x3584_1_0 = Product.tn a b := by
  funext i
  pointwise
  exact Finset.sum_congr rfl fun k _ => mul_comm _ _

/-- The reference ends with its arguments unchanged; it declares no semaphore. -/
theorem frame : Cert.quiescent_InpDwRefIdeal := fun m ρ _ =>
  (θ_run Cert.InpDwRefIdeal.defs _ _).mono (fun r h => ⟨fun c => (h c).2, sem_eq_zero_of_no_sems (by decide) r.2⟩)
    (Cert.InpDwRefIdeal.Value.run (F := Ideal) m ρ)

/-- The kernel's array is the reference's. -/
theorem value : Cert.algebraic_InpDwIdeal_InpDwRefIdeal := fun m ρ m' ρ' _ hm => by
  refine ⟨fun c => (dats m 0 c).arrAt 2 cfg0.N, Value.run_blocks m ρ, ?_⟩
  refine (θ_run Cert.InpDwRefIdeal.defs _ _).mono (fun r h c => ⟨?_, (h c).2⟩) (Cert.InpDwRefIdeal.Value.run (F := Ideal) m' ρ')
  obtain ⟨ea, -, eb⟩ := hm c
  exact (h c).1.trans ((ref _ _).trans ((congrArg₂ Product.tn ea eb).trans (arr m c).symm))

end Cert.InpDwIdeal.Val
-- ==== Proof.Down.lean ====
/- The down projection of the gated layer, forward. -/
module

public import proofs.«01_k».proof.Defs
public import proofs.«01_k».proof.Proof.Gen.DownIdeal.Value
public import proofs.«01_k».proof.Proof.Gen.DownRefIdeal.Run
public import Idealize.ShloMosaic.Lib.Pipeline.ValueKit
public import proofs.«01_k».proof.Proof.Product

@[expose] public section

set_option maxRecDepth 16384

namespace Cert.DownIdeal.Val

open Idealize.ShloMosaic Idealize.SL.Sem Cert.DownIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val, 0] ∧ win0_1.index t = ![0, 0] ∧ win0_2.index t = ![t.val, 0] :=
  (by decide +kernel : ∀ t : Fin grid0.N, _)

/-- The array the kernel leaves. -/
theorem arr : (dats m 0 c).arrAt 2 cfg0.N = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise
  unfold Product.nn
  blk_point [iblk, V, idx t]

/-- The reference's array. -/
theorem ref (a : FVec Ideal Cert.DownRefIdeal.S8192x2816 .f32) (b : FVec Ideal Cert.DownRefIdeal.S2816x1024 .f32) :
    Host.dotGeneral Cert.DownRefIdeal.dot_S8192x2816_S2816x1024_S8192x1024_1_0_0_1_n_n none a b = Product.nn a b := by
  funext i
  pointwise
  rfl

/-- The reference ends with its arguments unchanged; it declares no semaphore. -/
theorem frame : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The kernel's array is the reference's. -/
theorem value : Cert.algebraic_DownIdeal_DownRefIdeal := fun m ρ m' ρ' _ hm => by
  refine ⟨fun c => (dats m 0 c).arrAt 2 cfg0.N, Value.run_blocks m ρ, ?_⟩
  refine (θ_run Cert.DownRefIdeal.defs _ _).mono (fun r h c => ⟨?_, (h c).2⟩) (Cert.DownRefIdeal.Value.run (F := Ideal) m' ρ')
  obtain ⟨ea, eb⟩ := hm c
  exact (h c).1.trans ((ref _ _).trans ((congrArg₂ Product.nn ea eb).trans (arr m c).symm))

end Cert.DownIdeal.Val
-- ==== Proof.Up.lean ====
/- The up projection of the gated layer, forward. -/
module

public import proofs.«01_k».proof.Defs
public import proofs.«01_k».proof.Proof.Gen.UpIdeal.Value
public import proofs.«01_k».proof.Proof.Gen.UpRefIdeal.Run
public import Idealize.ShloMosaic.Lib.Pipeline.ValueKit
public import proofs.«01_k».proof.Proof.Product

@[expose] public section

set_option maxRecDepth 16384

namespace Cert.UpIdeal.Val

open Idealize.ShloMosaic Idealize.SL.Sem Cert.UpIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array the kernel leaves. -/
theorem arr : (dats m 0 c).arrAt 2 cfg0.N = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise
  unfold Product.nn
  blk_point [iblk, V, idx t]

/-- The reference's array. -/
theorem ref (a : FVec Ideal Cert.UpRefIdeal.S8192x1024 .f32) (b : FVec Ideal Cert.UpRefIdeal.S1024x5632 .f32) :
    Host.dotGeneral Cert.UpRefIdeal.dot_S8192x1024_S1024x5632_S8192x5632_1_0_0_1_n_n none a b = Product.nn a b := by
  funext i
  pointwise
  rfl

/-- The reference ends with its arguments unchanged; it declares no semaphore. -/
theorem frame : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The kernel's array is the reference's. -/
theorem value : Cert.algebraic_UpIdeal_UpRefIdeal := fun m ρ m' ρ' _ hm => by
  refine ⟨fun c => (dats m 0 c).arrAt 2 cfg0.N, Value.run_blocks m ρ, ?_⟩
  refine (θ_run Cert.UpRefIdeal.defs _ _).mono (fun r h c => ⟨?_, (h c).2⟩) (Cert.UpRefIdeal.Value.run (F := Ideal) m' ρ')
  obtain ⟨ea, eb⟩ := hm c
  exact (h c).1.trans ((ref _ _).trans ((congrArg₂ Product.nn ea eb).trans (arr m c).symm))

end Cert.UpIdeal.Val
-- ==== Proof.Out.lean ====
/- The output projection of the token mixers, forward. -/
module

public import proofs.«01_k».proof.Defs
public import proofs.«01_k».proof.Proof.Gen.OutIdeal.Value
public import proofs.«01_k».proof.Proof.Gen.OutRefIdeal.Run
public import Idealize.ShloMosaic.Lib.Pipeline.ValueKit
public import proofs.«01_k».proof.Proof.Product

@[expose] public section

set_option maxRecDepth 16384

namespace Cert.OutIdeal.Val

open Idealize.ShloMosaic Idealize.SL.Sem Cert.OutIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val, 0] ∧ win0_1.index t = ![0, 0] ∧ win0_2.index t = ![t.val, 0] :=
  (by decide +kernel : ∀ t : Fin grid0.N, _)

/-- The array the kernel leaves. -/
theorem arr : (dats m 0 c).arrAt 2 cfg0.N = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise
  unfold Product.nn
  blk_point [iblk, V, idx t]

/-- The reference's array. -/
theorem ref (a : FVec Ideal Cert.OutRefIdeal.S8192x1024 .f32) (b : FVec Ideal Cert.OutRefIdeal.S1024x1024 .f32) :
    Host.dotGeneral Cert.OutRefIdeal.dot_S8192x1024_S1024x1024_S8192x1024_1_0_0_1_n_n none a b = Product.nn a b := by
  funext i
  pointwise
  rfl

/-- The reference ends with its arguments unchanged; it declares no semaphore. -/
theorem frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel's array is the reference's. -/
theorem value : Cert.algebraic_OutIdeal_OutRefIdeal := fun m ρ m' ρ' _ hm => by
  refine ⟨fun c => (dats m 0 c).arrAt 2 cfg0.N, Value.run_blocks m ρ, ?_⟩
  refine (θ_run Cert.OutRefIdeal.defs _ _).mono (fun r h c => ⟨?_, (h c).2⟩) (Cert.OutRefIdeal.Value.run (F := Ideal) m' ρ')
  obtain ⟨ea, eb⟩ := hm c
  exact (h c).1.trans ((ref _ _).trans ((congrArg₂ Product.nn ea eb).trans (arr m c).symm))

end Cert.OutIdeal.Val
-- ==== Proof.Inp.lean ====
/- The input projection of the token mixers, forward. -/
module

public import proofs.«01_k».proof.Defs
public import proofs.«01_k».proof.Proof.Gen.InpIdeal.Value
public import proofs.«01_k».proof.Proof.Gen.InpRefIdeal.Run
public import Idealize.ShloMosaic.Lib.Pipeline.ValueKit
public import proofs.«01_k».proof.Proof.Product

@[expose] public section

set_option maxRecDepth 16384

namespace Cert.InpIdeal.Val

open Idealize.ShloMosaic Idealize.SL.Sem Cert.InpIdeal.Gen Idealize.ShloMosaic.TcCoe

variable (m : (ℓ : Loc nD τ sig) → Buf (Elt Ideal) ℓ) (c : Dev nD)

/-- The blocks a point meets. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The array the kernel leaves. -/
theorem arr : (dats m 0 c).arrAt 2 cfg0.N = Product.nn (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise
  unfold Product.nn
  blk_point [iblk, V, idx t]

/-- The reference's array. -/
theorem ref (a : FVec Ideal Cert.InpRefIdeal.S8192x1024 .f32) (b : FVec Ideal Cert.InpRefIdeal.S1024x3584 .f32) :
    Host.dotGeneral Cert.InpRefIdeal.dot_S8192x1024_S1024x3584_S8192x3584_1_0_0_1_n_n none a b = Product.nn a b := by
  funext i
  pointwise
  rfl

/-- The reference ends with its arguments unchanged; it declares no semaphore. -/
theorem frame : Cert.quiescent_InpRefIdeal := fun m ρ _ =>
  (θ_run Cert.InpRefIdeal.defs _ _).mono (fun r h => ⟨fun c => (h c).2, sem_eq_zero_of_no_sems (by decide) r.2⟩)
    (Cert.InpRefIdeal.Value.run (F := Ideal) m ρ)

/-- The kernel's array is the reference's. -/
theorem value : Cert.algebraic_InpIdeal_InpRefIdeal := fun m ρ m' ρ' _ hm => by
  refine ⟨fun c => (dats m 0 c).arrAt 2 cfg0.N, Value.run_blocks m ρ, ?_⟩
  refine (θ_run Cert.InpRefIdeal.defs _ _).mono (fun r h c => ⟨?_, (h c).2⟩) (Cert.InpRefIdeal.Value.run (F := Ideal) m' ρ')
  obtain ⟨ea, eb⟩ := hm c
  exact (h c).1.trans ((ref _ _).trans ((congrArg₂ Product.nn ea eb).trans (arr m c).symm))

end Cert.InpIdeal.Val
-- ==== Proof.Gate.lean ====
/- The gated layer's middle part, the product of a convolved value and the GELU of a convolved gate, and its gradients, written at one entry. Rows are counted with eight rows of zeros before the first. -/
module

public import Idealize.ShloMosaic.Lib.Pointwise
public import Idealize.ShloMosaic.PureOps.Ideal.Laws
public import proofs.«01_k».proof.Proof.Product

@[expose] public section

noncomputable section

namespace Cert.Gate

open Idealize.ShloMosaic Cert.Product

variable {N : ℕ}

/-- Row `p` of an array with zeros around it, at a column. -/
def row (x : Mat 8192 N) (p c : ℕ) : EReal :=
  if h : (8 ≤ p ∧ p < 8200) ∧ c < N then x (ix2 ⟨p - 8, by omega⟩ ⟨c, h.2⟩) else 0

theorem row_of_lt (x : Mat 8192 N) {r c : ℕ} (hr : r < 8192) (hc : c < N) : row x (r + 8) c = x (ix2 ⟨r, hr⟩ ⟨c, hc⟩) := by
  rw [row, dif_pos ⟨⟨by omega, by omega⟩, hc⟩]
  exact congrArg x (congrArg₂ ix2 (Fin.ext (by simp)) rfl)

theorem row_eq_zero (x : Mat 8192 N) {p : ℕ} (c : ℕ) (hp : p < 8 ∨ 8200 ≤ p) : row x p c = 0 :=
  dif_neg (by omega)

/-- Eight rows, a block of `R` rows and eight rows on top of one another: the `k`-th block of an array with the rows next to it,
    without those before the first block and after the `K`-th. -/
def held {R M : ℕ} (K : ℕ) (a b : Mat 8 M) (x : Mat R M) (k n : ℕ) (q : Fin M) : EReal :=
  if h : n < 8 then (if 0 < k then a (ix2 ⟨n, h⟩ q) else 0)
  else if h : n - 8 < R then x (ix2 ⟨n - 8, h⟩ q)
  else if h : n - 8 - R < 8 then (if k < K then b (ix2 ⟨n - 8 - R, h⟩ q) else 0) else 0

/-- They are the rows of the array, with zeros before its first row and after its last. -/
theorem held_eq {R M : ℕ} {K : ℕ} {a b : Mat 8 M} {x : Mat R M} (X : Mat 8192 N) (k s c : ℕ) (h0 : k = 0 → s = 0) (hK : K ≤ k → s + R = 8192)
    (ha : 0 < k → ∀ n q, a (ix2 n q) = row X (s + n.val) (c + q.val)) (hx : ∀ n q, x (ix2 n q) = row X (s + (n.val + 8)) (c + q.val))
    (hb : k < K → ∀ n q, b (ix2 n q) = row X (s + (n.val + 8 + R)) (c + q.val)) (n : ℕ) (hn : n < 8 + R + 8) (q : Fin M) :
    held K a b x k n q = row X (s + n) (c + q.val) := by
  unfold held
  split_ifs with h h' h' h' h''
  · rw [ha h']
  · exact (row_eq_zero X _ (by omega)).symm
  · rw [hx]
    exact congrArg (row X · _) (show s + (n - 8 + 8) = s + n by omega)
  · rw [hb h'']
    exact congrArg (row X · _) (show s + (n - 8 - R + 8 + R) = s + n by omega)
  · exact (row_eq_zero X _ (by omega)).symm
  · omega

/-- A tap of the convolution at a column. -/
def tap (w : Mat 3 N) (k : Fin 3) (c : ℕ) : EReal := if h : c < N then w (ix2 k ⟨c, h⟩) else 0

theorem tap_of_lt (w : Mat 3 N) (k : Fin 3) {c : ℕ} (hc : c < N) : tap w k c = w (ix2 k ⟨c, hc⟩) := dif_pos hc

/-- The convolution along the rows. -/
def conv (u : Mat 8192 N) (w : Mat 3 N) (p c : ℕ) : EReal :=
  row u (p - 1) c * tap w 0 c + row u p c * tap w 1 c + row u (p + 1) c * tap w 2 c

/-- A float's constant. -/
abbrev lit (b : BitVec 32) : EReal := Scalar.ofBits (F := Ideal) .f32 b

/-- One entry of the product of a value and the GELU of a gate. -/
def gated (g v : EReal) : EReal := lit 0x3F000000#32 * g * (1 + Ideal.erf (g * lit 0x3F3504F3#32)) * v

/-- The gated layer's middle part. -/
def middle (u : Mat 8192 5632) (w : Mat 3 5632) : Mat 8192 2816 := fun i =>
  gated (conv u w ((i 0).val + 8) (i 1).val) (conv u w ((i 0).val + 8) ((i 1).val + 2816))

/-- The derivative in the value of one entry of the product, times `t`. -/
def dVal (g t : EReal) : EReal := lit 0x3F000000#32 * g * (1 + Ideal.erf (g * lit 0x3F3504F3#32)) * t

/-- The derivative in the gate of one entry of the product, times `t`. -/
def dGate (g v t : EReal) : EReal :=
  lit 0x3F906EBB#32 * (lit 0x3F000000#32 * g * (t * v)) * Ideal.exp (-(g * lit 0x3F3504F3#32 * (g * lit 0x3F3504F3#32))) * lit 0x3F3504F3#32
    + lit 0x3F000000#32 * (t * v * (1 + Ideal.erf (g * lit 0x3F3504F3#32)))

/-- The gradient in the convolved gate, at a row and a column of the gate. -/
def grad₀ (u : Mat 8192 5632) (t : Mat 8192 2816) (w : Mat 3 5632) (p c : ℕ) : EReal :=
  dGate (conv u w p c) (conv u w p (c + 2816)) (row t p c)

/-- The gradient in the convolved value. -/
def grad₁ (u : Mat 8192 5632) (t : Mat 8192 2816) (w : Mat 3 5632) (p c : ℕ) : EReal :=
  dVal (conv u w p c) (row t p c)

theorem grad₀_eq_zero (u : Mat 8192 5632) (t : Mat 8192 2816) (w : Mat 3 5632) {p : ℕ} (c : ℕ) (hp : p < 8 ∨ 8200 ≤ p) :
    grad₀ u t w p c = 0 := by
  simp [grad₀, dGate, row_eq_zero t c hp]

theorem grad₁_eq_zero (u : Mat 8192 5632) (t : Mat 8192 2816) (w : Mat 3 5632) {p : ℕ} (c : ℕ) (hp : p < 8 ∨ 8200 ≤ p) :
    grad₁ u t w p c = 0 := by
  simp [grad₁, dVal, row_eq_zero t c hp]

/-- The gradient in the convolution's argument, of a gradient in its result; the columns begin at `o`. -/
def back (d : ℕ → ℕ → EReal) (w : Mat 3 5632) (o : ℕ) : Mat 8192 2816 := fun i =>
  d ((i 0).val + 9) (i 1).val * tap w 0 ((i 1).val + o) + d ((i 0).val + 8) (i 1).val * tap w 1 ((i 1).val + o)
    + d ((i 0).val + 7) (i 1).val * tap w 2 ((i 1).val + o)

theorem back_eq (d : ℕ → ℕ → EReal) (w : Mat 3 5632) (o : ℕ) (i : (⟨2, ![8192, 2816]⟩ : Shape).Idx) (p r c x : ℕ) (hp : (i 0).val = p + r) (hc : (i 1).val = c)
    (hx : x = c + o) :
    d (p + (r + 9)) c * tap w 0 x + d (p + (r + 8)) c * tap w 1 x + d (p + (r + 7)) c * tap w 2 x = back d w o i := by
  subst hx hc
  rw [back, hp]
  rfl

/-- The gradient in the taps. -/
def taps (d : ℕ → ℕ → EReal) (u : Mat 8192 5632) (o : ℕ) : Mat 3 2816 := fun i =>
  ∑ r : Fin 8192, d (r.val + 8) (i 1).val * row u (r.val + 7 + (i 0).val) ((i 1).val + o)

/-- The share that the `s`-th block of 512 rows has in it, at tap `k` and column `c`. -/
def tapsPart (d : ℕ → ℕ → EReal) (u : Mat 8192 5632) (o s k c : ℕ) : EReal :=
  ∑ r : Fin 512, d (512 * s + (r.val + 8)) c * row u (512 * s + (r.val + 7 + k)) (c + o)

theorem sum_tapsPart (d : ℕ → ℕ → EReal) (u : Mat 8192 5632) (o : ℕ) (i : (⟨2, ![3, 2816]⟩ : Shape).Idx) :
    ∑ s ∈ Finset.range 16, tapsPart d u o s (i 0).val (i 1).val = taps d u o i := by
  rw [← Fin.sum_univ_eq_sum_range (fun s => tapsPart d u o s (i 0).val (i 1).val)]
  unfold tapsPart taps
  refine Fin.sum_mul_add_congr (fun s k hl => ?_) (show 8192 = 16 * 512 from rfl)
  rw [show 512 * s.val + (k.val + 8) = s.val * 512 + k.val + 8 by omega,
    show 512 * s.val + (k.val + 7 + (i 0).val) = s.val * 512 + k.val + 7 + (i 0).val by omega]

/-- An accumulator that takes the first block's share at the first point of a run of sixteen, and adds the share of the next
    block at each later one, holds the gradient in the taps after the run's last point. -/
theorem run_taps {n : ℕ} {ι : Type} (d : ℕ → ℕ → EReal) (u : Mat 8192 5632) (o : ℕ) (f : (t : ℕ) → t < n → ι → EReal)
    (tap : ι → ℕ) (col : ℕ → ι → ℕ)
    (h0 : ∀ t : Fin n, t.val % 16 = 0 → ∀ y, f t.val t.isLt y = tapsPart d u o (t.val % 16) (tap y) (col (t.val / 16) y))
    (hs : ∀ t : Fin n, ¬t.val % 16 = 0 → ∀ y, f t.val t.isLt y = f (t.val - 1) (Nat.lt_of_le_of_lt (Nat.sub_le _ _) t.isLt) y +
      tapsPart d u o (t.val % 16) (tap y) (col (t.val / 16) y))
    (t : Fin n) (ht : t.val % 16 = 15) (y : ι) (i : (⟨2, ![3, 2816]⟩ : Shape).Idx) (hi : (i 0).val = tap y)
    (hj : (i 1).val = col (t.val / 16) y) : f t.val t.isLt y = taps d u o i := by
  have H := Pipeline.eq_sum_of_reset_step_apply_divmod f 16 (fun _ => 0)
    (fun q s y => tapsPart d u o s (tap y) (col q y)) (fun t h y => (h0 t h y).trans (zero_add _).symm) hs t y
  rw [H, zero_add, ht, ← sum_tapsPart d u o i, hi, hj]

end Cert.Gate

end
-- ==== Proof.MidRef.lean ====
/- The reference's gradients of the gated layer's middle part, read at one entry. -/
module

public import proofs.«01_k».proof.Defs
public import proofs.«01_k».proof.Proof.Gen.MidRefIdeal.Run
public import proofs.«01_k».proof.Proof.Gate

@[expose] public section

set_option maxRecDepth 16384

noncomputable section

namespace Cert.MidRefIdeal.Val

open Idealize.ShloMosaic Idealize.SL.Sem Idealize.ShloMosaic.StableHlo Idealize.ShloMosaic.TcCoe Cert.MidRefIdeal.Gen
open Cert.Gate (row tap tap_of_lt row_of_lt row_eq_zero)

/-- The arrays of a row per token: both halves, and one half. -/
abbrev Wide := FVec Ideal S8192x5632 .f32
abbrev Half := FVec Ideal S8192x2816 .f32

variable (u : Wide) (t : Half) (w : FVec Ideal S3x5632 .f32) (m : (ℓ : Loc nD τ sig) → Buf (Elt Ideal) ℓ) (c : Dev nD)

abbrev zero : FVec Ideal S_ .f32 := constant S_ .f32 0x00000000#32
abbrev scalar (b : BitVec 32) : Half := broadcastInDim S8192x2816 ![] bcast_S_S8192x2816 (constant S_ .f32 b)
abbrev rows (x : FVec Ideal S1x5632 .f32) : Wide := broadcastInDim S8192x5632 ![0, 1] bcast_S1x5632_S8192x5632_0_1 x
abbrev fore (x : Wide) : Half := extractStridedSlice S8192x2816 ![0, 0] x slices_S8192x5632_S8192x2816_0_0
abbrev hind (x : Wide) : Half := extractStridedSlice S8192x2816 ![0, 2816] x slices_S8192x5632_S8192x2816_0_2816

/-- The argument with a row of zeros before and after it. -/
def padded : FVec Ideal S8194x5632 .f32 :=
  concatenate S8194x5632 0 [⟨S1x5632, broadcastInDim S1x5632 ![] bcast_S_S1x5632 zero⟩, ⟨S8192x5632, u⟩,
    ⟨S1x5632, broadcastInDim S1x5632 ![] bcast_S_S1x5632 zero⟩] concatenates_S1x5632_S8192x5632_S1x5632_S8194x5632_d0

/-- The three shifts of the argument, and the three taps. -/
def u₀ : Wide := extractStridedSlice S8192x5632 ![0, 0] (padded u) slices_S8194x5632_S8192x5632_0_0
def u₁ : Wide := extractStridedSlice S8192x5632 ![1, 0] (padded u) slices_S8194x5632_S8192x5632_1_0
def u₂ : Wide := extractStridedSlice S8192x5632 ![2, 0] (padded u) slices_S8194x5632_S8192x5632_2_0
def w₀ : FVec Ideal S1x5632 .f32 :=
  broadcastInDim S1x5632 ![1] bcast_S5632_S1x5632_1 (shapeCast _ (extractStridedSlice S1x5632 ![0, 0] w slices_S3x5632_S1x5632_0_0) shapeCasts_S1x5632_S5632)
def w₁ : FVec Ideal S1x5632 .f32 :=
  broadcastInDim S1x5632 ![1] bcast_S5632_S1x5632_1 (shapeCast _ (extractStridedSlice S1x5632 ![1, 0] w slices_S3x5632_S1x5632_1_0) shapeCasts_S1x5632_S5632)
def w₂ : FVec Ideal S1x5632 .f32 :=
  broadcastInDim S1x5632 ![1] bcast_S5632_S1x5632_1 (shapeCast _ (extractStridedSlice S1x5632 ![2, 0] w slices_S3x5632_S1x5632_2_0) shapeCasts_S1x5632_S5632)

/-- The convolution. -/
def conv : Wide := addf (addf (mulf (u₀ u) (rows (w₀ w))) (mulf (u₁ u) (rows (w₁ w)))) (mulf (u₂ u) (rows (w₂ w)))

/-- The derivatives of the product in the gate and in the value. -/
def dGate (g v t : Half) : Half :=
  addf (Host.negf (mulf (mulf (mulf (scalar 0xBF906EBB#32) (mulf (mulf (scalar 0x3F000000#32) g) (mulf t v)))
      (Host.exp (Host.negf (mulf (mulf (Host.negf g) (scalar 0x3F3504F3#32)) (mulf (Host.negf g) (scalar 0x3F3504F3#32)))))) (scalar 0x3F3504F3#32)))
    (mulf (scalar 0x3F000000#32) (mulf (mulf t v) (Host.erfc (mulf (Host.negf g) (scalar 0x3F3504F3#32)))))
def dVal (g t : Half) : Half :=
  mulf (mulf (mulf (scalar 0x3F000000#32) g) (Host.erfc (mulf (Host.negf g) (scalar 0x3F3504F3#32)))) t

/-- The gradient in the convolution. -/
def grad : Wide :=
  concatenate S8192x5632 1 [⟨S8192x2816, dGate (fore (conv u w)) (hind (conv u w)) t⟩, ⟨S8192x2816, dVal (fore (conv u w)) t⟩]
    concatenates_S8192x2816_S8192x2816_S8192x5632_d1

/-- The gradient in the argument of a gradient in the convolution, and that in the taps. -/
def back (d : Wide) : Wide :=
  extractStridedSlice S8192x5632 ![1, 0] (addf (addf (pad S8194x5632 ![2, 0] ![0, 0] ![0, 0] (mulf d (rows (w₂ w))) zero pads_S8192x5632_S8194x5632_200_000 h_S_)
      (pad S8194x5632 ![1, 0] ![1, 0] ![0, 0] (mulf d (rows (w₁ w))) zero pads_S8192x5632_S8194x5632_110_000 h_S_))
    (pad S8194x5632 ![0, 0] ![2, 0] ![0, 0] (mulf d (rows (w₀ w))) zero pads_S8192x5632_S8194x5632_020_000 h_S_)) slices_S8194x5632_S8192x5632_1_0
def total (x : Wide) : FVec Ideal S1x5632 .f32 :=
  broadcastInDim S1x5632 ![1] bcast_S5632_S1x5632_1
    (Host.reduceAdd (shapeCast _ (Host.reduceAdd x zero reducesTo_S8192x5632_S5632_d0 h_S_) shapeCasts_S5632_S1x5632) zero reducesTo_S1x5632_S5632_d0 h_S_)
def taps (d : Wide) : FVec Ideal S3x5632 .f32 :=
  addf (addf (pad S3x5632 ![2, 0] ![0, 0] ![0, 0] (total (mulf (u₂ u) d)) zero pads_S1x5632_S3x5632_200_000 h_S_)
      (pad S3x5632 ![1, 0] ![1, 0] ![0, 0] (total (mulf (u₁ u) d)) zero pads_S1x5632_S3x5632_110_000 h_S_))
    (pad S3x5632 ![0, 0] ![2, 0] ![0, 0] (total (mulf (u₀ u) d)) zero pads_S1x5632_S3x5632_020_000 h_S_)

/-- The three arguments. -/
abbrev U : Wide := m ((c.tc : Thread nD τ).loc main_arg0)
abbrev T : Half := m ((c.tc : Thread nD τ).loc main_arg1)
abbrev W : FVec Ideal S3x5632 .f32 := m ((c.tc : Thread nD τ).loc main_arg2)

/-- What the reference returns, in these terms. -/
theorem out0 : Value.res_out0 m c = truncf .bf16 (fore (back (W m c) (grad (U m c) (T m c) (W m c)))) bitsLt_bf16_f32 := rfl
theorem out1 : Value.res_out1 m c = truncf .bf16 (hind (back (W m c) (grad (U m c) (T m c) (W m c)))) bitsLt_bf16_f32 := rfl
theorem out2 : Value.res_out2 m c = extractStridedSlice S3x2816 ![0, 0] (taps (U m c) (grad (U m c) (T m c) (W m c))) slices_S3x5632_S3x2816_0_0 := rfl
theorem out3 : Value.res_out3 m c = extractStridedSlice S3x2816 ![0, 2816] (taps (U m c) (grad (U m c) (T m c) (W m c))) slices_S3x5632_S3x2816_0_2816 := rfl

theorem padded_apply (p : Fin 8194) (q : Fin 5632) : padded u (ix2 p q) = row u (p.val + 7) q.val := by
  unfold padded row
  pointwise
  have hp := p.isLt
  split_ifs
  all_goals first
    | rfl
    | omega
    | (simp only [show p.val + 7 - 8 = p.val - 1 by omega]
       rw [dif_pos (by omega)])

theorem w₀_apply (q : Fin 5632) : w₀ w (ix2 0 q) = tap w 0 q.val := by
  rw [tap_of_lt w 0 q.isLt]
  unfold w₀
  pointwise
theorem w₁_apply (q : Fin 5632) : w₁ w (ix2 0 q) = tap w 1 q.val := by
  rw [tap_of_lt w 1 q.isLt]
  unfold w₁
  pointwise
theorem w₂_apply (q : Fin 5632) : w₂ w (ix2 0 q) = tap w 2 q.val := by
  rw [tap_of_lt w 2 q.isLt]
  unfold w₂
  pointwise

theorem u₀_apply (r : Fin 8192) (q : Fin 5632) : u₀ u (ix2 r q) = row u (r.val + 7) q.val := by
  unfold u₀
  pointwise [padded_apply]

theorem u₁_apply (r : Fin 8192) (q : Fin 5632) : u₁ u (ix2 r q) = row u (r.val + 8) q.val := by
  unfold u₁
  pointwise [padded_apply]
  rw [show 1 + r.val + 7 = r.val + 8 by omega]

theorem u₂_apply (r : Fin 8192) (q : Fin 5632) : u₂ u (ix2 r q) = row u (r.val + 9) q.val := by
  unfold u₂
  pointwise [padded_apply]
  rw [show 2 + r.val + 7 = r.val + 9 by omega]

theorem conv_apply (r : Fin 8192) (q : Fin 5632) : conv u w (ix2 r q) = Gate.conv u w (r.val + 8) q.val := by
  unfold conv Gate.conv
  pointwise [w₀_apply, w₁_apply, w₂_apply, u₀_apply, u₁_apply, u₂_apply]
  rw [show r.val + 8 - 1 = r.val + 7 by omega]

theorem ofBits_neg : Ideal.ofBits FTy.f32 3213913787#32 = -Ideal.ofBits FTy.f32 1066430139#32 := by
  simp [Ideal.ofBits, Ideal.ieee, -EReal.coe_mul, ← EReal.coe_neg]

theorem dVal_apply (g t : Half) (i : S8192x2816.Idx) : dVal g t i = Gate.dVal (g i) (t i) := by
  unfold dVal Gate.dVal
  pointwise
  rw [EReal.neg_mul, Ideal.erfc_neg]

theorem dGate_apply (g v t : Half) (i : S8192x2816.Idx) : dGate g v t i = Gate.dGate (g i) (v i) (t i) := by
  unfold dGate Gate.dGate
  pointwise
  rw [EReal.neg_mul (g i), Ideal.erfc_neg, ofBits_neg, neg_mul_neg]
  simp only [EReal.neg_mul, neg_neg]

theorem total_apply (x : Wide) (q : Fin 5632) : total x (ix2 0 q) = ∑ r : Fin 8192, (x (ix2 r q) : EReal) := by
  unfold total
  pointwise
  exact Fin.sum_univ_one _

/-- The gradient at a row and a column of either half. -/
def entry (p q : ℕ) : EReal := if q < 2816 then Gate.grad₀ u t w p q else Gate.grad₁ u t w p (q - 2816)

theorem entry_eq_zero {p : ℕ} (q : ℕ) (hp : p < 8 ∨ 8200 ≤ p) : entry u t w p q = 0 := by
  rw [entry, Gate.grad₀_eq_zero u t w q hp, Gate.grad₁_eq_zero u t w _ hp, ite_self]

theorem grad_apply (r : Fin 8192) (q : Fin 5632) : grad u t w (ix2 r q) = entry u t w (r.val + 8) q.val := by
  unfold grad entry Gate.grad₀ Gate.grad₁ fore hind
  pointwise [dGate_apply, dVal_apply, conv_apply]
  split
  · rw [Nat.add_comm 2816, row_of_lt t r.isLt]
  · rw [row_of_lt t r.isLt]

theorem back_apply (r : Fin 8192) (q : Fin 5632) : back w (grad u t w) (ix2 r q) =
    entry u t w (r.val + 9) q.val * tap w 0 q.val + entry u t w (r.val + 8) q.val * tap w 1 q.val
      + entry u t w (r.val + 7) q.val * tap w 2 q.val := by
  unfold back
  pointwise [w₀_apply, w₁_apply, w₂_apply, grad_apply]
  have hr := r.isLt
  have e₂ : (if h : 2 ≤ 1 + r.val ∧ 1 + r.val - 2 < 8192 then entry u t w (1 + r.val - 2 + 8) q.val * tap w 2 q.val else 0)
      = entry u t w (r.val + 7) q.val * tap w 2 q.val := by
    split_ifs with h
    · rw [show 1 + r.val - 2 + 8 = r.val + 7 by omega]
    · rw [entry_eq_zero u t w _ (by omega), zero_mul]
  have e₀ : (if h : 1 + r.val < 8192 then entry u t w (1 + r.val + 8) q.val * tap w 0 q.val else 0)
      = entry u t w (r.val + 9) q.val * tap w 0 q.val := by
    split_ifs with h
    · rw [show 1 + r.val + 8 = r.val + 9 by omega]
    · rw [entry_eq_zero u t w _ (by omega), zero_mul]
  rw [e₂, e₀, add_comm, add_comm (entry u t w (r.val + 7) q.val * _), ← add_assoc]

theorem taps_apply (k : Fin 3) (q : Fin 5632) : taps u (grad u t w) (ix2 k q)
    = ∑ r : Fin 8192, entry u t w (r.val + 8) q.val * row u (r.val + 7 + k.val) q.val := by
  unfold taps
  pointwise
  fin_cases k <;> pointwise [total_apply, u₀_apply, u₁_apply, u₂_apply, grad_apply]
  all_goals exact Finset.sum_congr rfl fun _ _ => mul_comm _ _

theorem entry_fore (p : ℕ) (q : Fin 2816) : entry u t w p q.val = Gate.grad₀ u t w p q.val := if_pos q.isLt

theorem entry_hind (p : ℕ) (q : Fin 2816) : entry u t w p (q.val + 2816) = Gate.grad₁ u t w p q.val := by
  rw [entry, if_neg (by omega), Nat.add_sub_cancel]

theorem ref0 : Value.res_out0 m c = Gate.back (Gate.grad₀ (U m c) (T m c) (W m c)) (W m c) 0 := by
  rw [out0]
  funext i
  idx_vars i
  pointwise [back_apply]
  simp only [entry_fore]
  rfl

theorem ref1 : Value.res_out1 m c = Gate.back (Gate.grad₁ (U m c) (T m c) (W m c)) (W m c) 2816 := by
  rw [out1]
  funext i
  idx_vars i
  pointwise [back_apply]
  simp only [Nat.add_comm 2816, entry_hind]
  rfl

theorem ref2 : Value.res_out2 m c = Gate.taps (Gate.grad₀ (U m c) (T m c) (W m c)) (U m c) 0 := by
  rw [out2]
  funext i
  idx_vars i
  pointwise [taps_apply]
  simp only [entry_fore]
  rfl

theorem ref3 : Value.res_out3 m c = Gate.taps (Gate.grad₁ (U m c) (T m c) (W m c)) (U m c) 2816 := by
  rw [out3]
  funext i
  idx_vars i
  pointwise [taps_apply]
  simp only [Nat.add_comm 2816, entry_hind]
  rfl

end Cert.MidRefIdeal.Val
-- ==== Proof.MidPay.lean ====
/- The payloads of the gradient of the gated layer's middle part, read at one entry: the rows a point holds, the convolution of
   them, the two derivatives, and what goes into the four results. -/
module

public import proofs.«01_k».proof.Proof.Gen.MidIdeal.Frame
public import proofs.«01_k».proof.Proof.Gate
public import Idealize.ShloMosaic.Lib.Pipeline.ValueKit
public import Idealize.ShloMosaic.Lib.Pipeline.ReadBack

@[expose] public section

set_option maxRecDepth 16384

noncomputable section

namespace Cert.MidIdeal.Val

open Idealize.ShloMosaic Idealize.SL.Sem Cert.MidIdeal.Gen Idealize.ShloMosaic.TcCoe
open Cert.Gate (lit row row_eq_zero)

/-- 512 rows with the eight before and after them, 512 rows, eight rows, three rows, one row. -/
abbrev Ext := FVec Ideal S528x256 .f32
abbrev Blk := FVec Ideal S512x256 .f32
abbrev Halo := FVec Ideal S8x256 .f32
abbrev One := FVec Ideal S1x256 .f32

variable (i : grid0.Coords) (a b : Halo) (x : Blk)

theorem first_iff (k : ℕ) (hk : k < 16) : Scalar.cmpi CmpIPredicate.sgt (BitVec.ofNat 32 k) 0#32 = if 0 < k then 1#1 else 0#1 := by
  revert k
  decide

theorem last_iff (k : ℕ) (hk : k < 16) : Scalar.cmpi CmpIPredicate.slt (BitVec.ofNat 32 k) 15#32 = if k < 15 then 1#1 else 0#1 := by
  revert k
  decide

/-- The rows a point holds. -/
abbrev held (k n : ℕ) (q : Fin 256) : EReal := Gate.held 15 a b x k n q

variable {a b x} in
theorem held_eq {N : ℕ} (X : Product.Mat 8192 N) (k c : ℕ) (hk : k < 16)
    (ha : ∀ n q, a (ix2 n q) = row X ((k * 64 - 1) * 8 + n.val + 8) (c + q.val)) (hx : ∀ n q, x (ix2 n q) = row X (k * 512 + n.val + 8) (c + q.val))
    (hb : ∀ n q, b (ix2 n q) = row X (min (k * 64 + 64) 1023 * 8 + n.val + 8) (c + q.val)) (n : ℕ) (hn : n < 528) (q : Fin 256) :
    held a b x k n q = row X (512 * k + n) (c + q.val) := by
  refine Gate.held_eq X k (512 * k) c (by omega) (by omega) (fun h n q => (ha n q).trans ?_) (fun n q => (hx n q).trans ?_)
    (fun h n q => (hb n q).trans ?_) n hn q <;> exact congrArg (row X · _) (by omega)

theorem pay2_apply (n : Fin 528) (q : Fin 256) : k0_pay2 (F := Ideal) i a b x (ix2 n q) = held a b x (i 1).val n.val q := by
  unfold k0_pay2 held Gate.held
  pointwise [first_iff _ (i 1).isLt, last_iff _ (i 1).isLt]
  have hn := n.isLt
  split_ifs <;> first | rfl | omega | (rw [dif_pos (by omega)]; rfl)

theorem pay3_eq : k0_pay3 (F := Ideal) i a b x = k0_pay2 (F := Ideal) i a b x := rfl

theorem pay6_eq : k0_pay6 (F := Ideal) (k0_pay4 i a) (k0_pay5 i b) x = k0_pay2 (F := Ideal) i a b x := rfl

variable (e g v h : Ext) (s : EReal) (w w' w'' : One)

/-- What 528 rows hold, and what all of them but the first and the last hold. -/
abbrev Rows (d : ℕ → Fin 256 → EReal) : Prop := ∀ (n : Fin 528) (q : Fin 256), e (ix2 n q) = d n.val q
abbrev Inner (d : ℕ → Fin 256 → EReal) : Prop := ∀ (n : Fin 528) (q : Fin 256), 1 ≤ n.val → n.val ≤ 526 → e (ix2 n q) = d n.val q

variable {e g v h}
variable {d p : ℕ → Fin 256 → EReal}

theorem pay9_apply (hd : Rows e d) : Inner (k0_pay9 e w w' w'') fun n q =>
    d (n - 1) q * w (ix2 0 q) + d n q * w' (ix2 0 q) + d (n + 1) q * w'' (ix2 0 q) := fun n q h₁ h₂ => by
  unfold k0_pay9
  pointwise [hd]
  rw [show (n.val + 528 - 1) % 528 = n.val - 1 by omega, show (n.val + 528 - 527) % 528 = n.val + 1 by omega]

theorem pay10_eq : k0_pay10 e w w' w'' = k0_pay9 e w w' w'' := rfl

theorem pay11_apply (j : S528x256.Idx) : k0_pay11 e w w' w'' j = lit 0x3F000000#32 * k0_pay9 e w w' w'' j := by
  unfold k0_pay11
  pointwise

theorem pay15_apply (j : S528x256.Idx) (hh : h j = lit 0x3F000000#32 * g j) :
    k0_pay15 e g v h (FloatOps.ofBits (F := Ideal) FTy.f32 1060439283#32) j = Gate.dGate (g j) (v j) (e j) := by
  unfold k0_pay15 k0_pay13 k0_pay12 Gate.dGate
  pointwise
  rw [hh, zero_sub]
  rfl

theorem pay14_apply (j : S528x256.Idx) (hh : h j = lit 0x3F000000#32 * g j) :
    k0_pay14 e g h (FloatOps.ofBits (F := Ideal) FTy.f32 1060439283#32) j = Gate.dVal (g j) (e j) := by
  unfold k0_pay14 k0_pay13 k0_pay12 Gate.dVal
  pointwise
  rw [hh]
  rfl

/-- The gradient in a point's rows, of one in the convolution. -/
theorem pay22_apply (hd : Inner (k0_pay15 e g v h s) d) (r : Fin 512) (q : Fin 256) :
    k0_pay22 (k0_pay15 e g v h s) (k0_pay16 e g v h s w) (k0_pay18 e g v h s) (k0_pay19 w') w'' (ix2 r q)
      = d (r.val + 9) q * w (ix2 0 q) + d (r.val + 8) q * w' (ix2 0 q) + d (r.val + 7) q * w'' (ix2 0 q) := by
  unfold k0_pay22 k0_pay16 k0_pay18 k0_pay19
  pointwise
  rw [hd _ q (by simp only; omega) (by simp only; omega), hd _ q (by simp only; omega) (by simp only; omega), hd _ q (by simp only; omega) (by simp only; omega)]
  simp only [show (r.val + 8 + 528 - 527) % 528 = r.val + 9 by omega, show (r.val + 8 + 528 - 1) % 528 = r.val + 7 by omega, Nat.add_comm 8 r.val]

theorem pay26_apply (hd : Inner e d) (r : Fin 512) (q : Fin 256) :
    k0_pay1 (k0_pay26 e (k0_pay23 e w) w' w'') (ix2 r q)
      = d (r.val + 9) q * w (ix2 0 q) + d (r.val + 8) q * w' (ix2 0 q) + d (r.val + 7) q * w'' (ix2 0 q) := by
  unfold k0_pay1 k0_pay26 k0_pay23
  pointwise
  rw [hd _ q (by simp only; omega) (by simp only; omega), hd _ q (by simp only; omega) (by simp only; omega), hd _ q (by simp only; omega) (by simp only; omega)]
  simp only [show (r.val + 8 + 528 - 527) % 528 = r.val + 9 by omega, show (r.val + 8 + 528 - 1) % 528 = r.val + 7 by omega, Nat.add_comm 8 r.val]

variable (d p) in
/-- A point's share of the gradient in the taps, of a gradient `d` in the convolution of the rows `p`. -/
def share (k : ℕ) (q : Fin 256) : EReal := ∑ r : Fin 512, d (r.val + 8) q * p (r.val + 7 + k) q

theorem pay20_apply (hp : Rows e p) (hd : Inner g d) (q : Fin 256) :
    k0_pay20 e g w (ix2 0 q) = w (ix2 0 q) + share d p 1 q := by
  unfold k0_pay20 share
  pointwise
  refine congrArg _ (Finset.sum_congr rfl fun r _ => ?_)
  rw [hd _ q (by simp only; omega) (by simp only; omega), hp]
  simp only [Nat.add_comm 8]

theorem pay21_apply (hp : Rows e p) (hd : Inner g d) (q : Fin 256) :
    k0_pay21 e g w (ix2 0 q) = w (ix2 0 q) + share d p 2 q := by
  unfold k0_pay21 share
  pointwise
  refine congrArg _ (Finset.sum_congr rfl fun r _ => ?_)
  rw [hd _ q (by simp only; omega) (by simp only; omega), hp]
  simp only [show (r.val + 8 + 528 - 527) % 528 = r.val + 7 + 2 by omega, Nat.add_comm 8]

theorem pay24_apply (hp : Rows e p) (hd : Inner g d) (q : Fin 256) :
    k0_pay24 e g w (ix2 0 q) = w (ix2 0 q) + share d p 0 q := by
  unfold k0_pay24 share
  pointwise
  refine congrArg _ (Finset.sum_congr rfl fun r _ => ?_)
  rw [hd _ q (by simp only; omega) (by simp only; omega), hp]
  simp only [show (r.val + 8 + 528 - 1) % 528 = r.val + 7 by omega, Nat.add_comm 8]

theorem pay17_eq (z : Ext) : k0_pay17 z e g v h s w = k0_pay24 z (k0_pay15 e g v h s) w := rfl

theorem pay25_eq : k0_pay25 e g w = k0_pay20 e g w := rfl

theorem pay27_eq : k0_pay27 e g w = k0_pay21 e g w := rfl

/-- A row of three. -/
abbrev ldr (Z : FVec Ideal S3x256 .f32) (r : Rect S3x256) : r.shape.Idx → EReal := View.ld (Val := Elt Ideal) (S := S3x256) (e' := .f32) Z r

abbrev R₀ : Rect S3x256 := Rect.unit ![0, 0] ![1, 256] inb_S3x256_S1x256_0_0
abbrev R₁ : Rect S3x256 := Rect.unit ![1, 0] ![1, 256] inb_S3x256_S1x256_1_0
abbrev R₂ : Rect S3x256 := Rect.unit ![2, 0] ![1, 256] inb_S3x256_S1x256_2_0

theorem ldr₀ (Z : FVec Ideal S3x256 .f32) (q : Fin 256) : ldr Z R₀ (ix2 (0 : Fin 1) q) = Z (ix2 0 q) := by
  unfold ldr
  pointwise
theorem ldr₁ (Z : FVec Ideal S3x256 .f32) (q : Fin 256) : ldr Z R₁ (ix2 (0 : Fin 1) q) = Z (ix2 1 q) := by
  unfold ldr
  pointwise
theorem ldr₂ (Z : FVec Ideal S3x256 .f32) (q : Fin 256) : ldr Z R₂ (ix2 (0 : Fin 1) q) = Z (ix2 2 q) := by
  unfold ldr
  pointwise

theorem emb₀ (q : Fin 256) : R₀.emb (ix2 (0 : Fin 1) q) = ix2 0 q := by
  funext a
  refine Fin.ext ((Rect.emb_apply _ _ a).trans ?_)
  fin_cases a <;> simp
theorem emb₁ (q : Fin 256) : R₁.emb (ix2 (0 : Fin 1) q) = ix2 1 q := by
  funext a
  refine Fin.ext ((Rect.emb_apply _ _ a).trans ?_)
  fin_cases a <;> simp
theorem emb₂ (q : Fin 256) : R₂.emb (ix2 (0 : Fin 1) q) = ix2 2 q := by
  funext a
  refine Fin.ext ((Rect.emb_apply _ _ a).trans ?_)
  fin_cases a <;> simp

/-- Three rows, after a point added its share to each. -/
theorem rows3 {e g : Ext} {d p : ℕ → Fin 256 → EReal} (hp : Rows e p) (hd : Inner g d) (Z : FVec Ideal S3x256 .f32)
    (L : List (View.Piece (Elt Ideal) S3x256 .f32)) (y : S3x256.Idx) :
    View.canon (Val := Elt Ideal) (e := .f32) (⟨R₂, k0_pay21 e g (ldr Z R₂)⟩ :: ⟨R₁, k0_pay20 e g (ldr Z R₁)⟩ :: ⟨R₀, k0_pay24 e g (ldr Z R₀)⟩ :: L) y
      = HAdd.hAdd (α := EReal) (β := EReal) (Z y) (share d p (y 0).val (y 1)) := by
  refine View.canon_append_of_piecesOf (Val := Elt Ideal) (e := .f32) (fun y : S3x256.Idx => HAdd.hAdd (α := EReal) (β := EReal) (Z y) (share d p (y 0).val (y 1)))
    L [_, _, _] ⟨fun x => ?_, fun x => ?_, fun x => ?_, trivial⟩ y ?_
  on_goal 4 =>
    exact View.cover_of_tiledL (Val := Elt Ideal) (s := S3x256) (e := .f32)
      [⟨R₂, k0_pay21 e g (ldr Z R₂)⟩, ⟨R₁, k0_pay20 e g (ldr Z R₁)⟩, ⟨R₀, k0_pay24 e g (ldr Z R₀)⟩] S1x256.size (by sl_kernel_rfl) y
  all_goals
    obtain ⟨k, q, rfl⟩ : ∃ (k : Fin 1) (q : Fin 256), x = ix2 k q := ⟨x 0, x 1, (ix2_eta x).symm⟩
    obtain rfl := Subsingleton.elim k 0
  · refine (pay21_apply _ hp hd q).trans ?_
    rw [ldr₂, emb₂]
    rfl
  · refine (pay20_apply _ hp hd q).trans ?_
    rw [ldr₁, emb₁]
    rfl
  · refine (pay24_apply _ hp hd q).trans ?_
    rw [ldr₀, emb₀]
    rfl

end Cert.MidIdeal.Val
end
-- ==== Proof.Mid.lean ====
/- The gradient of the gated layer's middle part: each point takes 512 rows of a block of columns, with the eight rows before
   and after them, and two accumulators go through the rows in sixteen blocks. -/
module

public import proofs.«01_k».proof.Defs
public import proofs.«01_k».proof.Proof.Gen.MidIdeal.Value
public import proofs.«01_k».proof.Proof.MidRef
public import proofs.«01_k».proof.Proof.MidPay
public import Idealize.ShloMosaic.Lib.Pipeline.ValueKit
public import Idealize.ShloMosaic.Lib.Pipeline.ReadBack

@[expose] public section

set_option maxRecDepth 16384

noncomputable section

namespace Cert.MidIdeal.Val

open Idealize.ShloMosaic Idealize.SL.Sem Cert.MidIdeal.Gen Idealize.ShloMosaic.TcCoe
open Cert.Gate (row tap tap_of_lt row_of_lt row_eq_zero)

variable (m : (ℓ : Loc nD τ sig) → Buf (Elt Ideal) ℓ) (c : Dev nD)

/-- The blocks a point meets. -/
theorem idx : ∀ t : Fin cfg0.N,
    win0_0.index t = ![t.val % 16 * 64 - 1, t.val / 16] ∧ win0_1.index t = ![t.val % 16, t.val / 16] ∧
    win0_2.index t = ![min (t.val % 16 * 64 + 64) 1023, t.val / 16] ∧
    win0_3.index t = ![t.val % 16 * 64 - 1, t.val / 16 + 11] ∧ win0_4.index t = ![t.val % 16, t.val / 16 + 11] ∧
    win0_5.index t = ![min (t.val % 16 * 64 + 64) 1023, t.val / 16 + 11] ∧
    win0_6.index t = ![t.val % 16 * 64 - 1, t.val / 16] ∧ win0_7.index t = ![t.val % 16, t.val / 16] ∧
    win0_8.index t = ![min (t.val % 16 * 64 + 64) 1023, t.val / 16] ∧
    win0_9.index t = ![0, t.val / 16] ∧ win0_10.index t = ![0, t.val / 16 + 11] ∧
    win0_11.index t = ![t.val % 16, t.val / 16] ∧ win0_12.index t = ![t.val % 16, t.val / 16] ∧
    win0_13.index t = ![0, t.val / 16] ∧ win0_14.index t = ![0, t.val / 16] :=
  (by decide +kernel : ∀ t : Fin grid0.N, _)

/-- A point's place in its block of columns. -/
theorem coord : ∀ t : Fin cfg0.N, (grid0.coords t 1).val = t.val % 16 :=
  (by decide +kernel : ∀ t : Fin grid0.N, _)

/-- The three arguments. -/
abbrev U : FVec Ideal S8192x5632 .f32 := m ((c : Thread nD τ).loc main_arg0)
abbrev T : FVec Ideal S8192x2816 .f32 := m ((c : Thread nD τ).loc main_arg1)
abbrev W : FVec Ideal S3x5632 .f32 := m ((c : Thread nD τ).loc main_arg2)

variable (t : Fin cfg0.N)

/-- What a point fetches before its rows, of its rows, and after them. -/
theorem before (n : Fin 8) (q : Fin 256) :
    iblk m c 0 t (ix2 n q) = row (U m c) ((t.val % 16 * 64 - 1) * 8 + n.val + 8) (t.val / 16 * 256 + q.val) ∧
    iblk m c 3 t (ix2 n q) = row (U m c) ((t.val % 16 * 64 - 1) * 8 + n.val + 8) (t.val / 16 * 256 + 2816 + q.val) ∧
    iblk m c 6 t (ix2 n q) = row (T m c) ((t.val % 16 * 64 - 1) * 8 + n.val + 8) (t.val / 16 * 256 + q.val) := by
  have ht := lt_of_lt_of_eq t.isLt (show cfg0.N = 176 from N_0)
  refine ⟨?_, ?_, ?_⟩ <;> rw [row_of_lt _ (by omega) (by omega)] <;> blk_point [iblk, V, idx t]

theorem here (n : Fin 512) (q : Fin 256) :
    iblk m c 1 t (ix2 n q) = row (U m c) (t.val % 16 * 512 + n.val + 8) (t.val / 16 * 256 + q.val) ∧
    iblk m c 4 t (ix2 n q) = row (U m c) (t.val % 16 * 512 + n.val + 8) (t.val / 16 * 256 + 2816 + q.val) ∧
    iblk m c 7 t (ix2 n q) = row (T m c) (t.val % 16 * 512 + n.val + 8) (t.val / 16 * 256 + q.val) := by
  have ht := lt_of_lt_of_eq t.isLt (show cfg0.N = 176 from N_0)
  refine ⟨?_, ?_, ?_⟩ <;> rw [row_of_lt _ (by omega) (by omega)] <;> blk_point [iblk, V, idx t]

theorem after (n : Fin 8) (q : Fin 256) :
    iblk m c 2 t (ix2 n q) = row (U m c) (min (t.val % 16 * 64 + 64) 1023 * 8 + n.val + 8) (t.val / 16 * 256 + q.val) ∧
    iblk m c 5 t (ix2 n q) = row (U m c) (min (t.val % 16 * 64 + 64) 1023 * 8 + n.val + 8) (t.val / 16 * 256 + 2816 + q.val) ∧
    iblk m c 8 t (ix2 n q) = row (T m c) (min (t.val % 16 * 64 + 64) 1023 * 8 + n.val + 8) (t.val / 16 * 256 + q.val) := by
  have ht := lt_of_lt_of_eq t.isLt (show cfg0.N = 176 from N_0)
  refine ⟨?_, ?_, ?_⟩ <;> rw [row_of_lt _ (by omega) (by omega)] <;> blk_point [iblk, V, idx t]

/-- The taps a point fetches. -/
theorem fetched (k : Fin 3) (q : Fin 256) :
    iblk m c 9 t (ix2 k q) = tap (W m c) k (t.val / 16 * 256 + q.val) ∧
    iblk m c 10 t (ix2 k q) = tap (W m c) k (t.val / 16 * 256 + 2816 + q.val) := by
  have ht := lt_of_lt_of_eq t.isLt (show cfg0.N = 176 from N_0)
  refine ⟨?_, ?_⟩ <;> rw [tap_of_lt _ _ (by omega)] <;> blk_point [iblk, V, idx t]

/-- The rows a point holds, the convolution of them, and the gradients in it. -/
abbrev EE : Ext := k0_pay2 (grid0.coords t) (iblk m c 0 t) (iblk m c 2 t) (iblk m c 1 t)
abbrev VE : Ext := k0_pay3 (grid0.coords t) (iblk m c 3 t) (iblk m c 5 t) (iblk m c 4 t)
abbrev TE : Ext := k0_pay6 (k0_pay4 (grid0.coords t) (iblk m c 6 t)) (k0_pay5 (grid0.coords t) (iblk m c 8 t)) (iblk m c 7 t)
abbrev CG : Ext := k0_pay9 (EE m c t) (ldr (iblk m c 9 t) R₀) (ldr (iblk m c 9 t) R₁) (ldr (iblk m c 9 t) R₂)
abbrev CV : Ext := k0_pay10 (VE m c t) (ldr (iblk m c 10 t) R₀) (ldr (iblk m c 10 t) R₁) (ldr (iblk m c 10 t) R₂)
abbrev HG : Ext := k0_pay11 (EE m c t) (ldr (iblk m c 9 t) R₀) (ldr (iblk m c 9 t) R₁) (ldr (iblk m c 9 t) R₂)
abbrev lam : EReal := FloatOps.ofBits (F := Ideal) FTy.f32 1060439283#32
abbrev GG : Ext := k0_pay15 (TE m c t) (CG m c t) (CV m c t) (HG m c t) lam
abbrev GV : Ext := k0_pay14 (TE m c t) (CG m c t) (HG m c t) lam

theorem rowsE : Rows (EE m c t) fun n q => row (U m c) (512 * (t.val % 16) + n) (t.val / 16 * 256 + q.val) := fun n q => by
  refine (pay2_apply _ _ _ _ n q).trans ?_
  rw [coord t]
  exact held_eq (U m c) _ _ (Nat.mod_lt _ (by decide)) (fun n q => (before m c t n q).1) (fun n q => (here m c t n q).1)
    (fun n q => (after m c t n q).1) _ n.isLt q

theorem rowsV : Rows (VE m c t) fun n q => row (U m c) (512 * (t.val % 16) + n) (t.val / 16 * 256 + q.val + 2816) := fun n q => by
  refine (congrFun (pay3_eq _ _ _ _) _).trans ((pay2_apply _ _ _ _ n q).trans ?_)
  rw [coord t]
  beta_reduce
  rw [Nat.add_right_comm]
  exact held_eq (U m c) _ _ (Nat.mod_lt _ (by decide)) (fun n q => (before m c t n q).2.1) (fun n q => (here m c t n q).2.1)
    (fun n q => (after m c t n q).2.1) _ n.isLt q

theorem rowsT : Rows (TE m c t) fun n q => row (T m c) (512 * (t.val % 16) + n) (t.val / 16 * 256 + q.val) := fun n q => by
  refine (congrFun (pay6_eq _ _ _ _) _).trans ((pay2_apply _ _ _ _ n q).trans ?_)
  rw [coord t]
  exact held_eq (T m c) _ _ (Nat.mod_lt _ (by decide)) (fun n q => (before m c t n q).2.2) (fun n q => (here m c t n q).2.2)
    (fun n q => (after m c t n q).2.2) _ n.isLt q

theorem innerG : Inner (CG m c t) fun n q => Gate.conv (U m c) (W m c) (512 * (t.val % 16) + n) (t.val / 16 * 256 + q.val) := fun n q h₁ h₂ => by
  refine (pay9_apply _ _ _ (rowsE m c t) n q h₁ h₂).trans ?_
  beta_reduce
  rw [ldr₀, ldr₁, ldr₂, (fetched m c t _ q).1, (fetched m c t _ q).1, (fetched m c t _ q).1,
    show 512 * (t.val % 16) + (n.val - 1) = 512 * (t.val % 16) + n.val - 1 by omega]
  rfl

theorem innerV : Inner (CV m c t) fun n q => Gate.conv (U m c) (W m c) (512 * (t.val % 16) + n) (t.val / 16 * 256 + q.val + 2816) := fun n q h₁ h₂ => by
  refine (pay9_apply _ _ _ (rowsV m c t) n q h₁ h₂).trans ?_
  beta_reduce
  rw [ldr₀, ldr₁, ldr₂, (fetched m c t _ q).2, (fetched m c t _ q).2, (fetched m c t _ q).2,
    Nat.add_right_comm _ 2816, show 512 * (t.val % 16) + (n.val - 1) = 512 * (t.val % 16) + n.val - 1 by omega]
  rfl

/-- The gradients in the convolved gate and in the convolved value. -/
abbrev d₀ : ℕ → ℕ → EReal := Gate.grad₀ (U m c) (T m c) (W m c)
abbrev d₁ : ℕ → ℕ → EReal := Gate.grad₁ (U m c) (T m c) (W m c)

theorem innerGG : Inner (GG m c t) fun n q => d₀ m c (512 * (t.val % 16) + n) (t.val / 16 * 256 + q.val) := fun n q h₁ h₂ => by
  refine (pay15_apply _ (pay11_apply _ _ _ _)).trans ?_
  show Gate.dGate (CG m c t (ix2 n q)) (CV m c t (ix2 n q)) (TE m c t (ix2 n q)) = _
  rw [innerG m c t n q h₁ h₂, innerV m c t n q h₁ h₂, rowsT]
  rfl

theorem innerGV : Inner (GV m c t) fun n q => d₁ m c (512 * (t.val % 16) + n) (t.val / 16 * 256 + q.val) := fun n q h₁ h₂ => by
  refine (pay14_apply _ (pay11_apply _ _ _ _)).trans ?_
  show Gate.dVal (CG m c t (ix2 n q)) (TE m c t (ix2 n q)) = _
  rw [innerG m c t n q h₁ h₂, rowsT]
  rfl

/-- The gradient the kernel leaves in the argument, of the gate and of the value. -/
theorem arr11 : (dats m 0 c).arrAt 11 cfg0.N = Gate.back (d₀ m c) (W m c) 0 := by
  refine (dats m 0 c).arrAt_eq_of_covers 11 _ (by decide +kernel) fun t hf y => ?_
  blk_simp
  rw [after0_11]
  obtain ⟨r, q, rfl⟩ : ∃ (r : Fin 512) (q : Fin 256), y = ix2 r q := ⟨y 0, y 1, (ix2_eta y).symm⟩
  refine Eq.trans (b := k0_pay22 (GG m c t) (k0_pay16 (TE m c t) (CG m c t) (CV m c t) (HG m c t) lam (ldr (iblk m c 9 t) R₀))
    (k0_pay18 (TE m c t) (CG m c t) (CV m c t) (HG m c t) lam) (k0_pay19 (ldr (iblk m c 9 t) R₁)) (ldr (iblk m c 9 t) R₂) (ix2 r q)) ?_ ?_
  · by_cases h0 : t.val % 16 = 0
    on_goal 1 => rw [outsAt0_A m c t h0]
    on_goal 2 => rw [outsAt0_B m c t h0]
    all_goals frame_out
  · refine (pay22_apply (e := TE m c t) (g := CG m c t) (v := CV m c t) (h := HG m c t)
      (d := fun n q => d₀ m c (512 * (t.val % 16) + n) (t.val / 16 * 256 + q.val)) lam (ldr (iblk m c 9 t) R₀) (ldr (iblk m c 9 t) R₁) (ldr (iblk m c 9 t) R₂)
      (innerGG m c t) r q).trans ?_
    beta_reduce
    rw [ldr₀, ldr₁, ldr₂, (fetched m c t _ q).1, (fetched m c t _ q).1, (fetched m c t _ q).1]
    refine Gate.back_eq (d₀ m c) (W m c) 0 _ (512 * (t.val % 16)) r.val (t.val / 16 * 256 + q.val) (t.val / 16 * 256 + q.val) ?_ ?_ rfl <;>
      blk_simp [idx t]
    omega

theorem arr12 : (dats m 0 c).arrAt 12 cfg0.N = Gate.back (d₁ m c) (W m c) 2816 := by
  refine (dats m 0 c).arrAt_eq_of_covers 12 _ (by decide +kernel) fun t hf y => ?_
  blk_simp
  rw [after0_12]
  obtain ⟨r, q, rfl⟩ : ∃ (r : Fin 512) (q : Fin 256), y = ix2 r q := ⟨y 0, y 1, (ix2_eta y).symm⟩
  refine Eq.trans (b := k0_pay1 (k0_pay26 (GV m c t) (k0_pay23 (GV m c t) (ldr (iblk m c 10 t) R₀)) (ldr (iblk m c 10 t) R₁) (ldr (iblk m c 10 t) R₂)) (ix2 r q)) ?_ ?_
  · by_cases h0 : t.val % 16 = 0
    on_goal 1 => rw [outsAt0_A m c t h0]
    on_goal 2 => rw [outsAt0_B m c t h0]
    all_goals frame_out
  · refine (pay26_apply (e := GV m c t) (d := fun n q => d₁ m c (512 * (t.val % 16) + n) (t.val / 16 * 256 + q.val))
      (ldr (iblk m c 10 t) R₀) (ldr (iblk m c 10 t) R₁) (ldr (iblk m c 10 t) R₂) (innerGV m c t) r q).trans ?_
    beta_reduce
    rw [ldr₀, ldr₁, ldr₂, (fetched m c t _ q).2, (fetched m c t _ q).2, (fetched m c t _ q).2]
    refine Gate.back_eq (d₁ m c) (W m c) 2816 _ (512 * (t.val % 16)) r.val (t.val / 16 * 256 + q.val) _ ?_ ?_ (Nat.add_right_comm _ _ _) <;>
      blk_simp [idx t]
    omega

theorem pay7_apply (y : S3x256.Idx) : (k0_pay7 (F := Ideal) y : EReal) = 0 := by
  unfold k0_pay7
  pointwise

/-- What a point leaves in the accumulator of the gate's taps, and of the value's. -/
theorem first13 (h0 : t.val % 16 = 0) (y : S3x256.Idx) : ((outsAt0 m c t.val t.isLt).2.2.1 y : EReal) =
    Gate.tapsPart (d₀ m c) (U m c) 0 (t.val % 16) (y 0).val (t.val / 16 * 256 + (y 1).val) := by
  rw [outsAt0_A m c t h0]
  frame_out
  simp (disch := decide) only [↓View.readCov_skip, View.readCov_fill]
  refine (rows3 (rowsE m c t) (innerGG m c t) k0_pay7 _ y).trans ?_
  rw [pay7_apply, zero_add]
  rfl

theorem next13 (h0 : ¬t.val % 16 = 0) (y : S3x256.Idx) : ((outsAt0 m c t.val t.isLt).2.2.1 y : EReal) =
    HAdd.hAdd (α := EReal) (β := EReal) ((outsAt0 m c (t.val - 1) (Nat.lt_of_le_of_lt (Nat.sub_le _ _) t.isLt)).2.2.1 y)
      (Gate.tapsPart (d₀ m c) (U m c) 0 (t.val % 16) (y 0).val (t.val / 16 * 256 + (y 1).val)) := by
  rw [outsAt0_B m c t h0]
  frame_out
  exact rows3 (rowsE m c t) (innerGG m c t) _ [] y

theorem first14 (h0 : t.val % 16 = 0) (y : S3x256.Idx) : ((outsAt0 m c t.val t.isLt).2.2.2 y : EReal) =
    Gate.tapsPart (d₁ m c) (U m c) 2816 (t.val % 16) (y 0).val (t.val / 16 * 256 + (y 1).val) := by
  rw [outsAt0_A m c t h0]
  frame_out
  simp (disch := decide) only [↓View.readCov_skip, View.readCov_fill]
  refine (rows3 (rowsV m c t) (innerGV m c t) k0_pay7 _ y).trans ?_
  rw [pay7_apply, zero_add]
  rfl

theorem next14 (h0 : ¬t.val % 16 = 0) (y : S3x256.Idx) : ((outsAt0 m c t.val t.isLt).2.2.2 y : EReal) =
    HAdd.hAdd (α := EReal) (β := EReal) ((outsAt0 m c (t.val - 1) (Nat.lt_of_le_of_lt (Nat.sub_le _ _) t.isLt)).2.2.2 y)
      (Gate.tapsPart (d₁ m c) (U m c) 2816 (t.val % 16) (y 0).val (t.val / 16 * 256 + (y 1).val)) := by
  rw [outsAt0_B m c t h0]
  frame_out
  exact rows3 (rowsV m c t) (innerGV m c t) _ [] y

/-- The gradient the kernel leaves in the taps, of the gate and of the value. -/
theorem arr13 : (dats m 0 c).arrAt 13 cfg0.N = Gate.taps (d₀ m c) (U m c) 0 := by
  refine (dats m 0 c).arrAt_eq_of_covers 13 _ (by decide +kernel) fun t hf y => ?_
  blk_simp
  rw [after0_13]
  refine Gate.run_taps (d₀ m c) (U m c) 0 (fun n h => (outsAt0 m c n h).2.2.1) (fun y => (y 0).val) (fun q y => q * 256 + (y 1).val)
    (first13 m c) (next13 m c) t ((flush0_13 t).mp hf) y _ ?_ ?_
  all_goals blk_simp [idx t]

theorem arr14 : (dats m 0 c).arrAt 14 cfg0.N = Gate.taps (d₁ m c) (U m c) 2816 := by
  refine (dats m 0 c).arrAt_eq_of_covers 14 _ (by decide +kernel) fun t hf y => ?_
  blk_simp
  rw [after0_14]
  refine Gate.run_taps (d₁ m c) (U m c) 2816 (fun n h => (outsAt0 m c n h).2.2.2) (fun y => (y 0).val) (fun q y => q * 256 + (y 1).val)
    (first14 m c) (next14 m c) t ((flush0_14 t).mp hf) y _ ?_ ?_
  all_goals blk_simp [idx t]

/-- The reference ends with its arguments unchanged; it declares no semaphore. -/
theorem frame : Cert.quiescent_MidRefIdeal := fun m ρ _ =>
  (θ_run Cert.MidRefIdeal.defs _ _).mono (fun r h => ⟨fun c => (h c).2.2.2.2, sem_eq_zero_of_no_sems (by decide) r.2⟩)
    (Cert.MidRefIdeal.Value.run (F := Ideal) m ρ)

/-- The kernel's arrays are the reference's. -/
theorem value : Cert.algebraic_MidIdeal_MidRefIdeal := fun m ρ m' ρ' _ hm => by
  refine ⟨fun c => (dats m 0 c).arrAt 11 cfg0.N, fun c => (dats m 0 c).arrAt 12 cfg0.N, fun c => (dats m 0 c).arrAt 13 cfg0.N,
    fun c => (dats m 0 c).arrAt 14 cfg0.N, Value.run_blocks m ρ, ?_⟩
  refine (θ_run Cert.MidRefIdeal.defs _ _).mono (fun r h c => ?_) (Cert.MidRefIdeal.Value.run (F := Ideal) m' ρ')
  obtain ⟨eu, et, ew⟩ := hm c
  replace eu : MidRefIdeal.Val.U m' c = U m c := eu
  replace et : MidRefIdeal.Val.T m' c = T m c := et
  replace ew : MidRefIdeal.Val.W m' c = W m c := ew
  obtain ⟨h0, h1, h2, h3, hk⟩ := h c
  refine ⟨h0.trans ((MidRefIdeal.Val.ref0 m' c).trans ?_), h1.trans ((MidRefIdeal.Val.ref1 m' c).trans ?_),
    h2.trans ((MidRefIdeal.Val.ref2 m' c).trans ?_), h3.trans ((MidRefIdeal.Val.ref3 m' c).trans ?_), hk⟩ <;> rw [eu, et, ew]
  exacts [(arr11 m c).symm, (arr12 m c).symm, (arr13 m c).symm, (arr14 m c).symm]

end Cert.MidIdeal.Val

end
-- ==== Proof.MidFwd.lean ====
/- The gated layer's middle part: each point takes 2048 rows of a block of columns, with the eight rows before and after them. -/
module

public import proofs.«01_k».proof.Defs
public import proofs.«01_k».proof.Proof.Gen.MidFwdIdeal.Value
public import proofs.«01_k».proof.Proof.Gen.MidFwdRefIdeal.Run
public import proofs.«01_k».proof.Proof.MidRef
public import Idealize.ShloMosaic.Lib.Pipeline.ValueKit
public import Idealize.ShloMosaic.Lib.Pipeline.ReadBack

@[expose] public section

set_option maxRecDepth 16384

noncomputable section

namespace Cert.MidFwdRefIdeal.Val

open Idealize.ShloMosaic Idealize.SL.Sem Idealize.ShloMosaic.StableHlo Idealize.ShloMosaic.TcCoe
open Cert.MidRefIdeal.Val (Wide Half scalar fore hind conv conv_apply)

variable (m : (ℓ : Loc nD τ sig) → Buf (Elt Ideal) ℓ) (c : Dev nD)

/-- The GELU of the gate times the value. -/
def gated (g v : Half) : Half :=
  mulf (mulf (mulf (scalar 0x3F000000#32) g) (Host.erfc (mulf (Host.negf g) (scalar 0x3F3504F3#32)))) v

theorem gated_apply (g v : Half) (i : MidRefIdeal.S8192x2816.Idx) : gated g v i = Gate.gated (g i) (v i) := by
  unfold gated Gate.gated
  pointwise
  rw [EReal.neg_mul, Ideal.erfc_neg]

/-- The two arguments. -/
abbrev U : Wide := m ((c.tc : Thread nD τ).loc main_arg0)
abbrev W : FVec Ideal MidRefIdeal.S3x5632 .f32 := m ((c.tc : Thread nD τ).loc main_arg1)

theorem out : Value.res_out0 m c = truncf .bf16 (gated (fore (conv (U m c) (W m c))) (hind (conv (U m c) (W m c)))) MidRefIdeal.Gen.bitsLt_bf16_f32 := rfl

theorem ref : Value.res_out0 m c = Gate.middle (U m c) (W m c) := by
  rw [out]
  funext i
  idx_vars i
  pointwise [gated_apply, conv_apply]
  simp only [Nat.add_comm 2816]
  rfl

end Cert.MidFwdRefIdeal.Val

namespace Cert.MidFwdIdeal.Val

open Idealize.ShloMosaic Idealize.SL.Sem Cert.MidFwdIdeal.Gen Idealize.ShloMosaic.TcCoe
open Cert.Gate (row tap tap_of_lt row_of_lt row_eq_zero)

/-- 2048 rows with the eight before and after them, 2048 rows, eight rows, one row. -/
abbrev Ext := FVec Ideal S2064x256 .f32
abbrev Blk := FVec Ideal S2048x256 .f32
abbrev Halo := FVec Ideal S8x256 .f32
abbrev One := FVec Ideal S1x256 .f32

theorem first_iff (k : ℕ) (hk : k < 4) : Scalar.cmpi CmpIPredicate.sgt (BitVec.ofNat 32 k) 0#32 = if 0 < k then 1#1 else 0#1 := by
  revert k
  decide

theorem last_iff (k : ℕ) (hk : k < 4) : Scalar.cmpi CmpIPredicate.slt (BitVec.ofNat 32 k) 3#32 = if k < 3 then 1#1 else 0#1 := by
  revert k
  decide

section Payloads

variable (i : grid0.Coords) (a b : Halo) (x : Blk) (w w' w'' v v' v'' : One)

theorem pay2_apply (n : Fin 2064) (q : Fin 256) : k0_pay2 (F := Ideal) i a b x (ix2 n q) = Gate.held 3 a b x (i 1).val n.val q := by
  unfold k0_pay2 Gate.held
  pointwise [first_iff _ (i 1).isLt, last_iff _ (i 1).isLt]
  have hn := n.isLt
  split_ifs <;> first | rfl | omega | (rw [dif_pos (by omega)]; rfl)

theorem pay3_eq : k0_pay3 (F := Ideal) i a b x = k0_pay2 (F := Ideal) i a b x := rfl

variable {i a b x}

/-- What 2064 rows hold. -/
abbrev Rows (e : Ext) (d : ℕ → Fin 256 → EReal) : Prop := ∀ (n : Fin 2064) (q : Fin 256), e (ix2 n q) = d n.val q

theorem pay4_apply {d : ℕ → Fin 256 → EReal} (hd : Rows (k0_pay2 (F := Ideal) i a b x) d) (r : Fin 2048) (q : Fin 256) :
    k0_pay4 (F := Ideal) i a b x w w' (ix2 r q) = d (r.val + 7) q * w (ix2 0 q) + d (r.val + 8) q * w' (ix2 0 q) := by
  unfold k0_pay4
  pointwise [hd]
  simp only [show (r.val + 8 + 2064 - 1) % 2064 = r.val + 7 by omega, Nat.add_comm 8 r.val]

theorem pay1_apply {e g : Ext} {p : Blk} {d d' : ℕ → Fin 256 → EReal} (hd : Rows e d) (hd' : Rows g d') (r : Fin 2048) (q : Fin 256) :
    k0_pay1 (F := Ideal) e g p w'' v v' v'' (ix2 r q) = Gate.gated (p (ix2 r q) + d (r.val + 9) q * w'' (ix2 0 q))
      (d' (r.val + 7) q * v (ix2 0 q) + d' (r.val + 8) q * v' (ix2 0 q) + d' (r.val + 9) q * v'' (ix2 0 q)) := by
  unfold k0_pay1 Gate.gated
  pointwise [hd, hd']
  simp only [show (r.val + 8 + 2064 - 1) % 2064 = r.val + 7 by omega, show (r.val + 8 + 2064 - 2063) % 2064 = r.val + 9 by omega, Nat.add_comm 8 r.val]
  rfl

end Payloads

/-- A row of three. -/
abbrev ldr (Z : FVec Ideal S3x256 .f32) (r : Rect S3x256) : r.shape.Idx → EReal := View.ld (Val := Elt Ideal) (S := S3x256) (e' := .f32) Z r

abbrev R₀ : Rect S3x256 := Rect.unit ![0, 0] ![1, 256] inb_S3x256_S1x256_0_0
abbrev R₁ : Rect S3x256 := Rect.unit ![1, 0] ![1, 256] inb_S3x256_S1x256_1_0
abbrev R₂ : Rect S3x256 := Rect.unit ![2, 0] ![1, 256] inb_S3x256_S1x256_2_0

theorem ldr_apply (Z : FVec Ideal S3x256 .f32) (q : Fin 256) :
    ldr Z R₀ (ix2 (0 : Fin 1) q) = Z (ix2 0 q) ∧ ldr Z R₁ (ix2 (0 : Fin 1) q) = Z (ix2 1 q) ∧ ldr Z R₂ (ix2 (0 : Fin 1) q) = Z (ix2 2 q) := by
  unfold ldr
  refine ⟨?_, ?_, ?_⟩ <;> pointwise

variable (m : (ℓ : Loc nD τ sig) → Buf (Elt Ideal) ℓ) (c : Dev nD)

/-- The blocks a point meets. -/
theorem idx : ∀ t : Fin cfg0.N,
    win0_0.index t = ![t.val % 4 * 256 - 1, t.val / 4] ∧ win0_1.index t = ![t.val % 4, t.val / 4] ∧
    win0_2.index t = ![min (t.val % 4 * 256 + 256) 1023, t.val / 4] ∧
    win0_3.index t = ![t.val % 4 * 256 - 1, t.val / 4 + 11] ∧ win0_4.index t = ![t.val % 4, t.val / 4 + 11] ∧
    win0_5.index t = ![min (t.val % 4 * 256 + 256) 1023, t.val / 4 + 11] ∧
    win0_6.index t = ![0, t.val / 4] ∧ win0_7.index t = ![0, t.val / 4 + 11] ∧ win0_8.index t = ![t.val % 4, t.val / 4] :=
  (by decide +kernel : ∀ t : Fin grid0.N, _)

/-- A point's place in its block of columns. -/
theorem coord : ∀ t : Fin cfg0.N, (grid0.coords t 1).val = t.val % 4 :=
  (by decide +kernel : ∀ t : Fin grid0.N, _)

/-- The two arguments. -/
abbrev U : FVec Ideal S8192x5632 .f32 := m ((c : Thread nD τ).loc main_arg0)
abbrev W : FVec Ideal S3x5632 .f32 := m ((c : Thread nD τ).loc main_arg1)

variable (t : Fin cfg0.N)

/-- What a point fetches before its rows, of its rows, and after them. -/
theorem before (n : Fin 8) (q : Fin 256) :
    iblk m c 0 t (ix2 n q) = row (U m c) ((t.val % 4 * 256 - 1) * 8 + n.val + 8) (t.val / 4 * 256 + q.val) ∧
    iblk m c 3 t (ix2 n q) = row (U m c) ((t.val % 4 * 256 - 1) * 8 + n.val + 8) (t.val / 4 * 256 + 2816 + q.val) := by
  have ht := lt_of_lt_of_eq t.isLt (show cfg0.N = 44 from N_0)
  refine ⟨?_, ?_⟩ <;> rw [row_of_lt _ (by omega) (by omega)] <;> blk_point [iblk, V, idx t]

theorem here (n : Fin 2048) (q : Fin 256) :
    iblk m c 1 t (ix2 n q) = row (U m c) (t.val % 4 * 2048 + n.val + 8) (t.val / 4 * 256 + q.val) ∧
    iblk m c 4 t (ix2 n q) = row (U m c) (t.val % 4 * 2048 + n.val + 8) (t.val / 4 * 256 + 2816 + q.val) := by
  have ht := lt_of_lt_of_eq t.isLt (show cfg0.N = 44 from N_0)
  refine ⟨?_, ?_⟩ <;> rw [row_of_lt _ (by omega) (by omega)] <;> blk_point [iblk, V, idx t]

theorem after (n : Fin 8) (q : Fin 256) :
    iblk m c 2 t (ix2 n q) = row (U m c) (min (t.val % 4 * 256 + 256) 1023 * 8 + n.val + 8) (t.val / 4 * 256 + q.val) ∧
    iblk m c 5 t (ix2 n q) = row (U m c) (min (t.val % 4 * 256 + 256) 1023 * 8 + n.val + 8) (t.val / 4 * 256 + 2816 + q.val) := by
  have ht := lt_of_lt_of_eq t.isLt (show cfg0.N = 44 from N_0)
  refine ⟨?_, ?_⟩ <;> rw [row_of_lt _ (by omega) (by omega)] <;> blk_point [iblk, V, idx t]

/-- The taps a point fetches. -/
theorem fetched (k : Fin 3) (q : Fin 256) :
    iblk m c 6 t (ix2 k q) = tap (W m c) k (t.val / 4 * 256 + q.val) ∧
    iblk m c 7 t (ix2 k q) = tap (W m c) k (t.val / 4 * 256 + 2816 + q.val) := by
  have ht := lt_of_lt_of_eq t.isLt (show cfg0.N = 44 from N_0)
  refine ⟨?_, ?_⟩ <;> rw [tap_of_lt _ _ (by omega)] <;> blk_point [iblk, V, idx t]

/-- The rows a point holds of the gate's columns, and of the value's. -/
abbrev EE : Ext := k0_pay2 (grid0.coords t) (iblk m c 0 t) (iblk m c 2 t) (iblk m c 1 t)
abbrev VE : Ext := k0_pay3 (grid0.coords t) (iblk m c 3 t) (iblk m c 5 t) (iblk m c 4 t)

theorem held_eq {a b : Halo} {x : Blk} (X : Product.Mat 8192 5632) (k c : ℕ) (hk : k < 4)
    (ha : ∀ n q, a (ix2 n q) = row X ((k * 256 - 1) * 8 + n.val + 8) (c + q.val)) (hx : ∀ n q, x (ix2 n q) = row X (k * 2048 + n.val + 8) (c + q.val))
    (hb : ∀ n q, b (ix2 n q) = row X (min (k * 256 + 256) 1023 * 8 + n.val + 8) (c + q.val)) (n : ℕ) (hn : n < 2064) (q : Fin 256) :
    Gate.held 3 a b x k n q = row X (2048 * k + n) (c + q.val) := by
  refine Gate.held_eq X k (2048 * k) c (by omega) (by omega) (fun h n q => (ha n q).trans ?_) (fun n q => (hx n q).trans ?_)
    (fun h n q => (hb n q).trans ?_) n hn q <;> exact congrArg (row X · _) (by omega)

theorem rowsE : Rows (EE m c t) fun n q => row (U m c) (2048 * (t.val % 4) + n) (t.val / 4 * 256 + q.val) := fun n q => by
  refine (pay2_apply _ _ _ _ n q).trans ?_
  rw [coord t]
  exact held_eq (U m c) _ _ (Nat.mod_lt _ (by decide)) (fun n q => (before m c t n q).1) (fun n q => (here m c t n q).1)
    (fun n q => (after m c t n q).1) _ n.isLt q

theorem rowsV : Rows (VE m c t) fun n q => row (U m c) (2048 * (t.val % 4) + n) (t.val / 4 * 256 + 2816 + q.val) := fun n q => by
  refine (congrFun (pay3_eq _ _ _ _) _).trans ((pay2_apply _ _ _ _ n q).trans ?_)
  rw [coord t]
  exact held_eq (U m c) _ _ (Nat.mod_lt _ (by decide)) (fun n q => (before m c t n q).2) (fun n q => (here m c t n q).2)
    (fun n q => (after m c t n q).2) _ n.isLt q

/-- An entry, at a point's row `r` and column `x`. -/
theorem entry (u : Product.Mat 8192 5632) (w : Product.Mat 3 5632) (i : (⟨2, ![8192, 2816]⟩ : Shape).Idx) (p r x y : ℕ)
    (hp : (i 0).val = p + r) (hx : (i 1).val = x) (hy : y = x + 2816) :
    Gate.gated (row u (p + (r + 7)) x * tap w 0 x + row u (p + (r + 8)) x * tap w 1 x + row u (p + (r + 9)) x * tap w 2 x)
      (row u (p + (r + 7)) y * tap w 0 y + row u (p + (r + 8)) y * tap w 1 y + row u (p + (r + 9)) y * tap w 2 y) = Gate.middle u w i := by
  subst hx hy
  rw [Gate.middle, hp]
  rfl

/-- The array the kernel leaves. -/
theorem arr : (dats m 0 c).arrAt 8 cfg0.N = Gate.middle (U m c) (W m c) := by
  refine (dats m 0 c).arrAt_eq_of_covers 8 _ (by decide +kernel) fun t hf y => ?_
  blk_simp
  rw [after0_8]
  obtain ⟨r, q, rfl⟩ : ∃ (r : Fin 2048) (q : Fin 256), y = ix2 r q := ⟨y 0, y 1, (ix2_eta y).symm⟩
  refine Eq.trans (b := k0_pay1 (EE m c t) (VE m c t) (k0_pay4 (grid0.coords t) (iblk m c 0 t) (iblk m c 2 t) (iblk m c 1 t) (ldr (iblk m c 6 t) R₀) (ldr (iblk m c 6 t) R₁))
    (ldr (iblk m c 6 t) R₂) (ldr (iblk m c 7 t) R₀) (ldr (iblk m c 7 t) R₁) (ldr (iblk m c 7 t) R₂) (ix2 r q)) ?_ ?_
  · frame_out
  · refine (pay1_apply _ _ _ _ (rowsE m c t) (rowsV m c t) r q).trans ?_
    refine (congrArg (fun z : EReal => Gate.gated (z + _) _) (pay4_apply _ _ (rowsE m c t) r q)).trans ?_
    beta_reduce
    rw [(ldr_apply _ q).1, (ldr_apply _ q).2.1, (ldr_apply _ q).2.2, (ldr_apply _ q).1, (ldr_apply _ q).2.1, (ldr_apply _ q).2.2]
    simp only [(fetched m c t _ q).1, (fetched m c t _ q).2]
    refine entry (U m c) (W m c) _ (2048 * (t.val % 4)) r.val (t.val / 4 * 256 + q.val) (t.val / 4 * 256 + 2816 + q.val) ?_ ?_ (Nat.add_right_comm _ _ _) <;>
      blk_simp [idx t]
    omega

/-- The reference ends with its arguments unchanged; it declares no semaphore. -/
theorem frame : Cert.quiescent_MidFwdRefIdeal := fun m ρ _ =>
  (θ_run Cert.MidFwdRefIdeal.defs _ _).mono (fun r h => ⟨fun c => (h c).2, sem_eq_zero_of_no_sems (by decide) r.2⟩)
    (Cert.MidFwdRefIdeal.Value.run (F := Ideal) m ρ)

/-- The kernel's array is the reference's. -/
theorem value : Cert.algebraic_MidFwdIdeal_MidFwdRefIdeal := fun m ρ m' ρ' _ hm => by
  refine ⟨fun c => (dats m 0 c).arrAt 8 cfg0.N, Value.run_blocks m ρ, ?_⟩
  refine (θ_run Cert.MidFwdRefIdeal.defs _ _).mono (fun r h c => ?_) (Cert.MidFwdRefIdeal.Value.run (F := Ideal) m' ρ')
  obtain ⟨eu, ew⟩ := hm c
  replace eu : MidFwdRefIdeal.Val.U m' c = U m c := eu
  replace ew : MidFwdRefIdeal.Val.W m' c = W m c := ew
  obtain ⟨h0, hk⟩ := h c
  refine ⟨h0.trans ((MidFwdRefIdeal.Val.ref m' c).trans ?_), hk⟩
  rw [eu, ew]
  exact (arr m c).symm

end Cert.MidFwdIdeal.Val

end
-- ==== Proof.Norm.lean ====
/- The gradients of the modulated root-mean-square norm, written at one row of 1024 numbers, and the accumulators that add
   what each row gives to a gradient in a vector. -/
module

public import Idealize.ShloMosaic.Lib.Pointwise
public import Idealize.ShloMosaic.PureOps.Ideal.Laws
public import proofs.«01_k».proof.Proof.Product

@[expose] public section

noncomputable section

namespace Cert.Norm

open Idealize.ShloMosaic Cert.Product

/-- A row, and an array's row. -/
abbrev Row := Fin 1024 → EReal
abbrev line {R : ℕ} (x : Mat R 1024) (r : Fin R) : Row := fun q => x (ix2 r q)

variable (x t res w s : Row)

/-- A literal. -/
abbrev lit (b : BitVec 32) : EReal := Scalar.ofBits (F := Ideal) .f32 b

/-- The mean of the squares, the inverse of its root, and the derivative of that inverse. -/
def power : EReal := Ideal.div (∑ q, x q * x q) (lit 0x44800000#32) + lit 0x358637BD#32
def recip : EReal := Ideal.rsqrt (power x)
def fall : EReal := lit 0xBF000000#32 * Ideal.div (recip x) (power x)

/-- The gradient in the normed row, the share of it that comes back through the mean, and the gradient in the row. -/
def pull : Row := fun q => t q * (1 + s q) * w q
def tie : EReal := Ideal.div ((∑ q, x q * pull t w s q) * fall x) (lit 0x44800000#32)
def grad : Row := fun q => res q + pull t w s q * recip x + x q * tie x t w s + tie x t w s * x q

/-- The gradients in the weight and in the scale, as far as a row gives to them. -/
def weight : Row := fun q => x q * recip x * (t q * (1 + s q))
def scale : Row := fun q => x q * recip x * w q * t q

/-- The sum of a row's function over the array's rows, and over a block of 512 rows. -/
def total (f : Fin 8192 → Row) : Mat 1 1024 := fun i => ∑ r, f r (i 1)
def part (f : Fin 8192 → Row) (k : ℕ) (q : Fin 1024) : EReal :=
  ∑ r : Fin 512, if h : k * 512 + r.val < 8192 then f ⟨k * 512 + r.val, h⟩ q else 0

theorem sum_part (f : Fin 8192 → Row) (q : Fin 1024) : ∑ k ∈ Finset.range 16, part f k q = ∑ r, f r q := by
  rw [← Fin.sum_univ_eq_sum_range (fun k => part f k q)]
  exact Fin.sum_mul_add_congr (fun k r hl => by rw [dif_pos hl]) rfl

/-- Row `r` of a point's block. -/
def rowOf {n : ℕ} (hn : n = 16) (t : Fin n) (r : Fin 512) : Fin 8192 := ⟨t.val * 512 + r.val, by omega⟩

/-- A block's sum, in terms of the block's rows. -/
theorem part_eq (f : Fin 8192 → Row) (k : ℕ) (hk : k < 16) (q : Fin 1024) (g : Fin 512 → EReal)
    (hg : ∀ r : Fin 512, g r = f ⟨k * 512 + r.val, by omega⟩ q) : ∑ r, g r = part f k q :=
  Finset.sum_congr rfl fun r _ => by rw [dif_pos (by omega), hg]

/-- An accumulator that starts with the first block's sum and adds the next block's at each later point holds the whole sum at
    the last of sixteen points. -/
theorem run_total {n : ℕ} (g : Fin 8192 → Row) (f : (t : ℕ) → t < n → Mat 1 1024) (hn : n ≤ 16)
    (h0 : ∀ t : Fin n, t.val % 16 = 0 → ∀ q, f t.val t.isLt (ix2 0 q) = part g t.val q)
    (hs : ∀ t : Fin n, ¬t.val % 16 = 0 → ∀ q, f t.val t.isLt (ix2 0 q) =
      f (t.val - 1) (Nat.lt_of_le_of_lt (Nat.sub_le _ _) t.isLt) (ix2 0 q) + part g t.val q)
    (t : Fin n) (ht : t.val % 16 = 15) (q : Fin 1024) : f t.val t.isLt (ix2 0 q) = ∑ r, g r q := by
  have hm : ∀ t : Fin n, t.val % 16 = t.val := fun t => Nat.mod_eq_of_lt (by omega)
  have H := Pipeline.eq_sum_of_reset_step_apply_divmod (fun t h q => f t h (ix2 0 q)) 16 (fun _ => 0) (fun _ k q => part g k q)
    (fun t h q => (h0 t h q).trans (by rw [hm, zero_add])) (fun t h q => (hs t h q).trans (by rw [hm])) t q
  rw [H, zero_add, ht, ← sum_part]

end Cert.Norm

end
-- ==== Proof.GateBwd.lean ====
/- The gradients of a gated residual: an accumulator goes through the rows in sixteen blocks. -/
module

public import proofs.«01_k».proof.Defs
public import proofs.«01_k».proof.Proof.Gen.GateBwdIdeal.Value
public import proofs.«01_k».proof.Proof.Gen.GateBwdRefIdeal.Run
public import Idealize.ShloMosaic.Lib.Pipeline.ValueKit
public import Idealize.ShloMosaic.Lib.Pipeline.ReadBack
public import proofs.«01_k».proof.Proof.Norm

@[expose] public section

set_option maxRecDepth 16384

noncomputable section

namespace Cert.GateBwdIdeal.Val

open Idealize.ShloMosaic Idealize.SL.Sem Cert.GateBwdIdeal.Gen Idealize.ShloMosaic.TcCoe

/-- The gradient in what is gated, and what a row gives to the gradient in the gate. -/
def gated (gx : Product.Mat 8192 1024) (g : Product.Mat 1 1024) : Product.Mat 8192 1024 := fun i => gx i * g (ix2 0 (i 1))
def share (gx y : Product.Mat 8192 1024) (r : Fin 8192) : Norm.Row := fun q => gx (ix2 r q) * y (ix2 r q)

variable (m : (ℓ : Loc nD τ sig) → Buf (Elt Ideal) ℓ) (c : Dev nD)

/-- The three arguments. -/
abbrev G : FVec Ideal S8192x1024 .f32 := m ((c : Thread nD τ).loc main_arg0)
abbrev Y : FVec Ideal S8192x1024 .f32 := m ((c : Thread nD τ).loc main_arg1)
abbrev A : FVec Ideal S1x1024 .f32 := m ((c : Thread nD τ).loc main_arg2)

/-- The blocks a point meets. -/
theorem idx : ∀ t : Fin cfg0.N, win0_0.index t = ![t.val, 0] ∧ win0_1.index t = ![t.val, 0] ∧ win0_2.index t = ![0, 0] ∧
    win0_3.index t = ![t.val, 0] ∧ win0_4.index t = ![0, 0] :=
  (by decide +kernel : ∀ t : Fin grid0.N, _)

theorem part (t : Fin cfg0.N) (q : Fin 1024) :
    (∑ r : Fin 512, HMul.hMul (α := EReal) (β := EReal) (iblk m c 0 t (ix2 r q)) (iblk m c 1 t (ix2 r q)) : EReal) =
      Norm.part (share (G m c) (Y m c)) t.val q := by
  have ht := lt_of_lt_of_eq t.isLt (show cfg0.N = 16 from N_0)
  refine Norm.part_eq _ _ ht q _ fun r => ?_
  refine congrArg₂ (HMul.hMul (α := EReal) (β := EReal)) ?_ ?_ <;> blk_point [iblk, V, idx t]

theorem arr3 : (dats m 0 c).arrAt 3 cfg0.N = gated (G m c) (A m c) := by
  refine (dats m 0 c).arrAt_eq_of_covers 3 _ (by decide +kernel) fun t hf y => ?_
  blk_simp
  rw [after0_3]
  by_cases h : t.val % 16 = 0
  on_goal 1 => rw [outsAt0_A m c t h]
  on_goal 2 => rw [outsAt0_B m c t h]
  all_goals
    frame_out
    unfold_payloads
    pointwise
    refine congrArg₂ (HMul.hMul (α := EReal) (β := EReal)) ?_ ?_ <;> blk_point [iblk, V, idx t]

theorem arr4 : (dats m 0 c).arrAt 4 cfg0.N = Norm.total (share (G m c) (Y m c)) := by
  refine (dats m 0 c).arrAt_eq_of_covers 4 _ (by decide +kernel) fun t hf y => ?_
  have h15 : t.val % 16 = 15 := (flush0_4 t).mp hf
  obtain ⟨z, q, rfl⟩ : ∃ (z : Fin 1) (q : Fin 1024), y = ix2 z q := ⟨y 0, y 1, (ix2_eta y).symm⟩
  obtain rfl : z = 0 := Subsingleton.elim _ _
  blk_simp
  rw [after0_4]
  refine Eq.trans (b := (outsAt0 m c t.val t.isLt).2 (ix2 (0 : Fin 1) q)) ?_ ((Norm.run_total (share (G m c) (Y m c)) (fun n h => (outsAt0 m c n h).2)
    (le_of_eq N_0) (fun t h q => ?_) (fun t h q => ?_) t h15 q).trans ?_)
  · rfl
  · rw [outsAt0_A m c t h]
    frame_out
    unfold_payloads
    pointwise
    exact part m c t q
  · rw [outsAt0_B m c t h]
    frame_out
    unfold_payloads
    pointwise
    exact congrArg (_ + ·) (part m c t q)
  · refine Finset.sum_congr rfl fun r _ => congrArg (share (G m c) (Y m c) r) (Fin.ext ?_)
    blk_simp [idx t]

/-- The reference's arrays. -/
theorem ref0 (x : FVec Ideal GateBwdRefIdeal.S8192x1024 .f32) (g : FVec Ideal GateBwdRefIdeal.S1x1024 .f32) :
    truncf .bf16 (mulf (broadcastInDim GateBwdRefIdeal.S8192x1024 ![0, 1] GateBwdRefIdeal.Gen.bcast_S1x1024_S8192x1024_0_1 g) x)
      GateBwdRefIdeal.Gen.bitsLt_bf16_f32 = gated x g := by
  funext i
  idx_vars i
  pointwise
  exact mul_comm _ _

theorem ref1 (x y : FVec Ideal GateBwdRefIdeal.S8192x1024 .f32) :
    shapeCast GateBwdRefIdeal.S1x1024 (Host.reduceAdd (mulf x y) (constant GateBwdRefIdeal.S_ .f32 0x00000000#32)
      GateBwdRefIdeal.Gen.reducesTo_S8192x1024_S1024_d0 GateBwdRefIdeal.Gen.h_S_) GateBwdRefIdeal.Gen.shapeCasts_S1024_S1x1024 = Norm.total (share x y) := by
  funext i
  idx_vars i
  pointwise
  rfl

/-- The reference ends with its arguments unchanged; it declares no semaphore. -/
theorem frame : Cert.quiescent_GateBwdRefIdeal := fun m ρ _ =>
  (θ_run Cert.GateBwdRefIdeal.defs _ _).mono (fun r h => ⟨fun c => (h c).2.2, sem_eq_zero_of_no_sems (by decide) r.2⟩)
    (Cert.GateBwdRefIdeal.Value.run (F := Ideal) m ρ)

/-- The kernel's arrays are the reference's. -/
theorem value : Cert.algebraic_GateBwdIdeal_GateBwdRefIdeal := fun m ρ m' ρ' _ hm => by
  refine ⟨fun c => (dats m 0 c).arrAt 3 cfg0.N, fun c => (dats m 0 c).arrAt 4 cfg0.N, Value.run_blocks m ρ, ?_⟩
  refine (θ_run Cert.GateBwdRefIdeal.defs _ _).mono (fun r h c => ?_) (Cert.GateBwdRefIdeal.Value.run (F := Ideal) m' ρ')
  obtain ⟨e0, e1, e2⟩ := hm c
  obtain ⟨h0, h1, hk⟩ := h c
  refine ⟨h0.trans ((ref0 _ _).trans ?_), h1.trans ((ref1 _ _).trans ?_), hk⟩
  · exact (congrArg₂ gated e0 e2).trans (arr3 m c).symm
  · exact (congrArg₂ (fun a b => Norm.total (share a b)) e0 e1).trans (arr4 m c).symm

end Cert.GateBwdIdeal.Val

end
-- ==== Proof.NormPay.lean ====
/- What a point of the norm's gradient computes of its 512 rows. -/
module

public import proofs.«01_k».proof.Proof.Gen.JoinBwdIdeal.Skeleton
public import proofs.«01_k».proof.Proof.Norm

@[expose] public section

set_option maxRecDepth 16384

noncomputable section

namespace Cert.JoinBwdIdeal.Val

open Idealize.ShloMosaic Cert.JoinBwdIdeal.Gen
open Cert.Norm (line power recip fall pull tie grad weight scale)

/-- A block of rows, and a vector. -/
abbrev Blk := FVec Ideal S512x1024 .f32
abbrev One := FVec Ideal S1x1024 .f32

variable (x t res y : Blk) (w s g acc : One) (r : Fin 512) (q : Fin 1024) (u : Fin 1)

theorem pay8_apply : k0_pay8 (F := Ideal) x (ix2 r u) = power (line x r) := by
  unfold k0_pay8 k0_pay3 power
  pointwise

theorem pay9_apply : k0_pay9 (F := Ideal) x (ix2 r u) = recip (line x r) := by
  unfold k0_pay9 recip
  pointwise [pay8_apply]

theorem pay10_apply : k0_pay10 (F := Ideal) x (ix2 r u) = fall (line x r) := by
  unfold k0_pay10 fall
  pointwise [pay8_apply, pay9_apply]

theorem pay11_apply : k0_pay11 (F := Ideal) x (ix2 r q) = HMul.hMul (α := EReal) (β := EReal) (x (ix2 r q)) (recip (line x r)) := by
  unfold k0_pay11 k0_pay3
  pointwise [pay9_apply]

theorem pay15_apply : k0_pay15 (F := Ideal) t s (ix2 r q) = HMul.hMul (α := EReal) (β := EReal) (t (ix2 r q)) (1 + s (ix2 0 q)) := by
  unfold k0_pay15 k0_pay12
  pointwise

/-- The gradient in the rows, as the kernel composes it. -/
abbrev gradBlk : Blk := k0_pay17 (k0_pay3 x) res w (k0_pay9 x) (k0_pay10 x) (k0_pay15 t s)

theorem grad_apply : gradBlk x t res w s (ix2 r q) = grad (line x r) (line t r) (line res r) (line w 0) (line s 0) q := by
  unfold gradBlk k0_pay17 k0_pay3 grad tie pull
  pointwise [pay9_apply, pay10_apply, pay15_apply]
  simp only [Finset.univ_unique, Finset.sum_singleton]
  rw [add_comm (G := EReal), ← add_assoc, ← add_assoc]

theorem gate_apply : k0_pay18 (F := Ideal) (k0_pay3 x) res w (k0_pay9 x) (k0_pay10 x) (k0_pay15 t s) g (ix2 r q) =
    HMul.hMul (α := EReal) (β := EReal) (grad (line x r) (line t r) (line res r) (line w 0) (line s 0) q) (g (ix2 0 q)) := by
  unfold k0_pay18
  pointwise [grad_apply]

/-- What it adds to the four vectors. -/
theorem weight_apply : k0_pay19 (F := Ideal) (k0_pay16 x t s) acc (ix2 u q) = acc (ix2 u q) + ∑ r : Fin 512, weight (line x r) (line t r) (line s 0) q := by
  unfold k0_pay19 k0_pay16 weight
  pointwise [pay11_apply, pay15_apply]

theorem scale_apply : k0_pay20 (F := Ideal) (k0_pay14 x t w) acc (ix2 u q) = acc (ix2 u q) + ∑ r : Fin 512, scale (line x r) (line t r) (line w 0) q := by
  unfold k0_pay20 k0_pay14 k0_pay12 scale
  pointwise [pay11_apply]

theorem shift_apply : k0_pay1 (F := Ideal) (k0_pay13 t) (k0_pay21 acc) (ix2 u q) = acc (ix2 u q) + ∑ r : Fin 512, line t r q := by
  unfold k0_pay1 k0_pay13 k0_pay21
  pointwise

theorem tied_apply : k0_pay2 (F := Ideal) y x acc (ix2 u q) = acc (ix2 u q) + ∑ r : Fin 512, HMul.hMul (α := EReal) (β := EReal) (x (ix2 r q)) (y (ix2 r q)) := by
  unfold k0_pay2
  pointwise

/-- The arrays the kernel leaves, of the arrays and the vectors it takes. -/
abbrev Arr := Product.Mat 8192 1024
abbrev Vct := Product.Mat 1 1024

def gRow (x t res : Arr) (w s : Vct) : Arr := fun i => grad (line x (i 0)) (line t (i 0)) (line res (i 0)) (line w 0) (line s 0) (i 1)
def gGated (x : Arr) (g : Vct) : Arr := fun i => x i * g (ix2 0 (i 1))
def gWeight (x t : Arr) (s : Vct) : Vct := Norm.total fun r => weight (line x r) (line t r) (line s 0)
def gScale (x t : Arr) (w : Vct) : Vct := Norm.total fun r => scale (line x r) (line t r) (line w 0)
def gGate (x y : Arr) : Vct := Norm.total fun r q => x (ix2 r q) * y (ix2 r q)

/-- A vector the kernel accumulates, when the accumulator starts with what the first point's rows give and adds what each later
    point's rows give. -/
theorem total_of {n : ℕ} (hn : n = 16) (f : Fin 8192 → Norm.Row) (p : Fin n → Fin 512 → Norm.Row) (out : (n' : ℕ) → n' < n → Vct)
    (hp : ∀ t r q, p t r q = f (Norm.rowOf hn t r) q)
    (h0 : ∀ t : Fin n, t.val % 16 = 0 → ∀ q, out t.val t.isLt (ix2 0 q) = k0_pay4 (F := Ideal) (ix2 0 q) + ∑ r, p t r q)
    (hs : ∀ t : Fin n, ¬t.val % 16 = 0 → ∀ q, out t.val t.isLt (ix2 0 q) =
      out (t.val - 1) (Nat.lt_of_le_of_lt (Nat.sub_le _ _) t.isLt) (ix2 0 q) + ∑ r, p t r q)
    (t : Fin n) (ht : t.val % 16 = 15) (q : Fin 1024) : out t.val t.isLt (ix2 0 q) = Norm.total f (ix2 0 q) := by
  have part (t : Fin n) (q : Fin 1024) : ∑ r, p t r q = Norm.part f t.val q :=
    Norm.part_eq f _ (by omega) q (fun r => p t r q) fun r => hp t r q
  refine Norm.run_total f out (le_of_eq hn) (fun t h q => (h0 t h q).trans ?_) (fun t h q => (hs t h q).trans ?_) t ht q
  · rw [part]
    unfold k0_pay4
    pointwise
  · rw [part]

/-- An index of a vector, read through the window that holds all of it. -/
theorem vec_ix (y : S1x1024.Idx) : ∃ q : Fin 1024, y = ix2 0 q :=
  ⟨y 1, (ix2_eta y).symm.trans (congrArg (ix2 · (y 1)) (Subsingleton.elim (α := Fin 1) _ _))⟩

end Cert.JoinBwdIdeal.Val

end
-- ==== Proof.NormRef.lean ====
/- The reference's gradients of the modulated norm, read at one entry. -/
module

public import proofs.«01_k».proof.Defs
public import proofs.«01_k».proof.Proof.Gen.JoinBwdRefIdeal.Run
public import proofs.«01_k».proof.Proof.Norm

@[expose] public section

set_option maxRecDepth 16384

noncomputable section

namespace Cert.JoinBwdRefIdeal.Val

open Idealize.ShloMosaic Idealize.SL.Sem Idealize.ShloMosaic.StableHlo Idealize.ShloMosaic.TcCoe Cert.JoinBwdRefIdeal.Gen
open Cert.Norm (line power recip fall pull tie grad weight scale)

/-- The arrays of a row per token, of a number per token, and the vectors. -/
abbrev Arr := FVec Ideal S8192x1024 .f32
abbrev Col := FVec Ideal S8192x1 .f32
abbrev One := FVec Ideal S1x1024 .f32

abbrev zero : FVec Ideal S_ .f32 := constant S_ .f32 0x00000000#32
abbrev scalar (b : BitVec 32) : Col := broadcastInDim S8192x1 ![] bcast_S_S8192x1 (constant S_ .f32 b)
abbrev rows (x : One) : Arr := broadcastInDim S8192x1024 ![0, 1] bcast_S1x1024_S8192x1024_0_1 x
abbrev cols (x : Col) : Arr := broadcastInDim S8192x1024 ![0, 1] bcast_S8192x1_S8192x1024_0_1 x
abbrev down (x : Arr) : One := shapeCast _ (Host.reduceAdd x zero reducesTo_S8192x1024_S1024_d0 h_S_) shapeCasts_S1024_S1x1024
abbrev along (x : Arr) : FVec Ideal S8192 .f32 := Host.reduceAdd x zero reducesTo_S8192x1024_S8192_d1 h_S_
abbrev again (x : Arr) : Arr := shapeCast S8192x1024 x shapeCasts_S8192x1024_S8192x1024

variable (x t res y : Arr) (w s g : One) (r : Fin 8192) (q : Fin 1024) (u : Fin 1)

/-- The row with the gated one added. -/
def joined : Arr := addf x (mulf (rows g) y)

/-- The mean of the squares, the inverse of its root, and the derivative of that inverse. -/
def powers : Col := addf (Host.divf (broadcastInDim S8192x1 ![0] bcast_S8192_S8192x1_0 (along (mulf x x))) (scalar 0x44800000#32)) (scalar 0x358637BD#32)
def recips : Col := Host.rsqrt (powers x)
def falls : Col := mulf (scalar 0xBF000000#32) (Host.divf (recips x) (powers x))

/-- The normed rows, and the gradient in what the weight multiplies. -/
def normed : Arr := mulf x (cols (recips x))
def raised : One := addf (broadcastInDim S1x1024 ![] bcast_S_S1x1024 (constant S_ .f32 0x3F800000#32)) s
def lifted : Arr := mulf (again t) (rows (raised s))
def pulled : Arr := mulf (lifted t s) (rows w)
def ties : Arr := broadcastInDim S8192x1024 ![0] bcast_S8192_S8192x1024_0
  (Host.reduceAdd (Host.divf (mulf (shapeCast _ (along (mulf x (pulled t w s))) shapeCasts_S8192_S8192x1) (falls x)) (scalar 0x44800000#32)) zero reducesTo_S8192x1_S8192_d1 h_S_)

/-- The gradients in the rows, the weight, the scale and the shift; and in the gated rows and the gate. -/
def gRow : Arr :=
  addf (addf (addf res (mulf (pulled t w s) (cols (recips x)))) (mulf x (ties x t w s))) (mulf (ties x t w s) x)
def gWeight : One := down (mulf (normed x) (lifted t s))
def gScale : One := down (mulf (mulf (normed x) (rows w)) (again t))
def gShift : One := down t
def gGated : FVec Ideal S8192x1024 .bf16 := truncf .bf16 (mulf (rows g) (again x)) bitsLt_bf16_f32
def gGate : One := down (mulf (again x) y)

theorem powers_apply : powers x (ix2 r u) = power (line x r) := by
  unfold powers power
  pointwise

theorem recips_apply : recips x (ix2 r u) = recip (line x r) := by
  unfold recips recip
  pointwise [powers_apply]

theorem falls_apply : falls x (ix2 r u) = fall (line x r) := by
  unfold falls fall
  pointwise [powers_apply, recips_apply]

theorem normed_apply : normed x (ix2 r q) = HMul.hMul (α := EReal) (β := EReal) (x (ix2 r q)) (recip (line x r)) := by
  unfold normed
  pointwise [recips_apply]

theorem lifted_apply : lifted t s (ix2 r q) = HMul.hMul (α := EReal) (β := EReal) (t (ix2 r q)) (1 + s (ix2 0 q)) := by
  unfold lifted raised
  pointwise

theorem pulled_apply : pulled t w s (ix2 r q) = pull (line t r) (line w 0) (line s 0) q := by
  unfold pulled pull
  pointwise [lifted_apply]

theorem ties_apply : ties x t w s (ix2 r q) = tie (line x r) (line t r) (line w 0) (line s 0) := by
  unfold ties tie
  pointwise [falls_apply, pulled_apply]
  simp only [Finset.univ_unique, Finset.sum_singleton]

theorem gRow_apply : gRow x t res w s (ix2 r q) = grad (line x r) (line t r) (line res r) (line w 0) (line s 0) q := by
  unfold gRow grad
  pointwise [ties_apply, pulled_apply, recips_apply]

/-- The gradients in the vectors are sums over the rows. -/
theorem gWeight_eq : gWeight x t s = Norm.total fun r => weight (line x r) (line t r) (line s 0) := by
  funext i
  idx_vars i
  unfold gWeight Norm.total weight
  pointwise [normed_apply, lifted_apply]

theorem gScale_eq : gScale x t w = Norm.total fun r => scale (line x r) (line t r) (line w 0) := by
  funext i
  idx_vars i
  unfold gScale Norm.total scale
  pointwise [normed_apply]

theorem gShift_eq : gShift t = Norm.total (line t) := by
  funext i
  idx_vars i
  unfold gShift Norm.total
  pointwise

theorem gGate_eq : gGate x y = Norm.total fun r q => HMul.hMul (α := EReal) (β := EReal) (x (ix2 r q)) (y (ix2 r q)) := by
  funext i
  idx_vars i
  unfold gGate Norm.total
  pointwise

theorem gGated_apply : gGated x g (ix2 r q) = HMul.hMul (α := EReal) (β := EReal) (x (ix2 r q)) (g (ix2 0 q)) := by
  unfold gGated
  pointwise
  exact mul_comm _ _

variable (m : (ℓ : Loc nD τ sig) → Buf (Elt Ideal) ℓ) (c : Dev nD)

/-- The arguments. -/
abbrev A₀ : Arr := m ((c.tc : Thread nD τ).loc main_arg0)
abbrev A₁ : Arr := m ((c.tc : Thread nD τ).loc main_arg1)
abbrev A₂ : One := m ((c.tc : Thread nD τ).loc main_arg2)
abbrev A₃ : One := m ((c.tc : Thread nD τ).loc main_arg3)
abbrev A₄ : One := m ((c.tc : Thread nD τ).loc main_arg4)
abbrev A₆ : Arr := m ((c.tc : Thread nD τ).loc main_arg6)
abbrev A₇ : Arr := m ((c.tc : Thread nD τ).loc main_arg7)

/-- The rows the norm takes, and the gradient in them. -/
abbrev X : Arr := joined (A₀ m c) (A₁ m c) (A₂ m c)
abbrev gX : Arr := gRow (X m c) (A₆ m c) (A₇ m c) (A₃ m c) (A₄ m c)

theorem out0 : Value.res_out0 m c = gX m c := rfl
theorem out1 : Value.res_out1 m c = gGated (gX m c) (A₂ m c) := rfl
theorem out5 : Value.res_out5 m c = gGate (gX m c) (A₁ m c) := rfl

end Cert.JoinBwdRefIdeal.Val

end
-- ==== Proof.JoinBwd.lean ====
/- The gradients of a gated residual and the modulated norm after it: four accumulators go through the rows in sixteen blocks. -/
module

public import proofs.«01_k».proof.Defs
public import proofs.«01_k».proof.Proof.Gen.JoinBwdIdeal.Value
public import proofs.«01_k».proof.Proof.NormPay
public import proofs.«01_k».proof.Proof.NormRef
public import Idealize.ShloMosaic.Lib.Pipeline.ValueKit
public import Idealize.ShloMosaic.Lib.Pipeline.ReadBack

@[expose] public section

set_option maxRecDepth 16384

noncomputable section

namespace Cert.JoinBwdIdeal.Val

open Idealize.ShloMosaic Idealize.SL.Sem Cert.JoinBwdIdeal.Gen Idealize.ShloMosaic.TcCoe
open Cert.Norm (line weight scale)

variable (m : (ℓ : Loc nD τ sig) → Buf (Elt Ideal) ℓ) (c : Dev nD)

/-- The arguments, and the rows the norm takes. -/
abbrev A₀ : FVec Ideal S8192x1024 .f32 := m ((c : Thread nD τ).loc main_arg0)
abbrev A₁ : FVec Ideal S8192x1024 .f32 := m ((c : Thread nD τ).loc main_arg1)
abbrev A₂ : FVec Ideal S1x1024 .f32 := m ((c : Thread nD τ).loc main_arg2)
abbrev A₃ : FVec Ideal S1x1024 .f32 := m ((c : Thread nD τ).loc main_arg3)
abbrev A₄ : FVec Ideal S1x1024 .f32 := m ((c : Thread nD τ).loc main_arg4)
abbrev A₆ : FVec Ideal S8192x1024 .f32 := m ((c : Thread nD τ).loc main_arg6)
abbrev A₇ : FVec Ideal S8192x1024 .f32 := m ((c : Thread nD τ).loc main_arg7)
abbrev X : FVec Ideal S8192x1024 .f32 := JoinBwdRefIdeal.Val.joined (A₀ m c) (A₁ m c) (A₂ m c)

theorem V_X : V m c main_v2 = X m c := by
  dsimp only [V, hostOps0]
  after_results <;> rfl

/-- The blocks a point meets. -/
theorem idx : ∀ t : Fin cfg0.N,
    win0_0.index t = ![t.val, 0] ∧ win0_1.index t = ![t.val, 0] ∧ win0_2.index t = ![t.val, 0] ∧ win0_3.index t = ![t.val, 0] ∧
    win0_4.index t = ![0, 0] ∧ win0_5.index t = ![0, 0] ∧ win0_7.index t = ![0, 0] ∧ win0_8.index t = ![t.val, 0] ∧
    win0_9.index t = ![t.val, 0] ∧ win0_10.index t = ![0, 0] ∧ win0_11.index t = ![0, 0] ∧ win0_12.index t = ![0, 0] ∧ win0_13.index t = ![0, 0] :=
  (by decide +kernel : ∀ t : Fin grid0.N, _)

/-- A point's row in the arrays. -/
abbrev at' (t : Fin cfg0.N) (r : Fin 512) : Fin 8192 := Norm.rowOf N_0 t r

variable (t : Fin cfg0.N) (r : Fin 512)

/-- What a point fetches. -/
theorem line0 : line (iblk m c 0 t) r = line (X m c) (at' t r) := by
  have H (A : FVec Ideal S8192x1024 .f32) (q : Fin 1024) :
      View.read (Elt Ideal) ((View.whole main_v2).slice ((win0 0).rect t)) A (ix2 r q) = A (ix2 (at' t r) q) := by
    unfold at' Norm.rowOf
    blk_point [idx t]
  exact (funext (H (V m c main_v2))).trans (congrArg (line · (at' t r)) (V_X m c))

theorem line1 : line (iblk m c 1 t) r = line (A₆ m c) (at' t r) := by
  funext q
  unfold line at' Norm.rowOf
  blk_point [iblk, V, idx t]

theorem line2 : line (iblk m c 2 t) r = line (A₇ m c) (at' t r) := by
  funext q
  unfold line at' Norm.rowOf
  blk_point [iblk, V, idx t]

theorem line3 : line (iblk m c 3 t) r = line (A₁ m c) (at' t r) := by
  funext q
  unfold line at' Norm.rowOf
  blk_point [iblk, V, idx t]

theorem line4 : line (iblk m c 4 t) (0 : Fin 1) = line (A₃ m c) 0 := by
  funext q
  blk_point [iblk, V, idx t]

theorem line5 : line (iblk m c 5 t) (0 : Fin 1) = line (A₄ m c) 0 := by
  funext q
  blk_point [iblk, V, idx t]

theorem line7 : line (iblk m c 7 t) (0 : Fin 1) = line (A₂ m c) 0 := by
  funext q
  blk_point [iblk, V, idx t]

/-- The gradient in the rows the norm takes, and the gradient in a point's rows. -/
abbrev gX : Arr := gRow (X m c) (A₆ m c) (A₇ m c) (A₃ m c) (A₄ m c)
abbrev GX : Blk := gradBlk (iblk m c 0 t) (iblk m c 1 t) (iblk m c 2 t) (iblk m c 4 t) (iblk m c 5 t)

theorem GX_apply (q : Fin 1024) : GX m c t (ix2 r q) = gX m c (ix2 (at' t r) q) := by
  refine (grad_apply _ _ _ _ _ r q).trans ?_
  rw [line0, line1, line2, line4, line5]
  rfl

theorem arr8 : (dats m 0 c).arrAt 8 cfg0.N = gX m c := by
  refine (dats m 0 c).arrAt_eq_of_covers 8 _ (by decide +kernel) fun t hf y => ?_
  obtain ⟨r, q, rfl⟩ : ∃ (r : Fin 512) (q : Fin 1024), y = ix2 r q := ⟨y 0, y 1, (ix2_eta y).symm⟩
  blk_simp
  rw [after0_8]
  refine Eq.trans (b := GX m c t (ix2 r q)) ?_ ((GX_apply m c t r q).trans (congrArg (gX m c) ?_))
  · by_cases h : t.val % 16 = 0
    on_goal 1 => rw [outsAt0_A m c t h]
    on_goal 2 => rw [outsAt0_B m c t h]
    all_goals frame_out
  · unfold at' Norm.rowOf
    blk_point [idx t]

theorem arr9 : (dats m 0 c).arrAt 9 cfg0.N = gGated (gX m c) (A₂ m c) := by
  refine (dats m 0 c).arrAt_eq_of_covers 9 _ (by decide +kernel) fun t hf y => ?_
  obtain ⟨r, q, rfl⟩ : ∃ (r : Fin 512) (q : Fin 1024), y = ix2 r q := ⟨y 0, y 1, (ix2_eta y).symm⟩
  blk_simp
  rw [after0_9]
  refine Eq.trans (b := k0_pay18 (F := Ideal) (k0_pay3 (iblk m c 0 t)) (iblk m c 2 t) (iblk m c 4 t) (k0_pay9 (iblk m c 0 t)) (k0_pay10 (iblk m c 0 t))
    (k0_pay15 (iblk m c 1 t) (iblk m c 5 t)) (iblk m c 7 t) (ix2 r q)) ?_ ((gate_apply _ _ _ _ _ _ r q).trans ?_)
  · by_cases h : t.val % 16 = 0
    on_goal 1 => rw [outsAt0_A m c t h]
    on_goal 2 => rw [outsAt0_B m c t h]
    all_goals frame_out
  · rw [line0, line1, line2, line4, line5]
    refine (congrArg (fun z : EReal => gX m c (ix2 (at' t r) q) * z) (congrFun (line7 m c t) q)).trans
      (congrArg (gGated (gX m c) (A₂ m c)) (a₁ := ix2 (at' t r) q) ?_)
    unfold at' Norm.rowOf
    blk_point [idx t]

theorem arr10 : (dats m 0 c).arrAt 10 cfg0.N = gWeight (X m c) (A₆ m c) (A₄ m c) := by
  refine (dats m 0 c).arrAt_eq_of_covers 10 _ (by decide +kernel) fun t hf y => ?_
  obtain ⟨q, rfl⟩ := vec_ix y
  have h15 : t.val % 16 = 15 := (flush0_10 t).mp hf
  blk_simp
  rw [after0_10]
  refine (total_of N_0 (fun r => weight (line (X m c) r) (line (A₆ m c) r) (line (A₄ m c) 0))
    (fun t r => weight (line (iblk m c 0 t) r) (line (iblk m c 1 t) r) (line (iblk m c 5 t) (0 : Fin 1)))
    (fun n h => (outsAt0 m c n h).2.2.1) (fun t r q => ?_) (fun t h q => ?_) (fun t h q => ?_) t h15 q).trans (congrArg _ ?_)
  · rw [line0, line1, line5]
  · rw [outsAt0_A m c t h]
    exact Eq.trans (by frame_out) (weight_apply (iblk m c 0 t) (iblk m c 1 t) (iblk m c 5 t) (k0_pay4 (F := Ideal)) q 0)
  · rw [outsAt0_B m c t h]
    exact Eq.trans (by frame_out) (weight_apply (iblk m c 0 t) (iblk m c 1 t) (iblk m c 5 t) (outsAt0 m c (t.val - 1) _).2.2.1 q 0)
  · blk_point [idx t]

theorem arr11 : (dats m 0 c).arrAt 11 cfg0.N = gScale (X m c) (A₆ m c) (A₃ m c) := by
  refine (dats m 0 c).arrAt_eq_of_covers 11 _ (by decide +kernel) fun t hf y => ?_
  obtain ⟨q, rfl⟩ := vec_ix y
  have h15 : t.val % 16 = 15 := (flush0_11 t).mp hf
  blk_simp
  rw [after0_11]
  refine (total_of N_0 (fun r => scale (line (X m c) r) (line (A₆ m c) r) (line (A₃ m c) 0))
    (fun t r => scale (line (iblk m c 0 t) r) (line (iblk m c 1 t) r) (line (iblk m c 4 t) (0 : Fin 1)))
    (fun n h => (outsAt0 m c n h).2.2.2.1) (fun t r q => ?_) (fun t h q => ?_) (fun t h q => ?_) t h15 q).trans (congrArg _ ?_)
  · rw [line0, line1, line4]
  · rw [outsAt0_A m c t h]
    exact Eq.trans (by frame_out) (scale_apply (iblk m c 0 t) (iblk m c 1 t) (iblk m c 4 t) (k0_pay5 (F := Ideal)) q 0)
  · rw [outsAt0_B m c t h]
    exact Eq.trans (by frame_out) (scale_apply (iblk m c 0 t) (iblk m c 1 t) (iblk m c 4 t) (outsAt0 m c (t.val - 1) _).2.2.2.1 q 0)
  · blk_point [idx t]

theorem arr12 : (dats m 0 c).arrAt 12 cfg0.N = Norm.total (line (A₆ m c)) := by
  refine (dats m 0 c).arrAt_eq_of_covers 12 _ (by decide +kernel) fun t hf y => ?_
  obtain ⟨q, rfl⟩ := vec_ix y
  have h15 : t.val % 16 = 15 := (flush0_12 t).mp hf
  blk_simp
  rw [after0_12]
  refine (total_of N_0 (line (A₆ m c)) (fun t r => line (iblk m c 1 t) r)
    (fun n h => (outsAt0 m c n h).2.2.2.2.1) (fun t r q => ?_) (fun t h q => ?_) (fun t h q => ?_) t h15 q).trans (congrArg _ ?_)
  · rw [line1]
  · rw [outsAt0_A m c t h]
    exact Eq.trans (by frame_out) (shift_apply (iblk m c 1 t) (k0_pay6 (F := Ideal)) q 0)
  · rw [outsAt0_B m c t h]
    exact Eq.trans (by frame_out) (shift_apply (iblk m c 1 t) (outsAt0 m c (t.val - 1) _).2.2.2.2.1 q 0)
  · blk_point [idx t]

theorem arr13 : (dats m 0 c).arrAt 13 cfg0.N = gGate (gX m c) (A₁ m c) := by
  refine (dats m 0 c).arrAt_eq_of_covers 13 _ (by decide +kernel) fun t hf y => ?_
  obtain ⟨q, rfl⟩ := vec_ix y
  have h15 : t.val % 16 = 15 := (flush0_13 t).mp hf
  blk_simp
  rw [after0_13]
  refine (total_of N_0 (fun r q => gX m c (ix2 r q) * A₁ m c (ix2 r q)) (fun t r q => GX m c t (ix2 r q) * line (iblk m c 3 t) r q)
    (fun n h => (outsAt0 m c n h).2.2.2.2.2) (fun t r q => ?_) (fun t h q => ?_) (fun t h q => ?_) t h15 q).trans (congrArg _ ?_)
  · rw [GX_apply, line3]
  · rw [outsAt0_A m c t h]
    exact Eq.trans (by frame_out) (tied_apply (GX m c t) (iblk m c 3 t) (k0_pay7 (F := Ideal)) q 0)
  · rw [outsAt0_B m c t h]
    exact Eq.trans (by frame_out) (tied_apply (GX m c t) (iblk m c 3 t) (outsAt0 m c (t.val - 1) _).2.2.2.2.2 q 0)
  · blk_point [idx t]

/-- The reference ends with its arguments unchanged; it declares no semaphore. -/
theorem frame : Cert.quiescent_JoinBwdRefIdeal := fun m ρ _ =>
  (θ_run Cert.JoinBwdRefIdeal.defs _ _).mono (fun r h => ⟨fun c => (h c).2.2.2.2.2.2, sem_eq_zero_of_no_sems (by decide) r.2⟩)
    (Cert.JoinBwdRefIdeal.Value.run (F := Ideal) m ρ)

/-- The reference's arrays, in the kernel's terms. -/
theorem ref0 (x t res : JoinBwdRefIdeal.Val.Arr) (w s : JoinBwdRefIdeal.Val.One) : JoinBwdRefIdeal.Val.gRow x t res w s = gRow x t res w s := by
  funext i
  obtain ⟨r, q, rfl⟩ : ∃ (r : Fin 8192) (q : Fin 1024), i = ix2 r q := ⟨i 0, i 1, (ix2_eta i).symm⟩
  exact JoinBwdRefIdeal.Val.gRow_apply x t res w s r q

theorem ref1 (x : JoinBwdRefIdeal.Val.Arr) (g : JoinBwdRefIdeal.Val.One) : JoinBwdRefIdeal.Val.gGated x g = gGated x g := by
  funext i
  obtain ⟨r, q, rfl⟩ : ∃ (r : Fin 8192) (q : Fin 1024), i = ix2 r q := ⟨i 0, i 1, (ix2_eta i).symm⟩
  exact JoinBwdRefIdeal.Val.gGated_apply x g r q

/-- The kernel's arrays are the reference's. -/
theorem value : Cert.algebraic_JoinBwdIdeal_JoinBwdRefIdeal := fun m ρ m' ρ' _ hm => by
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N, Value.run_blocks m ρ, ?_⟩
  refine (θ_run Cert.JoinBwdRefIdeal.defs _ _).mono (fun r h c => ?_) (Cert.JoinBwdRefIdeal.Value.run (F := Ideal) m' ρ')
  obtain ⟨e0, e1, e2, e3, e4, -, e6, e7⟩ := hm c
  replace e0 : JoinBwdRefIdeal.Val.A₀ m' c = A₀ m c := e0
  replace e1 : JoinBwdRefIdeal.Val.A₁ m' c = A₁ m c := e1
  replace e2 : JoinBwdRefIdeal.Val.A₂ m' c = A₂ m c := e2
  replace e3 : JoinBwdRefIdeal.Val.A₃ m' c = A₃ m c := e3
  replace e4 : JoinBwdRefIdeal.Val.A₄ m' c = A₄ m c := e4
  replace e6 : JoinBwdRefIdeal.Val.A₆ m' c = A₆ m c := e6
  replace e7 : JoinBwdRefIdeal.Val.A₇ m' c = A₇ m c := e7
  have eX : JoinBwdRefIdeal.Val.X m' c = X m c := by rw [JoinBwdRefIdeal.Val.X, e0, e1, e2]
  have eG : JoinBwdRefIdeal.Val.gX m' c = gX m c := by rw [JoinBwdRefIdeal.Val.gX, eX, e3, e4, e6, e7, ref0]
  obtain ⟨h0, h1, h2, h3, h4, h5, hk⟩ := h c
  refine ⟨?_, ?_, ?_, ?_, ?_, ?_, hk⟩
  · exact (h0.trans (JoinBwdRefIdeal.Val.out0 m' c)).trans (eG.trans (arr8 m c).symm)
  · refine (h1.trans (JoinBwdRefIdeal.Val.out1 m' c)).trans (Eq.trans ?_ (arr9 m c).symm)
    rw [eG, e2, ref1]
  · refine Eq.trans (b := JoinBwdRefIdeal.Val.gWeight (JoinBwdRefIdeal.Val.X m' c) (JoinBwdRefIdeal.Val.A₆ m' c) (JoinBwdRefIdeal.Val.A₄ m' c)) h2
      (Eq.trans ?_ (arr10 m c).symm)
    rw [eX, e6, e4]
    exact JoinBwdRefIdeal.Val.gWeight_eq _ _ _
  · refine Eq.trans (b := JoinBwdRefIdeal.Val.gScale (JoinBwdRefIdeal.Val.X m' c) (JoinBwdRefIdeal.Val.A₆ m' c) (JoinBwdRefIdeal.Val.A₃ m' c)) h3
      (Eq.trans ?_ (arr11 m c).symm)
    rw [eX, e6, e3]
    exact JoinBwdRefIdeal.Val.gScale_eq _ _ _
  · refine Eq.trans (b := JoinBwdRefIdeal.Val.gShift (JoinBwdRefIdeal.Val.A₆ m' c)) h4 (Eq.trans ?_ (arr12 m c).symm)
    rw [e6]
    exact JoinBwdRefIdeal.Val.gShift_eq _
  · refine (h5.trans (JoinBwdRefIdeal.Val.out5 m' c)).trans (Eq.trans ?_ (arr13 m c).symm)
    rw [eG, e1]
    exact JoinBwdRefIdeal.Val.gGate_eq _ _

end Cert.JoinBwdIdeal.Val

end
-- ==== Proof.NormBwd.lean ====
/- The gradients of the modulated norm: three accumulators go through the rows in sixteen blocks. What a point computes, and the
   reference's arrays, are those of the norm after a gated residual. -/
module

public import proofs.«01_k».proof.Defs
public import proofs.«01_k».proof.Proof.Gen.NormBwdIdeal.Value
public import proofs.«01_k».proof.Proof.Gen.NormBwdRefIdeal.Run
public import proofs.«01_k».proof.Proof.JoinBwd

@[expose] public section

set_option maxRecDepth 16384

noncomputable section

namespace Cert.NormBwdIdeal.Val

open Idealize.ShloMosaic Idealize.SL.Sem Cert.NormBwdIdeal.Gen Idealize.ShloMosaic.TcCoe
open Cert.Norm (line weight scale)
open Cert.JoinBwdIdeal.Val (Blk One Arr Vct gRow gWeight gScale gradBlk grad_apply weight_apply scale_apply shift_apply total_of vec_ix)

section Payloads

variable (x t res : Blk) (w s acc : One)

theorem cast_eq : JoinBwdIdeal.Gen.k0_pay3 (F := Ideal) x = x := by
  unfold JoinBwdIdeal.Gen.k0_pay3
  funext i
  idx_vars i
  pointwise

theorem pay8_eq : k0_pay8 (F := Ideal) x = JoinBwdIdeal.Gen.k0_pay8 x := by
  unfold JoinBwdIdeal.Gen.k0_pay8
  rw [cast_eq]
  rfl

theorem pay9_eq : k0_pay9 (F := Ideal) x = JoinBwdIdeal.Gen.k0_pay9 x := congrArg rsqrt (pay8_eq x)

theorem pay10_eq : k0_pay10 (F := Ideal) x = JoinBwdIdeal.Gen.k0_pay10 x := by
  unfold k0_pay10
  rw [pay8_eq, pay9_eq]
  rfl

theorem pay11_eq : k0_pay11 (F := Ideal) x = JoinBwdIdeal.Gen.k0_pay11 x := by
  unfold k0_pay11 JoinBwdIdeal.Gen.k0_pay11
  rw [pay9_eq, cast_eq]

theorem grad_eq : k0_pay1 (F := Ideal) x res (k0_pay9 x) (k0_pay10 x) (k0_pay15 t s) (k0_pay17 w) = gradBlk x t res w s := by
  unfold gradBlk
  rw [pay9_eq, pay10_eq, cast_eq]
  rfl

theorem weight_eq : k0_pay2 (F := Ideal) (k0_pay16 x t s) acc = JoinBwdIdeal.Gen.k0_pay19 (JoinBwdIdeal.Gen.k0_pay16 x t s) acc := by
  unfold k0_pay16
  rw [pay11_eq]
  rfl

theorem scale_eq : k0_pay3 (F := Ideal) (k0_pay14 x t w) acc = JoinBwdIdeal.Gen.k0_pay20 (JoinBwdIdeal.Gen.k0_pay14 x t w) acc := by
  unfold k0_pay14
  rw [pay11_eq]
  rfl

theorem shift_eq : k0_pay4 (F := Ideal) (k0_pay13 t) acc = JoinBwdIdeal.Gen.k0_pay1 (JoinBwdIdeal.Gen.k0_pay13 t) (JoinBwdIdeal.Gen.k0_pay21 acc) := rfl

end Payloads

variable (m : (ℓ : Loc nD τ sig) → Buf (Elt Ideal) ℓ) (c : Dev nD)

/-- The arguments: the rows, the gradients in what comes out, the weight and the scale. -/
abbrev X : FVec Ideal S8192x1024 .f32 := m ((c : Thread nD τ).loc main_arg0)
abbrev A₁ : FVec Ideal S8192x1024 .f32 := m ((c : Thread nD τ).loc main_arg1)
abbrev A₂ : FVec Ideal S8192x1024 .f32 := m ((c : Thread nD τ).loc main_arg2)
abbrev A₃ : FVec Ideal S1x1024 .f32 := m ((c : Thread nD τ).loc main_arg3)
abbrev A₄ : FVec Ideal S1x1024 .f32 := m ((c : Thread nD τ).loc main_arg4)

/-- The blocks a point meets. -/
theorem idx : ∀ t : Fin cfg0.N,
    win0_0.index t = ![t.val, 0] ∧ win0_1.index t = ![t.val, 0] ∧ win0_2.index t = ![t.val, 0] ∧
    win0_3.index t = ![0, 0] ∧ win0_4.index t = ![0, 0] ∧ win0_6.index t = ![t.val, 0] ∧
    win0_7.index t = ![0, 0] ∧ win0_8.index t = ![0, 0] ∧ win0_9.index t = ![0, 0] :=
  (by decide +kernel : ∀ t : Fin grid0.N, _)

/-- A point's row in the arrays. -/
abbrev at' (t : Fin cfg0.N) (r : Fin 512) : Fin 8192 := Norm.rowOf N_0 t r

variable (t : Fin cfg0.N) (r : Fin 512)

/-- What a point fetches. -/
theorem lines : line (iblk m c 0 t) r = line (X m c) (at' t r) ∧ line (iblk m c 1 t) r = line (A₁ m c) (at' t r) ∧
    line (iblk m c 2 t) r = line (A₂ m c) (at' t r) := by
  refine ⟨?_, ?_, ?_⟩ <;> funext q <;> unfold line at' Norm.rowOf <;> blk_point [iblk, V, idx t]

theorem vecs : line (iblk m c 3 t) (0 : Fin 1) = line (A₃ m c) 0 ∧ line (iblk m c 4 t) (0 : Fin 1) = line (A₄ m c) 0 := by
  refine ⟨?_, ?_⟩ <;> funext q <;> unfold line <;> blk_point [iblk, V, idx t]

theorem arr6 : (dats m 0 c).arrAt 6 cfg0.N = gRow (X m c) (A₁ m c) (A₂ m c) (A₃ m c) (A₄ m c) := by
  refine (dats m 0 c).arrAt_eq_of_covers 6 _ (by decide +kernel) fun t hf y => ?_
  obtain ⟨r, q, rfl⟩ : ∃ (r : Fin 512) (q : Fin 1024), y = ix2 r q := ⟨y 0, y 1, (ix2_eta y).symm⟩
  blk_simp
  rw [after0_6]
  refine Eq.trans (b := gradBlk (iblk m c 0 t) (iblk m c 1 t) (iblk m c 2 t) (iblk m c 3 t) (iblk m c 4 t) (ix2 r q)) ?_
    ((grad_apply _ _ _ _ _ r q).trans ?_)
  · rw [← grad_eq]
    by_cases h : t.val % 16 = 0
    on_goal 1 => rw [outsAt0_A m c t h]
    on_goal 2 => rw [outsAt0_B m c t h]
    all_goals frame_out
  · rw [(lines m c t r).1, (lines m c t r).2.1, (lines m c t r).2.2, (vecs m c t).1, (vecs m c t).2]
    refine congrArg (gRow (X m c) (A₁ m c) (A₂ m c) (A₃ m c) (A₄ m c)) (a₁ := ix2 (at' t r) q) ?_
    unfold at' Norm.rowOf
    blk_point [idx t]

theorem arr7 : (dats m 0 c).arrAt 7 cfg0.N = gWeight (X m c) (A₁ m c) (A₄ m c) := by
  refine (dats m 0 c).arrAt_eq_of_covers 7 _ (by decide +kernel) fun t hf y => ?_
  obtain ⟨q, rfl⟩ := vec_ix y
  have h15 : t.val % 16 = 15 := (flush0_7 t).mp hf
  blk_simp
  rw [after0_7]
  refine (total_of N_0 (fun r => weight (line (X m c) r) (line (A₁ m c) r) (line (A₄ m c) 0))
    (fun t r => weight (line (iblk m c 0 t) r) (line (iblk m c 1 t) r) (line (iblk m c 4 t) (0 : Fin 1)))
    (fun n h => (outsAt0 m c n h).2.1) (fun t r q => ?_) (fun t h q => ?_) (fun t h q => ?_) t h15 q).trans (congrArg _ ?_)
  · rw [(lines m c t r).1, (lines m c t r).2.1, (vecs m c t).2]
  · refine Eq.trans ?_ (weight_apply (iblk m c 0 t) (iblk m c 1 t) (iblk m c 4 t) (k0_pay5 (F := Ideal)) q 0)
    rw [outsAt0_A m c t h, ← weight_eq]
    frame_out
  · refine Eq.trans ?_ (weight_apply (iblk m c 0 t) (iblk m c 1 t) (iblk m c 4 t) (outsAt0 m c (t.val - 1) _).2.1 q 0)
    rw [outsAt0_B m c t h, ← weight_eq]
    frame_out
  · blk_point [idx t]

theorem arr8 : (dats m 0 c).arrAt 8 cfg0.N = gScale (X m c) (A₁ m c) (A₃ m c) := by
  refine (dats m 0 c).arrAt_eq_of_covers 8 _ (by decide +kernel) fun t hf y => ?_
  obtain ⟨q, rfl⟩ := vec_ix y
  have h15 : t.val % 16 = 15 := (flush0_8 t).mp hf
  blk_simp
  rw [after0_8]
  refine (total_of N_0 (fun r => scale (line (X m c) r) (line (A₁ m c) r) (line (A₃ m c) 0))
    (fun t r => scale (line (iblk m c 0 t) r) (line (iblk m c 1 t) r) (line (iblk m c 3 t) (0 : Fin 1)))
    (fun n h => (outsAt0 m c n h).2.2.1) (fun t r q => ?_) (fun t h q => ?_) (fun t h q => ?_) t h15 q).trans (congrArg _ ?_)
  · rw [(lines m c t r).1, (lines m c t r).2.1, (vecs m c t).1]
  · refine Eq.trans ?_ (scale_apply (iblk m c 0 t) (iblk m c 1 t) (iblk m c 3 t) (k0_pay6 (F := Ideal)) q 0)
    rw [outsAt0_A m c t h, ← scale_eq]
    frame_out
  · refine Eq.trans ?_ (scale_apply (iblk m c 0 t) (iblk m c 1 t) (iblk m c 3 t) (outsAt0 m c (t.val - 1) _).2.2.1 q 0)
    rw [outsAt0_B m c t h, ← scale_eq]
    frame_out
  · blk_point [idx t]

theorem arr9 : (dats m 0 c).arrAt 9 cfg0.N = Norm.total (line (A₁ m c)) := by
  refine (dats m 0 c).arrAt_eq_of_covers 9 _ (by decide +kernel) fun t hf y => ?_
  obtain ⟨q, rfl⟩ := vec_ix y
  have h15 : t.val % 16 = 15 := (flush0_9 t).mp hf
  blk_simp
  rw [after0_9]
  refine (total_of N_0 (line (A₁ m c)) (fun t r => line (iblk m c 1 t) r)
    (fun n h => (outsAt0 m c n h).2.2.2) (fun t r q => ?_) (fun t h q => ?_) (fun t h q => ?_) t h15 q).trans (congrArg _ ?_)
  · rw [(lines m c t r).2.1]
  · refine Eq.trans ?_ (shift_apply (iblk m c 1 t) (k0_pay7 (F := Ideal)) q 0)
    rw [outsAt0_A m c t h, ← shift_eq]
    frame_out
  · refine Eq.trans ?_ (shift_apply (iblk m c 1 t) (outsAt0 m c (t.val - 1) _).2.2.2 q 0)
    rw [outsAt0_B m c t h, ← shift_eq]
    frame_out
  · blk_point [idx t]

/-- The reference ends with its arguments unchanged; it declares no semaphore. -/
theorem frame : Cert.quiescent_NormBwdRefIdeal := fun m ρ _ =>
  (θ_run Cert.NormBwdRefIdeal.defs _ _).mono (fun r h => ⟨fun c => (h c).2.2.2.2, sem_eq_zero_of_no_sems (by decide) r.2⟩)
    (Cert.NormBwdRefIdeal.Value.run (F := Ideal) m ρ)

section Reference

variable (m : (ℓ : Loc NormBwdRefIdeal.nD NormBwdRefIdeal.τ NormBwdRefIdeal.sig) → Buf (Elt Ideal) ℓ) (c : Dev NormBwdRefIdeal.nD)

/-- The reference's arguments. -/
abbrev R₀ : FVec Ideal S8192x1024 .f32 := m ((c.tc : Thread NormBwdRefIdeal.nD NormBwdRefIdeal.τ).loc NormBwdRefIdeal.main_arg0)
abbrev R₁ : FVec Ideal S8192x1024 .f32 := m ((c.tc : Thread NormBwdRefIdeal.nD NormBwdRefIdeal.τ).loc NormBwdRefIdeal.main_arg1)
abbrev R₂ : FVec Ideal S8192x1024 .f32 := m ((c.tc : Thread NormBwdRefIdeal.nD NormBwdRefIdeal.τ).loc NormBwdRefIdeal.main_arg2)
abbrev R₃ : FVec Ideal S1x1024 .f32 := m ((c.tc : Thread NormBwdRefIdeal.nD NormBwdRefIdeal.τ).loc NormBwdRefIdeal.main_arg3)
abbrev R₄ : FVec Ideal S1x1024 .f32 := m ((c.tc : Thread NormBwdRefIdeal.nD NormBwdRefIdeal.τ).loc NormBwdRefIdeal.main_arg4)

theorem out0 : NormBwdRefIdeal.Value.res_out0 m c = JoinBwdRefIdeal.Val.gRow (R₀ m c) (R₁ m c) (R₂ m c) (R₃ m c) (R₄ m c) := rfl

end Reference

/-- The kernel's arrays are the reference's. -/
theorem value : Cert.algebraic_NormBwdIdeal_NormBwdRefIdeal := fun m ρ m' ρ' _ hm => by
  refine ⟨fun c => (dats m 0 c).arrAt 6 cfg0.N, fun c => (dats m 0 c).arrAt 7 cfg0.N, fun c => (dats m 0 c).arrAt 8 cfg0.N,
    fun c => (dats m 0 c).arrAt 9 cfg0.N, Value.run_blocks m ρ, ?_⟩
  refine (θ_run Cert.NormBwdRefIdeal.defs _ _).mono (fun r h c => ?_) (Cert.NormBwdRefIdeal.Value.run (F := Ideal) m' ρ')
  obtain ⟨e0, e1, e2, e3, e4, -⟩ := hm c
  replace e0 : R₀ m' c = X m c := e0
  replace e1 : R₁ m' c = A₁ m c := e1
  replace e2 : R₂ m' c = A₂ m c := e2
  replace e3 : R₃ m' c = A₃ m c := e3
  replace e4 : R₄ m' c = A₄ m c := e4
  obtain ⟨h0, h1, h2, h3, hk⟩ := h c
  refine ⟨?_, ?_, ?_, ?_, hk⟩
  · refine (h0.trans (out0 m' c)).trans (Eq.trans ?_ (arr6 m c).symm)
    rw [e0, e1, e2, e3, e4]
    exact JoinBwdIdeal.Val.ref0 _ _ _ _ _
  · refine Eq.trans (b := JoinBwdRefIdeal.Val.gWeight (R₀ m' c) (R₁ m' c) (R₄ m' c)) h1 (Eq.trans ?_ (arr7 m c).symm)
    rw [e0, e1, e4]
    exact JoinBwdRefIdeal.Val.gWeight_eq _ _ _
  · refine Eq.trans (b := JoinBwdRefIdeal.Val.gScale (R₀ m' c) (R₁ m' c) (R₃ m' c)) h2 (Eq.trans ?_ (arr8 m c).symm)
    rw [e0, e1, e3]
    exact JoinBwdRefIdeal.Val.gScale_eq _ _ _
  · refine Eq.trans (b := JoinBwdRefIdeal.Val.gShift (R₁ m' c)) h3 (Eq.trans ?_ (arr9 m c).symm)
    rw [e1]
    exact JoinBwdRefIdeal.Val.gShift_eq _

end Cert.NormBwdIdeal.Val

end
-- ==== Proof.lean ====
/- Calls of one training step. The gradients of the dilated, windowed attention: the kernel runs, leaves its arguments
   unchanged and its semaphores at zero, and at real arguments its three arrays are the gradients of reference.py's
   attention with respect to the queries, keys and values. The matrix products of the four linear layers, forward and
   backward: each kernel likewise, its array being the product that the layer, or the layer's gradient, is. The gated
   layer's convolution and gate, and its gradients: likewise. The gradients of the modulated norms and of the gated
   residuals: likewise. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDxIdeal.Value
public import proofs.«01_k».proof.Proof.Gen.DownDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.DownDwIdeal.Value
public import proofs.«01_k».proof.Proof.Gen.DownDwRefIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDxIdeal.Value
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwRefIdeal
public import proofs.«01_k».proof.Proof.Gen.UpDwIdeal.Value
public import proofs.«01_k».proof.Proof.Gen.UpDwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.OutDxIdeal.Value
public import proofs.«01_k».proof.Proof.Gen.OutDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.OutDwIdeal.Value
public import proofs.«01_k».proof.Proof.Gen.OutDwRefIdeal.Run
public import proofs.«01_k».proof.Proof.Gen.InpDx
public import proofs.«01_k».proof.Proof.Gen.InpDx.Skeleton
public import proofs.«01_k».proof.Proof.Gen.InpDx.Launch
public import proofs.«01_k».proof.Proof.Gen.InpDx.Points
public import proofs.«01_k».proof.Proof.Gen.InpDx.Frame
public import proofs.«01_k».proof.Proof.Gen.InpDxIdeal
public import proofs.«01_k».proof.Proof.Gen.InpDxIdeal.Skeleton
public import proofs.«01_k».proof.Proof.Gen.InpDxIdeal.Launch
public import proofs.«01_k».proof.Proof.Gen.InpDxIdeal.Points
public import proofs.«01_k».proof.Proof.Gen.InpDxIdeal.Frame
public import proofs.«01_k».proof.Proof.Gen.InpDxRefIdeal
public import proofs.«01_k».proof.Proof.Gen.InpDxIdeal.Value
public import proofs.«01_k».proof.Proof.Gen.InpDxRefIdeal.Run
public import proofs.«01_k».proof.Proof.Gen.InpDw
public import proofs.«01_k».proof.Proof.Gen.InpDw.Skeleton
public import proofs.«01_k».proof.Proof.Gen.InpDw.Launch
public import proofs.«01_k».proof.Proof.Gen.InpDw.Points
public import proofs.«01_k».proof.Proof.Gen.InpDw.Frame
public import proofs.«01_k».proof.Proof.Gen.InpDwIdeal
public import proofs.«01_k».proof.Proof.Gen.InpDwIdeal.Skeleton
public import proofs.«01_k».proof.Proof.Gen.InpDwIdeal.Launch
public import proofs.«01_k».proof.Proof.Gen.InpDwIdeal.Points
public import proofs.«01_k».proof.Proof.Gen.InpDwIdeal.Frame
public import proofs.«01_k».proof.Proof.Gen.InpDwRefIdeal
public import proofs.«01_k».proof.Proof.Gen.InpDwIdeal.Value
public import proofs.«01_k».proof.Proof.Gen.InpDwRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.InpIdeal.Value
public import proofs.«01_k».proof.Proof.Gen.InpRefIdeal.Run
public import proofs.«01_k».proof.Proof.Finite
public import proofs.«01_k».proof.Proof.Match
public import proofs.«01_k».proof.Proof.DownDx
public import proofs.«01_k».proof.Proof.DownDw
public import proofs.«01_k».proof.Proof.UpDx
public import proofs.«01_k».proof.Proof.UpDw
public import proofs.«01_k».proof.Proof.OutDx
public import proofs.«01_k».proof.Proof.OutDw
public import proofs.«01_k».proof.Proof.InpDx
public import proofs.«01_k».proof.Proof.InpDw
public import proofs.«01_k».proof.Proof.Down
public import proofs.«01_k».proof.Proof.Up
public import proofs.«01_k».proof.Proof.Out
public import proofs.«01_k».proof.Proof.Inp
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidIdeal.Value
public import proofs.«01_k».proof.Proof.Gen.MidRefIdeal.Run
public import proofs.«01_k».proof.Proof.Mid
public import proofs.«01_k».proof.Proof.Gen.MidFwd
public import proofs.«01_k».proof.Proof.Gen.MidFwd.Skeleton
public import proofs.«01_k».proof.Proof.Gen.MidFwd.Launch
public import proofs.«01_k».proof.Proof.Gen.MidFwd.Points
public import proofs.«01_k».proof.Proof.Gen.MidFwd.Frame
public import proofs.«01_k».proof.Proof.Gen.MidFwdIdeal
public import proofs.«01_k».proof.Proof.Gen.MidFwdIdeal.Skeleton
public import proofs.«01_k».proof.Proof.Gen.MidFwdIdeal.Launch
public import proofs.«01_k».proof.Proof.Gen.MidFwdIdeal.Points
public import proofs.«01_k».proof.Proof.Gen.MidFwdIdeal.Frame
public import proofs.«01_k».proof.Proof.Gen.MidFwdRefIdeal
public import proofs.«01_k».proof.Proof.Gen.MidFwdIdeal.Value
public import proofs.«01_k».proof.Proof.Gen.MidFwdRefIdeal.Run
public import proofs.«01_k».proof.Proof.MidFwd
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdRefIdeal
public import proofs.«01_k».proof.Proof.Gen.GateBwdIdeal.Value
public import proofs.«01_k».proof.Proof.Gen.GateBwdRefIdeal.Run
public import proofs.«01_k».proof.Proof.GateBwd
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.NormBwdIdeal.Value
public import proofs.«01_k».proof.Proof.Gen.NormBwdRefIdeal.Run
public import proofs.«01_k».proof.Proof.NormBwd
public import proofs.«01_k».proof.Proof.Gen.JoinBwd
public import proofs.«01_k».proof.Proof.Gen.JoinBwd.Skeleton
public import proofs.«01_k».proof.Proof.Gen.JoinBwd.Launch
public import proofs.«01_k».proof.Proof.Gen.JoinBwd.Points
public import proofs.«01_k».proof.Proof.Gen.JoinBwd.Frame
public import proofs.«01_k».proof.Proof.Gen.JoinBwdIdeal
public import proofs.«01_k».proof.Proof.Gen.JoinBwdIdeal.Skeleton
public import proofs.«01_k».proof.Proof.Gen.JoinBwdIdeal.Launch
public import proofs.«01_k».proof.Proof.Gen.JoinBwdIdeal.Points
public import proofs.«01_k».proof.Proof.Gen.JoinBwdIdeal.Frame
public import proofs.«01_k».proof.Proof.Gen.JoinBwdRefIdeal
public import proofs.«01_k».proof.Proof.Gen.JoinBwdIdeal.Value
public import proofs.«01_k».proof.Proof.Gen.JoinBwdRefIdeal.Run
public import proofs.«01_k».proof.Proof.JoinBwd
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- A function of eight arguments takes equal arguments to equal results. -/
theorem congr8 {A B C D E G H I J : Type} (f : A → B → C → D → E → G → H → I → J) {a a' : A} {b b' : B} {c c' : C} {d d' : D}
    {e e' : E} {g g' : G} {h h' : H} {i i' : I} (ha : a = a') (hb : b = b') (hc : c = c') (hd : d = d') (he : e = e')
    (hg : g = g') (hh : h = h') (hi : i = i') : f a b c d e g h i = f a' b' c' d' e' g' h' i' := by
  subst ha hb hc hd he hg hh hi
  rfl

/-- At real arguments the kernel's three arrays are the reference's three gradients. -/
theorem gradients : Cert.algebraic_KernelIdeal_ReferenceIdeal_pre_finite := fun m ρ m' ρ' hp hm => by
  have H := fun c => Cert.Finite.holds _ _ _ _ _ _ _ _ (hp c)
  refine ⟨fun c => (Cert.KernelIdeal.Gen.dats m 0 c).arrAt 15 Cert.KernelIdeal.cfg0.N,
    fun c => (Cert.KernelIdeal.Gen.dats m 0 c).arrAt 16 Cert.KernelIdeal.cfg0.N,
    fun c => (Cert.KernelIdeal.Gen.dats m 0 c).arrAt 17 Cert.KernelIdeal.cfg0.N,
    Cert.KernelIdeal.Value.run_blocks m ρ, ?_⟩
  refine (θ_run Cert.ReferenceIdeal.defs _ _).mono (fun r h c => ⟨?_, ?_, ?_, (h c).2.2.2⟩)
    (Cert.ReferenceIdeal.Value.run (F := Ideal) m' ρ')
  all_goals obtain ⟨e0, e1, e2, e3, e4, e5, e6, e7⟩ := hm c
  · refine ((h c).1.trans (Cert.ReferenceIdeal.Read.val_main_v166_eq _)).trans ?_
    exact (congr8 (Cert.ReferenceIdeal.Read.val_main_v166 (F := Ideal)) e0 e1 e2 e3 e4 e5 e6 e7).trans
      (Cert.KernelIdeal.Match.dq_eq m c _ (H c)).symm
  · refine ((h c).2.1.trans (Cert.ReferenceIdeal.Read.val_main_v168_eq _)).trans ?_
    exact (congr8 (Cert.ReferenceIdeal.Read.val_main_v168 (F := Ideal)) e0 e1 e2 e3 e4 e5 e6 e7).trans
      (Cert.KernelIdeal.Match.dk_eq m c _ (H c)).symm
  · refine ((h c).2.2.1.trans (Cert.ReferenceIdeal.Read.val_main_v170_eq _)).trans ?_
    exact (congr8 (fun a b _ _ d _ e f => Cert.ReferenceIdeal.Read.val_main_v170 (F := Ideal) a b d e f) e0 e1 e2 e3 e4 e5 e6 e7).trans
      (Cert.KernelIdeal.Match.dv_eq m c _ (H c)).symm

theorem claim : Cert.Claim := ⟨Cert.Kernel.Gen.facts, Cert.KernelIdeal.Gen.facts, Cert.ReferenceIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.InpDx.Gen.facts, Cert.InpDxIdeal.Gen.facts, Cert.InpDxRefIdeal.Gen.facts,
  Cert.InpDw.Gen.facts, Cert.InpDwIdeal.Gen.facts, Cert.InpDwRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Out.Gen.facts, Cert.OutIdeal.Gen.facts, Cert.OutRefIdeal.Gen.facts,
  Cert.Inp.Gen.facts, Cert.InpIdeal.Gen.facts, Cert.InpRefIdeal.Gen.facts,
  Cert.Mid.Gen.facts, Cert.MidIdeal.Gen.facts, Cert.MidRefIdeal.Gen.facts,
  Cert.MidFwd.Gen.facts, Cert.MidFwdIdeal.Gen.facts, Cert.MidFwdRefIdeal.Gen.facts,
  Cert.GateBwd.Gen.facts, Cert.GateBwdIdeal.Gen.facts, Cert.GateBwdRefIdeal.Gen.facts,
  Cert.NormBwd.Gen.facts, Cert.NormBwdIdeal.Gen.facts, Cert.NormBwdRefIdeal.Gen.facts,
  Cert.JoinBwd.Gen.facts, Cert.JoinBwdIdeal.Gen.facts, Cert.JoinBwdRefIdeal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.DownDx.Gen.frame m ρ, fun m ρ _ => Cert.DownDxIdeal.Gen.frame m ρ, Cert.DownDxIdeal.Val.frame,
  fun m ρ _ => Cert.DownDw.Gen.frame m ρ, fun m ρ _ => Cert.DownDwIdeal.Gen.frame m ρ, Cert.DownDwIdeal.Val.frame,
  fun m ρ _ => Cert.UpDx.Gen.frame m ρ, fun m ρ _ => Cert.UpDxIdeal.Gen.frame m ρ, Cert.UpDxIdeal.Val.frame,
  fun m ρ _ => Cert.UpDw.Gen.frame m ρ, fun m ρ _ => Cert.UpDwIdeal.Gen.frame m ρ, Cert.UpDwIdeal.Val.frame,
  fun m ρ _ => Cert.OutDx.Gen.frame m ρ, fun m ρ _ => Cert.OutDxIdeal.Gen.frame m ρ, Cert.OutDxIdeal.Val.frame,
  fun m ρ _ => Cert.OutDw.Gen.frame m ρ, fun m ρ _ => Cert.OutDwIdeal.Gen.frame m ρ, Cert.OutDwIdeal.Val.frame,
  fun m ρ _ => Cert.InpDx.Gen.frame m ρ, fun m ρ _ => Cert.InpDxIdeal.Gen.frame m ρ, Cert.InpDxIdeal.Val.frame,
  fun m ρ _ => Cert.InpDw.Gen.frame m ρ, fun m ρ _ => Cert.InpDwIdeal.Gen.frame m ρ, Cert.InpDwIdeal.Val.frame,
  fun m ρ _ => Cert.Down.Gen.frame m ρ, fun m ρ _ => Cert.DownIdeal.Gen.frame m ρ, Cert.DownIdeal.Val.frame,
  fun m ρ _ => Cert.Up.Gen.frame m ρ, fun m ρ _ => Cert.UpIdeal.Gen.frame m ρ, Cert.UpIdeal.Val.frame,
  fun m ρ _ => Cert.Out.Gen.frame m ρ, fun m ρ _ => Cert.OutIdeal.Gen.frame m ρ, Cert.OutIdeal.Val.frame,
  fun m ρ _ => Cert.Inp.Gen.frame m ρ, fun m ρ _ => Cert.InpIdeal.Gen.frame m ρ, Cert.InpIdeal.Val.frame,
  fun m ρ _ => Cert.Mid.Gen.frame m ρ, fun m ρ _ => Cert.MidIdeal.Gen.frame m ρ, Cert.MidIdeal.Val.frame,
  fun m ρ _ => Cert.MidFwd.Gen.frame m ρ, fun m ρ _ => Cert.MidFwdIdeal.Gen.frame m ρ, Cert.MidFwdIdeal.Val.frame,
  fun m ρ _ => Cert.GateBwd.Gen.frame m ρ, fun m ρ _ => Cert.GateBwdIdeal.Gen.frame m ρ, Cert.GateBwdIdeal.Val.frame,
  fun m ρ _ => Cert.NormBwd.Gen.frame m ρ, fun m ρ _ => Cert.NormBwdIdeal.Gen.frame m ρ, Cert.NormBwdIdeal.Val.frame,
  fun m ρ _ => Cert.JoinBwd.Gen.frame m ρ, fun m ρ _ => Cert.JoinBwdIdeal.Gen.frame m ρ, Cert.JoinBwdIdeal.Val.frame,
  trivial, gradients,
  trivial, Cert.DownDxIdeal.Val.value,
  trivial, Cert.DownDwIdeal.Val.value,
  trivial, Cert.UpDxIdeal.Val.value,
  trivial, Cert.UpDwIdeal.Val.value,
  trivial, Cert.OutDxIdeal.Val.value,
  trivial, Cert.OutDwIdeal.Val.value,
  trivial, Cert.InpDxIdeal.Val.value,
  trivial, Cert.InpDwIdeal.Val.value,
  trivial, Cert.DownIdeal.Val.value,
  trivial, Cert.UpIdeal.Val.value,
  trivial, Cert.OutIdeal.Val.value,
  trivial, Cert.InpIdeal.Val.value,
  trivial, Cert.MidIdeal.Val.value,
  trivial, Cert.MidFwdIdeal.Val.value,
  trivial, Cert.GateBwdIdeal.Val.value,
  trivial, Cert.NormBwdIdeal.Val.value,
  trivial, Cert.JoinBwdIdeal.Val.value⟩

end Cert.Proof

end
